-- ==== Defs.lean ====
def Pre_Kernel [hPre_blocks_named : Cert.Pre_blocks_named.Facts] (m : (ℓ : Loc Cert.Kernel.nD Cert.Kernel.τ Cert.Kernel.sig) → Buf (Elt Bits) ℓ) : Prop :=
  ∀ c : Dev Cert.Kernel.nD,
    (Cert.Pre_blocks_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_blocks_named : Cert.Pre_blocks_named.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_blocks_named : Cert.Pre_blocks_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_rows_named : Cert.Pre_rows_named.Facts] (m : (ℓ : Loc Cert.Kernel3.nD Cert.Kernel3.τ Cert.Kernel3.sig) → Buf (Elt Bits) ℓ) : Prop :=
  ∀ c : Dev Cert.Kernel3.nD,
    (Cert.Pre_rows_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_rows_named : Cert.Pre_rows_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_rows_named : Cert.Pre_rows_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_lse_finite [hPre_lse_finite : Cert.Pre_lse_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_lse_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_lse_finite [hPre_lse_finite : Cert.Pre_lse_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_lse_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def quiescent_Kernel [hKernel : Cert.Kernel.Facts] [hPre_blocks_named : Cert.Pre_blocks_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_blocks_named : Cert.Pre_blocks_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_blocks_named : Cert.Pre_blocks_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_rows_named : Cert.Pre_rows_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_rows_named : Cert.Pre_rows_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_rows_named : Cert.Pre_rows_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_lse_finite [hKernel13Ideal : Cert.Kernel13Ideal.Facts] [hPre_lse_finite : Cert.Pre_lse_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_lse_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_lse_finite [hReference13Ideal : Cert.Reference13Ideal.Facts] [hPre_lse_finite : Cert.Pre_lse_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_lse_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_named : Cert.Pre_blocks_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_rows_named : Cert.Pre_rows_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v73)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v73) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v73)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v73) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v73)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v73) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v73)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v73) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v73)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v73) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v13)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v13)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v73)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v73) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_lse_finite [hKernel13Ideal : Cert.Kernel13Ideal.Facts] [hReference13Ideal : Cert.Reference13Ideal.Facts] [hPre_lse_finite : Cert.Pre_lse_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_lse_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_blocks_named : Cert.Pre_blocks_named.Facts) (hPre_rows_named : Cert.Pre_rows_named.Facts) (hPre_lse_finite : Cert.Pre_lse_finite.Facts),
    quiescent_Kernel (hKernel := hKernel) (hPre_blocks_named := hPre_blocks_named)
    ∧ quiescent_KernelIdeal (hKernelIdeal := hKernelIdeal) (hPre_blocks_named := hPre_blocks_named)
    ∧ quiescent_ReferenceIdeal (hReferenceIdeal := hReferenceIdeal) (hPre_blocks_named := hPre_blocks_named)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_rows_named := hPre_rows_named)
    ∧ quiescent_Kernel3Ideal (hKernel3Ideal := hKernel3Ideal) (hPre_rows_named := hPre_rows_named)
    ∧ quiescent_Reference3Ideal (hReference3Ideal := hReference3Ideal) (hPre_rows_named := hPre_rows_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_lse_finite (hKernel13Ideal := hKernel13Ideal) (hPre_lse_finite := hPre_lse_finite)
    ∧ quiescent_Reference13Ideal (hReference13Ideal := hReference13Ideal)
    ∧ quiescent_Reference13Ideal_pre_lse_finite (hReference13Ideal := hReference13Ideal) (hPre_lse_finite := hPre_lse_finite)
    ∧ preserves_Kernel_KernelIdeal
    ∧ algebraic_KernelIdeal_ReferenceIdeal (hKernelIdeal := hKernelIdeal) (hReferenceIdeal := hReferenceIdeal) (hPre_blocks_named := hPre_blocks_named)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_rows_named := hPre_rows_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_lse_finite (hKernel13Ideal := hKernel13Ideal) (hReference13Ideal := hReference13Ideal) (hPre_lse_finite := hPre_lse_finite)
-- ==== Pre_blocks_named.lean ====
abbrev S288x512x1024 : Shape := ⟨3, ![288, 512, 1024]⟩
abbrev S288 : Shape := ⟨1, ![288]⟩
abbrev S1 : Shape := ⟨1, ![1]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : FVec F S288x512x1024 .f32) (main_arg1 : IVec S288 32) (main_arg2 : IVec S1 32) (main_arg3 : FVec F S128x1024x2048 .f32) (main_arg4 : FVec F S128x2048 .f32) (main_arg5 : FVec F S128x1024x1024 .f32) (main_arg6 : FVec F S128x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 128#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S288 1 := broadcastInDim S288 ![0] bcast_S1_S288_0 main_v6
  let main_v8 : IVec S288 1 := andi main_v4 main_v7
  main_v8
-- ==== Pre_lse_finite.lean ====
abbrev S32768x512 : Shape := ⟨2, ![32768, 512]⟩
abbrev S8192x2048 : Shape := ⟨2, ![8192, 2048]⟩
abbrev S2048x8192 : Shape := ⟨2, ![2048, 8192]⟩
abbrev S_ : Shape := ⟨0, ![]⟩

class Facts : Prop where
  shapeCasts_S8192x2048_S32768x512 : S8192x2048.ShapeCasts S32768x512
  shapeCasts_S2048x8192_S32768x512 : S2048x8192.ShapeCasts S32768x512
  bcast_S_S32768x512 : S_.BroadcastsInDim S32768x512 (![] : Fin 0 → Fin S32768x512.rank)

variable [Facts]

def fn {F : FTy → Type} [FloatOps F] (main_arg0 : FVec F S32768x512 .f32) (main_arg1 : FVec F S8192x2048 .f32) (main_arg2 : FVec F S2048x8192 .f32) (main_arg3 : FVec F S32768x512 .f32) (main_arg4 : FVec F S8192x2048 .f32) (main_arg5 : FVec F S2048x8192 .f32) : IVec S32768x512 1 :=
  let main_v0 : FVec F S32768x512 .f32 := shapeCast S32768x512 main_arg4 shapeCasts_S8192x2048_S32768x512
  let main_v1 : FVec F S32768x512 .f32 := maximumf main_arg3 main_v0
  let main_v2 : FVec F S32768x512 .f32 := shapeCast S32768x512 main_arg5 shapeCasts_S2048x8192_S32768x512
  let main_v3 : FVec F S32768x512 .f32 := maximumf main_v1 main_v2
  let main_v4 : FVec F S32768x512 .f32 := Host.absf main_v3
  let main_cst : FVec F S_ .f32 := constant S_ .f32 0x7F800000#32
  let main_v5 : FVec F S32768x512 .f32 := broadcastInDim S32768x512 ![] bcast_S_S32768x512 main_cst
  let main_v6 : IVec S32768x512 1 := cmpf .olt main_v4 main_v5
  main_v6
-- ==== Pre_rows_named.lean ====
abbrev S147456x1024 : Shape := ⟨2, ![147456, 1024]⟩
abbrev S131072 : Shape := ⟨1, ![131072]⟩
abbrev S32768x4 : Shape := ⟨2, ![32768, 4]⟩
abbrev S32768x1024 : Shape := ⟨2, ![32768, 1024]⟩
abbrev S1024 : Shape := ⟨1, ![1024]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : FVec F S147456x1024 .f32) (main_arg1 : IVec S131072 32) (main_arg2 : FVec F S32768x4 .f32) (main_arg3 : FVec F S32768x1024 .f32) (main_arg4 : FVec F S1024 .f32) (main_arg5 : FVec F S1024 .f32) : IVec S131072 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 147456#32
  let main_v2 : IVec S131072 32 := broadcastInDim S131072 ![] bcast_S_S131072 main_c_0
  let main_v3 : IVec S131072 1 := cmpi .slt main_arg1 main_v2
  let main_v4 : IVec S131072 1 := andi main_v1 main_v3
  main_v4
-- ==== Kernel.lean ====
abbrev S288x512x1024 : Shape := ⟨3, ![288, 512, 1024]⟩
abbrev S288 : Shape := ⟨1, ![288]⟩
abbrev S1 : Shape := ⟨1, ![1]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S1179648x128 : Shape := ⟨2, ![1179648, 128]⟩
abbrev S128x1x2048 : Shape := ⟨3, ![128, 1, 2048]⟩
abbrev S128x1x1024 : Shape := ⟨3, ![128, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S288x512x1024, .f32⟩
  | .hbm, ⟨1, _⟩ => ⟨S128x1024x2048, .f32⟩
  | .hbm, ⟨2, _⟩ => ⟨S128x2048, .f32⟩
  | .hbm, ⟨3, _⟩ => ⟨S128x1024x1024, .f32⟩
  | .hbm, ⟨4, _⟩ => ⟨S128x1024, .f32⟩
  | .hbm, ⟨5, _⟩ => ⟨S1179648x128, .f32⟩
  | .hbm, ⟨6, _⟩ => ⟨S128x1x2048, .f32⟩
  | .hbm, ⟨7, _⟩ => ⟨S128x1x1024, .f32⟩
  | .hbm, ⟨8, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S288x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S288x512x1024 : Shape := ⟨3, ![288, 512, 1024]⟩
abbrev S288 : Shape := ⟨1, ![288]⟩
abbrev S1 : Shape := ⟨1, ![1]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S288x1 : Shape := ⟨2, ![288, 1]⟩
abbrev S288x1024x2048 : Shape := ⟨3, ![288, 1024, 2048]⟩
abbrev S288x2048 : Shape := ⟨2, ![288, 2048]⟩
abbrev S288x1024x1024 : Shape := ⟨3, ![288, 1024, 1024]⟩
abbrev S288x1024 : Shape := ⟨2, ![288, 1024]⟩
abbrev S288x512x2048 : Shape := ⟨3, ![288, 512, 2048]⟩
abbrev S288x1x2048 : Shape := ⟨3, ![288, 1, 2048]⟩
abbrev S_ : Shape := ⟨0, ![]⟩
abbrev S288x1x1024 : Shape := ⟨3, ![288, 1, 1024]⟩
abbrev S288x1x1 : Shape := ⟨3, ![288, 1, 1]⟩
abbrev S1179648x128 : Shape := ⟨2, ![1179648, 128]⟩

abbrev nBuf : Space → Nat
  | .hbm => 63
  | .vmem => 0
  | .smem => 0
  | _ => 0

abbrev bufTy : (tb : Table) → Fin (tcTables nBuf tb) → BufTy
  | .hbm, ⟨0, _⟩ => ⟨S288x512x1024, .f32⟩
  | .hbm, ⟨1, _⟩ => ⟨S288, .i32⟩
  | .hbm, ⟨2, _⟩ => ⟨S1, .i32⟩
  | .hbm, ⟨3, _⟩ => ⟨S128x1024x2048, .f32⟩
  | .hbm, ⟨4, _⟩ => ⟨S128x2048, .f32⟩
  | .hbm, ⟨5, _⟩ => ⟨S128x1024x1024, .f32⟩
  | .hbm, ⟨6, _⟩ => ⟨S128x1024, .f32⟩
  | .hbm, ⟨7, _⟩ => ⟨S288x1, .i32⟩
  | .hbm, ⟨8, _⟩ => ⟨S288x1024x2048, .f32⟩
  | .hbm, ⟨9, _⟩ => ⟨S288x1, .i32⟩
  | .hbm, ⟨10, _⟩ => ⟨S288x2048, .f32⟩
  | .hbm, ⟨11, _⟩ => ⟨S288x1, .i32⟩
  | .hbm, ⟨12, _⟩ => ⟨S288x1024x1024, .f32⟩
  | .hbm, ⟨13, _⟩ => ⟨S288x1, .i32⟩
  | .hbm, ⟨14, _⟩ => ⟨S288x1024, .f32⟩
  | .hbm, ⟨15, _⟩ => ⟨S288x512x2048, .f32⟩
  | .hbm, ⟨16, _⟩ => ⟨S288x1x2048, .f32⟩
  | .hbm, ⟨17, _⟩ => ⟨S288x512x2048, .f32⟩
  | .hbm, ⟨18, _⟩ => ⟨S288x512x2048, .f32⟩
  | .hbm, ⟨19, _⟩ => ⟨S288x512x1024, .f32⟩
  | .hbm, ⟨20, _⟩ => ⟨S_, .f32⟩
  | .hbm, ⟨21, _⟩ => ⟨S288x512x1024, .f32⟩
  | .hbm, ⟨22, _⟩ => ⟨S288x512x1024, .f32⟩
  | .hbm, ⟨23, _⟩ => ⟨S288x512x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S288x512x1024, .f32⟩
  | .hbm, ⟨28, _⟩ => ⟨S288x512x1024, .f32⟩
  | .hbm, ⟨29, _⟩ => ⟨S_, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S288x512x1024, .f32⟩
  | .hbm, ⟨36, _⟩ => ⟨S288x512x1024, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S288x512x1024, .f32⟩
  | .hbm, ⟨48, _⟩ => ⟨S288x512x1024, .f32⟩
  | .hbm, ⟨49, _⟩ => ⟨S288x1x1024, .f32⟩
  | .hbm, ⟨50, _⟩ => ⟨S288x512x1024, .f32⟩
  | .hbm, ⟨51, _⟩ => ⟨S288x512x1024, .f32⟩
  | .hbm, ⟨52, _⟩ => ⟨S288, .i32⟩
  | .hbm, ⟨53, _⟩ => ⟨S_, .i32⟩
  | .hbm, ⟨54, _⟩ => ⟨S288, .i32⟩
  | .hbm, ⟨55, _⟩ => ⟨S288, .i1⟩
  | .hbm, ⟨56, _⟩ => ⟨S288x1x1, .i1⟩
  | .hbm, ⟨57, _⟩ => ⟨S_, .f32⟩
  | .hbm, ⟨58, _⟩ => ⟨S_, .f32⟩
  | .hbm, ⟨59, _⟩ => ⟨S288x512x1024, .i1⟩
  | .hbm, ⟨60, _⟩ => ⟨S288x512x1024, .f32⟩
  | .hbm, ⟨61, _⟩ => ⟨S288x512x1024, .f32⟩
  | .hbm, ⟨62, _⟩ => ⟨S1179648x128, .f32⟩
  | _, _ => ⟨S288x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_call1_v0 : Ref sig .tc := ⟨.hbm, 9, rfl⟩
abbrev main_v1 : Ref sig .tc := ⟨.hbm, 10, rfl⟩
abbrev main_call2_v0 : Ref sig .tc := ⟨.hbm, 11, rfl⟩
abbrev main_v2 : Ref sig .tc := ⟨.hbm, 12, rfl⟩
abbrev main_call3_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_cst_1 : Ref sig .tc := ⟨.hbm, 25, rfl⟩
abbrev main_call4_v0 : Ref sig .tc := ⟨.hbm, 26, rfl⟩
abbrev main_call4_v1 : Ref sig .tc := ⟨.hbm, 27, rfl⟩
abbrev main_call4_v2 : Ref sig .tc := ⟨.hbm, 28, rfl⟩
abbrev main_call4_v3 : Ref sig .tc := ⟨.hbm, 29, rfl⟩
abbrev main_call4_v4 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_v34 : Ref sig .tc := ⟨.hbm, 61, rfl⟩
abbrev main_v35 : Ref sig .tc := ⟨.hbm, 62, rfl⟩

abbrev nD : Nat := 1
abbrev τ : Topo := Topo.v7x

variable {F : FTy → Type} [FloatOps F]
-- ==== Kernel2.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel3.lean ====
abbrev S147456x1024 : Shape := ⟨2, ![147456, 1024]⟩
abbrev S131072 : Shape := ⟨1, ![131072]⟩
abbrev S32768x4 : Shape := ⟨2, ![32768, 4]⟩
abbrev S32768x1024 : Shape := ⟨2, ![32768, 1024]⟩
abbrev S1024 : Shape := ⟨1, ![1024]⟩
abbrev S1179648x128 : Shape := ⟨2, ![1179648, 128]⟩
abbrev S1x1024 : Shape := ⟨2, ![1, 1024]⟩
abbrev S256x4 : Shape := ⟨2, ![256, 4]⟩
abbrev S256x1024 : Shape := ⟨2, ![256, 1024]⟩
abbrev S4x2048x128 : Shape := ⟨3, ![4, 2048, 128]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S256x1 : Shape := ⟨2, ![256, 1]⟩
abbrev S1x2048x128 : Shape := ⟨3, ![1, 2048, 128]⟩
abbrev S2048x128 : Shape := ⟨2, ![2048, 128]⟩
abbrev S256x128 : Shape := ⟨2, ![256, 128]⟩
abbrev S256 : Shape := ⟨1, ![256]⟩

abbrev nBuf : Space → Nat
  | .hbm => 10
  | .vmem => 9
  | .smem => 2
  | _ => 0

abbrev bufTy : (tb : Table) → Fin (tcTables nBuf tb) → BufTy
  | .hbm, ⟨0, _⟩ => ⟨S147456x1024, .f32⟩
  | .hbm, ⟨1, _⟩ => ⟨S131072, .i32⟩
  | .hbm, ⟨2, _⟩ => ⟨S32768x4, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1179648x128, .f32⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S256x4, .f32⟩
  | .local _ .vmem, ⟨1, _⟩ => ⟨S256x4, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S4x2048x128, .f32⟩
  | .local _ .smem, ⟨0, _⟩ => ⟨S1024, .i32⟩
  | .local _ .smem, ⟨1, _⟩ => ⟨S1024, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg10 : BitVec 32 := Scf.iv c0_i32 c1_i32 k0_t1
  let c4_i32 : BitVec 32 := 4#32
  let v147 : BitVec 32 := Scalar.muli arg10 c4_i32
  let c0_i32_168 : BitVec 32 := 0#32
  let v148 : BitVec 32 := Scalar.addi v147 c0_i32_168
  let v149 : Index := Scalar.indexCast v148
  ![v149.toNat]
def k0_mult1 (v150 : BitVec 32) : BitVec 32 :=
  let c8_i32 : BitVec 32 := 8#32
  let v151 : BitVec 32 := Scalar.muli v150 c8_i32
  v151

def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_169 : BitVec 32 := 8#32
  let v153 : BitVec 32 := Scalar.muli arg10 c8_i32_169
  v153
def k0_off2 (k0_t1 : Fin k0_t1_loop.trips) : Fin 3 → Nat :=
  let c0_i32_170 : BitVec 32 := 0#32
  let c0_i32 : BitVec 32 := 0#32
  let c1_i32 : BitVec 32 := 1#32
  let arg10 : BitVec 32 := Scf.iv c0_i32 c1_i32 k0_t1
  let c8_i32_169 : BitVec 32 := 8#32
  let v153 : BitVec 32 := Scalar.muli arg10 c8_i32_169
  let v154 : BitVec 32 := v153
  let c0_i32_172 : BitVec 32 := 0#32
  ![0, v154.toNat, 0]
def k0_off3 (v150 : BitVec 32) : Fin 2 → Nat :=
  let c8_i32 : BitVec 32 := 8#32
  let v151 : BitVec 32 := Scalar.muli v150 c8_i32
  let v152 : BitVec 32 := v151
  let c0_i32_173 : BitVec 32 := 0#32
  ![v152.toNat, 0]

def k0_chk1 (v150 : BitVec 32) : Prop :=
  (8 ∣ (k0_mult1 v150).toNat) ∧
  (∀ a, (k0_off3 v150) a + S8x128.size a ≤ S1179648x128.size a)
theorem k0_mult1_dvd : ∀ (v150 : BitVec 32) (k0_hw1 : k0_chk1 v150), 8 ∣ (k0_mult1 v150).toNat := fun v150 k0_hw1 => k0_hw1.1
theorem k0_off3_inb : ∀ (v150 : BitVec 32) (k0_hw1 : k0_chk1 v150), ∀ a, (k0_off3 v150) a + S8x128.size a ≤ S1179648x128.size a := fun v150 k0_hw1 => k0_hw1.2

def k0_off4 (k0_t1 : Fin k0_t1_loop.trips) : Fin 1 → Nat :=
  let c0_i32 : BitVec 32 := 0#32
  let c1_i32 : BitVec 32 := 1#32
  let arg10 : BitVec 32 := Scf.iv c0_i32 c1_i32 k0_t1
  let c4_i32_174 : BitVec 32 := 4#32
  let v160 : BitVec 32 := Scalar.muli arg10 c4_i32_174
  let c1_i32_175 : BitVec 32 := 1#32
  let v161 : BitVec 32 := Scalar.addi v160 c1_i32_175
  let v162 : Index := Scalar.indexCast v161
  ![v162.toNat]
def k0_mult3 (v163 : BitVec 32) : BitVec 32 :=
  let c8_i32_176 : BitVec 32 := 8#32
  let v164 : BitVec 32 := Scalar.muli v163 c8_i32_176
  v164

def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_177 : BitVec 32 := 8#32
  let v166 : BitVec 32 := Scalar.muli arg10 c8_i32_177
  v166
def k0_off5 (k0_t1 : Fin k0_t1_loop.trips) : Fin 3 → Nat :=
  let c1_i32_178 : BitVec 32 := 1#32
  let c0_i32 : BitVec 32 := 0#32
  let c1_i32 : BitVec 32 := 1#32
  let arg10 : BitVec 32 := Scf.iv c0_i32 c1_i32 k0_t1
  let c8_i32_177 : BitVec 32 := 8#32
  let v166 : BitVec 32 := Scalar.muli arg10 c8_i32_177
  let v167 : BitVec 32 := v166
  let c0_i32_180 : BitVec 32 := 0#32
  ![1, v167.toNat, 0]
def k0_off6 (v163 : BitVec 32) : Fin 2 → Nat :=
  let c8_i32_176 : BitVec 32 := 8#32
  let v164 : BitVec 32 := Scalar.muli v163 c8_i32_176
  let v165 : BitVec 32 := v164
  let c0_i32_181 : BitVec 32 := 0#32
  ![v165.toNat, 0]

def k0_chk2 (v163 : BitVec 32) : Prop :=
  (8 ∣ (k0_mult3 v163).toNat) ∧
  (∀ a, (k0_off6 v163) a + S8x128.size a ≤ S1179648x128.size a)
theorem k0_mult3_dvd : ∀ (v163 : BitVec 32) (k0_hw2 : k0_chk2 v163), 8 ∣ (k0_mult3 v163).toNat := fun v163 k0_hw2 => k0_hw2.1
theorem k0_off6_inb : ∀ (v163 : BitVec 32) (k0_hw2 : k0_chk2 v163), ∀ a, (k0_off6 v163) a + S8x128.size a ≤ S1179648x128.size a := fun v163 k0_hw2 => k0_hw2.2

def k0_off7 (k0_t1 : Fin k0_t1_loop.trips) : Fin 1 → Nat :=
  let c0_i32 : BitVec 32 := 0#32
  let c1_i32 : BitVec 32 := 1#32
  let arg10 : BitVec 32 := Scf.iv c0_i32 c1_i32 k0_t1
  let c4_i32_182 : BitVec 32 := 4#32
  let v173 : BitVec 32 := Scalar.muli arg10 c4_i32_182
  let c2_i32_183 : BitVec 32 := 2#32
  let v174 : BitVec 32 := Scalar.addi v173 c2_i32_183
  let v175 : Index := Scalar.indexCast v174
  ![v175.toNat]
def k0_mult5 (v176 : BitVec 32) : BitVec 32 :=
  let c8_i32_184 : BitVec 32 := 8#32
  let v177 : BitVec 32 := Scalar.muli v176 c8_i32_184
  v177

def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_185 : BitVec 32 := 8#32
  let v179 : BitVec 32 := Scalar.muli arg10 c8_i32_185
  v179
def k0_off8 (k0_t1 : Fin k0_t1_loop.trips) : Fin 3 → Nat :=
  let c2_i32_186 : BitVec 32 := 2#32
  let c0_i32 : BitVec 32 := 0#32
  let c1_i32 : BitVec 32 := 1#32
  let arg10 : BitVec 32 := Scf.iv c0_i32 c1_i32 k0_t1
  let c8_i32_185 : BitVec 32 := 8#32
  let v179 : BitVec 32 := Scalar.muli arg10 c8_i32_185
  let v180 : BitVec 32 := v179
  let c0_i32_188 : BitVec 32 := 0#32
  ![2, v180.toNat, 0]
def k0_off9 (v176 : BitVec 32) : Fin 2 → Nat :=
  let c8_i32_184 : BitVec 32 := 8#32
  let v177 : BitVec 32 := Scalar.muli v176 c8_i32_184
  let v178 : BitVec 32 := v177
  let c0_i32_189 : BitVec 32 := 0#32
  ![v178.toNat, 0]

def k0_chk3 (v176 : BitVec 32) : Prop :=
  (8 ∣ (k0_mult5 v176).toNat) ∧
  (∀ a, (k0_off9 v176) a + S8x128.size a ≤ S1179648x128.size a)
theorem k0_mult5_dvd : ∀ (v176 : BitVec 32) (k0_hw3 : k0_chk3 v176), 8 ∣ (k0_mult5 v176).toNat := fun v176 k0_hw3 => k0_hw3.1
theorem k0_off9_inb : ∀ (v176 : BitVec 32) (k0_hw3 : k0_chk3 v176), ∀ a, (k0_off9 v176) a + S8x128.size a ≤ S1179648x128.size a := fun v176 k0_hw3 => k0_hw3.2

def k0_off10 (k0_t1 : Fin k0_t1_loop.trips) : Fin 1 → Nat :=
  let c0_i32 : BitVec 32 := 0#32
  let c1_i32 : BitVec 32 := 1#32
  let arg10 : BitVec 32 := Scf.iv c0_i32 c1_i32 k0_t1
  let c4_i32_190 : BitVec 32 := 4#32
  let v186 : BitVec 32 := Scalar.muli arg10 c4_i32_190
  let c3_i32_191 : BitVec 32 := 3#32
  let v187 : BitVec 32 := Scalar.addi v186 c3_i32_191
  let v188 : Index := Scalar.indexCast v187
  ![v188.toNat]
def k0_mult7 (v189 : BitVec 32) : BitVec 32 :=
  let c8_i32_192 : BitVec 32 := 8#32
  let v190 : BitVec 32 := Scalar.muli v189 c8_i32_192
  v190

def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_193 : BitVec 32 := 8#32
  let v192 : BitVec 32 := Scalar.muli arg10 c8_i32_193
  v192
def k0_off11 (k0_t1 : Fin k0_t1_loop.trips) : Fin 3 → Nat :=
  let c3_i32_194 : BitVec 32 := 3#32
  let c0_i32 : BitVec 32 := 0#32
  let c1_i32 : BitVec 32 := 1#32
  let arg10 : BitVec 32 := Scf.iv c0_i32 c1_i32 k0_t1
  let c8_i32_193 : BitVec 32 := 8#32
  let v192 : BitVec 32 := Scalar.muli arg10 c8_i32_193
  let v193 : BitVec 32 := v192
  let c0_i32_196 : BitVec 32 := 0#32
  ![3, v193.toNat, 0]
def k0_off12 (v189 : BitVec 32) : Fin 2 → Nat :=
  let c8_i32_192 : BitVec 32 := 8#32
  let v190 : BitVec 32 := Scalar.muli v189 c8_i32_192
  let v191 : BitVec 32 := v190
  let c0_i32_197 : BitVec 32 := 0#32
  ![v191.toNat, 0]

def k0_chk4 (v189 : BitVec 32) : Prop :=
  (8 ∣ (k0_mult7 v189).toNat) ∧
  (∀ a, (k0_off12 v189) a + S8x128.size a ≤ S1179648x128.size a)
theorem k0_mult7_dvd : ∀ (v189 : BitVec 32) (k0_hw4 : k0_chk4 v189), 8 ∣ (k0_mult7 v189).toNat := fun v189 k0_hw4 => k0_hw4.1
theorem k0_off12_inb : ∀ (v189 : BitVec 32) (k0_hw4 : k0_chk4 v189), ∀ a, (k0_off12 v189) a + S8x128.size a ≤ S1179648x128.size a := fun v189 k0_hw4 => k0_hw4.2

@[reducible] def k0_t2_loop : Scf.Loop 32 :=
  let c0_i32_1 : BitVec 32 := 0#32
  let c1024_i32 : BitVec 32 := 1024#32
  let v1 : BitVec 32 := Scalar.addi c0_i32_1 c1024_i32
  let c1_i32_2 : BitVec 32 := 1#32
  ⟨c0_i32_1, v1, c1_i32_2⟩
def k0_mult9 : BitVec 32 :=
  let c0_i32_168 : BitVec 32 := 0#32
  c0_i32_168
def k0_mult10 : BitVec 32 :=
  let c0_i32_169 : BitVec 32 := 0#32
  c0_i32_169
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S147456x1024 : Shape := ⟨2, ![147456, 1024]⟩
abbrev S131072 : Shape := ⟨1, ![131072]⟩
abbrev S32768x4 : Shape := ⟨2, ![32768, 4]⟩
abbrev S32768x1024 : Shape := ⟨2, ![32768, 1024]⟩
abbrev S1024 : Shape := ⟨1, ![1024]⟩
abbrev S131072x1 : Shape := ⟨2, ![131072, 1]⟩
abbrev S131072x1024 : Shape := ⟨2, ![131072, 1024]⟩
abbrev S32768x4x1024 : Shape := ⟨3, ![32768, 4, 1024]⟩
abbrev S32768x4x1 : Shape := ⟨3, ![32768, 4, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S131072, .i32⟩
  | .hbm, ⟨2, _⟩ => ⟨S32768x4, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S131072x1, .i32⟩
  | .hbm, ⟨7, _⟩ => ⟨S131072x1024, .f32⟩
  | .hbm, ⟨8, _⟩ => ⟨S32768x4x1024, .f32⟩
  | .hbm, ⟨9, _⟩ => ⟨S32768x4x1, .f32⟩
  | .hbm, ⟨10, _⟩ => ⟨S32768x4x1024, .f32⟩
  | .hbm, ⟨11, _⟩ => ⟨S32768x4x1024, .f32⟩
  | .hbm, ⟨12, _⟩ => ⟨S_, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel4.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S32768x2048 : Shape := ⟨2, ![32768, 2048]⟩
abbrev S1024x1024 : Shape := ⟨2, ![1024, 1024]⟩

abbrev nBuf : Space → Nat
  | .hbm => 92
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S_ : Shape := ⟨0, ![]⟩
abbrev S32768x4x64 : Shape := ⟨3, ![32768, 4, 64]⟩
abbrev S32768x4x128 : Shape := ⟨3, ![32768, 4, 128]⟩
abbrev S32768x2048 : Shape := ⟨2, ![32768, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S_, .f32⟩
  | .hbm, ⟨11, _⟩ => ⟨S32768x256, .f32⟩
  | .hbm, ⟨12, _⟩ => ⟨S32768x256, .f32⟩
  | .hbm, ⟨13, _⟩ => ⟨S32768x4x64, .f32⟩
  | .hbm, ⟨14, _⟩ => ⟨S_, .i32⟩
  | .hbm, ⟨15, _⟩ => ⟨S_, .f32⟩
  | .hbm, ⟨16, _⟩ => ⟨S32768x4x128, .f32⟩
  | .hbm, ⟨17, _⟩ => ⟨S32768x512, .f32⟩
  | .hbm, ⟨18, _⟩ => ⟨S_, .i32⟩
  | .hbm, ⟨19, _⟩ => ⟨S_, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x2048, .f32⟩
  | .hbm, ⟨25, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S32768x1536 : Shape := ⟨2, ![32768, 1536]⟩
abbrev S1024x1024 : Shape := ⟨2, ![1024, 1024]⟩

abbrev nBuf : Space → Nat
  | .hbm => 92
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S32768x1536, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S32768x3x3x512 : Shape := ⟨4, ![32768, 3, 3, 512]⟩
abbrev S32768x1x1x512 : Shape := ⟨4, ![32768, 1, 1, 512]⟩
abbrev S_ : Shape := ⟨0, ![]⟩
abbrev S32768x1536 : Shape := ⟨2, ![32768, 1536]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S32768x3x3x512, .f32⟩
  | .hbm, ⟨11, _⟩ => ⟨S32768x1x1x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x1x1x512, .f32⟩
  | .hbm, ⟨17, _⟩ => ⟨S32768x512, .f32⟩
  | .hbm, ⟨18, _⟩ => ⟨S32768x1x1x512, .f32⟩
  | .hbm, ⟨19, _⟩ => ⟨S32768x512, .f32⟩
  | .hbm, ⟨20, _⟩ => ⟨S32768x1536, .f32⟩
  | .hbm, ⟨21, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel6.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S8192x6144 : Shape := ⟨2, ![8192, 6144]⟩
abbrev S1024x1024 : Shape := ⟨2, ![1024, 1024]⟩
abbrev S256x6144 : Shape := ⟨2, ![256, 6144]⟩
abbrev S12x1024x128 : Shape := ⟨3, ![12, 1024, 128]⟩
abbrev S1x1024x128 : Shape := ⟨3, ![1, 1024, 128]⟩
abbrev S256x128 : Shape := ⟨2, ![256, 128]⟩

abbrev nBuf : Space → Nat
  | .hbm => 92
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S8192x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S256x6144, .bf16⟩
  | .local _ .vmem, ⟨4, _⟩ => ⟨S256x6144, .bf16⟩
  | .local _ .vmem, ⟨5, _⟩ => ⟨S12x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S32768x3x3x512 : Shape := ⟨4, ![32768, 3, 3, 512]⟩
abbrev S32768x1x1x512 : Shape := ⟨4, ![32768, 1, 1, 512]⟩
abbrev S_ : Shape := ⟨0, ![]⟩
abbrev S32768x1536 : Shape := ⟨2, ![32768, 1536]⟩
abbrev S8192x6144 : Shape := ⟨2, ![8192, 6144]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S32768x3x3x512, .f32⟩
  | .hbm, ⟨11, _⟩ => ⟨S32768x1x1x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x1x1x512, .f32⟩
  | .hbm, ⟨17, _⟩ => ⟨S32768x512, .f32⟩
  | .hbm, ⟨18, _⟩ => ⟨S32768x1x1x512, .f32⟩
  | .hbm, ⟨19, _⟩ => ⟨S32768x512, .f32⟩
  | .hbm, ⟨20, _⟩ => ⟨S32768x1536, .f32⟩
  | .hbm, ⟨21, _⟩ => ⟨S8192x6144, .f32⟩
  | .hbm, ⟨22, _⟩ => ⟨S8192x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel7.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S2048x24576 : Shape := ⟨2, ![2048, 24576]⟩
abbrev S1024x1024 : Shape := ⟨2, ![1024, 1024]⟩
abbrev S64x24576 : Shape := ⟨2, ![64, 24576]⟩
abbrev S12x1024x128 : Shape := ⟨3, ![12, 1024, 128]⟩
abbrev S1x1024x128 : Shape := ⟨3, ![1, 1024, 128]⟩
abbrev S64x128 : Shape := ⟨2, ![64, 128]⟩

abbrev nBuf : Space → Nat
  | .hbm => 92
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S2048x24576, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S64x24576, .bf16⟩
  | .local _ .vmem, ⟨4, _⟩ => ⟨S64x24576, .bf16⟩
  | .local _ .vmem, ⟨5, _⟩ => ⟨S12x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x24576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S32768x3x3x512 : Shape := ⟨4, ![32768, 3, 3, 512]⟩
abbrev S32768x1x1x512 : Shape := ⟨4, ![32768, 1, 1, 512]⟩
abbrev S_ : Shape := ⟨0, ![]⟩
abbrev S32768x1536 : Shape := ⟨2, ![32768, 1536]⟩
abbrev S2048x24576 : Shape := ⟨2, ![2048, 24576]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S32768x3x3x512, .f32⟩
  | .hbm, ⟨11, _⟩ => ⟨S32768x1x1x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x1x1x512, .f32⟩
  | .hbm, ⟨17, _⟩ => ⟨S32768x512, .f32⟩
  | .hbm, ⟨18, _⟩ => ⟨S32768x1x1x512, .f32⟩
  | .hbm, ⟨19, _⟩ => ⟨S32768x512, .f32⟩
  | .hbm, ⟨20, _⟩ => ⟨S32768x1536, .f32⟩
  | .hbm, ⟨21, _⟩ => ⟨S2048x24576, .f32⟩
  | .hbm, ⟨22, _⟩ => ⟨S2048x24576, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel8.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S512x32768 : Shape := ⟨2, ![512, 32768]⟩
abbrev S1024x1024 : Shape := ⟨2, ![1024, 1024]⟩

abbrev nBuf : Space → Nat
  | .hbm => 92
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S512x32768, .bf16⟩
  | .local _ .vmem, ⟨0, _⟩ => ⟨S512x1024, .bf16⟩
  | .local _ .vmem, ⟨1, _⟩ => ⟨S1024x1024, .f32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S512x32768 : Shape := ⟨2, ![512, 32768]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S512x32768, .f32⟩
  | .hbm, ⟨11, _⟩ => ⟨S512x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel9.lean ====
abbrev S32768x1024 : Shape := ⟨2, ![32768, 1024]⟩
abbrev S1024x2064 : Shape := ⟨2, ![1024, 2064]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x496 : Shape := ⟨2, ![1024, 496]⟩
abbrev S1024x2048 : Shape := ⟨2, ![1024, 2048]⟩
abbrev S512x1024 : Shape := ⟨2, ![512, 1024]⟩
abbrev S32768x2048 : Shape := ⟨2, ![32768, 2048]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x2064, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x16, .f32⟩
  | .hbm, ⟨7, _⟩ => ⟨S1024x512, .f32⟩
  | .hbm, ⟨8, _⟩ => ⟨S_, .f32⟩
  | .hbm, ⟨9, _⟩ => ⟨S1024x496, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x2048, .f32⟩
  | .hbm, ⟨14, _⟩ => ⟨S1024x2048, .bf16⟩
  | .hbm, ⟨15, _⟩ => ⟨S512x1024, .f32⟩
  | .hbm, ⟨16, _⟩ => ⟨S512x1024, .bf16⟩
  | .hbm, ⟨17, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32768x1024 : Shape := ⟨2, ![32768, 1024]⟩
abbrev S1024x2064 : Shape := ⟨2, ![1024, 2064]⟩
abbrev S32768x2064 : Shape := ⟨2, ![32768, 2064]⟩
abbrev S32768x256 : Shape := ⟨2, ![32768, 256]⟩
abbrev S32768x512 : Shape := ⟨2, ![32768, 512]⟩
abbrev S32768x16 : Shape := ⟨2, ![32768, 16]⟩
abbrev S_ : Shape := ⟨0, ![]⟩
abbrev S32768x2048 : Shape := ⟨2, ![32768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2064, .f32⟩
  | .hbm, ⟨2, _⟩ => ⟨S32768x2064, .f32⟩
  | .hbm, ⟨3, _⟩ => ⟨S32768x256, .f32⟩
  | .hbm, ⟨4, _⟩ => ⟨S32768x256, .f32⟩
  | .hbm, ⟨5, _⟩ => ⟨S32768x512, .f32⟩
  | .hbm, ⟨6, _⟩ => ⟨S32768x512, .f32⟩
  | .hbm, ⟨7, _⟩ => ⟨S32768x16, .f32⟩
  | .hbm, ⟨8, _⟩ => ⟨S32768x512, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S_, .i32⟩
  | .hbm, ⟨13, _⟩ => ⟨S_, .f32⟩
  | .hbm, ⟨14, _⟩ => ⟨S32768x512, .f32⟩
  | .hbm, ⟨15, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel10.lean ====
abbrev S32768x1024 : Shape := ⟨2, ![32768, 1024]⟩
abbrev S1024x2064 : Shape := ⟨2, ![1024, 2064]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x496 : Shape := ⟨2, ![1024, 496]⟩
abbrev S1024x2048 : Shape := ⟨2, ![1024, 2048]⟩
abbrev S512x1024 : Shape := ⟨2, ![512, 1024]⟩
abbrev S512x32768 : Shape := ⟨2, ![512, 32768]⟩
abbrev S1024x1024 : Shape := ⟨2, ![1024, 1024]⟩

abbrev nBuf : Space → Nat
  | .hbm => 18
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x2064, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x16, .f32⟩
  | .hbm, ⟨7, _⟩ => ⟨S1024x512, .f32⟩
  | .hbm, ⟨8, _⟩ => ⟨S_, .f32⟩
  | .hbm, ⟨9, _⟩ => ⟨S1024x496, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x2048, .f32⟩
  | .hbm, ⟨14, _⟩ => ⟨S1024x2048, .bf16⟩
  | .hbm, ⟨15, _⟩ => ⟨S512x1024, .f32⟩
  | .hbm, ⟨16, _⟩ => ⟨S512x1024, .bf16⟩
  | .hbm, ⟨17, _⟩ => ⟨S512x32768, .f32⟩
  | .local _ .vmem, ⟨0, _⟩ => ⟨S512x1024, .bf16⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S32768x1024 : Shape := ⟨2, ![32768, 1024]⟩
abbrev S1024x2064 : Shape := ⟨2, ![1024, 2064]⟩
abbrev S32768x2064 : Shape := ⟨2, ![32768, 2064]⟩
abbrev S32768x256 : Shape := ⟨2, ![32768, 256]⟩
abbrev S32768x512 : Shape := ⟨2, ![32768, 512]⟩
abbrev S32768x16 : Shape := ⟨2, ![32768, 16]⟩
abbrev S512x32768 : Shape := ⟨2, ![512, 32768]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2064, .f32⟩
  | .hbm, ⟨2, _⟩ => ⟨S32768x2064, .f32⟩
  | .hbm, ⟨3, _⟩ => ⟨S32768x256, .f32⟩
  | .hbm, ⟨4, _⟩ => ⟨S32768x256, .f32⟩
  | .hbm, ⟨5, _⟩ => ⟨S32768x512, .f32⟩
  | .hbm, ⟨6, _⟩ => ⟨S32768x512, .f32⟩
  | .hbm, ⟨7, _⟩ => ⟨S32768x16, .f32⟩
  | .hbm, ⟨8, _⟩ => ⟨S32768x512, .f32⟩
  | .hbm, ⟨9, _⟩ => ⟨S512x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel11.lean ====
abbrev S512x32768 : Shape := ⟨2, ![512, 32768]⟩
abbrev S512x512 : Shape := ⟨2, ![512, 512]⟩
abbrev S512 : Shape := ⟨1, ![512]⟩
abbrev S512x1 : Shape := ⟨2, ![512, 1]⟩
abbrev S32768x512 : Shape := ⟨2, ![32768, 512]⟩
abbrev S512x1024 : Shape := ⟨2, ![512, 1024]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S512x32768, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .bf16⟩
  | .hbm, ⟨5, _⟩ => ⟨S512x1, .f32⟩
  | .hbm, ⟨6, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x1, .f32⟩
  | .local _ .vmem, ⟨4, _⟩ => ⟨S1024x512, .bf16⟩
  | .local _ .vmem, ⟨5, _⟩ => ⟨S1024x512, .bf16⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S512x32768 : Shape := ⟨2, ![512, 32768]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x512, .f32⟩
  | .hbm, ⟨2, _⟩ => ⟨S512, .f32⟩
  | .hbm, ⟨3, _⟩ => ⟨S32768x512, .f32⟩
  | .hbm, ⟨4, _⟩ => ⟨S32768x512, .f32⟩
  | .hbm, ⟨5, _⟩ => ⟨S1x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .bf16⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S32768x1024 : Shape := ⟨2, ![32768, 1024]⟩
abbrev S1024x6468 : Shape := ⟨2, ![1024, 6468]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x4608 : Shape := ⟨2, ![1024, 4608]⟩
abbrev S_ : Shape := ⟨0, ![]⟩
abbrev S1024x128 : Shape := ⟨2, ![1024, 128]⟩
abbrev S1024x3x3x512 : Shape := ⟨4, ![1024, 3, 3, 512]⟩
abbrev S1024x1x1x512 : Shape := ⟨4, ![1024, 1, 1, 512]⟩
abbrev S1024x1536 : Shape := ⟨2, ![1024, 1536]⟩
abbrev S1024x384 : Shape := ⟨2, ![1024, 384]⟩
abbrev S1024x2048 : Shape := ⟨2, ![1024, 2048]⟩
abbrev S512x1024 : Shape := ⟨2, ![512, 1024]⟩
abbrev S1024x8 : Shape := ⟨2, ![1024, 8]⟩
abbrev S8x1024 : Shape := ⟨2, ![8, 1024]⟩
abbrev S8x32768 : Shape := ⟨2, ![8, 32768]⟩
abbrev S1024x1024 : Shape := ⟨2, ![1024, 1024]⟩

abbrev nBuf : Space → Nat
  | .hbm => 92
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x4608, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x128, .f32⟩
  | .hbm, ⟨37, _⟩ => ⟨S1024x512, .f32⟩
  | .hbm, ⟨38, _⟩ => ⟨S1024x3x3x512, .f32⟩
  | .hbm, ⟨39, _⟩ => ⟨S1024x1x1x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x1x1x512, .f32⟩
  | .hbm, ⟨45, _⟩ => ⟨S1024x512, .f32⟩
  | .hbm, ⟨46, _⟩ => ⟨S1024x1x1x512, .f32⟩
  | .hbm, ⟨47, _⟩ => ⟨S1024x512, .f32⟩
  | .hbm, ⟨48, _⟩ => ⟨S1024x1536, .f32⟩
  | .hbm, ⟨49, _⟩ => ⟨S1024x1536, .bf16⟩
  | .hbm, ⟨50, _⟩ => ⟨S1024x1x1x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | .hbm, ⟨55, _⟩ => ⟨S1024x1x1x512, .f32⟩
  | .hbm, ⟨56, _⟩ => ⟨S1024x512, .f32⟩
  | .hbm, ⟨57, _⟩ => ⟨S1024x1x1x512, .f32⟩
  | .hbm, ⟨58, _⟩ => ⟨S1024x512, .f32⟩
  | .hbm, ⟨59, _⟩ => ⟨S1024x1536, .f32⟩
  | .hbm, ⟨60, _⟩ => ⟨S1024x1536, .bf16⟩
  | .hbm, ⟨61, _⟩ => ⟨S1024x1x1x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S1024x1x1x512, .f32⟩
  | .hbm, ⟨67, _⟩ => ⟨S1024x512, .f32⟩
  | .hbm, ⟨68, _⟩ => ⟨S1024x1x1x512, .f32⟩
  | .hbm, ⟨69, _⟩ => ⟨S1024x512, .f32⟩
  | .hbm, ⟨70, _⟩ => ⟨S1024x1536, .f32⟩
  | .hbm, ⟨71, _⟩ => ⟨S1024x1536, .bf16⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x64, .f32⟩
  | .hbm, ⟨77, _⟩ => ⟨S_, .f32⟩
  | .hbm, ⟨78, _⟩ => ⟨S1024x384, .f32⟩
  | .hbm, ⟨79, _⟩ => ⟨S1024x2048, .f32⟩
  | .hbm, ⟨80, _⟩ => ⟨S1024x2048, .bf16⟩
  | .hbm, ⟨81, _⟩ => ⟨S512x1024, .f32⟩
  | .hbm, ⟨82, _⟩ => ⟨S512x1024, .bf16⟩
  | .hbm, ⟨83, _⟩ => ⟨S_, .f32⟩
  | .hbm, ⟨84, _⟩ => ⟨S1024x4, .f32⟩
  | .hbm, ⟨85, _⟩ => ⟨S1024x4, .f32⟩
  | .hbm, ⟨86, _⟩ => ⟨S_, .f32⟩
  | .hbm, ⟨87, _⟩ => ⟨S1024x4, .f32⟩
  | .hbm, ⟨88, _⟩ => ⟨S1024x8, .f32⟩
  | .hbm, ⟨89, _⟩ => ⟨S8x1024, .f32⟩
  | .hbm, ⟨90, _⟩ => ⟨S8x1024, .bf16⟩
  | .hbm, ⟨91, _⟩ => ⟨S8x32768, .f32⟩
  | .local _ .vmem, ⟨0, _⟩ => ⟨S8x1024, .bf16⟩
  | .local _ .vmem, ⟨1, _⟩ => ⟨S1024x1024, .f32⟩
  | .local _ .vmem, ⟨2, _⟩ => ⟨S1024x1024, .f32⟩
  | .local _ .vmem, ⟨3, _⟩ => ⟨S8x1024, .f32⟩
  | .local _ .vmem, ⟨4, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S32768x1024 : Shape := ⟨2, ![32768, 1024]⟩
abbrev S1024x6468 : Shape := ⟨2, ![1024, 6468]⟩
abbrev S32768x6468 : Shape := ⟨2, ![32768, 6468]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x4608 : Shape := ⟨2, ![32768, 4608]⟩
abbrev S_ : Shape := ⟨0, ![]⟩
abbrev S32768x8 : Shape := ⟨2, ![32768, 8]⟩
abbrev S8x32768 : Shape := ⟨2, ![8, 32768]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6468, .f32⟩
  | .hbm, ⟨2, _⟩ => ⟨S32768x6468, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x4608, .f32⟩
  | .hbm, ⟨10, _⟩ => ⟨S_, .f32⟩
  | .hbm, ⟨11, _⟩ => ⟨S32768x4, .f32⟩
  | .hbm, ⟨12, _⟩ => ⟨S32768x4, .f32⟩
  | .hbm, ⟨13, _⟩ => ⟨S_, .i32⟩
  | .hbm, ⟨14, _⟩ => ⟨S_, .f32⟩
  | .hbm, ⟨15, _⟩ => ⟨S32768x8, .f32⟩
  | .hbm, ⟨16, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel13.lean ====
abbrev S32768x512 : Shape := ⟨2, ![32768, 512]⟩
abbrev S8192x2048 : Shape := ⟨2, ![8192, 2048]⟩
abbrev S2048x8192 : Shape := ⟨2, ![2048, 8192]⟩
abbrev S512x512 : Shape := ⟨2, ![512, 512]⟩
abbrev S128x2048 : Shape := ⟨2, ![128, 2048]⟩
abbrev S32x8192 : Shape := ⟨2, ![32, 8192]⟩
abbrev S4x512x128 : Shape := ⟨3, ![4, 512, 128]⟩
abbrev S128x128 : Shape := ⟨2, ![128, 128]⟩
abbrev S1x512x128 : Shape := ⟨3, ![1, 512, 128]⟩
abbrev S512x128 : Shape := ⟨2, ![512, 128]⟩
abbrev S32x128 : Shape := ⟨2, ![32, 128]⟩

abbrev nBuf : Space → Nat
  | .hbm => 7
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S8192x2048, .f32⟩
  | .hbm, ⟨2, _⟩ => ⟨S2048x8192, .f32⟩
  | .hbm, ⟨3, _⟩ => ⟨S32768x512, .f32⟩
  | .hbm, ⟨4, _⟩ => ⟨S8192x2048, .f32⟩
  | .hbm, ⟨5, _⟩ => ⟨S2048x8192, .f32⟩
  | .hbm, ⟨6, _⟩ => ⟨S32768x512, .bf16⟩
  | .local _ .vmem, ⟨0, _⟩ => ⟨S512x512, .f32⟩
  | .local _ .vmem, ⟨1, _⟩ => ⟨S512x512, .f32⟩
  | .local _ .vmem, ⟨2, _⟩ => ⟨S128x2048, .f32⟩
  | .local _ .vmem, ⟨3, _⟩ => ⟨S128x2048, .f32⟩
  | .local _ .vmem, ⟨4, _⟩ => ⟨S32x8192, .f32⟩
  | .local _ .vmem, ⟨5, _⟩ => ⟨S32x8192, .f32⟩
  | .local _ .vmem, ⟨6, _⟩ => ⟨S512x512, .f32⟩
  | .local _ .vmem, ⟨7, _⟩ => ⟨S512x512, .f32⟩
  | .local _ .vmem, ⟨8, _⟩ => ⟨S128x2048, .f32⟩
  | .local _ .vmem, ⟨9, _⟩ => ⟨S128x2048, .f32⟩
  | .local _ .vmem, ⟨10, _⟩ => ⟨S32x8192, .f32⟩
  | .local _ .vmem, ⟨11, _⟩ => ⟨S32x8192, .f32⟩
  | .local _ .vmem, ⟨12, _⟩ => ⟨S512x512, .bf16⟩
  | .local _ .vmem, ⟨13, _⟩ => ⟨S512x512, .bf16⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S32768x512 : Shape := ⟨2, ![32768, 512]⟩
abbrev S8192x2048 : Shape := ⟨2, ![8192, 2048]⟩
abbrev S2048x8192 : Shape := ⟨2, ![2048, 8192]⟩
abbrev S1x32768x512 : Shape := ⟨3, ![1, 32768, 512]⟩
abbrev S3x32768x512 : Shape := ⟨3, ![3, 32768, 512]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S8192x2048, .f32⟩
  | .hbm, ⟨2, _⟩ => ⟨S2048x8192, .f32⟩
  | .hbm, ⟨3, _⟩ => ⟨S32768x512, .f32⟩
  | .hbm, ⟨4, _⟩ => ⟨S8192x2048, .f32⟩
  | .hbm, ⟨5, _⟩ => ⟨S2048x8192, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S1x32768x512, .f32⟩
  | .hbm, ⟨11, _⟩ => ⟨S1x32768x512, .f32⟩
  | .hbm, ⟨12, _⟩ => ⟨S1x32768x512, .f32⟩
  | .hbm, ⟨13, _⟩ => ⟨S3x32768x512, .f32⟩
  | .hbm, ⟨14, _⟩ => ⟨S_, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S1x32768x512, .f32⟩
  | .hbm, ⟨20, _⟩ => ⟨S3x32768x512, .f32⟩
  | .hbm, ⟨21, _⟩ => ⟨S3x32768x512, .f32⟩
  | .hbm, ⟨22, _⟩ => ⟨S3x32768x512, .f32⟩
  | .hbm, ⟨23, _⟩ => ⟨S_, .f32⟩
  | .hbm, ⟨24, _⟩ => ⟨S32768x512, .f32⟩
  | .hbm, ⟨25, _⟩ => ⟨S1x32768x512, .f32⟩
  | .hbm, ⟨26, _⟩ => ⟨S3x32768x512, .f32⟩
  | .hbm, ⟨27, _⟩ => ⟨S3x32768x512, .f32⟩
  | .hbm, ⟨28, _⟩ => ⟨S1x32768x512, .f32⟩
  | .hbm, ⟨29, _⟩ => ⟨S1x32768x512, .f32⟩
  | .hbm, ⟨30, _⟩ => ⟨S1x32768x512, .f32⟩
  | .hbm, ⟨31, _⟩ => ⟨S3x32768x512, .f32⟩
  | .hbm, ⟨32, _⟩ => ⟨S3x32768x512, .f32⟩
  | .hbm, ⟨33, _⟩ => ⟨S_, .f32⟩
  | .hbm, ⟨34, _⟩ => ⟨S32768x512, .f32⟩
  | .hbm, ⟨35, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.FfnBody.lean ====
/- The body of the expert feed-forward kernel at one grid point, run on whole staging buffers. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A shape whose extents are all one has one index. -/
theorem idx_one (y y' : S1.Idx) : y = y' := by
  funext a
  have h : ∀ b : Fin S1.rank, S1.size b = 1 := by decide
  have h1 := (y a).isLt
  have h2 := (y' a).isLt
  have h3 := h a
  exact Fin.ext (by omega)

/-- The word a one-word load takes from a table. -/
def word (T : Vec F S288 .i32) (off : Fin 1 → ℕ) (inb : ∀ a, off a + S1.size a ≤ S288.size a) : BitVec 32 :=
  T ((Rect.unit (s := S288) off S1.size inb).emb (Shape.Idx.first (numel1_S1.symm ▸ Nat.one_pos)))

/-- The number of used blocks, as the body loads it. -/
def word1 (T : Vec F S1 .i32) : BitVec 32 :=
  T ((Rect.unit (s := S1) ![0] S1.size inb_S1_S1_0).emb (Shape.Idx.first (numel1_S1.symm ▸ Nat.one_pos)))

/-- The condition of the body's first branch: the first grid point, or a block whose expert is another than the one
    before it. -/
def fresh (i : grid0.Coords) (w1 w0 : BitVec 32) : Prop :=
  Scalar.cmpi .ne (Scalar.extui (Scalar.ori (Scalar.cmpi .eq (BitVec.ofNat 32 (i 0).val) 0#32) (Scalar.cmpi .ne w1 w0)) : BitVec 32) 0#32 = 1#1

instance (i : grid0.Coords) (w1 w0 : BitVec 32) : Decidable (fresh i w1 w0) := by unfold fresh; infer_instance

/-- The rows of the input block at places 0 modulo 8: the columns 0 to 127 of the 512 tokens. -/
def col0 (x : Vec F S4096x128 .f32) : Vec F S512x128 .f32 := fun j => x ((⟨![0, 0], S512x128.size, ![8, 1], inb_S4096x128_S512x128_0_0_s_8_1⟩ : LoadRect S4096x128).idx j)

/-- The rows of the input block at places 1 modulo 8: the columns 128 to 255 of the 512 tokens. -/
def col1 (x : Vec F S4096x128 .f32) : Vec F S512x128 .f32 := fun j => x ((⟨![1, 0], S512x128.size, ![8, 1], inb_S4096x128_S512x128_1_0_s_8_1⟩ : LoadRect S4096x128).idx j)

/-- The rows of the input block at places 2 modulo 8: the columns 256 to 383 of the 512 tokens. -/
def col2 (x : Vec F S4096x128 .f32) : Vec F S512x128 .f32 := fun j => x ((⟨![2, 0], S512x128.size, ![8, 1], inb_S4096x128_S512x128_2_0_s_8_1⟩ : LoadRect S4096x128).idx j)

/-- The rows of the input block at places 3 modulo 8: the columns 384 to 511 of the 512 tokens. -/
def col3 (x : Vec F S4096x128 .f32) : Vec F S512x128 .f32 := fun j => x ((⟨![3, 0], S512x128.size, ![8, 1], inb_S4096x128_S512x128_3_0_s_8_1⟩ : LoadRect S4096x128).idx j)

/-- The rows of the input block at places 4 modulo 8: the columns 512 to 639 of the 512 tokens. -/
def col4 (x : Vec F S4096x128 .f32) : Vec F S512x128 .f32 := fun j => x ((⟨![4, 0], S512x128.size, ![8, 1], inb_S4096x128_S512x128_4_0_s_8_1⟩ : LoadRect S4096x128).idx j)

/-- The rows of the input block at places 5 modulo 8: the columns 640 to 767 of the 512 tokens. -/
def col5 (x : Vec F S4096x128 .f32) : Vec F S512x128 .f32 := fun j => x ((⟨![5, 0], S512x128.size, ![8, 1], inb_S4096x128_S512x128_5_0_s_8_1⟩ : LoadRect S4096x128).idx j)

/-- The rows of the input block at places 6 modulo 8: the columns 768 to 895 of the 512 tokens. -/
def col6 (x : Vec F S4096x128 .f32) : Vec F S512x128 .f32 := fun j => x ((⟨![6, 0], S512x128.size, ![8, 1], inb_S4096x128_S512x128_6_0_s_8_1⟩ : LoadRect S4096x128).idx j)

/-- The rows of the input block at places 7 modulo 8: the columns 896 to 1023 of the 512 tokens. -/
def col7 (x : Vec F S4096x128 .f32) : Vec F S512x128 .f32 := fun j => x ((⟨![7, 0], S512x128.size, ![8, 1], inb_S4096x128_S512x128_7_0_s_8_1⟩ : LoadRect S4096x128).idx j)

/-- The first layer's clamped gate times its logistic weight: what the row block and the first weights give. -/
def hid1 (x : Vec F S4096x128 .f32) (W : Vec F S1024x2048 .bf16) (b : Vec F S1x1x2048 .f32) : FVec F S512x1024 .f32 :=
  k0_pay5 (col0 x) (col1 x) (col2 x) (col3 x) (col4 x) (col5 x) (col6 x) (col7 x) W b
/-- The second of the three arrays the first layer hands on. -/
def hid2 (x : Vec F S4096x128 .f32) (W : Vec F S1024x2048 .bf16) (b : Vec F S1x1x2048 .f32) : FVec F S512x1024 .f32 :=
  k0_pay6 (col0 x) (col1 x) (col2 x) (col3 x) (col4 x) (col5 x) (col6 x) (col7 x) W b
/-- The third of the three arrays the first layer hands on. -/
def hid3 (x : Vec F S4096x128 .f32) (W : Vec F S1024x2048 .bf16) (b : Vec F S1x1x2048 .f32) : FVec F S512x1024 .f32 :=
  k0_pay7 (col0 x) (col1 x) (col2 x) (col3 x) (col4 x) (col5 x) (col6 x) (col7 x) W b

/-- The eight strided stores of the output block, the last first. -/
def pieces (x : Vec F S4096x128 .f32) (W : Vec F S1024x2048 .bf16) (b : Vec F S1x1x2048 .f32) (W' : Vec F S1024x1024 .bf16)
    (b' : Vec F S1x1x1024 .f32) : List (View.Piece (Elt F) S4096x128 .f32) :=
  [⟨⟨(⟨![7, 0], S512x128.size, ![8, 1], inb_S4096x128_S512x128_7_0_s_8_1⟩ : LoadRect S4096x128), spos_8_1⟩, k0_pay16 (hid1 x W b) (hid2 x W b) (hid3 x W b) W' b'⟩,
   ⟨⟨(⟨![6, 0], S512x128.size, ![8, 1], inb_S4096x128_S512x128_6_0_s_8_1⟩ : LoadRect S4096x128), spos_8_1⟩, k0_pay15 (hid1 x W b) (hid2 x W b) (hid3 x W b) W' b'⟩,
   ⟨⟨(⟨![5, 0], S512x128.size, ![8, 1], inb_S4096x128_S512x128_5_0_s_8_1⟩ : LoadRect S4096x128), spos_8_1⟩, k0_pay14 (hid1 x W b) (hid2 x W b) (hid3 x W b) W' b'⟩,
   ⟨⟨(⟨![4, 0], S512x128.size, ![8, 1], inb_S4096x128_S512x128_4_0_s_8_1⟩ : LoadRect S4096x128), spos_8_1⟩, k0_pay13 (hid1 x W b) (hid2 x W b) (hid3 x W b) W' b'⟩,
   ⟨⟨(⟨![3, 0], S512x128.size, ![8, 1], inb_S4096x128_S512x128_3_0_s_8_1⟩ : LoadRect S4096x128), spos_8_1⟩, k0_pay12 (hid1 x W b) (hid2 x W b) (hid3 x W b) W' b'⟩,
   ⟨⟨(⟨![2, 0], S512x128.size, ![8, 1], inb_S4096x128_S512x128_2_0_s_8_1⟩ : LoadRect S4096x128), spos_8_1⟩, k0_pay11 (hid1 x W b) (hid2 x W b) (hid3 x W b) W' b'⟩,
   ⟨⟨(⟨![1, 0], S512x128.size, ![8, 1], inb_S4096x128_S512x128_1_0_s_8_1⟩ : LoadRect S4096x128), spos_8_1⟩, k0_pay10 (hid1 x W b) (hid2 x W b) (hid3 x W b) W' b'⟩,
   ⟨⟨(⟨![0, 0], S512x128.size, ![8, 1], inb_S4096x128_S512x128_0_0_s_8_1⟩ : LoadRect S4096x128), spos_8_1⟩, k0_pay9 (hid1 x W b) (hid2 x W b) (hid3 x W b) W' b'⟩]

/-- The eight strided rectangles cover the block: index `y` is a place of the one at `y 0 % 8`. -/
theorem pieces_cover (x : Vec F S4096x128 .f32) (W : Vec F S1024x2048 .bf16) (b : Vec F S1x1x2048 .f32) (W' : Vec F S1024x1024 .bf16)
    (b' : Vec F S1x1x1024 .f32) (y : S4096x128.Idx) : ∃ p ∈ pieces x W b W' b', y ∈ p.1.set := by
  have hy0 : (y 0).val < 4096 := (y 0).isLt
  have hy1 : (y 1).val < 128 := (y 1).isLt
  have hq : (y 0).val / 8 < 512 := by omega
  have key : ∀ (k : ℕ) (r : Rect S4096x128), r.off = ![k, 0] → r.size = S512x128.size → r.stride = ![8, 1] →
      (y 0).val % 8 = k → y ∈ r.set := by
    intro k r ho hs hst hk
    refine (LoadRect.mem_set _).mpr ?_
    intro a
    rw [ho, hs, hst]
    fin_cases a
    · exact ⟨(y 0).val / 8, hq, by show (y 0).val = k + 8 * ((y 0).val / 8); omega⟩
    · exact ⟨(y 1).val, hy1, by show (y 1).val = 0 + 1 * (y 1).val; omega⟩
  have hm : (y 0).val % 8 < 8 := Nat.mod_lt _ (by decide)
  unfold pieces
  generalize hk : (y 0).val % 8 = k at hm
  obtain rfl | rfl | rfl | rfl | rfl | rfl | rfl | rfl : k = 0 ∨ k = 1 ∨ k = 2 ∨ k = 3 ∨ k = 4 ∨ k = 5 ∨ k = 6 ∨ k = 7 := by omega
  · exact ⟨_, by apply List.mem_cons_of_mem; apply List.mem_cons_of_mem; apply List.mem_cons_of_mem; apply List.mem_cons_of_mem; apply List.mem_cons_of_mem; apply List.mem_cons_of_mem; apply List.mem_cons_of_mem; exact List.mem_cons_self, key 0 _ rfl rfl rfl hk⟩
  · exact ⟨_, by apply List.mem_cons_of_mem; apply List.mem_cons_of_mem; apply List.mem_cons_of_mem; apply List.mem_cons_of_mem; apply List.mem_cons_of_mem; apply List.mem_cons_of_mem; exact List.mem_cons_self, key 1 _ rfl rfl rfl hk⟩
  · exact ⟨_, by apply List.mem_cons_of_mem; apply List.mem_cons_of_mem; apply List.mem_cons_of_mem; apply List.mem_cons_of_mem; apply List.mem_cons_of_mem; exact List.mem_cons_self, key 2 _ rfl rfl rfl hk⟩
  · exact ⟨_, by apply List.mem_cons_of_mem; apply List.mem_cons_of_mem; apply List.mem_cons_of_mem; apply List.mem_cons_of_mem; exact List.mem_cons_self, key 3 _ rfl rfl rfl hk⟩
  · exact ⟨_, by apply List.mem_cons_of_mem; apply List.mem_cons_of_mem; apply List.mem_cons_of_mem; exact List.mem_cons_self, key 4 _ rfl rfl rfl hk⟩
  · exact ⟨_, by apply List.mem_cons_of_mem; apply List.mem_cons_of_mem; exact List.mem_cons_self, key 5 _ rfl rfl rfl hk⟩
  · exact ⟨_, by apply List.mem_cons_of_mem; exact List.mem_cons_self, key 6 _ rfl rfl rfl hk⟩
  · exact ⟨_, by exact List.mem_cons_self, key 7 _ rfl rfl rfl hk⟩

/-- The output block of a used block: what the eight strided stores leave. -/
def used (x : Vec F S4096x128 .f32) (W : Vec F S1024x2048 .bf16) (b : Vec F S1x1x2048 .f32) (W' : Vec F S1024x1024 .bf16)
    (b' : Vec F S1x1x1024 .f32) : Vec F S4096x128 .f32 := View.canon (pieces x W b W' b')

set_option maxHeartbeats 4000000 in
/-- The body on whole staging buffers: it leaves its tables and its input blocks, leaves in the two scratch buffers the
    two weight blocks rounded when the block's expert is new and what was there otherwise, and in the output block the
    expert's feed-forward when the block is used and zeros otherwise. -/
theorem run_body (c : Dev nD) (E : Set ℕ) (i : grid0.Coords)
    (arg3 : Memref sig .tc .vmem S4096x128 .f32) (harg3 : arg3.IsWhole)
    (arg4 : Memref sig .tc .vmem S1x1024x2048 .f32) (harg4 : arg4.IsWhole)
    (arg5 : Memref sig .tc .vmem S1x1x2048 .f32) (harg5 : arg5.IsWhole)
    (arg6 : Memref sig .tc .vmem S1x1024x1024 .f32) (harg6 : arg6.IsWhole)
    (arg7 : Memref sig .tc .vmem S1x1x1024 .f32) (harg7 : arg7.IsWhole)
    (arg8 : Memref sig .tc .vmem S4096x128 .f32) (harg8 : arg8.IsWhole)
    (arg9 : Memref sig .tc .vmem S1024x2048 .bf16) (harg9 : arg9.IsWhole)
    (arg10 : Memref sig .tc .vmem S1024x1024 .bf16) (harg10 : arg10.IsWhole)
    (T1 : Vec F S288 .i32) (T2 : Vec F S1 .i32)
    (x0 : Vec F S4096x128 .f32) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (w0 w1 wn : BitVec 32)
    (h0 : word T1 (k0_off2 i) (k0_off2_inb i) = w0) (h1 : word T1 (k0_off1 i) (k0_off1_inb i) = w1) (hn : word1 T2 = wn)
    (hBC : k0_cond2 i wn = 1#1 ↔ ¬ k0_cond3 i wn = 1#1)
    (K : PUnit → sProp 𝕄) :
    iprop(owns c (Memref.whole main_arg1) fullShare.right T1 ∗ owns c (Memref.whole main_arg2) fullShare.right T2
        ∗ owns c arg3 fullShare x0 ∗ owns c arg4 fullShare x1 ∗ owns c arg5 fullShare x2 ∗ owns c arg6 fullShare x3 ∗ owns c arg7 fullShare x4
        ∗ (∃ d, owns c arg8 fullShare d) ∗ owns c arg9 fullShare s0 ∗ owns c arg10 fullShare s1
        ∗ (iprop(owns c (Memref.whole main_arg1) fullShare.right T1 ∗ owns c (Memref.whole main_arg2) fullShare.right T2
          ∗ owns c arg3 fullShare x0 ∗ owns c arg4 fullShare x1 ∗ owns c arg5 fullShare x2 ∗ owns c arg6 fullShare x3 ∗ owns c arg7 fullShare x4
          ∗ owns c arg8 fullShare (if k0_cond2 i wn = 1#1 then used x0 (if fresh i w1 w0 then k0_pay1 x1 else s0) x2 (if fresh i w1 w0 then k0_pay2 x3 else s1) x4 else k0_pay3)
          ∗ owns c arg9 fullShare (if fresh i w1 w0 then k0_pay1 x1 else s0) ∗ owns c arg10 fullShare (if fresh i w1 w0 then k0_pay2 x3 else s1)) -∗ K ⟨⟩))
      ⊢ wp frame (wpE (defs₀ (F := F)) Variants.none c none) E (cc0__moe_ffn_kernel i (Memref.whole main_arg1) (Memref.isWhole_whole _) (Memref.whole main_arg2) (Memref.isWhole_whole _) arg3 harg3 arg4 harg4 arg5 harg5 arg6 harg6 arg7 harg7 arg8 harg8 arg9 harg9 arg10 harg10) K := by
  simp only [cc0__moe_ffn_kernel_eq_skeleton]; unfold cc0__moe_ffn_kernel_skel
  simp only [k0_part2_eq_skeleton]; unfold k0_part2_skel
  simp only [k0_part1_eq_skeleton]; unfold k0_part1_skel
  unfold owns
  iintro ⟨⟨%g1, %hg1, HT1⟩, ⟨%g2, %hg2, HT2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hg1 hg2 hf0 hf1 hf2 hf3 hf4 hf6 hf7
  have e0 : View.readAt (Elt F) (Memref.whole main_arg1).view (Rect.unit (s := S288) (k0_off2 i) S1.size (k0_off2_inb i)).toLoadRect g1 = fun _ => w0 := by
    funext y; rw [← h0, idx_one y (Shape.Idx.first (numel1_S1.symm ▸ Nat.one_pos))]; rfl
  have e1 : View.readAt (Elt F) (Memref.whole main_arg1).view (Rect.unit (s := S288) (k0_off1 i) S1.size (k0_off1_inb i)).toLoadRect g1 = fun _ => w1 := by
    funext y; rw [← h1, idx_one y (Shape.Idx.first (numel1_S1.symm ▸ Nat.one_pos))]; rfl
  have e2 : View.readAt (Elt F) (Memref.whole main_arg2).view (Rect.unit (s := S1) ![0] S1.size inb_S1_S1_0).toLoadRect g2 = fun _ => wn := by
    funext y; rw [← hn, idx_one y (Shape.Idx.first (numel1_S1.symm ▸ Nat.one_pos))]; rfl
  by_cases hf : fresh i w1 w0
  · have hA := hf
    unfold fresh at hA
    rw [if_pos hf, if_pos hf]
    by_cases hB : k0_cond2 i wn = 1#1
    · have hC := hBC.mp hB
      rw [if_pos hB]
      sl_exec
      sl_step
      iapply Hk
      isplitl [HT1]
      · iexists g1; isplitr; · ipureintro; rfl
        iexact HT1
      isplitl [HT2]
      · iexists g2; isplitr; · ipureintro; rfl
        iexact HT2
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr
        swap; · iexact H5
        ipureintro
        have r1 : (run_body.sl.v37 c arg4 arg9 f1) = (k0_pay1 (arg4.view.read (Elt F) f1)) := (View.readCov_full _ _ _ _ _).trans (congrArg k0_pay1 (View.readAt_full _ _ _))
        have r2 : (View.readAt (Elt F) arg5.view (Rect.unit (s := S1x1x2048) ![0, 0, 0] S1x1x2048.size inb_S1x1x2048_S1x1x2048_0_0_0).toLoadRect f2) = arg5.view.read (Elt F) f2 := View.readAt_full _ _ _
        have r3 : (run_body.sl.v59 c arg6 arg10 f3) = (k0_pay2 (arg6.view.read (Elt F) f3)) := (View.readCov_full _ _ _ _ _).trans (congrArg k0_pay2 (View.readAt_full _ _ _))
        have r4 : (View.readAt (Elt F) arg7.view (Rect.unit (s := S1x1x1024) ![0, 0, 0] S1x1x1024.size inb_S1x1x1024_S1x1x1024_0_0_0).toLoadRect f4) = arg7.view.read (Elt F) f4 := View.readAt_full _ _ _
        refine (View.read_writes_eq_canon arg8.view f5 (pieces (arg3.view.read (Elt F) f0) (run_body.sl.v37 c arg4 arg9 f1) (View.readAt (Elt F) arg5.view (Rect.unit (s := S1x1x2048) ![0, 0, 0] S1x1x2048.size inb_S1x1x2048_S1x1x2048_0_0_0).toLoadRect f2) (run_body.sl.v59 c arg6 arg10 f3) (View.readAt (Elt F) arg7.view (Rect.unit (s := S1x1x1024) ![0, 0, 0] S1x1x1024.size inb_S1x1x1024_S1x1x1024_0_0_0).toLoadRect f4)) (pieces_cover _ _ _ _ _)).trans ?_
        rw [r1, r2, r3, r4]
        rfl
      isplitl [H6]
      · iexists _; isplitr
        swap; · iexact H6
        ipureintro
        exact (View.read_writes_full _ _ _ _ _).trans (congrArg k0_pay1 (View.readAt_full _ _ _))
      iexists _; isplitr
      swap; · iexact H7
      ipureintro
      exact (View.read_writes_full _ _ _ _ _).trans (congrArg k0_pay2 (View.readAt_full _ _ _))
    · have hC : k0_cond3 i wn = 1#1 := by by_contra h; exact hB (hBC.mpr h)
      rw [if_neg hB]
      sl_exec
      sl_step
      iapply Hk
      isplitl [HT1]
      · iexists g1; isplitr; · ipureintro; rfl
        iexact HT1
      isplitl [HT2]
      · iexists g2; isplitr; · ipureintro; rfl
        iexact HT2
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr
        swap; · iexact H5
        ipureintro
        exact View.read_writes_full _ _ _ _ _
      isplitl [H6]
      · iexists _; isplitr
        swap; · iexact H6
        ipureintro
        exact (View.read_writes_full _ _ _ _ _).trans (congrArg k0_pay1 (View.readAt_full _ _ _))
      iexists _; isplitr
      swap; · iexact H7
      ipureintro
      exact (View.read_writes_full _ _ _ _ _).trans (congrArg k0_pay2 (View.readAt_full _ _ _))
  · have hA := hf
    unfold fresh at hA
    rw [if_neg hf, if_neg hf]
    by_cases hB : k0_cond2 i wn = 1#1
    · have hC := hBC.mp hB
      rw [if_pos hB]
      sl_exec
      sl_step
      iapply Hk
      isplitl [HT1]
      · iexists g1; isplitr; · ipureintro; rfl
        iexact HT1
      isplitl [HT2]
      · iexists g2; isplitr; · ipureintro; rfl
        iexact HT2
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr
        swap; · iexact H5
        ipureintro
        have r1 : (View.readAt (Elt F) arg9.view (Rect.unit (s := S1024x2048) ![0, 0] S1024x2048.size inb_S1024x2048_S1024x2048_0_0).toLoadRect f6) = (arg9.view.read (Elt F) f6) := View.readAt_full _ _ _
        have r2 : (View.readAt (Elt F) arg5.view (Rect.unit (s := S1x1x2048) ![0, 0, 0] S1x1x2048.size inb_S1x1x2048_S1x1x2048_0_0_0).toLoadRect f2) = arg5.view.read (Elt F) f2 := View.readAt_full _ _ _
        have r3 : (View.readAt (Elt F) arg10.view (Rect.unit (s := S1024x1024) ![0, 0] S1024x1024.size inb_S1024x1024_S1024x1024_0_0).toLoadRect f7) = (arg10.view.read (Elt F) f7) := View.readAt_full _ _ _
        have r4 : (View.readAt (Elt F) arg7.view (Rect.unit (s := S1x1x1024) ![0, 0, 0] S1x1x1024.size inb_S1x1x1024_S1x1x1024_0_0_0).toLoadRect f4) = arg7.view.read (Elt F) f4 := View.readAt_full _ _ _
        refine (View.read_writes_eq_canon arg8.view f5 (pieces (arg3.view.read (Elt F) f0) (View.readAt (Elt F) arg9.view (Rect.unit (s := S1024x2048) ![0, 0] S1024x2048.size inb_S1024x2048_S1024x2048_0_0).toLoadRect f6) (View.readAt (Elt F) arg5.view (Rect.unit (s := S1x1x2048) ![0, 0, 0] S1x1x2048.size inb_S1x1x2048_S1x1x2048_0_0_0).toLoadRect f2) (View.readAt (Elt F) arg10.view (Rect.unit (s := S1024x1024) ![0, 0] S1024x1024.size inb_S1024x1024_S1024x1024_0_0).toLoadRect f7) (View.readAt (Elt F) arg7.view (Rect.unit (s := S1x1x1024) ![0, 0, 0] S1x1x1024.size inb_S1x1x1024_S1x1x1024_0_0_0).toLoadRect f4)) (pieces_cover _ _ _ _ _)).trans ?_
        rw [r1, r2, r3, r4]
        rfl
      isplitl [H6]
      · iexists _; isplitr
        swap; · iexact H6
        ipureintro
        rfl
      iexists _; isplitr
      swap; · iexact H7
      ipureintro
      rfl
    · have hC : k0_cond3 i wn = 1#1 := by by_contra h; exact hB (hBC.mpr h)
      rw [if_neg hB]
      sl_exec
      sl_step
      iapply Hk
      isplitl [HT1]
      · iexists g1; isplitr; · ipureintro; rfl
        iexact HT1
      isplitl [HT2]
      · iexists g2; isplitr; · ipureintro; rfl
        iexact HT2
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr
        swap; · iexact H5
        ipureintro
        exact View.read_writes_full _ _ _ _ _
      isplitl [H6]
      · iexists _; isplitr
        swap; · iexact H6
        ipureintro
        rfl
      iexists _; isplitr
      swap; · iexact H7
      ipureintro
      rfl

end Cert.KernelIdeal.Ffn

end
-- ==== Proof.FfnFrame.lean ====
/- The launch of the expert feed-forward kernel: what its windows hold at each grid point, the body there, and the run of
   the whole program, over any float values. -/
module

public import proofs.«01_k».proof.Proof.FfnBody
public import Idealize.ShloMosaic.Lib.StableHlo.ReadAt
public import Idealize.ShloMosaic.Lib.Pipeline.ValueKit.Geometry
public import Idealize.ShloMosaic.Lib.Tactic.WordOmega

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the launch finds -/

/-- Core `c`'s buffers when the launch begins: the three reshapes done. -/
def V (c : Dev nD) (b : Ref sig .tc) : Buf (Elt F) ((c : Thread nD τ).loc b) :=
  StableHlo.after (hostOps0 (F := F)) (fun b => m (c, b)) b

/-- A buffer none of the three reshapes writes is as launched. -/
theorem V_keep (c : Dev nD) (b : Ref sig .tc) (h0 : Proc.devRef .tc b ≠ Proc.devRef (τ := τ) .tc main_v0)
    (h1 : Proc.devRef .tc b ≠ Proc.devRef (τ := τ) .tc main_v1) (h2 : Proc.devRef .tc b ≠ Proc.devRef (τ := τ) .tc main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨h0, h1, h2⟩))

/-- The table of the blocks' experts and the number of used blocks. -/
def T1 (c : Dev nD) : Vec F S288 .i32 := V m c main_arg1
def T2 (c : Dev nD) : Vec F S1 .i32 := V m c main_arg2

/-- The two tables as the launch reads them. -/
def tbl : pre0.Contents (Elt F) := fun j => V m 0 (pre0.ref j)

theorem V_pre (c : Dev nD) (k : Fin 2) : V m c (pre0.ref k) = tbl m k := by
  obtain rfl : c = 0 := Subsingleton.elim _ _; rfl

/-- What the precondition says of the tables: every entry names an expert, and at least one block is used. -/
structure Good : Prop where
  te : ∀ y, (T1 m 0 y).toNat < 128
  nu : ∀ y, 1 ≤ (T2 m 0 y).toInt

/-! ## Words of the tables -/

/-- The index of a block in the table. -/
def pos (k : ℕ) (h : k < 288) : S288.Idx := fun a => ⟨k, by have h2 : ∀ b, S288.size b = 288 := by decide
                                                            rw [h2]; exact h⟩

theorem pos_eq (y : S288.Idx) (k : ℕ) (h : k < 288) (hy : (y 0).val = k) : y = pos k h := by
  funext a
  obtain rfl : a = 0 := Subsingleton.elim (α := Fin 1) _ _
  exact Fin.ext hy

theorem ofNat_toNat (k : ℕ) (h : k < 288) : (BitVec.ofNat 32 k).toNat = k := by
  rw [BitVec.toNat_ofNat]; omega

theorem first_val (z : S1.Idx) : (z 0).val = 0 := by
  have h := (z 0).isLt
  have h2 : S1.size 0 = 1 := by decide
  omega

/-- The word of the expert table at a block. -/
theorem word_off1 (T : Vec F S288 .i32) (i : grid0.Coords) :
    word T (k0_off1 i) (k0_off1_inb i) = T (pos (i 0).val (i 0).isLt) := by
  have hi : (i 0).val < 288 := (i 0).isLt
  unfold word
  refine congrArg T (pos_eq _ _ _ ?_)
  show (BitVec.ofNat 32 (i 0).val).toNat + 1 * (Shape.Idx.first (s := S1) _ 0).val = _
  rw [first_val, ofNat_toNat _ hi]; omega

/-- The word of the expert table at the block before, at the first block the word of that block. -/
theorem word_off2 (T : Vec F S288 .i32) (i : grid0.Coords) :
    word T (k0_off2 i) (k0_off2_inb i) = T (pos ((i 0).val - 1) (by have := (i 0).isLt; exact lt_of_le_of_lt (Nat.sub_le _ _) this)) := by
  have hi : (i 0).val < 288 := (i 0).isLt
  unfold word
  refine congrArg T (pos_eq _ _ _ ?_)
  show (Scalar.maxsi (Scalar.subi (BitVec.ofNat 32 (i 0).val) 1#32) 0#32).toNat + 1 * (Shape.Idx.first (s := S1) _ 0).val = _
  rw [first_val]
  have h1 := ofNat_toNat _ hi
  generalize BitVec.ofNat 32 (i 0).val = w at h1
  unfold Scalar.maxsi IntOp.maxsi Scalar.subi IntOp.subi
  rw [← h1] at hi ⊢
  clear h1
  split
  · rename_i h
    rw [BitVec.slt, decide_eq_true_eq] at h
    rw [BitVec.toInt_eq_toNat_cond, BitVec.toInt_eq_toNat_cond] at h
    simp only [BitVec.toNat_sub, BitVec.toNat_ofNat] at h ⊢
    omega
  · rename_i h
    rw [BitVec.slt, decide_eq_true_eq] at h
    rw [BitVec.toInt_eq_toNat_cond, BitVec.toInt_eq_toNat_cond] at h
    simp only [BitVec.toNat_sub, BitVec.toNat_ofNat] at h ⊢
    omega

/-- Exactly one of the body's last two branches is taken. -/
theorem cond_iff (i : grid0.Coords) (w : BitVec 32) : k0_cond2 i w = 1#1 ↔ ¬ k0_cond3 i w = 1#1 := by
  unfold k0_cond2 k0_cond3
  generalize BitVec.ofNat 32 (i 0).val = a
  dsimp only
  word_omega

/-- A block is used exactly when its number is below the number of used blocks. -/
theorem cond2_iff (i : grid0.Coords) (w : BitVec 32) : k0_cond2 i w = 1#1 ↔ ((i 0).val : ℤ) < w.toInt := by
  have hi : (i 0).val < 288 := (i 0).isLt
  have h1 := ofNat_toNat _ hi
  unfold k0_cond2
  generalize BitVec.ofNat 32 (i 0).val = a at h1
  dsimp only
  rw [← h1]
  word_omega

/-- A block whose weights are not rounded anew is not the first, and has the expert of the block before. -/
theorem not_fresh {i : grid0.Coords} {w1 w0 : BitVec 32} (h : ¬ fresh i w1 w0) : 0 < (i 0).val ∧ w1 = w0 := by
  have hi : (i 0).val < 288 := (i 0).isLt
  have h1 := ofNat_toNat _ hi
  unfold fresh at h
  rw [Scalar.guard_iff] at h
  unfold Scalar.ori at h
  rw [IntOp.ori_eq_one, not_or] at h
  generalize BitVec.ofNat 32 (i 0).val = a at h h1
  obtain ⟨ha, hb⟩ := h
  constructor
  · rw [← h1]
    word_omega
  · word_omega

theorem coords_val (t : Fin grid0.N) : (grid0.coords t 0).val = t.val := by
  rw [Pipeline.Grid.coords_val (G := grid0) t 0 (S := 1) (B := 288) (by decide) rfl]
  have : t.val < 288 := t.isLt.trans_eq N_0
  omega

/-- The smaller of a block's number and the last used block's number is a block's number. -/
theorem minsi_lt (w n : BitVec 32) (hw : w.toNat < 288) (h2 : 1 ≤ n.toInt) :
    (Scalar.minsi w (Scalar.subi n 1#32)).toNat < 288 := by
  unfold Scalar.minsi IntOp.minsi Scalar.subi IntOp.subi
  rw [BitVec.toInt_eq_toNat_cond] at h2
  have hn := n.isLt
  split
  · omega
  · rename_i h
    rw [BitVec.slt, decide_eq_true_eq] at h
    rw [BitVec.toInt_eq_toNat_cond, BitVec.toInt_eq_toNat_cond] at h
    simp only [BitVec.toNat_sub, BitVec.toNat_ofNat] at h ⊢
    split at h2 <;> omega

/-- Below the number of used blocks the smaller is the block's own number. -/
theorem minsi_eq (w n : BitVec 32) (hw : w.toNat < 288) (h2 : (w.toNat : ℤ) < n.toInt) :
    (Scalar.minsi w (Scalar.subi n 1#32)).toNat = w.toNat := by
  unfold Scalar.minsi IntOp.minsi Scalar.subi IntOp.subi
  rw [BitVec.toInt_eq_toNat_cond] at h2
  have hn := n.isLt
  split
  · rfl
  · rename_i h
    rw [BitVec.slt, decide_eq_true_eq] at h
    rw [BitVec.toInt_eq_toNat_cond, BitVec.toInt_eq_toNat_cond] at h
    simp only [BitVec.toNat_sub, BitVec.toNat_ofNat] at h ⊢
    split at h2 <;> omega

/-! ## The tables admit the launch -/

variable (hg : Good m)

include hg in
theorem tbl_ok : ok0 (tbl m) := by
  have e1 : ∀ i : grid0.Coords, ((tbl m).at 0 (Rect.unit (s := S288) (k0_off1 i) S1.size (k0_off1_inb i)) numel1_S1).toNat < 128 := by
    intro i
    exact hg.te _
  have e0 : ∀ i : grid0.Coords, cc0_transform_0 inb_S1_S1_0 numel1_S1 (tbl m) i 0 < 288 := by
    intro i
    have hi : (i 0).val < 288 := (i 0).isLt
    have h1 := ofNat_toNat _ hi
    have h2 : 1 ≤ (((tbl m).at 1 (Rect.unit (s := S1) ![0] S1.size inb_S1_S1_0) numel1_S1 : BitVec 32)).toInt := hg.nu _
    exact minsi_lt _ _ (by omega) h2
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · fin_cases a
    · have := e0 i
      show (cc0_transform_0 inb_S1_S1_0 numel1_S1 (tbl m) i 0 + 1) * 4096 ≤ 1179648
      omega
    · show (0 + 1) * 128 ≤ 128
      omega
  all_goals
    fin_cases a
    · have := e1 i
      show (((tbl m).at 0 (Rect.unit (s := S288) (k0_off1 i) S1.size (k0_off1_inb i)) numel1_S1).toNat + 1) * 1 ≤ 128
      omega
    · show (0 + 1) * _ ≤ _
      rw [Nat.zero_add, Nat.one_mul]
      exact Nat.le_refl _
    · show (0 + 1) * _ ≤ _
      rw [Nat.zero_add, Nat.one_mul]
      exact Nat.le_refl _

/-- The tables, admitted. -/
def adm : (p : Fin 1) → (pcfgs (F := F) p).Adm := fun _ => ⟨tbl m, tbl_ok m hg⟩

abbrev cf : Pipeline.Cfg sig Λ₀ := cfg0 (adm m hg 0)

/-! ## The windows' blocks -/

/-- Window `w`'s block at point `t`, read off its array as the launch finds it. -/
def iblk (c : Dev nD) (w : Fin (cf m hg).W) (t : Fin (cf m hg).N) :
    (((cf m hg).win w).xblock ((cf m hg).grid.coords t)).Idx → Elt F ((cf m hg).win w).elt :=
  (((cf m hg).win w).blk t).view.read (Elt F) (V m c (Pipeline.arrRef spec0 w))

/-- The block of the output at point `t`: the feed-forward of the point's input blocks if the block is used, else zeros. -/
def outAt (c : Dev nD) (t : Fin (cf m hg).N) : Vec F S4096x128 .f32 :=
  if k0_cond2 (grid0.coords t) (word1 (T2 m c)) = 1#1 then
    used (iblk m hg c 0 t) (k0_pay1 (iblk m hg c 1 t)) (iblk m hg c 2 t) (k0_pay2 (iblk m hg c 3 t)) (iblk m hg c 4 t)
  else k0_pay3

/-- What the two scratch buffers hold before point `n`: anything before the first, after a point the rounded weights
    of that point's blocks. -/
def kept (c : Dev nD) (n : Fin ((cf m hg).N + 1)) (s0 : Vec F S1024x2048 .bf16) (s1 : Vec F S1024x1024 .bf16) : Prop :=
  ∀ t : Fin (cf m hg).N, t.val + 1 = n.val → s0 = k0_pay1 (iblk m hg c 1 t) ∧ s1 = k0_pay2 (iblk m hg c 3 t)

/-- The invariant: the two tables, the two scratch buffers as `kept` says, and the generator register. -/
def Inv (c : Dev nD) (n : Fin ((cf m hg).N + 1)) : sProp 𝕄 :=
  iprop(owns c (Memref.whole main_arg1) fullShare.right (T1 m c) ∗ owns c (Memref.whole main_arg2) fullShare.right (T2 m c)
    ∗ (∃ s0 s1, ⌜kept m hg c n s0 s1⌝ ∗ owns c (Memref.whole cc0_scratch0) fullShare s0 ∗ owns c (Memref.whole cc0_scratch1) fullShare s1)
    ∗ (∃ r, prngReg c r))

/-- The launch's proof data. -/
def dats (p : Fin 1) (c : Dev nD) : Dat τ (Elt F) Unit ℕ (UR sig nD τ) ℕ (Pipeline.pin pcfgs (adm m hg) p) c where
  A w := V m c (Pipeline.arrRef spec0 w)
  after w t := match w with
    | ⟨0, _⟩ => iblk m hg c 0 t
    | ⟨1, _⟩ => iblk m hg c 1 t
    | ⟨2, _⟩ => iblk m hg c 2 t
    | ⟨3, _⟩ => iblk m hg c 3 t
    | ⟨4, _⟩ => iblk m hg c 4 t
    | ⟨5, _⟩ => outAt m hg c t
  Φ n := Inv m hg c n
  q _ := fullShare
  owed _ := 0

theorem A_eq (c : Dev nD) (w : Fin (cf m hg).W) : (dats m hg 0 c).A w = V m c (Pipeline.arrRef spec0 w) := by
  dsimp only [dats]

theorem after_0 (c : Dev nD) (t : Fin (cf m hg).N) : (dats m hg 0 c).after 0 t = iblk m hg c 0 t := by dsimp only [dats]; rfl
theorem after_1 (c : Dev nD) (t : Fin (cf m hg).N) : (dats m hg 0 c).after 1 t = iblk m hg c 1 t := by dsimp only [dats]; rfl
theorem after_2 (c : Dev nD) (t : Fin (cf m hg).N) : (dats m hg 0 c).after 2 t = iblk m hg c 2 t := by dsimp only [dats]; rfl
theorem after_3 (c : Dev nD) (t : Fin (cf m hg).N) : (dats m hg 0 c).after 3 t = iblk m hg c 3 t := by dsimp only [dats]; rfl
theorem after_4 (c : Dev nD) (t : Fin (cf m hg).N) : (dats m hg 0 c).after 4 t = iblk m hg c 4 t := by dsimp only [dats]; rfl
theorem after_5 (c : Dev nD) (t : Fin (cf m hg).N) : (dats m hg 0 c).after 5 t = outAt m hg c t := by dsimp only [dats]; rfl

/-- Each input's staging buffer holds its block at every point. -/
theorem before_0 (c : Dev nD) (t : Fin (cf m hg).N) (d) : (dats m hg 0 c).before 0 t d = iblk m hg c 0 t :=
  ((dats m hg 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin (cf m hg).N) (d) : (dats m hg 0 c).before 1 t d = iblk m hg c 1 t :=
  ((dats m hg 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cf m hg).N) (d) : (dats m hg 0 c).before 2 t d = iblk m hg c 2 t :=
  ((dats m hg 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cf m hg).N) (d) : (dats m hg 0 c).before 3 t d = iblk m hg c 3 t :=
  ((dats m hg 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cf m hg).N) (d) : (dats m hg 0 c).before 4 t d = iblk m hg c 4 t :=
  ((dats m hg 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The weight blocks of two points with one expert -/

/-- The expert of the block at point `t`, as the table names it. -/
def te (t : Fin (cf m hg).N) : BitVec 32 := T1 m 0 (pos t.val (t.isLt.trans_eq N_0))

/-- An input block at an index is its array at the block's place. -/
theorem iblk_apply (c : Dev nD) (w : Fin (cf m hg).W) (t : Fin (cf m hg).N) (y : (((cf m hg).win w).xblock ((cf m hg).grid.coords t)).Idx) :
    iblk m hg c w t y = _root_.cast (congrArg (Elt F) (((cf m hg).win w).blk t).view.elt_eq) (V m c (Pipeline.arrRef spec0 w) ((((cf m hg).win w).blk t).view.emb y)) := rfl

theorem tblAt (t : Fin (cf m hg).N) :
    ((tbl m).at 0 (Rect.unit (s := S288) (k0_off1 (grid0.coords t)) S1.size (k0_off1_inb (grid0.coords t))) numel1_S1 : BitVec 32) = te m hg t := by
  refine (word_off1 (T1 m 0) (grid0.coords t)).trans ?_
  unfold te
  exact congrArg (T1 m 0) (pos_eq _ _ _ (coords_val t))

/-- The first weights' block at point `t` is the matrix of the point's expert. -/
theorem iblk1_apply (c : Dev nD) (t : Fin (cf m hg).N) (y : S1x1024x2048.Idx) (z : S128x1024x2048.Idx)
    (h0 : (z 0).val = (te m hg t).toNat) (h1 : (z 1).val = (y 1).val) (h2 : (z 2).val = (y 2).val) :
    iblk m hg c 1 t y = V m c main_arg3 z := by
  have hy : (y 0).val < 1 := (y 0).isLt
  have ht := congrArg BitVec.toNat (tblAt m hg t)
  refine congrArg (V m c main_arg3) (?_ : (((cf m hg).win 1).blk t).view.emb y = z)
  funext a
  refine Fin.ext ?_
  refine ((((cf m hg).win 1).rect_emb_val t y a) : _).trans ?_
  fin_cases a
  · show ((tbl m).at 0 (Rect.unit (s := S288) (k0_off1 (grid0.coords t)) S1.size (k0_off1_inb (grid0.coords t))) numel1_S1 : BitVec 32).toNat * 1 + (y 0).val = (z 0).val
    omega
  · show 0 * 1024 + (y 1).val = (z 1).val
    omega
  · show 0 * 2048 + (y 2).val = (z 2).val
    omega

/-- At two points of one expert the block is the same. -/
theorem iblk1_congr (c : Dev nD) (t t' : Fin (cf m hg).N) (h : te m hg t = te m hg t') :
    (iblk m hg c 1 t : Vec F S1x1024x2048 .f32) = iblk m hg c 1 t' := by
  refine funext fun (y : S1x1024x2048.Idx) => ?_
  have hb : (te m hg t).toNat < 128 := hg.te _
  obtain ⟨z, hz0, hz1, hz2⟩ : ∃ z : S128x1024x2048.Idx, (z 0).val = (te m hg t).toNat ∧ (z 1).val = (y 1).val ∧ (z 2).val = (y 2).val :=
    ⟨fun a => match a with
      | ⟨0, _⟩ => ⟨(te m hg t).toNat, hb⟩
      | ⟨1, _⟩ => ⟨(y 1).val, (y 1).isLt⟩
      | ⟨2, _⟩ => ⟨(y 2).val, (y 2).isLt⟩, rfl, rfl, rfl⟩
  exact (iblk1_apply m hg c t y z hz0 hz1 hz2).trans (iblk1_apply m hg c t' y z (h ▸ hz0) hz1 hz2).symm

/-- The first bias's block at point `t` is the row of the point's expert. -/
theorem iblk2_apply (c : Dev nD) (t : Fin (cf m hg).N) (y : S1x1x2048.Idx) (z : S128x1x2048.Idx)
    (h0 : (z 0).val = (te m hg t).toNat) (h1 : (z 1).val = (y 1).val) (h2 : (z 2).val = (y 2).val) :
    iblk m hg c 2 t y = V m c main_v1 z := by
  have hy : (y 0).val < 1 := (y 0).isLt
  have ht := congrArg BitVec.toNat (tblAt m hg t)
  refine congrArg (V m c main_v1) (?_ : (((cf m hg).win 2).blk t).view.emb y = z)
  funext a
  refine Fin.ext ?_
  refine ((((cf m hg).win 2).rect_emb_val t y a) : _).trans ?_
  fin_cases a
  · show ((tbl m).at 0 (Rect.unit (s := S288) (k0_off1 (grid0.coords t)) S1.size (k0_off1_inb (grid0.coords t))) numel1_S1 : BitVec 32).toNat * 1 + (y 0).val = (z 0).val
    omega
  · show 0 * 1 + (y 1).val = (z 1).val
    omega
  · show 0 * 2048 + (y 2).val = (z 2).val
    omega

/-- At two points of one expert the block is the same. -/
theorem iblk2_congr (c : Dev nD) (t t' : Fin (cf m hg).N) (h : te m hg t = te m hg t') :
    (iblk m hg c 2 t : Vec F S1x1x2048 .f32) = iblk m hg c 2 t' := by
  refine funext fun (y : S1x1x2048.Idx) => ?_
  have hb : (te m hg t).toNat < 128 := hg.te _
  obtain ⟨z, hz0, hz1, hz2⟩ : ∃ z : S128x1x2048.Idx, (z 0).val = (te m hg t).toNat ∧ (z 1).val = (y 1).val ∧ (z 2).val = (y 2).val :=
    ⟨fun a => match a with
      | ⟨0, _⟩ => ⟨(te m hg t).toNat, hb⟩
      | ⟨1, _⟩ => ⟨(y 1).val, (y 1).isLt⟩
      | ⟨2, _⟩ => ⟨(y 2).val, (y 2).isLt⟩, rfl, rfl, rfl⟩
  exact (iblk2_apply m hg c t y z hz0 hz1 hz2).trans (iblk2_apply m hg c t' y z (h ▸ hz0) hz1 hz2).symm

/-- The second weights' block at point `t` is the matrix of the point's expert. -/
theorem iblk3_apply (c : Dev nD) (t : Fin (cf m hg).N) (y : S1x1024x1024.Idx) (z : S128x1024x1024.Idx)
    (h0 : (z 0).val = (te m hg t).toNat) (h1 : (z 1).val = (y 1).val) (h2 : (z 2).val = (y 2).val) :
    iblk m hg c 3 t y = V m c main_arg5 z := by
  have hy : (y 0).val < 1 := (y 0).isLt
  have ht := congrArg BitVec.toNat (tblAt m hg t)
  refine congrArg (V m c main_arg5) (?_ : (((cf m hg).win 3).blk t).view.emb y = z)
  funext a
  refine Fin.ext ?_
  refine ((((cf m hg).win 3).rect_emb_val t y a) : _).trans ?_
  fin_cases a
  · show ((tbl m).at 0 (Rect.unit (s := S288) (k0_off1 (grid0.coords t)) S1.size (k0_off1_inb (grid0.coords t))) numel1_S1 : BitVec 32).toNat * 1 + (y 0).val = (z 0).val
    omega
  · show 0 * 1024 + (y 1).val = (z 1).val
    omega
  · show 0 * 1024 + (y 2).val = (z 2).val
    omega

/-- At two points of one expert the block is the same. -/
theorem iblk3_congr (c : Dev nD) (t t' : Fin (cf m hg).N) (h : te m hg t = te m hg t') :
    (iblk m hg c 3 t : Vec F S1x1024x1024 .f32) = iblk m hg c 3 t' := by
  refine funext fun (y : S1x1024x1024.Idx) => ?_
  have hb : (te m hg t).toNat < 128 := hg.te _
  obtain ⟨z, hz0, hz1, hz2⟩ : ∃ z : S128x1024x1024.Idx, (z 0).val = (te m hg t).toNat ∧ (z 1).val = (y 1).val ∧ (z 2).val = (y 2).val :=
    ⟨fun a => match a with
      | ⟨0, _⟩ => ⟨(te m hg t).toNat, hb⟩
      | ⟨1, _⟩ => ⟨(y 1).val, (y 1).isLt⟩
      | ⟨2, _⟩ => ⟨(y 2).val, (y 2).isLt⟩, rfl, rfl, rfl⟩
  exact (iblk3_apply m hg c t y z hz0 hz1 hz2).trans (iblk3_apply m hg c t' y z (h ▸ hz0) hz1 hz2).symm

/-- The second bias's block at point `t` is the row of the point's expert. -/
theorem iblk4_apply (c : Dev nD) (t : Fin (cf m hg).N) (y : S1x1x1024.Idx) (z : S128x1x1024.Idx)
    (h0 : (z 0).val = (te m hg t).toNat) (h1 : (z 1).val = (y 1).val) (h2 : (z 2).val = (y 2).val) :
    iblk m hg c 4 t y = V m c main_v2 z := by
  have hy : (y 0).val < 1 := (y 0).isLt
  have ht := congrArg BitVec.toNat (tblAt m hg t)
  refine congrArg (V m c main_v2) (?_ : (((cf m hg).win 4).blk t).view.emb y = z)
  funext a
  refine Fin.ext ?_
  refine ((((cf m hg).win 4).rect_emb_val t y a) : _).trans ?_
  fin_cases a
  · show ((tbl m).at 0 (Rect.unit (s := S288) (k0_off1 (grid0.coords t)) S1.size (k0_off1_inb (grid0.coords t))) numel1_S1 : BitVec 32).toNat * 1 + (y 0).val = (z 0).val
    omega
  · show 0 * 1 + (y 1).val = (z 1).val
    omega
  · show 0 * 1024 + (y 2).val = (z 2).val
    omega

/-- At two points of one expert the block is the same. -/
theorem iblk4_congr (c : Dev nD) (t t' : Fin (cf m hg).N) (h : te m hg t = te m hg t') :
    (iblk m hg c 4 t : Vec F S1x1x1024 .f32) = iblk m hg c 4 t' := by
  refine funext fun (y : S1x1x1024.Idx) => ?_
  have hb : (te m hg t).toNat < 128 := hg.te _
  obtain ⟨z, hz0, hz1, hz2⟩ : ∃ z : S128x1x1024.Idx, (z 0).val = (te m hg t).toNat ∧ (z 1).val = (y 1).val ∧ (z 2).val = (y 2).val :=
    ⟨fun a => match a with
      | ⟨0, _⟩ => ⟨(te m hg t).toNat, hb⟩
      | ⟨1, _⟩ => ⟨(y 1).val, (y 1).isLt⟩
      | ⟨2, _⟩ => ⟨(y 2).val, (y 2).isLt⟩, rfl, rfl, rfl⟩
  exact (iblk4_apply m hg c t y z hz0 hz1 hz2).trans (iblk4_apply m hg c t' y z (h ▸ hz0) hz1 hz2).symm

/-- The rows' block at the point of a used block is the block of that number. -/
theorem iblk0_apply (c : Dev nD) (t : Fin (cf m hg).N) (hu : (t.val : ℤ) < (word1 (T2 m 0)).toInt) (y : S4096x128.Idx) (z : S1179648x128.Idx)
    (h0 : (z 0).val = t.val * 4096 + (y 0).val) (h1 : (z 1).val = (y 1).val) :
    iblk m hg c 0 t y = V m c main_v0 z := by
  have ht : t.val < 288 := t.isLt.trans_eq N_0
  refine congrArg (V m c main_v0) (?_ : (((cf m hg).win 0).blk t).view.emb y = z)
  funext a
  refine Fin.ext ?_
  refine ((((cf m hg).win 0).rect_emb_val t y a) : _).trans ?_
  fin_cases a
  · show (Scalar.minsi (BitVec.ofNat 32 (grid0.coords t 0).val) (Scalar.subi (word1 (T2 m 0)) 1#32)).toNat * 4096 + (y 0).val = (z 0).val
    have e : (BitVec.ofNat 32 (grid0.coords t 0).val).toNat = t.val := by rw [coords_val]; exact ofNat_toNat _ ht
    rw [minsi_eq _ _ (by rw [e]; exact ht) (by rw [e]; exact hu), e]
    omega
  · show 0 * 128 + (y 1).val = (z 1).val
    omega

/-! ## The body at a grid point -/

/-- The body at point `t` on its current staging buffers. -/
def bodyAt (t : Fin (cf m hg).N) : Prog (TpuEff nD τ sig (Elt F) Λ₀ .tc) PUnit :=
  cc0__moe_ffn_kernel (grid0.coords t) (Memref.whole main_arg1) (Memref.isWhole_whole _) (Memref.whole main_arg2) (Memref.isWhole_whole _)
    (spec0_0.stage ((cf m hg).slots t 0)) (hstage0_0 (((cf m hg).slots t 0).cast nbuf0_0)) (spec0_1.stage ((cf m hg).slots t 1)) (hstage0_1 (((cf m hg).slots t 1).cast nbuf0_1))
    (spec0_2.stage ((cf m hg).slots t 2)) (hstage0_2 (((cf m hg).slots t 2).cast nbuf0_2)) (spec0_3.stage ((cf m hg).slots t 3)) (hstage0_3 (((cf m hg).slots t 3).cast nbuf0_3))
    (spec0_4.stage ((cf m hg).slots t 4)) (hstage0_4 (((cf m hg).slots t 4).cast nbuf0_4)) (spec0_5.stage ((cf m hg).slots t 5)) (hstage0_5 (((cf m hg).slots t 5).cast nbuf0_5))
    (Memref.whole cc0_scratch0) (Memref.isWhole_whole _) (Memref.whole cc0_scratch1) (Memref.isWhole_whole _)

theorem defs₀_row (t : Fin (cf m hg).N) :
    defs₀ (F := F) .tc (cf m hg).body ((cf m hg).bodyArgs t ((cf m hg).slots t)) = bodyAt m hg t := by
  unfold defs₀; rw [Defs.onTc_tc]; rfl

/-- The staging buffer of window `w` at point `t`. -/
abbrev st (w : Fin (cf m hg).W) (t : Fin (cf m hg).N) := ((cf m hg).win w).stage ((cf m hg).slots t w)

/-- What the body is called with at point `t`, -/
def bodyPre (c : Dev nD) (t : Fin (cf m hg).N) : sProp 𝕄 :=
  iprop((dats m hg 0 c).Φ t.castSucc ∗ (dats m hg 0 c).owesAt () t.castSucc
    ∗ (∃ d, owns (c : Thread nD τ) (st m hg 0 t) fullShare ((dats m hg 0 c).before 0 t d))
    ∗ (∃ d, owns (c : Thread nD τ) (st m hg 1 t) fullShare ((dats m hg 0 c).before 1 t d))
    ∗ (∃ d, owns (c : Thread nD τ) (st m hg 2 t) fullShare ((dats m hg 0 c).before 2 t d))
    ∗ (∃ d, owns (c : Thread nD τ) (st m hg 3 t) fullShare ((dats m hg 0 c).before 3 t d))
    ∗ (∃ d, owns (c : Thread nD τ) (st m hg 4 t) fullShare ((dats m hg 0 c).before 4 t d))
    ∗ (∃ d, owns (c : Thread nD τ) (st m hg 5 t) fullShare ((dats m hg 0 c).before 5 t d)))

/-- and what it returns. -/
def bodyPost (c : Dev nD) (t : Fin (cf m hg).N) : sProp 𝕄 :=
  iprop((dats m hg 0 c).Φ t.succ ∗ (dats m hg 0 c).owesAt () t.succ
    ∗ owns (c : Thread nD τ) (st m hg 0 t) fullShare ((dats m hg 0 c).after 0 t)
    ∗ owns (c : Thread nD τ) (st m hg 1 t) fullShare ((dats m hg 0 c).after 1 t)
    ∗ owns (c : Thread nD τ) (st m hg 2 t) fullShare ((dats m hg 0 c).after 2 t)
    ∗ owns (c : Thread nD τ) (st m hg 3 t) fullShare ((dats m hg 0 c).after 3 t)
    ∗ owns (c : Thread nD τ) (st m hg 4 t) fullShare ((dats m hg 0 c).after 4 t)
    ∗ owns (c : Thread nD τ) (st m hg 5 t) fullShare ((dats m hg 0 c).after 5 t))

/-- The two words of the expert table the body loads at point `t`. -/
abbrev wd1 (c : Dev nD) (t : Fin (cf m hg).N) : BitVec 32 := word (T1 m c) (k0_off1 (grid0.coords t)) (k0_off1_inb (grid0.coords t))
abbrev wd0 (c : Dev nD) (t : Fin (cf m hg).N) : BitVec 32 := word (T1 m c) (k0_off2 (grid0.coords t)) (k0_off2_inb (grid0.coords t))

/-- Where the weights are not rounded anew, the scratch buffers already hold the point's rounded weights. -/
theorem kept_same (c : Dev nD) (t : Fin (cf m hg).N) (s0 : Vec F S1024x2048 .bf16) (s1 : Vec F S1024x1024 .bf16)
    (hk : kept m hg c t.castSucc s0 s1) :
    (if fresh (grid0.coords t) (wd1 m hg c t) (wd0 m hg c t) then k0_pay1 (iblk m hg c 1 t) else s0) = k0_pay1 (iblk m hg c 1 t)
    ∧ (if fresh (grid0.coords t) (wd1 m hg c t) (wd0 m hg c t) then k0_pay2 (iblk m hg c 3 t) else s1) = k0_pay2 (iblk m hg c 3 t) := by
  by_cases hf : fresh (grid0.coords t) (wd1 m hg c t) (wd0 m hg c t)
  · exact ⟨if_pos hf, if_pos hf⟩
  · rw [if_neg hf, if_neg hf]
    obtain ⟨h0, h1⟩ := not_fresh hf
    rw [coords_val] at h0
    have ht : t.val < (cf m hg).N := t.isLt
    have hN : (cf m hg).N = 288 := N_0
    obtain ⟨a, b⟩ := hk ⟨t.val - 1, by omega⟩ (by show t.val - 1 + 1 = t.val; omega)
    have hte : te m hg ⟨t.val - 1, by omega⟩ = te m hg t := by
      obtain rfl : c = 0 := Subsingleton.elim _ _
      have e1 := word_off1 (T1 m 0) (grid0.coords t)
      have e2 := word_off2 (T1 m 0) (grid0.coords t)
      exact ((congrArg (T1 m 0) (pos_eq _ _ _ (by show t.val - 1 = (grid0.coords t 0).val - 1; rw [coords_val]))).trans
        (e2.symm.trans (h1.symm.trans e1))).trans (congrArg (T1 m 0) (pos_eq _ _ _ (coords_val t)))
    rw [a, b]
    exact ⟨congrArg k0_pay1 (iblk1_congr m hg c _ t hte), congrArg k0_pay2 (iblk3_congr m hg c _ t hte)⟩

set_option maxHeartbeats 1000000 in
/-- The body at any point, from the invariant and the point's blocks to the next invariant and the output block. -/
theorem sound_body (c : Dev nD) (t : Fin (cf m hg).N) :
    bodyPre m hg c t ⊢ wp frame (wpE (defs₀ (F := F)) Variants.none c none) Set.univ (bodyAt m hg t) (fun _ => bodyPost m hg c t) := by
  unfold bodyPre bodyPost bodyAt
  simp only [before_0, before_1, before_2, before_3, before_4]
  rw [show (dats m hg 0 c).Φ t.succ = Inv m hg c t.succ from rfl, show (dats m hg 0 c).Φ t.castSucc = Inv m hg c t.castSucc from rfl,
    show (dats m hg 0 c).owesAt () t.succ = (dats m hg 0 c).owesAt () t.castSucc from rfl,
    after_0, after_1, after_2, after_3, after_4, after_5]
  unfold Inv
  iintro ⟨⟨HT1, HT2, ⟨%s0, %s1, %hk, HS0, HS1⟩, Hr⟩, Ho, ⟨%d0, H0⟩, ⟨%d1, H1⟩, ⟨%d2, H2⟩, ⟨%d3, H3⟩, ⟨%d4, H4⟩, ⟨%d5, H5⟩⟩
  obtain ⟨hk0, hk1⟩ := kept_same m hg c t s0 s1 hk
  iapply (run_body c Set.univ (grid0.coords t) _ _ _ _ _ _ _ _ _ _ _ _ _ _ _ _ (T1 m c) (T2 m c)
    (iblk m hg c 0 t) (iblk m hg c 1 t) (iblk m hg c 2 t) (iblk m hg c 3 t) (iblk m hg c 4 t) s0 s1 (wd0 m hg c t) (wd1 m hg c t) (word1 (T2 m c))
    rfl rfl rfl (cond_iff _ _) _)
  rw [hk0, hk1]
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨HT1, HT2, H0, H1, H2, H3, H4, H5, HS0, HS1⟩
  isplitl [HT1 HT2 HS0 HS1 Hr]
  · isplitl [HT1]; · iexact HT1
    isplitl [HT2]; · iexact HT2
    isplitl [HS0 HS1]
    · iexists _; iexists _
      isplitr
      swap
      · isplitl [HS0]; · iexact HS0
        iexact HS1
      ipureintro
      intro t' ht'
      obtain rfl : t' = t := Fin.ext (by have : t'.val + 1 = t.val + 1 := ht'; omega)
      exact ⟨rfl, rfl⟩
    iexact Hr
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Ffn

end
-- ==== Proof.FfnPre.lean ====
/- What the precondition says of the two tables of the expert feed-forward. -/
module

public import proofs.«01_k».proof.Pre_blocks_named
public import proofs.«01_k».proof.Proof.FfnFrame
public import Idealize.ShloMosaic.Lib.StableHlo.Predicate

@[expose] public section

noncomputable section

namespace Cert.KernelIdeal.Ffn

open Cert.KernelIdeal.Gen
open Idealize.ShloMosaic Idealize.ShloMosaic.TcCoe

variable {F : FTy → Type} [FloatOps F] [Cert.Pre_blocks_named.Facts]

theorem of_bits : ∀ p q r : Bool, IntOp.andi (IntOp.andi (BitVec.ofBool p) (BitVec.ofBool q)) (BitVec.ofBool r) = 1#1 → p = true ∧ q = true ∧ r = true := by
  decide

theorem of_words (a b : BitVec 32)
    (h : IntOp.andi (IntOp.andi (IntOp.cmpi .sge a 0#32) (IntOp.cmpi .slt a 128#32)) (IntOp.cmpi .sge b 1#32) = 1#1) :
    a.toNat < 128 ∧ 1 ≤ b.toInt := by
  obtain ⟨h1, h2, h3⟩ := of_bits (decide ((0#32).toInt ≤ a.toInt)) (decide (a.toInt < (128#32).toInt)) (decide ((1#32).toInt ≤ b.toInt)) h
  have h1 := of_decide_eq_true h1
  have h2 := of_decide_eq_true h2
  have h3 := of_decide_eq_true h3
  rw [show (0#32).toInt = 0 by decide] at h1
  rw [show (128#32).toInt = 128 by decide] at h2
  rw [show (1#32).toInt = 1 by decide] at h3
  refine ⟨?_, h3⟩
  rw [BitVec.toInt_eq_toNat_cond] at h1 h2
  split at h1 <;> omega

/-- The precondition, as facts of the words. -/
theorem words (A0 : FVec F S288x512x1024 .f32) (A1 : IVec S288 32) (A2 : IVec S1 32) (A3 : FVec F S128x1024x2048 .f32)
    (A4 : FVec F S128x2048 .f32) (A5 : FVec F S128x1024x1024 .f32) (A6 : FVec F S128x1024 .f32)
    (h : Cert.Pre_blocks_named.fn A0 A1 A2 A3 A4 A5 A6 = fun _ => 1#1) :
    (∀ y, (A1 y).toNat < 128) ∧ ∀ y, 1 ≤ (A2 y).toInt := by
  have hx := fun x => congrFun h x
  simp only [Cert.Pre_blocks_named.fn, andi, cmpi, constantI, broadcastInDim] at hx
  refine ⟨fun y => (of_words _ _ (hx y)).1, fun y => ?_⟩
  have h1 := (of_words _ _ (hx (pos 0 (by decide)))).2
  rwa [idx_one y _]

/-- The tables of a memory the precondition holds of. -/
theorem good (m : (ℓ : Loc nD τ sig) → Buf (Elt F) ℓ)
    (h : ∀ c : Dev nD, Cert.Pre_blocks_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Good m := by
  have hw := words _ _ _ _ _ _ _ (h 0)
  have e1 : T1 m 0 = m (((0 : Dev nD).tc : Thread nD τ).loc main_arg1) := V_keep m 0 _ (by decide) (by decide) (by decide)
  have e2 : T2 m 0 = m (((0 : Dev nD).tc : Thread nD τ).loc main_arg2) := V_keep m 0 _ (by decide) (by decide) (by decide)
  exact ⟨fun y => by rw [e1]; exact hw.1 y, fun y => by rw [e2]; exact hw.2 y⟩

end Cert.KernelIdeal.Ffn

end
-- ==== Proof.FfnRun.lean ====
/- The run of the expert feed-forward kernel's whole program, over any float values: it ends, its arguments are
   unchanged, its counters are at zero, and its result is what the output blocks make it. -/
module

public import proofs.«01_k».proof.Proof.FfnFrame

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hg : Good m)

/-! ## The body obligation -/

/-- One of the body's two stores of the output always happens. -/
theorem stores (i : grid0.Coords) (w : BitVec 32) : (!(k0_cond2 i w == 1#1) && !(k0_cond3 i w == 1#1)) = false := by
  have h := cond_iff i w
  by_cases h2 : k0_cond2 i w = 1#1
  · rw [h2]; rfl
  · have h3 : k0_cond3 i w = 1#1 := by
      by_contra h3; exact h2 (h.mpr h3)
    rw [h3]; simp

theorem idle_at (a : (pcfg0 (F := F)).Adm) (i : grid0.Coords) : (cfg0 a).idle 5 i = false :=
  stores i (a.1.atD 1 ![0])

theorem idle_5 (t : Fin (cf m hg).N) : (cf m hg).idle 5 ((cf m hg).grid.coords t) = false :=
  idle_at (adm m hg 0) (grid0.coords t)

theorem live (b : Bool) (P Q : sProp 𝕄) : b = false → (P ⊢ (match b with | true => Q | false => P : sProp 𝕄)) := by
  intro h; subst h; exact .rfl

set_option maxHeartbeats 2000000 in
theorem body_obligation (c : Dev nD) : BodyObligation (dats m hg 0 c) (defs₀ (F := F)) Variants.none () Set.univ := fun t => by
  rw [bigSep_W0, bigSep_W0, show defs₀ (F := F) .tc (Pipeline.pin pcfgs (adm m hg) 0).body ((Pipeline.pin pcfgs (adm m hg) 0).bodyArgs t ((Pipeline.pin pcfgs (adm m hg) 0).slots t)) = bodyAt m hg t from defs₀_row m hg t]
  refine triple_restated (sound_body m hg c t) rfl .rfl fun _ => ?_
  unfold bodyPost
  refine sep_mono .rfl (sep_mono .rfl (sep_mono .rfl (sep_mono .rfl (sep_mono .rfl (sep_mono .rfl (sep_mono .rfl ?_))))))
  exact live (F := F) _ _ _ (idle_5 m hg t)

/-! ## Entering and leaving the pipeline -/

theorem ΦT_eq (c : Dev nD) : (Pipeline.ΦT pre0 (tbl m) c : sProp 𝕄)
    = iprop(owns c (Memref.whole main_arg1) fullShare.right (T1 m 0) ∗ owns c (Memref.whole main_arg2) fullShare.right (T2 m 0)) := by
  unfold Pipeline.ΦT Pipeline.prefHeld
  rw [show (Finset.univ : Finset (Fin 2)) = insert (0 : Fin 2) {(1 : Fin 2)} from by decide, bigSep_insert (by decide), bigSep_singleton,
    owns_whole, owns_whole]
  rfl

theorem ΦA_eq (c : Dev nD) : (Pipeline.ΦA spec0 c : sProp 𝕄)
    = iprop(((∃ d, owns c (Memref.whole cc0_scratch0) fullShare d) ∗ (∃ d, owns c (Memref.whole cc0_scratch1) fullShare d)) ∗ (∃ r, prngReg c r)) := by
  unfold Pipeline.ΦA; rw [scopedRest0_eq]; simp only [owns_whole]

theorem hin (c : Dev nD) : iprop(Pipeline.ΦA spec0 c ∗ Pipeline.ΦT pre0 (tbl m) c) ⊢ (dats m hg 0 c).Φ 0 := by
  rw [show (dats m hg 0 c).Φ 0 = Inv m hg c 0 from rfl, ΦA_eq, ΦT_eq]
  obtain rfl : c = 0 := Subsingleton.elim _ _
  unfold Inv
  iintro ⟨⟨⟨⟨%s0, HS0⟩, ⟨%s1, HS1⟩⟩, Hr⟩, HT1, HT2⟩
  isplitl [HT1]; · iexact HT1
  isplitl [HT2]; · iexact HT2
  isplitl [HS0 HS1]
  · iexists s0; iexists s1
    isplitr
    · ipureintro; intro t ht; exact absurd ht (Nat.succ_ne_zero _)
    isplitl [HS0]; · iexact HS0
    iexact HS1
  iexact Hr

theorem hout (c : Dev nD) : (dats m hg 0 c).Φ (Fin.last (cf m hg).N) ⊢ Pipeline.ΦA spec0 c := by
  rw [show (dats m hg 0 c).Φ (Fin.last (cf m hg).N) = Inv m hg c (Fin.last _) from rfl, ΦA_eq]
  unfold Inv
  iintro ⟨HT1, HT2, ⟨%s0, %s1, %hk, HS0, HS1⟩, Hr⟩
  isplitl [HS0 HS1]
  · isplitl [HS0]; · iexists s0; iexact HS0
    iexists s1; iexact HS1
  iexact Hr

/-! ## The run -/

-- the launch theorem's implicit arguments are found by unifying its conclusion with this one, which takes unfolding plain
-- definitions in a metavariable's type
set_option backward.isDefEq.respectTransparency.types false in
set_option maxHeartbeats 1600000 in
/-- The whole program runs to an end, every array of the pipeline at what its blocks make it, every other buffer as the
    launch found it, every counter at zero. -/
theorem run_main : θ_run defs (onTc (τ := τ) (main (F := F))) (s₀ m ρ)
    (fun r => (Pipeline.FramePost (Pipeline.pin pcfgs (adm m hg)) (dats m hg) 0 (V m)) r ∧ r.2.sem = fun _ => 0) :=
  Pipeline.θ_run_frameP_track (Q' := _) pcfgs (adm m hg) (dats m hg) (0 : Fin 1) launch0 defs₀ Variants.none m ρ main
    (hbody := fun c => (body_obligation m hg c).loose) (hshare := fun c => (dats m hg 0 c).share_full fun _ => rfl)
    (howed := fun _ _ => rfl) (V := V m)
    (hmain := Pipeline.hmainP_prefix pcfgs 0 defs₀ Variants.none m main hostOps0 hostOps0_sub ⟨rfl, rfl, rfl⟩ main_chain)
    (hA := A_eq m hg) (hpf := V_pre m) (hin := hin m hg) (hout := hout m hg)

/-- What the run leaves of the arguments. -/
theorem kept_args (r) (h : (Pipeline.FramePost (Pipeline.pin pcfgs (adm m hg)) (dats m hg) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest : ∀ b, b.isScoped = false → (∀ w : Fin 6, (spec0 w).arr.view.ref ≠ b) → r.2.mem ((c.tc : Thread nD τ).loc b) = V m c b :=
    fun b hs ha => (h c).2 b (Pipeline.mem_restRefs_of b hs ha)
  have arr : ∀ w : Fin 6, (spec0 w).isOut = false → r.2.mem ((c.tc : Thread nD τ).loc (Pipeline.arrRef spec0 w)) = V m c (Pipeline.arrRef spec0 w) :=
    fun w hw => ((h c).1 w).trans (Dat.arrAt_in (dats m hg 0 c) w hw _)
  exact ⟨(rest main_arg0 rfl (by decide)).trans (V_keep m c _ (by decide) (by decide) (by decide)),
    (rest main_arg1 rfl (by decide)).trans (V_keep m c _ (by decide) (by decide) (by decide)),
    (rest main_arg2 rfl (by decide)).trans (V_keep m c _ (by decide) (by decide) (by decide)),
    (arr 1 rfl).trans (V_keep m c _ (by decide) (by decide) (by decide)),
    (rest main_arg4 rfl (by decide)).trans (V_keep m c _ (by decide) (by decide) (by decide)),
    (arr 3 rfl).trans (V_keep m c _ (by decide) (by decide) (by decide)),
    (rest main_arg6 rfl (by decide)).trans (V_keep m c _ (by decide) (by decide) (by decide))⟩

include hg in
/-- The whole program ends with its arguments unchanged and its counters at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact (θ_run defs _ _).mono (fun r h => ⟨kept_args m hg r h.1, h.2⟩) (run_main m ρ hg)

/-- and its result is what the output blocks make it. -/
theorem run_all : θ_run defs (onTc (τ := τ) (main (F := F))) (s₀ m ρ) (fun r =>
    (∀ c : Dev nD, r.2.mem ((c.tc : Thread nD τ).loc main_v3) = (dats m hg 0 c).arrAt 5 (cf m hg).N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h => ⟨fun c => (h.1 c).1 5, kept_args m hg r h.1⟩) (run_main m ρ hg)

end Cert.KernelIdeal.Ffn

end
-- ==== Proof.FfnSpec.lean ====
/- The expert feed-forward over extended reals, entry by entry: what both the kernel and the reference compute. -/
module

public import Idealize.ShloMosaic.Lib.Pointwise

@[expose] public section

noncomputable section

namespace Cert.FfnSpec

open Idealize.ShloMosaic

/-- The first layer: a token's row times the first weights, and the first bias. -/
def layer1 (X : Fin 1024 → EReal) (W : Fin 1024 → Fin 2048 → EReal) (b : Fin 2048 → EReal) (j : Fin 2048) : EReal :=
  (∑ d : Fin 1024, X d * W d j) + b j

/-- The gated unit: the gate held at its limit, times the logistic of a multiple of it, times the other half, held both ways, plus one. -/
def act (g u : EReal) : EReal :=
  min g (Ideal.ofBits .f32 1088421888#32) * Ideal.logistic (Ideal.ofBits .f32 1071242019#32 * min g (Ideal.ofBits .f32 1088421888#32))
    * (min (Ideal.ofBits .f32 1088421888#32) (max (Ideal.ofBits .f32 3235905536#32) u) + 1)

/-- One entry of the expert's answer to a token's row. -/
def row (X : Fin 1024 → EReal) (W : Fin 1024 → Fin 2048 → EReal) (b : Fin 2048 → EReal)
    (W' : Fin 1024 → Fin 1024 → EReal) (b' : Fin 1024 → EReal) (j : Fin 1024) : EReal :=
  (∑ k : Fin 1024, act (layer1 X W b ⟨k.val, by omega⟩) (layer1 X W b ⟨1024 + k.val, by omega⟩) * W' k j) + b' j

/-- The expert a word of the table names, held to the experts there are. -/
def expert (w : BitVec 32) : Fin 128 := ⟨min w.toInt.toNat 127, by omega⟩

/-- The result's entry at row `R`, lane `l`: eight rows make a token's answer and 512 tokens a block, whose expert the first table names; zero in a
    block past the number of used ones. -/
def answer (A0 : (⟨3, ![288, 512, 1024]⟩ : Shape).Idx → EReal) (A1 : (⟨1, ![288]⟩ : Shape).Idx → BitVec 32) (A2 : (⟨1, ![1]⟩ : Shape).Idx → BitVec 32)
    (A3 : (⟨3, ![128, 1024, 2048]⟩ : Shape).Idx → EReal) (A4 : (⟨2, ![128, 2048]⟩ : Shape).Idx → EReal)
    (A5 : (⟨3, ![128, 1024, 1024]⟩ : Shape).Idx → EReal) (A6 : (⟨2, ![128, 1024]⟩ : Shape).Idx → EReal) (R : Fin 1179648) (l : Fin 128) : EReal :=
  if (BitVec.ofNat 32 (R.val / 4096)).toInt < (A2 (ix1 0)).toInt then
    row (fun d => A0 (ix3 ⟨R.val / 4096, by omega⟩ ⟨R.val / 8 % 512, by omega⟩ d))
      (fun d j => A3 (ix3 (expert (A1 (ix1 ⟨R.val / 4096, by omega⟩))) d j)) (fun j => A4 (ix2 (expert (A1 (ix1 ⟨R.val / 4096, by omega⟩))) j))
      (fun d j => A5 (ix3 (expert (A1 (ix1 ⟨R.val / 4096, by omega⟩))) d j)) (fun j => A6 (ix2 (expert (A1 (ix1 ⟨R.val / 4096, by omega⟩))) j))
      ⟨R.val % 8 * 128 + l.val, by omega⟩
  else 0

end Cert.FfnSpec

end
-- ==== Proof.FfnMath.lean ====
/- The expert feed-forward of one block, over extended reals: what the kernel's output block is, entry by entry. -/
module

public import proofs.«01_k».proof.Proof.FfnBody
public import proofs.«01_k».proof.Proof.FfnSpec
public import Idealize.ShloMosaic.Lib.Pipeline.ValueKit.Tiles

@[expose] public section

set_option maxRecDepth 16384

noncomputable section

namespace Cert.KernelIdeal.Ffn

open Cert.FfnSpec
open Cert.KernelIdeal.Gen
open Idealize.ShloMosaic Idealize.ShloMosaic.TcCoe Idealize.ShloMosaic.Tactic

/-- A token's row, as it lies in the input block: eight rows of 128. -/
def tok (x : Vec Ideal S4096x128 .f32) (r : Fin 512) (d : Fin 1024) : EReal :=
  x (ix2 ⟨8 * r.val + d.val / 128, by omega⟩ ⟨d.val % 128, by omega⟩)

theorem at_eq (x : Vec Ideal S4096x128 .f32) (a b a' b' : ℕ) (ha : a < 4096) (hb : b < 128) (ha' : a' < 4096) (hb' : b' < 128)
    (h : a = a') (h' : b = b') : x (ix2 ⟨a, ha⟩ ⟨b, hb⟩) = x (ix2 ⟨a', ha'⟩ ⟨b', hb'⟩) := by subst h; subst h'; rfl

theorem pay4_apply (x : Vec Ideal S4096x128 .f32) (W : Vec Ideal S1024x2048 .bf16) (b : Vec Ideal S1x1x2048 .f32) (r : Fin 512) (j : Fin 2048) :
    k0_pay4 (col0 x) (col1 x) (col2 x) (col3 x) (col4 x) (col5 x) (col6 x) (col7 x) W b (ix2 r j)
      = layer1 (tok x r) (fun d j => W (ix2 d j)) (fun j => b (ix3 0 0 j)) j := by
  pointwise [k0_pay4, layer1, tok]
  refine congrArg (· + _) (Finset.sum_congr rfl fun d _ => congrArg (· * _) ?_)
  pointwise [col0, col1, col2, col3, col4, col5, col6, col7]
  split_ifs <;> first | exact at_eq x _ _ _ _ _ _ _ _ (by omega) (by omega) | (exfalso; omega)

theorem pay8_apply (v45 v50 v52 : FVec Ideal S512x1024 .f32) (W : Vec Ideal S1024x1024 .bf16) (b : Vec Ideal S1x1x1024 .f32) (r : Fin 512) (j : Fin 1024) :
    k0_pay8 v45 v50 v52 W b (ix2 r j)
      = (∑ k : Fin 1024, v45 (ix2 r k) * Ideal.logistic (v52 (ix2 r k)) * (v50 (ix2 r k) + 1) * W (ix2 k j)) + b (ix3 0 0 j) := by
  pointwise [k0_pay8]

theorem hid1_apply (x : Vec Ideal S4096x128 .f32) (W : Vec Ideal S1024x2048 .bf16) (b : Vec Ideal S1x1x2048 .f32) (r : Fin 512) (j : Fin 1024) :
    hid1 x W b (ix2 r j) = min (layer1 (tok x r) (fun d j => W (ix2 d j)) (fun j => b (ix3 0 0 j)) ⟨j.val, by omega⟩) (Ideal.ofBits .f32 1088421888#32) := by
  rw [← pay4_apply]
  pointwise [hid1, k0_pay5]

theorem hid2_apply (x : Vec Ideal S4096x128 .f32) (W : Vec Ideal S1024x2048 .bf16) (b : Vec Ideal S1x1x2048 .f32) (r : Fin 512) (j : Fin 1024) :
    hid2 x W b (ix2 r j) = min (Ideal.ofBits .f32 1088421888#32) (max (Ideal.ofBits .f32 3235905536#32)
      (layer1 (tok x r) (fun d j => W (ix2 d j)) (fun j => b (ix3 0 0 j)) ⟨1024 + j.val, by omega⟩)) := by
  rw [← pay4_apply]
  pointwise [hid2, k0_pay6]

theorem hid3_apply (x : Vec Ideal S4096x128 .f32) (W : Vec Ideal S1024x2048 .bf16) (b : Vec Ideal S1x1x2048 .f32) (r : Fin 512) (j : Fin 1024) :
    hid3 x W b (ix2 r j) = Ideal.ofBits .f32 1071242019#32
      * min (layer1 (tok x r) (fun d j => W (ix2 d j)) (fun j => b (ix3 0 0 j)) ⟨j.val, by omega⟩) (Ideal.ofBits .f32 1088421888#32) := by
  rw [← pay4_apply]
  pointwise [hid3, k0_pay7, k0_pay5]

theorem ans_apply (x : Vec Ideal S4096x128 .f32) (W : Vec Ideal S1024x2048 .bf16) (b : Vec Ideal S1x1x2048 .f32) (W' : Vec Ideal S1024x1024 .bf16)
    (b' : Vec Ideal S1x1x1024 .f32) (r : Fin 512) (j : Fin 1024) :
    k0_pay8 (hid1 x W b) (hid2 x W b) (hid3 x W b) W' b' (ix2 r j)
      = row (tok x r) (fun d j => W (ix2 d j)) (fun j => b (ix3 0 0 j)) (fun k j => W' (ix2 k j)) (fun j => b' (ix3 0 0 j)) j := by
  rw [pay8_apply]
  simp only [hid1_apply, hid2_apply, hid3_apply]
  rfl

theorem pay9_apply (v45 v50 v52 : FVec Ideal S512x1024 .f32) (W : Vec Ideal S1024x1024 .bf16) (b : Vec Ideal S1x1x1024 .f32) (y : S512x128.Idx) :
    k0_pay9 v45 v50 v52 W b y = k0_pay8 v45 v50 v52 W b (ix2 (y 0) ⟨0 + (y 1).val, by have : (y 1).val < 128 := (y 1).isLt; omega⟩) := by
  pointwise [k0_pay9]

theorem pay10_apply (v45 v50 v52 : FVec Ideal S512x1024 .f32) (W : Vec Ideal S1024x1024 .bf16) (b : Vec Ideal S1x1x1024 .f32) (y : S512x128.Idx) :
    k0_pay10 v45 v50 v52 W b y = k0_pay8 v45 v50 v52 W b (ix2 (y 0) ⟨128 + (y 1).val, by have : (y 1).val < 128 := (y 1).isLt; omega⟩) := by
  pointwise [k0_pay10]

theorem pay11_apply (v45 v50 v52 : FVec Ideal S512x1024 .f32) (W : Vec Ideal S1024x1024 .bf16) (b : Vec Ideal S1x1x1024 .f32) (y : S512x128.Idx) :
    k0_pay11 v45 v50 v52 W b y = k0_pay8 v45 v50 v52 W b (ix2 (y 0) ⟨256 + (y 1).val, by have : (y 1).val < 128 := (y 1).isLt; omega⟩) := by
  pointwise [k0_pay11]

theorem pay12_apply (v45 v50 v52 : FVec Ideal S512x1024 .f32) (W : Vec Ideal S1024x1024 .bf16) (b : Vec Ideal S1x1x1024 .f32) (y : S512x128.Idx) :
    k0_pay12 v45 v50 v52 W b y = k0_pay8 v45 v50 v52 W b (ix2 (y 0) ⟨384 + (y 1).val, by have : (y 1).val < 128 := (y 1).isLt; omega⟩) := by
  pointwise [k0_pay12]

theorem pay13_apply (v45 v50 v52 : FVec Ideal S512x1024 .f32) (W : Vec Ideal S1024x1024 .bf16) (b : Vec Ideal S1x1x1024 .f32) (y : S512x128.Idx) :
    k0_pay13 v45 v50 v52 W b y = k0_pay8 v45 v50 v52 W b (ix2 (y 0) ⟨512 + (y 1).val, by have : (y 1).val < 128 := (y 1).isLt; omega⟩) := by
  pointwise [k0_pay13]

theorem pay14_apply (v45 v50 v52 : FVec Ideal S512x1024 .f32) (W : Vec Ideal S1024x1024 .bf16) (b : Vec Ideal S1x1x1024 .f32) (y : S512x128.Idx) :
    k0_pay14 v45 v50 v52 W b y = k0_pay8 v45 v50 v52 W b (ix2 (y 0) ⟨640 + (y 1).val, by have : (y 1).val < 128 := (y 1).isLt; omega⟩) := by
  pointwise [k0_pay14]

theorem pay15_apply (v45 v50 v52 : FVec Ideal S512x1024 .f32) (W : Vec Ideal S1024x1024 .bf16) (b : Vec Ideal S1x1x1024 .f32) (y : S512x128.Idx) :
    k0_pay15 v45 v50 v52 W b y = k0_pay8 v45 v50 v52 W b (ix2 (y 0) ⟨768 + (y 1).val, by have : (y 1).val < 128 := (y 1).isLt; omega⟩) := by
  pointwise [k0_pay15]

theorem pay16_apply (v45 v50 v52 : FVec Ideal S512x1024 .f32) (W : Vec Ideal S1024x1024 .bf16) (b : Vec Ideal S1x1x1024 .f32) (y : S512x128.Idx) :
    k0_pay16 v45 v50 v52 W b y = k0_pay8 v45 v50 v52 W b (ix2 (y 0) ⟨896 + (y 1).val, by have : (y 1).val < 128 := (y 1).isLt; omega⟩) := by
  pointwise [k0_pay16]

/-- What a place of a used output block holds: the answer to the token whose eight rows it is one of. -/
theorem used_apply (x : Vec Ideal S4096x128 .f32) (W : Vec Ideal S1024x2048 .bf16) (b : Vec Ideal S1x1x2048 .f32) (W' : Vec Ideal S1024x1024 .bf16)
    (b' : Vec Ideal S1x1x1024 .f32) (p : Fin 4096) (q : Fin 128) :
    used x W b W' b' (ix2 p q)
      = row (tok x ⟨p.val / 8, by omega⟩) (fun d j => W (ix2 d j)) (fun j => b (ix3 0 0 j)) (fun k j => W' (ix2 k j)) (fun j => b' (ix3 0 0 j))
          ⟨p.val % 8 * 128 + q.val, by omega⟩ := by
  rw [← ans_apply]
  have key : ∀ (k : ℕ) (z : S512x128.Idx), (∀ a, ((ix2 p q : S4096x128.Idx) a).val = ![k, 0] a + ![8, 1] a * (z a).val) → ∀ h,
      k < 8 → (ix2 (z 0) ⟨k * 128 + (z 1).val, h⟩ : S512x1024.Idx) = ix2 ⟨p.val / 8, by omega⟩ ⟨p.val % 8 * 128 + q.val, by omega⟩ := by
    intro k z hz h hk
    have h0 : p.val = k + 8 * (z 0).val := hz 0
    have h1 : q.val = 0 + 1 * (z 1).val := hz 1
    have e0 : (z 0) = ⟨p.val / 8, by omega⟩ := Fin.ext (by show (z 0).val = p.val / 8; omega)
    have e1 : (⟨k * 128 + (z 1).val, h⟩ : Fin 1024) = ⟨p.val % 8 * 128 + q.val, by omega⟩ := Fin.ext (by show k * 128 + (z 1).val = p.val % 8 * 128 + q.val; omega)
    rw [e0, e1]; rfl
  refine View.canon_eq_of_allAt _ _ _ (pieces_cover x W b W' b' _) ?_
  intro P hP z hz
  unfold pieces at hP
  simp only [List.mem_cons, List.not_mem_nil, or_false] at hP
  rcases hP with rfl | rfl | rfl | rfl | rfl | rfl | rfl | rfl
  · exact (pay16_apply _ _ _ _ _ z).trans (congrArg _ (key 7 z (fun a => (congrArg (fun w : S4096x128.Idx => (w a).val) hz).symm) _ (by decide)))
  · exact (pay15_apply _ _ _ _ _ z).trans (congrArg _ (key 6 z (fun a => (congrArg (fun w : S4096x128.Idx => (w a).val) hz).symm) _ (by decide)))
  · exact (pay14_apply _ _ _ _ _ z).trans (congrArg _ (key 5 z (fun a => (congrArg (fun w : S4096x128.Idx => (w a).val) hz).symm) _ (by decide)))
  · exact (pay13_apply _ _ _ _ _ z).trans (congrArg _ (key 4 z (fun a => (congrArg (fun w : S4096x128.Idx => (w a).val) hz).symm) _ (by decide)))
  · exact (pay12_apply _ _ _ _ _ z).trans (congrArg _ (key 3 z (fun a => (congrArg (fun w : S4096x128.Idx => (w a).val) hz).symm) _ (by decide)))
  · exact (pay11_apply _ _ _ _ _ z).trans (congrArg _ (key 2 z (fun a => (congrArg (fun w : S4096x128.Idx => (w a).val) hz).symm) _ (by decide)))
  · exact (pay10_apply _ _ _ _ _ z).trans (congrArg _ (key 1 z (fun a => (congrArg (fun w : S4096x128.Idx => (w a).val) hz).symm) _ (by decide)))
  · exact (pay9_apply _ _ _ _ _ z).trans (congrArg _ (key 0 z (fun a => (congrArg (fun w : S4096x128.Idx => (w a).val) hz).symm) _ (by decide)))

end Cert.KernelIdeal.Ffn

end
-- ==== Proof.FfnValue.lean ====
/- The result of the expert feed-forward kernel's whole program, over extended reals, entry by entry. -/
module

public import proofs.«01_k».proof.Proof.FfnRun
public import proofs.«01_k».proof.Proof.FfnMath
public import Idealize.ShloMosaic.Lib.StableHlo.ReadAt
public import Idealize.ShloMosaic.Lib.Pipeline.Covers

@[expose] public section

set_option maxRecDepth 16384

noncomputable section

namespace Cert.KernelIdeal.Ffn

open Cert.FfnSpec
open Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (hg : Good m)

/-! ## The reshaped arguments -/

theorem V_v0 (c : Dev nD) (R : Fin 1179648) (l : Fin 128) :
    V m c main_v0 (ix2 R l) = m ((c.tc : Thread nD τ).loc main_arg0) (ix3 ⟨R.val / 4096, by omega⟩ ⟨R.val / 8 % 512, by omega⟩ ⟨R.val % 8 * 128 + l.val, by omega⟩) := by
  unfold V
  after_reads_at

theorem V_v1 (c : Dev nD) (e : Fin 128) (j : Fin 2048) :
    V m c main_v1 (ix3 e 0 j) = m ((c.tc : Thread nD τ).loc main_arg4) (ix2 e j) := by
  unfold V
  after_reads_at

theorem V_v2 (c : Dev nD) (e : Fin 128) (j : Fin 1024) :
    V m c main_v2 (ix3 e 0 j) = m ((c.tc : Thread nD τ).loc main_arg6) (ix2 e j) := by
  unfold V
  after_reads_at

theorem pay1_apply (x : Vec Ideal S1x1024x2048 .f32) (d : Fin 1024) (j : Fin 2048) : k0_pay1 x (ix2 d j) = x (ix3 0 d j) := by
  pointwise [k0_pay1]

theorem pay2_apply (x : Vec Ideal S1x1024x1024 .f32) (d : Fin 1024) (j : Fin 1024) : k0_pay2 x (ix2 d j) = x (ix3 0 d j) := by
  pointwise [k0_pay2]

theorem pay3_apply (y : S4096x128.Idx) : k0_pay3 (F := Ideal) y = 0 := by
  pointwise [k0_pay3]

/-! ## The result's entries -/

/-- The result, as an array. -/
def result (c : Dev nD) : S1179648x128.Idx → EReal := fun y =>
  answer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (y 0) (y 1)

theorem T1_eq (c : Dev nD) : T1 m c = m ((c.tc : Thread nD τ).loc main_arg1) := V_keep m c _ (by decide) (by decide) (by decide)
theorem T2_eq (c : Dev nD) : T2 m c = m ((c.tc : Thread nD τ).loc main_arg2) := V_keep m c _ (by decide) (by decide) (by decide)

theorem toInt_small (k : ℕ) (h : k < 288) : (BitVec.ofNat 32 k).toInt = (k : ℤ) := by
  rw [BitVec.toInt_eq_toNat_cond, ofNat_toNat k h]; split <;> omega

theorem expert_eq (w : BitVec 32) (h : w.toNat < 128) : (expert w).val = w.toNat := by
  show min w.toInt.toNat 127 = w.toNat
  rw [BitVec.toInt_eq_toNat_cond]; split <;> omega

theorem word1_eq (T : S1.Idx → BitVec 32) : word1 (F := Ideal) T = T (ix1 0) := congrArg T (idx_one _ _)

theorem row_congr {X X' : Fin 1024 → EReal} {W W₁ : Fin 1024 → Fin 2048 → EReal} {b b₁ : Fin 2048 → EReal} {W' W₁' : Fin 1024 → Fin 1024 → EReal}
    {b' b₁' : Fin 1024 → EReal} {j j' : Fin 1024} (hX : ∀ d, X d = X' d) (hW : ∀ d j, W d j = W₁ d j) (hb : ∀ j, b j = b₁ j)
    (hW' : ∀ d j, W' d j = W₁' d j) (hb' : ∀ j, b' j = b₁' j) (hj : j = j') : row X W b W' b' j = row X' W₁ b₁ W₁' b₁' j' := by
  obtain rfl := funext hX; obtain rfl := funext fun d => funext (hW d); obtain rfl := funext hb
  obtain rfl := funext fun d => funext (hW' d); obtain rfl := funext hb'; rw [hj]

/-- The output block of a grid point holds the result's entries at the rows of that block. -/
theorem outAt_apply (c : Dev nD) (t : Fin (cf m hg).N) (p : Fin 4096) (q : Fin 128) (R : Fin 1179648) (hR : R.val = t.val * 4096 + p.val) :
    outAt m hg c t (ix2 p q) = answer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) R q := by
  obtain rfl : c = 0 := Subsingleton.elim _ _
  have ht : t.val < 288 := t.isLt.trans_eq N_0
  have hRt : R.val / 4096 = t.val := by omega
  have hte : (te m hg t) = m (((0 : Dev nD).tc : Thread nD τ).loc main_arg1) (ix1 ⟨R.val / 4096, by omega⟩) := by
    unfold te
    rw [T1_eq]
    exact congrArg (m (((0 : Dev nD).tc : Thread nD τ).loc main_arg1)) (pos_eq _ _ _ hRt).symm
  have hex := expert_eq _ (hg.te (pos t.val ht))
  have hex : (expert (m (((0 : Dev nD).tc : Thread nD τ).loc main_arg1) (ix1 ⟨R.val / 4096, by omega⟩))).val = (te m hg t).toNat := by
    rw [← hte]; exact hex
  unfold answer outAt
  have hc : k0_cond2 (grid0.coords t) (word1 (T2 m 0)) = 1#1
      ↔ (BitVec.ofNat 32 (R.val / 4096)).toInt < (m (((0 : Dev nD).tc : Thread nD τ).loc main_arg2) (ix1 0) : BitVec 32).toInt := by
    rw [cond2_iff, coords_val, T2_eq, hRt, toInt_small _ ht, word1_eq]
  by_cases hu : k0_cond2 (grid0.coords t) (word1 (T2 m 0)) = 1#1
  · rw [if_pos hu]
    refine Eq.trans ?_ (if_pos (hc.mp hu)).symm
    have hu' : (t.val : ℤ) < (word1 (T2 m 0)).toInt := by have := (cond2_iff _ _).mp hu; rwa [coords_val] at this
    refine (used_apply _ _ _ _ _ p q).trans ?_
    generalize hE : expert (m (((0 : Dev nD).tc : Thread nD τ).loc main_arg1) (ix1 ⟨R.val / 4096, by omega⟩)) = e at hex ⊢
    refine row_congr ?_ ?_ ?_ ?_ ?_ (Fin.ext (by show p.val % 8 * 128 + q.val = R.val % 8 * 128 + q.val; omega))
    · intro d
      refine (iblk0_apply m hg 0 t hu' _ (ix2 ⟨t.val * 4096 + (8 * (p.val / 8) + d.val / 128), by omega⟩ ⟨d.val % 128, by omega⟩) rfl rfl).trans ?_
      rw [V_v0]
      refine congrArg (m (((0 : Dev nD).tc : Thread nD τ).loc main_arg0)) ?_
      have a1 : (t.val * 4096 + (8 * (p.val / 8) + d.val / 128)) / 4096 = R.val / 4096 := by omega
      have a2 : (t.val * 4096 + (8 * (p.val / 8) + d.val / 128)) / 8 % 512 = R.val / 8 % 512 := by omega
      have a3 : (t.val * 4096 + (8 * (p.val / 8) + d.val / 128)) % 8 * 128 + d.val % 128 = d.val := by omega
      funext a
      match a with
      | ⟨0, _⟩ => exact Fin.ext a1
      | ⟨1, _⟩ => exact Fin.ext a2
      | ⟨2, _⟩ => exact Fin.ext a3
    · intro d j
      exact (pay1_apply _ d j).trans ((iblk1_apply m hg 0 t _ (ix3 e d j) hex rfl rfl).trans (congrFun (V_keep m 0 main_arg3 (by decide) (by decide) (by decide)) _))
    · intro j
      exact (iblk2_apply m hg 0 t _ (ix3 e 0 j) hex rfl rfl).trans (V_v1 m 0 e j)
    · intro d j
      exact (pay2_apply _ d j).trans ((iblk3_apply m hg 0 t _ (ix3 e d j) hex rfl rfl).trans (congrFun (V_keep m 0 main_arg5 (by decide) (by decide) (by decide)) _))
    · intro j
      exact (iblk4_apply m hg 0 t _ (ix3 e 0 j) hex rfl rfl).trans (V_v2 m 0 e j)
  · rw [if_neg hu]
    exact (pay3_apply _).trans (if_neg (fun h => hu (hc.mpr h))).symm

/-! ## The result as the output blocks make it -/

theorem index5 (t : Fin (cf m hg).N) (a : Fin 2) : ((cf m hg).win 5).index t a = ![t.val, 0] a := by
  have ht : t.val < 288 := t.isLt.trans_eq N_0
  fin_cases a
  · show (BitVec.ofNat 32 (grid0.coords t 0).val).toNat = t.val
    rw [coords_val]; exact ofNat_toNat _ ht
  · rfl

theorem nblk5 (a : Fin 2) : ((cf m hg).win 5).nblk a = ![288, 1] a := by
  fin_cases a
  · show (1179648 + 4096 - 1) / 4096 = 288
    norm_num
  · show (128 + 128 - 1) / 128 = 1
    norm_num

theorem emb5 (t : Fin (cf m hg).N) (y : S4096x128.Idx) (z : S1179648x128.Idx) (h0 : (z 0).val = t.val * 4096 + (y 0).val) (h1 : (z 1).val = (y 1).val) :
    (((cf m hg).win 5).blk t).view.emb y = z := by
  funext a
  refine Fin.ext ?_
  refine ((((cf m hg).win 5).rect_emb_val t y a) : _).trans ?_
  have hi := index5 m hg t a
  fin_cases a
  · refine (congrArg (fun n => n * 4096 + (y 0).val) hi).trans ?_
    exact h0.symm
  · refine (congrArg (fun n => n * 128 + (y 1).val) hi).trans ?_
    show 0 * 128 + (y 1).val = (z 1).val
    omega

theorem covers5 : ((cf m hg).win 5).Covers := by
  refine Window.covers_of_index_surj _ rfl (by intro a; fin_cases a <;> exact Nat.succ_pos _) ?_
  intro β
  have h1 : (β (1 : Fin 2)).val < 1 := (β (1 : Fin 2)).isLt.trans_eq (nblk5 m hg 1)
  have h0 : (β (0 : Fin 2)).val < 288 := (β (0 : Fin 2)).isLt.trans_eq (nblk5 m hg 0)
  refine ⟨⟨(β (0 : Fin 2)).val, h0.trans_eq N_0.symm⟩, fun a => ?_⟩
  refine (index5 m hg _ a).trans ?_
  fin_cases a
  · rfl
  · show 0 = (β (1 : Fin 2)).val
    omega

/-- The output block of a grid point, at any of its places. -/
theorem outAt_result (c : Dev nD) (t : Fin (cf m hg).N) (y : S4096x128.Idx) :
    outAt m hg c t y = result m c ((((cf m hg).win 5).blk t).view.emb y) := by
  have h0 : (y 0).val < 4096 := (y 0).isLt
  have h1 : (y 1).val < 128 := (y 1).isLt
  have ht : t.val < 288 := t.isLt.trans_eq N_0
  have hR : t.val * 4096 + (y 0).val < 1179648 := by omega
  have hy : y = ix2 (y 0) (y 1) := by funext a; fin_cases a <;> rfl
  have e : outAt m hg c t (ix2 (y 0) (y 1)) = result m c (ix2 ⟨t.val * 4096 + (y 0).val, hR⟩ (y 1)) :=
    outAt_apply m hg c t (y 0) (y 1) ⟨t.val * 4096 + (y 0).val, hR⟩ rfl
  exact (congrArg (outAt m hg c t) hy).trans (e.trans (congrArg (result m c) (emb5 m hg t y _ rfl rfl).symm))

/-- The result array after the run. -/
theorem arr_eq (c : Dev nD) : (dats m hg 0 c).arrAt 5 (cf m hg).N = result m c := by
  refine (dats m hg 0 c).arrAt_eq_of_covers 5 (result m c) (covers5 m hg) ?_ (Memref.isWhole_whole _)
  intro t hf (y : S4096x128.Idx)
  exact (congrFun (after_5 m hg c t) y).trans (outAt_result m hg c t y)

end Cert.KernelIdeal.Ffn

end
-- ==== Proof.FfnRef.lean ====
/- The reference's result read at an index. -/
module

public import proofs.«01_k».proof.Proof.Gen.ReferenceIdeal.Run
public import proofs.«01_k».proof.Proof.FfnSpec

@[expose] public section

set_option maxRecDepth 16384

noncomputable section

namespace Cert.ReferenceIdeal.Ffn

open Cert.FfnSpec
open Cert.ReferenceIdeal Cert.ReferenceIdeal.Gen Cert.ReferenceIdeal.Value
open Idealize.ShloMosaic Idealize.ShloMosaic.TcCoe Idealize.ShloMosaic.Tactic

/-- The matrix a table's word names, entry by entry. -/
theorem gather3 {n k : ℕ} (wf : GatherDims.WF ⟨3, ![128, n, k]⟩ S288x1 ⟨3, ![288, n, k]⟩ [1, 2] [0] [] [0] [] 1 ![1, n, k])
    (x : (⟨3, ![128, n, k]⟩ : Shape).Idx → EReal) (T : IVec S288x1 32) (a : Fin 288) (b : Fin n) (e : Fin k) :
    Host.gather { offsetDims := [1, 2], collapsedSliceDims := [0], operandBatchingDims := [], startIndicesBatchingDims := [], startIndexMap := [0], indexVectorDim := 1, sliceSizes := ![1, n, k], wf := wf }
      x T (ix3 a b e) = x (ix3 (expert (T (ix2 a 0))) b e) := by
  unfold Host.gather
  congr 1
  funext i
  refine Fin.ext ?_
  match i with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (BitVec.toInt (T _)).toNat 127 = min (BitVec.toInt (T _)).toNat 127
    congr 4
    funext q
    match q with
    | ⟨0, _⟩ => rfl
    | ⟨1, _⟩ => rfl
  | ⟨1, _⟩ =>
    show GatherDims.start _ _ _ 1 + GatherDims.batchCoord _ _ 1 + GatherDims.offCoord _ _ 1 = b.val
    rw [GatherDims.batchCoord_eq_zero _ _ _ List.not_mem_nil]
    unfold GatherDims.start
    rw [dif_neg (fun h => absurd (congrArg Fin.val (List.mem_singleton.mp h)) (by decide : (1 : ℕ) ≠ 0))]
    simp only [Nat.zero_add]
    rfl
  | ⟨2, _⟩ =>
    show GatherDims.start _ _ _ 2 + GatherDims.batchCoord _ _ 2 + GatherDims.offCoord _ _ 2 = e.val
    rw [GatherDims.batchCoord_eq_zero _ _ _ List.not_mem_nil]
    unfold GatherDims.start
    rw [dif_neg (fun h => absurd (congrArg Fin.val (List.mem_singleton.mp h)) (by decide : (2 : ℕ) ≠ 0))]
    simp only [Nat.zero_add]
    rfl

/-- The row a table's word names, entry by entry. -/
theorem gather2 {n : ℕ} (wf : GatherDims.WF ⟨2, ![128, n]⟩ S288x1 ⟨2, ![288, n]⟩ [1] [0] [] [0] [] 1 ![1, n])
    (x : (⟨2, ![128, n]⟩ : Shape).Idx → EReal) (T : IVec S288x1 32) (a : Fin 288) (b : Fin n) :
    Host.gather { offsetDims := [1], collapsedSliceDims := [0], operandBatchingDims := [], startIndicesBatchingDims := [], startIndexMap := [0], indexVectorDim := 1, sliceSizes := ![1, n], wf := wf }
      x T (ix2 a b) = x (ix2 (expert (T (ix2 a 0))) b) := by
  unfold Host.gather
  congr 1
  funext i
  refine Fin.ext ?_
  match i with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (BitVec.toInt (T _)).toNat 127 = min (BitVec.toInt (T _)).toNat 127
    congr 4
    funext q
    match q with
    | ⟨0, _⟩ => rfl
    | ⟨1, _⟩ => rfl
  | ⟨1, _⟩ =>
    show GatherDims.start _ _ _ 1 + GatherDims.batchCoord _ _ 1 + GatherDims.offCoord _ _ 1 = b.val
    rw [GatherDims.batchCoord_eq_zero _ _ _ List.not_mem_nil]
    unfold GatherDims.start
    rw [dif_neg (fun h => absurd (congrArg Fin.val (List.mem_singleton.mp h)) (by decide : (1 : ℕ) ≠ 0))]
    simp only [Nat.zero_add]
    rfl

theorem w1_apply (x : FVec Ideal S128x1024x2048 .f32) (T : IVec S288x1 32) (a : Fin 288) (b : Fin 1024) (e : Fin 2048) :
    Host.gather gather_S128x1024x2048_S288x1_S288x1024x2048_12_0_n_n_0_1_110242048 x T (ix3 a b e)
      = x (ix3 (expert (T (ix2 a 0))) b e) := gather3 _ x T a b e

theorem w2_apply (x : FVec Ideal S128x1024x1024 .f32) (T : IVec S288x1 32) (a : Fin 288) (b : Fin 1024) (e : Fin 1024) :
    Host.gather gather_S128x1024x1024_S288x1_S288x1024x1024_12_0_n_n_0_1_110241024 x T (ix3 a b e)
      = x (ix3 (expert (T (ix2 a 0))) b e) := gather3 _ x T a b e

theorem b1_apply (x : FVec Ideal S128x2048 .f32) (T : IVec S288x1 32) (a : Fin 288) (e : Fin 2048) :
    Host.gather gather_S128x2048_S288x1_S288x2048_1_0_n_n_0_1_12048 x T (ix2 a e)
      = x (ix2 (expert (T (ix2 a 0))) e) := gather2 _ x T a e

theorem b2_apply (x : FVec Ideal S128x1024 .f32) (T : IVec S288x1 32) (a : Fin 288) (e : Fin 1024) :
    Host.gather gather_S128x1024_S288x1_S288x1024_1_0_n_n_0_1_11024 x T (ix2 a e)
      = x (ix2 (expert (T (ix2 a 0))) e) := gather2 _ x T a e

theorem select_lt (p q : BitVec 32) (A B : EReal) : Scalar.select (IntOp.cmpi .slt p q) A B = if p.toInt < q.toInt then A else B := by
  show Scalar.select (BitVec.ofBool (decide (p.toInt < q.toInt))) A B = _
  by_cases h : p.toInt < q.toInt
  · rw [if_pos h, decide_eq_true h]; rfl
  · rw [if_neg h, decide_eq_false h]; rfl

/-- The answer to the token that output row `R` belongs to: eight rows of the output make one token's, and a block holds 512 tokens. -/
theorem res_apply (m : (ℓ : Loc nD τ sig) → Buf (Elt Ideal) ℓ) (c : Dev nD) (R : Fin 1179648) (l : Fin 128) :
    res_main_v35 m c (ix2 R l)
      = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) R l := by
  unfold answer
  unfold res_main_v35
  pointwise
  simp only [w1_apply, w2_apply, b1_apply, b2_apply]
  pointwise
  refine (select_lt _ _ _ _).trans (if_congr Iff.rfl rfl ?_)
  show Ideal.ofBits .f32 0#32 = 0
  pointwise

end Cert.ReferenceIdeal.Ffn

end
-- ==== Proof.Ffn.lean ====
/- The five claims about the expert feed-forward. -/
module

public import proofs.«01_k».proof.Defs
public import proofs.«01_k».proof.Proof.Gen.Kernel
public import proofs.«01_k».proof.Proof.Gen.Kernel.Skeleton
public import proofs.«01_k».proof.Proof.Gen.Pre_blocks_named
public import proofs.«01_k».proof.Proof.FfnPre
public import proofs.«01_k».proof.Proof.FfnValue
public import proofs.«01_k».proof.Proof.FfnRef
public import Idealize.ShloMosaic.Lib.Quiescent

@[expose] public section

set_option maxRecDepth 16384

noncomputable section

namespace Cert.Ffn

open Idealize.ShloMosaic Idealize.SL.Sem

/-- The body as printed is the body of the idealization: the two are one text. -/
theorem body_eq : @Cert.Kernel.cc0__moe_ffn_kernel Bits _ _ = @Cert.KernelIdeal.cc0__moe_ffn_kernel Bits _ _ := by
  rw [Cert.Kernel.Gen.cc0__moe_ffn_kernel_eq_skeleton, Cert.KernelIdeal.Gen.cc0__moe_ffn_kernel_eq_skeleton]
  unfold Cert.Kernel.Gen.cc0__moe_ffn_kernel_skel Cert.KernelIdeal.Gen.cc0__moe_ffn_kernel_skel
  rfl

/-- and so are the two tables of bodies. -/
theorem defs_eq : (Cert.Kernel.defs₀ (F := Bits)) = Cert.KernelIdeal.defs₀ (F := Bits) := by
  unfold Cert.Kernel.defs₀ Cert.KernelIdeal.defs₀
  refine congrArg Defs.onTc ?_
  funext l x
  match l with
  | 0 =>
    obtain ⟨t, s⟩ := x
    dsimp only
    exact congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _

/-- The kernel as printed runs as its idealization does, read at the machine's floats. -/
theorem frame_kernel : Cert.quiescent_Kernel := fun m ρ hp => by
  have h := Cert.KernelIdeal.Ffn.frame (F := Bits) m ρ (Cert.KernelIdeal.Ffn.good (F := Bits) m hp)
  unfold Cert.KernelIdeal.defs at h
  rw [← defs_eq] at h
  exact h

theorem frame_ideal : Cert.quiescent_KernelIdeal := fun m ρ hp =>
  Cert.KernelIdeal.Ffn.frame m ρ (Cert.KernelIdeal.Ffn.good m hp)

theorem frame_reference : Cert.quiescent_ReferenceIdeal := fun m ρ _ =>
  (θ_run _ _ _).mono (fun r h => ⟨fun c => (h c).2, sem_eq_zero_of_no_sems rfl r.2⟩) (Cert.ReferenceIdeal.Value.run m ρ)

/-- The kernel's result and the reference's are the same array. -/
theorem same : Cert.algebraic_KernelIdeal_ReferenceIdeal := fun m ρ m' ρ' hp ha => by
  have hg := Cert.KernelIdeal.Ffn.good m hp
  refine ⟨fun c => Cert.KernelIdeal.Ffn.result m c, ?_, ?_⟩
  · refine (θ_run _ _ _).mono (fun r h c => ?_) (Cert.KernelIdeal.Ffn.run_all m ρ hg)
    exact ⟨(h.1 c).trans (Cert.KernelIdeal.Ffn.arr_eq m hg c), h.2 c⟩
  · refine (θ_run _ _ _).mono (fun r h c => ?_) (Cert.ReferenceIdeal.Value.run m' ρ')
    refine ⟨(h c).1.trans ?_, (h c).2⟩
    funext y
    have hy : y = ix2 (y 0) (y 1) := by funext a; match a with | ⟨0, _⟩ => rfl | ⟨1, _⟩ => rfl
    obtain ⟨h0, h1, h2, h3, h4, h5, h6⟩ := ha c
    refine (congrArg _ hy).trans ((Cert.ReferenceIdeal.Ffn.res_apply m' c (y 0) (y 1)).trans ?_)
    rw [h0, h1, h2, h3, h4, h5, h6]
    rfl

end Cert.Ffn

end
-- ==== Proof.NormSpec.lean ====
/- The layer norm of a row of 1024 numbers, over extended reals, and the rows that are normed. -/
module

public import Idealize.ShloMosaic.Lib.Pointwise

@[expose] public section

noncomputable section

namespace Cert.NormSpec

open Idealize.ShloMosaic

/-- The residual's factor. -/
def alpha : EReal := Ideal.ofBits FTy.f32 1071072509#32

/-- The mean of a row. -/
def mean (z : Fin 1024 → EReal) : EReal := Ideal.div (∑ i, z i) (Ideal.ofBits FTy.f32 1149239296#32)

/-- One entry of the layer norm of a row, with the gain `g` and the offset `b` at that entry. -/
def norm (z : Fin 1024 → EReal) (g b : EReal) (j : Fin 1024) : EReal :=
  (z j - mean z) * Ideal.rsqrt (mean (fun i => (z i - mean z) * (z i - mean z)) + Ideal.ofBits FTy.f32 925353388#32) * g + b

/-- A mixer's row: the residual and the product of the row's two halves with the output weights. -/
def mixed (x : Fin 1024 → EReal) (a₁ a₂ : Fin 512 → EReal) (w₁ w₂ : Fin 512 → Fin 1024 → EReal) (j : Fin 1024) : EReal :=
  alpha * x j + (∑ k, a₁ k * w₁ k j + ∑ k, a₂ k * w₂ k j)

/-- The row of the buffer a word names: the word itself, brought within the buffer. -/
def named (w : BitVec 32) : Fin 147456 := ⟨min w.toInt.toNat 147455, by omega⟩

/-- A token's row before its second norm: the residual and the sum of its four rows by their gates. -/
def mixed4 (x : Fin 1024 → EReal) (g : Fin 4 → EReal) (y : Fin 4 → Fin 1024 → EReal) (j : Fin 1024) : EReal :=
  alpha * x j + ∑ k, y k j * g k

end Cert.NormSpec

end
-- ==== Proof.Outp.lean ====
/- The output projection of a mixer with the residual and the first layer norm: the five claims. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.NormSpec
public import Idealize.ShloMosaic.Lib.Pipeline.ValueKit
public import Idealize.ShloMosaic.Lib.Pipeline.Covers
public import Idealize.ShloMosaic.Lib.StableHlo.ReadAt
public import Idealize.ShloMosaic.Lib.Quiescent

@[expose] public section

set_option maxRecDepth 16384

noncomputable section

open Idealize.ShloMosaic Idealize.ShloMosaic.TcCoe Idealize.ShloMosaic.Tactic Idealize.SL.Sem
open Cert.NormSpec

/-! ## The reference's entries -/

namespace Cert.Reference2Ideal.Outp

open Cert.Reference2Ideal Cert.Reference2Ideal.Gen Cert.Reference2Ideal.Value

variable (m : (ℓ : Loc nD τ sig) → Buf (Elt Ideal) ℓ)

theorem res_apply (c : Dev nD) (p : Fin 32768) (q : Fin 1024) : (res_out0 (F := Ideal) m c : S32768x1024.Idx → EReal) (ix2 p q)
    = norm (mixed (fun j => m (c.tc.loc main_arg3) (ix2 p j)) (fun k => m (c.tc.loc main_arg0) (ix2 p k)) (fun k => m (c.tc.loc main_arg1) (ix2 p k))
        (fun k j => m (c.tc.loc main_arg2) (ix2 ⟨k.val, by omega⟩ j)) (fun k j => m (c.tc.loc main_arg2) (ix2 ⟨512 + k.val, by omega⟩ j)))
      (m (c.tc.loc main_arg4) (ix1 q)) (m (c.tc.loc main_arg5) (ix1 q)) q := by
  pointwise [res_out0, res_main_v29]
  rfl

end Cert.Reference2Ideal.Outp

/-! ## The kernel's entries -/

namespace Cert.Kernel2Ideal.Outp

open Cert.Kernel2Ideal Cert.Kernel2Ideal.Gen Cert.Kernel2Ideal.Value

variable (m : (ℓ : Loc nD τ sig) → Buf (Elt Ideal) ℓ)

theorem pay_apply (x0 x1 x2 x3 x4 x5 x6) (p : Fin 512) (q : Fin 1024) : k0_pay1 (F := Ideal) x0 x1 x2 x3 x4 x5 x6 (ix2 p q)
    = norm (mixed (fun j => x4 (ix2 p j)) (fun k => x0 (ix2 p k)) (fun k => x2 (ix2 p k)) (fun k j => x1 (ix2 k j)) (fun k j => x3 (ix2 k j)))
      (x5 (ix2 0 q)) (x6 (ix2 0 q)) q := by
  pointwise [k0_pay1]
  rfl

theorem V_v0 (c : Dev nD) (d j : Fin 1024) : V m c main_v0 (ix2 d j) = m ((c.tc : Thread nD τ).loc main_arg2) (ix2 d j) := by
  unfold V
  after_reads_at

theorem V_v1 (c : Dev nD) (j : Fin 1024) : V m c main_v1 (ix2 0 j) = m ((c.tc : Thread nD τ).loc main_arg4) (ix1 j) := by
  unfold V
  after_reads_at

theorem V_v2 (c : Dev nD) (j : Fin 1024) : V m c main_v2 (ix2 0 j) = m ((c.tc : Thread nD τ).loc main_arg5) (ix1 j) := by
  unfold V
  after_reads_at

theorem idx : ∀ t : Fin cfg0.N, win0_0.index t = ![t.val, 0] ∧ win0_1.index t = ![t.val, 0] ∧ win0_2.index t = ![0, 0] ∧ win0_3.index t = ![1, 0]
    ∧ win0_4.index t = ![t.val, 0] ∧ win0_5.index t = ![0, 0] ∧ win0_6.index t = ![0, 0] ∧ win0_7.index t = ![t.val, 0] := by
  decide +kernel

/-- The result, as an array. -/
def result (c : Dev nD) : S32768x1024.Idx → EReal := fun y =>
  norm (mixed (fun j => m (c.tc.loc main_arg3) (ix2 (y 0) j)) (fun k => m (c.tc.loc main_arg0) (ix2 (y 0) k)) (fun k => m (c.tc.loc main_arg1) (ix2 (y 0) k))
        (fun k j => m (c.tc.loc main_arg2) (ix2 ⟨k.val, by omega⟩ j)) (fun k j => m (c.tc.loc main_arg2) (ix2 ⟨512 + k.val, by omega⟩ j)))
      (m (c.tc.loc main_arg4) (ix1 (y 1))) (m (c.tc.loc main_arg5) (ix1 (y 1))) (y 1)

theorem norm_congr {z z' : Fin 1024 → EReal} {g g' b b' : EReal} {j j' : Fin 1024} (hz : ∀ i, z i = z' i) (hg : g = g') (hb : b = b') (hj : j = j') :
    norm z g b j = norm z' g' b' j' := by
  obtain rfl := funext hz; rw [hg, hb, hj]

theorem mixed_congr {x x' : Fin 1024 → EReal} {a₁ a₁' a₂ a₂' : Fin 512 → EReal} {w₁ w₁' w₂ w₂' : Fin 512 → Fin 1024 → EReal}
    (hx : ∀ j, x j = x' j) (h₁ : ∀ k, a₁ k = a₁' k) (h₂ : ∀ k, a₂ k = a₂' k) (hw₁ : ∀ k j, w₁ k j = w₁' k j) (hw₂ : ∀ k j, w₂ k j = w₂' k j) (j : Fin 1024) :
    mixed x a₁ a₂ w₁ w₂ j = mixed x' a₁' a₂' w₁' w₂' j := by
  obtain rfl := funext hx; obtain rfl := funext h₁; obtain rfl := funext h₂
  obtain rfl := funext fun k => funext (hw₁ k); obtain rfl := funext fun k => funext (hw₂ k); rfl

/-! ### The blocks of the arrays -/

theorem row_lt (t : Fin cfg0.N) (p : Fin 512) : t.val * 512 + p.val < 32768 := by
  have ht : t.val < 64 := t.isLt.trans_eq N_0
  omega

theorem iblk0_apply (c : Dev nD) (t : Fin cfg0.N) (p k : Fin 512) : iblk m c 0 t (ix2 p k) = m (c.tc.loc main_arg0) (ix2 ⟨t.val * 512 + p.val, row_lt t p⟩ k) := by
  refine Eq.trans ?_ (congrFun (V_main_arg0 m c) _)
  blk_ext [iblk, (idx t).1]

theorem iblk1_apply (c : Dev nD) (t : Fin cfg0.N) (p k : Fin 512) : iblk m c 1 t (ix2 p k) = m (c.tc.loc main_arg1) (ix2 ⟨t.val * 512 + p.val, row_lt t p⟩ k) := by
  refine Eq.trans ?_ (congrFun (V_main_arg1 m c) _)
  blk_ext [iblk, (idx t).2.1]

theorem iblk2_apply (c : Dev nD) (t : Fin cfg0.N) (k : Fin 512) (j : Fin 1024) : iblk m c 2 t (ix2 k j) = m (c.tc.loc main_arg2) (ix2 ⟨k.val, by omega⟩ j) := by
  refine Eq.trans ?_ (V_v0 m c _ j)
  blk_ext [iblk, (idx t).2.2.1]

theorem iblk3_apply (c : Dev nD) (t : Fin cfg0.N) (k : Fin 512) (j : Fin 1024) : iblk m c 3 t (ix2 k j) = m (c.tc.loc main_arg2) (ix2 ⟨512 + k.val, by omega⟩ j) := by
  refine Eq.trans ?_ (V_v0 m c _ j)
  blk_ext [iblk, (idx t).2.2.2.1]

theorem iblk4_apply (c : Dev nD) (t : Fin cfg0.N) (p : Fin 512) (j : Fin 1024) : iblk m c 4 t (ix2 p j) = m (c.tc.loc main_arg3) (ix2 ⟨t.val * 512 + p.val, row_lt t p⟩ j) := by
  refine Eq.trans ?_ (congrFun (V_main_arg3 m c) _)
  blk_ext [iblk, (idx t).2.2.2.2.1]

theorem iblk5_apply (c : Dev nD) (t : Fin cfg0.N) (j : Fin 1024) : iblk m c 5 t (ix2 0 j) = m (c.tc.loc main_arg4) (ix1 j) := by
  refine Eq.trans ?_ (V_v1 m c j)
  blk_ext [iblk, (idx t).2.2.2.2.2.1]

theorem iblk6_apply (c : Dev nD) (t : Fin cfg0.N) (j : Fin 1024) : iblk m c 6 t (ix2 0 j) = m (c.tc.loc main_arg5) (ix1 j) := by
  refine Eq.trans ?_ (V_v2 m c j)
  blk_ext [iblk, (idx t).2.2.2.2.2.2.1]

/-- What a grid point writes, at any place of its block. -/
theorem pay_result (c : Dev nD) (t : Fin cfg0.N) (p : Fin 512) (q : Fin 1024) :
    k0_pay1 (iblk m c 0 t) (iblk m c 2 t) (iblk m c 1 t) (iblk m c 3 t) (iblk m c 4 t) (iblk m c 5 t) (iblk m c 6 t) (ix2 p q)
      = result m c (ix2 ⟨t.val * 512 + p.val, row_lt t p⟩ q) := by
  refine (pay_apply _ _ _ _ _ _ _ p q).trans ?_
  exact norm_congr (mixed_congr (iblk4_apply m c t p) (iblk0_apply m c t p) (iblk1_apply m c t p) (iblk2_apply m c t) (iblk3_apply m c t))
    (iblk5_apply m c t q) (iblk6_apply m c t q) rfl

/-- The result array after the run. -/
theorem arr_eq (c : Dev nD) : (dats m 0 c).arrAt 7 (cfgs 0).N = result m c := by
  refine (dats m 0 c).arrAt_eq_of_covers 7 _ (by decide +kernel) fun t hf (y : S512x1024.Idx) => ?_
  blk_simp
  rw [after0_7]
  frame_out
  have hy : y = ix2 (y 0) (y 1) := by funext a; fin_cases a <;> rfl
  refine (congrArg _ hy).trans ((pay_result m c t (y 0) (y 1)).trans ?_)
  blk_ext [(idx t).2.2.2.2.2.2.2]

end Cert.Kernel2Ideal.Outp

/-! ## The claims -/

namespace Cert.Outp

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run _ _ _).mono (fun r h => ⟨fun c => (h c).2, sem_eq_zero_of_no_sems rfl r.2⟩) (Cert.Reference2Ideal.Value.run m ρ)

/-- The kernel's result and the reference's are the same array. -/
theorem same : Cert.algebraic_Kernel2Ideal_Reference2Ideal := fun m ρ m' ρ' _ ha => by
  refine ⟨fun c => Cert.Kernel2Ideal.Outp.result m c, ?_, ?_⟩
  · refine (θ_run _ _ _).mono (fun r h c => ?_) (Cert.Kernel2Ideal.Value.run_blocks m ρ)
    exact ⟨(h c).1.trans (Cert.Kernel2Ideal.Outp.arr_eq m c), (h c).2⟩
  · refine (θ_run _ _ _).mono (fun r h c => ?_) (Cert.Reference2Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1, h2, h3, h4, h5⟩ := ha c
    refine (congrArg _ hy).trans ((Cert.Reference2Ideal.Outp.res_apply m' c (y 0) (y 1)).trans ?_)
    rw [h0, h1, h2, h3, h4, h5]
    rfl

end Cert.Outp

end
-- ==== Proof.CombineCopy.lean ====
/- The 1024 row copies of one grid point of the combining kernel: which block of the scratch buffer each copy fills, from
   which rows of the source, and what the scratch buffer holds once all of them have landed. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Routed
public import Idealize.ShloMosaic.Lib.Claim
public import Idealize.ShloMosaic.Lib.Batch
public import Idealize.ShloMosaic.Lib.Ring
public import Idealize.ShloMosaic.Lib.Tactic
public import Idealize.ShloMosaic.Lib.VecWindow

@[expose] public section

set_option maxRecDepth 16384

noncomputable section

namespace Cert.Kernel3Ideal.Combine

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## Blocks -/

/-- The corner of the scratch block copy `t` fills: plane `t % 4`, rows from `8 * (t / 4)`. -/
def dOff (t : ℕ) : Fin 3 → ℕ := ![t % 4, 8 * (t / 4), 0]

theorem dOff_inb (t : Fin 1024) : ∀ a, dOff t a + S1x8x128.size a ≤ S4x2048x128.size a := by
  have ht := t.isLt
  intro a; fin_cases a
  · show t.val % 4 + 1 ≤ 4; omega
  · show 8 * (t.val / 4) + 8 ≤ 2048; omega
  · show 0 + 128 ≤ 128; omega

/-- The corner of the eight source rows that hold row `r`. -/
def sOff (r : ℕ) : Fin 2 → ℕ := ![8 * r, 0]

theorem sOff_inb (r : Fin 147456) : ∀ a, sOff r a + S8x128.size a ≤ S1179648x128.size a := by
  have hr := r.isLt
  intro a; fin_cases a
  · show 8 * r.val + 8 ≤ 1179648; omega
  · show 0 + 128 ≤ 128; omega

/-- The scratch elements of copy `t`. -/
def bset (t : Fin 1024) : Finset S4x2048x128.Idx := (Rect.unit (s := S4x2048x128) (dOff t) S1x8x128.size (dOff_inb t)).set

/-- The source elements that hold row `r`. -/
def sset (r : Fin 147456) : Finset S1179648x128.Idx := (Rect.unit (s := S1179648x128) (sOff r) S8x128.size (sOff_inb r)).set

/-- A block of the scratch buffer as a copy names it. -/
abbrev dst (off : Fin 3 → ℕ) (inb : ∀ a, off a + S1x8x128.size a ≤ S4x2048x128.size a) : Memref sig .tc .vmem S8x128 .f32 :=
  ((Memref.whole cc0_scratch0).slice (Rect.unit (s := S4x2048x128) off S1x8x128.size inb) (fun _ => rfl)).squeeze S8x128 squeezes_S1x8x128_S8x128

/-- Eight rows of the source as a copy names them. -/
abbrev src (off : Fin 2 → ℕ) (inb : ∀ a, off a + S8x128.size a ≤ S1179648x128.size a) : Memref sig .tc .hbm S8x128 .f32 :=
  (Memref.whole main_v0).slice (Rect.unit (s := S1179648x128) off S8x128.size inb) (fun _ => rfl)

theorem dst_set (off : Fin 3 → ℕ) (inb : ∀ a, off a + S1x8x128.size a ≤ S4x2048x128.size a) :
    (dst off inb).view.set = (Rect.unit (s := S4x2048x128) off S1x8x128.size inb).set :=
  (View.set_reshape _ _).trans (View.set_slice_whole _ _)

theorem src_set (off : Fin 2 → ℕ) (inb : ∀ a, off a + S8x128.size a ≤ S1179648x128.size a) :
    (src off inb).view.set = (Rect.unit (s := S1179648x128) off S8x128.size inb).set := View.set_slice_whole _ _

theorem mem_bset (t : Fin 1024) (y : S4x2048x128.Idx) : y ∈ bset t ↔ 4 * ((y 1).val / 8) + (y 0).val = t.val := by
  unfold bset
  rw [Rect.mem_set_unit]
  have h0 : (y 0).val < 4 := (y 0).isLt
  have h1 : (y 1).val < 2048 := (y 1).isLt
  have h2 : (y 2).val < 128 := (y 2).isLt
  constructor
  · intro H
    have a0 : t.val % 4 ≤ (y 0).val ∧ (y 0).val < t.val % 4 + 1 := H 0
    have a1 : 8 * (t.val / 4) ≤ (y 1).val ∧ (y 1).val < 8 * (t.val / 4) + 8 := H 1
    omega
  · intro H a; fin_cases a
    · show t.val % 4 ≤ (y 0).val ∧ (y 0).val < t.val % 4 + 1; omega
    · show 8 * (t.val / 4) ≤ (y 1).val ∧ (y 1).val < 8 * (t.val / 4) + 8; omega
    · show 0 ≤ (y 2).val ∧ (y 2).val < 0 + 128; omega

theorem bset_disjoint : ∀ b b' : Fin 1024, b ≠ b' → Disjoint (bset b) (bset b') := fun b b' hne => by
  rw [Finset.disjoint_left]; intro y hy hy'; rw [mem_bset] at hy hy'; exact hne (Fin.ext (by omega))

/-- The copy that fills element `y` of the scratch buffer. -/
def copyOf (y : S4x2048x128.Idx) : Fin 1024 :=
  ⟨4 * ((y 1).val / 8) + (y 0).val, by have h0 : (y 0).val < 4 := (y 0).isLt; have h1 : (y 1).val < 2048 := (y 1).isLt; omega⟩

theorem bset_cover : Finset.univ.biUnion bset = Finset.univ := by
  ext y; simp only [Finset.mem_biUnion, Finset.mem_univ, true_and, iff_true]; exact ⟨copyOf y, (mem_bset _ _).mpr rfl⟩

/-- The source index of scratch element `y`, copy `t` bringing row `row t`. -/
def from' (row : Fin 1024 → Fin 147456) (y : S4x2048x128.Idx) : S1179648x128.Idx := fun a =>
  match a with
  | 0 => (⟨8 * (row (copyOf y)).val + (y 1).val % 8, by have := (row (copyOf y)).isLt; omega⟩ : Fin 1179648)
  | 1 => (⟨(y 2).val, (y 2).isLt⟩ : Fin 128)

/-- The scratch buffer once every copy has landed. -/
def gathered (row : Fin 1024 → Fin 147456) (f : S1179648x128.Idx → Elt F .f32) : S4x2048x128.Idx → Elt F .f32 := fun y => f (from' row y)

/-- A copy lands on its block what `gathered` holds there. -/
theorem landed (row : Fin 1024 → Fin 147456) (t : Fin 1024) (f : S1179648x128.Idx → Elt F .f32) (g : S4x2048x128.Idx → Elt F .f32) :
    ∀ y ∈ bset t, (dst (dOff t) (dOff_inb t)).view.write (Elt F) g
        (ReadAs.same.apply ((src (sOff (row t)) (sOff_inb (row t))).view.read (Elt F) f)) Finset.univ y = gathered row f y := by
  intro y hy
  have ht := (mem_bset t y).mp hy
  have hc : copyOf y = t := Fin.ext ht
  have hy' : y ∈ (dst (dOff t) (dOff_inb t)).view.set := by rw [dst_set]; exact hy
  obtain ⟨x, -, hx⟩ := Finset.mem_map.mp hy'
  have h0 : (x 0).val < 8 := (x 0).isLt
  have hr : Shape.reshapeEquiv squeezes_S1x8x128_S8x128.numel_eq x = (Fin.cons (⟨0, Nat.one_pos⟩ : Fin 1) x : S1x8x128.Idx) :=
    Shape.reshapeEquiv_cons_one (d := ![8, 128]) _ x
  have ey : ∀ a : Fin 3, (y a).val = dOff t a + 1 * (Shape.reshapeEquiv squeezes_S1x8x128_S8x128.numel_eq x a).val := fun a => by rw [← hx]; rfl
  rw [hr] at ey
  have e1 : (y 1).val = 8 * (t.val / 4) + 1 * (x 0).val := ey 1
  have e2 : (y 2).val = 0 + 1 * (x 1).val := ey 2
  refine (congrArg _ hx.symm).trans ((View.write_emb_of_mem _ _ (Finset.mem_univ x)).trans ?_)
  show f ((src (sOff (row t)) (sOff_inb (row t))).view.emb x) = f (from' row y)
  congr 1
  funext a
  fin_cases a
  · refine Fin.ext ?_
    show 8 * (row t).val + 1 * (x 0).val = 8 * (row (copyOf y)).val + (y 1).val % 8
    rw [hc]; omega
  · refine Fin.ext ?_
    show 0 + 1 * (x 1).val = (y 2).val
    omega

/-! ## The copies as a batch -/

/-- The semaphore cell of the copies. -/
abbrev cell : DmaSem sig := ((cc0_scratch1.slice (Rect.unit (s := S1) ![0] S1.size inb_S1_S1_0)).squeeze S_ squeezes_S1_S_).sem

/-- The units of one copy. -/
def NN : ℕ := (dst (dOff 0) (dOff_inb 0)).view.dmaCredit

variable (c : Dev nD) (row : Fin 1024 → Fin 147456) (f : S1179648x128.Idx → Elt F .f32)

/-- What copy `t` needs: its scratch block and a read share of its source rows. -/
abbrev slot (g : S4x2048x128.Idx → Elt F .f32) (t : Fin 1024) : sProp 𝕄 :=
  iprop(((Memref.whole cc0_scratch0 : Memref sig .tc .vmem S4x2048x128 .f32).view.loc (c : Thread nD τ) ↦[bset t]{fullShare} g)
    ∗ ((Memref.whole main_v0 : Memref sig .tc .hbm S1179648x128 .f32).view.loc (c : Thread nD τ) ↦[sset (row t)]{Transfers.shareTokN fullShare t.val} f))

/-- What copy `t` hands back. -/
abbrev deliv (t : Fin 1024) : sProp 𝕄 := slot c row f (gathered row f) t

/-- The batch: `j` copies issued, `u` units taken by waits. -/
abbrev batch (j u : ℕ) : sProp 𝕄 :=
  Transfers.Batch (countersEmb (U := Pipeline.UC sig nD τ)) (c : Thread nD τ) (.dma cell) () NN (deliv c row f) j u

/-- One copy issued: the block and the read share go in, the batch counts one more. -/
theorem issue (g : S4x2048x128.Idx → Elt F .f32) (t : Fin 1024) (od : Fin 3 → ℕ) (hd : od = dOff t) (inbd : ∀ a, od a + S1x8x128.size a ≤ S4x2048x128.size a)
    (os : Fin 2 → ℕ) (hs : os = sOff (row t)) (inbs : ∀ a, os a + S8x128.size a ≤ S1179648x128.size a)
    {hsrc : (src os inbs).view.WordExact} {hdst : (dst od inbd).view.WordExact}
    {hsem : DmaTarget.Typed (nD := nD) (τ := τ) (p := (c : Thread nD τ).2) .hbm (.dma cell) (.here (dst od inbd))}
    {k : PUnit → Prog (TpuEff nD τ sig (Elt F) Λ₀ .tc) PUnit} {Q : PUnit → sProp 𝕄} :
    iprop(slot c row f g t ∗ batch c row f t.val 0)
      ⊢ iprop((batch c row f (t.val + 1) 0 -∗ wp frame (wpE (defs₀ (F := F)) Variants.none (c : Thread nD τ) none) Set.univ (k ⟨⟩) Q)
          -∗ wp frame (wpE (defs₀ (F := F)) Variants.none (c : Thread nD τ) none) Set.univ
              (.op (.enqueueDma (src os inbs) (.here (dst od inbd)) (.dma cell) hsrc hdst hsem) k) Q) := by
  subst hd hs
  iintro ⟨⟨HD, HS⟩, HB⟩ HK
  iapply (Transfers.wp_dmaBatch (countersEmb (U := Pipeline.UC sig nD τ)) Variants.none (c : Thread nD τ) none (src := src (sOff (row t)) inbs)
    (dst := dst (dOff t) inbd) (q := Transfers.shareTokN fullShare t.val) (fs := f) (Sd := bset t) (fd := g) () NN rfl (by rw [dst_set]; exact subset_rfl)
    (D := deliv c row f) (j := t.val) (u := 0) t.isLt (Nat.zero_le _) ?_) $$ [HD HS HB]
  · show iprop(((Memref.whole cc0_scratch0 : Memref sig .tc .vmem S4x2048x128 .f32).view.loc (c : Thread nD τ) ↦[bset t]{fullShare}
        ((dst (dOff t) (dOff_inb t)).view.write (Elt F) g (ReadAs.same.apply ((src (sOff (row t)) (sOff_inb (row t))).view.read (Elt F) f)) Finset.univ))
      ∗ ((Memref.whole main_v0 : Memref sig .tc .hbm S1179648x128 .f32).view.loc (c : Thread nD τ) ↦[(src (sOff (row t)) inbs).view.set]{Transfers.shareTokN fullShare t.val} f)) ⊢ _
    rw [src_set]
    rw [pointsTo_congr (landed row t f g)]
    exact .rfl
  · isplitl [HS]
    · rw [src_set]; iexact HS
    isplitl [HD]; · iexact HD
    iexact HB
  iexact HK

end Cert.Kernel3Ideal.Combine
-- ==== Proof.CombineLoops.lean ====
/- The two loops of the combining kernel's body: one issues the 1024 row copies, four a trip, the other waits for them. -/
module

public import proofs.«01_k».proof.Proof.CombineCopy

@[expose] public section

set_option maxRecDepth 16384

noncomputable section

namespace Cert.Kernel3Ideal.Combine

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

theorem ret_bind' {E : Type → Type} {α β : Type} (a : α) (k : α → Prog E β) : (Prog.ret a).bind k = k a := rfl

/-- Place `t` of the table. -/
def pos (t : Fin 1024) : S1024.Idx := fun a => match a with
  | 0 => (⟨t.val, t.isLt⟩ : Fin 1024)

theorem idx_one (y y' : S1.Idx) : y = y' := by
  funext a
  have h : ∀ b : Fin S1.rank, S1.size b = 1 := by decide
  have h1 := (y a).isLt
  have h2 := (y' a).isLt
  have h3 := h a
  exact Fin.ext (by omega)

variable (c : Dev nD) (row : Fin 1024 → Fin 147456) (f : S1179648x128.Idx → Elt F .f32) (g : S4x2048x128.Idx → Elt F .f32)

/-- Before trip `k` of the first loop: `4k` copies issued, the slots of the others in hand, the table read. -/
def issueInv (arg1 : Memref sig .tc .smem S1024 .i32) (T : Buf (Elt F) (arg1.view.loc (c : Thread nD τ))) (k : ℕ) (_ : Unit) : sProp 𝕄 :=
  iprop(batch c row f (4 * k) 0 ∗ bigSep (Ring.rangeSet 1024 (4 * k) 1024) (slot c row f g)
    ∗ (arg1.view.loc (c : Thread nD τ) ↦{fullShare} T))

theorem trips1 : k0_t1_loop.trips = 256 := by decide

theorem issue_step (i : grid0.Coords) (arg1 : Memref sig .tc .smem S1024 .i32) (harg1 : arg1.IsWhole)
    (arg2 : Memref sig .tc .vmem S256x4 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1024 .f32) (harg5 : arg5.IsWhole)
    (arg7 : Memref sig .tc .vmem S256x1024 .f32) (harg7 : arg7.IsWhole)
    (T : Buf (Elt F) (arg1.view.loc (c : Thread nD τ))) (hT : ∀ t : Fin 1024, arg1.view.read (Elt F) T (pos t) = BitVec.ofNat 32 (row t).val)
    (k : Fin k0_t1_loop.trips) (acc : Unit) :
    issueInv c row f g arg1 T k.val acc ⊢ wp frame (wpE (defs₀ (F := F)) Variants.none (c : Thread nD τ) none) Set.univ
      (k0_t1_body i arg1 harg1 arg2 harg2 arg3 harg3 arg4 harg4 arg5 harg5 (Memref.whole main_v0) (Memref.isWhole_whole _) arg7 harg7
        (Memref.whole cc0_scratch0) (Memref.isWhole_whole _) cc0_scratch1 k acc)
      (issueInv c row f g arg1 T (k.val + 1)) := by
  have hk : k.val < 256 := lt_of_lt_of_eq k.isLt trips1
  have word : ∀ (t : Fin 1024) (off : Fin 1 → ℕ) (inb : ∀ a, off a + S1.size a ≤ S1024.size a), off = ![t.val] →
      View.readAt (Elt F) arg1.view (Rect.unit (s := S1024) off S1.size inb).toLoadRect T = fun _ => BitVec.ofNat 32 (row t).val := by
    intro t off inb ho
    subst ho
    funext y
    rw [← hT t]
    refine congrArg (arg1.view.read (Elt F) T) (funext fun a => Fin.ext ?_)
    have h1 := (y a).isLt
    have ha : a = (0 : Fin 1) := Subsingleton.elim _ _
    subst ha
    have h2 : (y 0).val < 1 := (y 0).isLt
    have h3 : ((Rect.unit (s := S1024) ![t.val] S1.size inb).toLoadRect.idx y 0).val = t.val + 1 * (y 0).val := rfl
    have h4 : (pos t 0).val = t.val := rfl
    omega
  have e1 := word ⟨4 * k.val, by omega⟩ (k0_off1 k) (k0_off1_inb k) (k0_off1_eq k)
  have e2 := word ⟨4 * k.val + 1, by omega⟩ (k0_off4 k) (k0_off4_inb k) (k0_off4_eq k)
  have e3 := word ⟨4 * k.val + 2, by omega⟩ (k0_off7 k) (k0_off7_inb k) (k0_off7_eq k)
  have e4 := word ⟨4 * k.val + 3, by omega⟩ (k0_off10 k) (k0_off10_inb k) (k0_off10_eq k)
  have mul : ∀ r : Fin 147456, (Scalar.muli (BitVec.ofNat 32 r.val) 8#32).toNat = 8 * r.val := by
    intro r
    have hr := r.isLt
    show (BitVec.ofNat 32 r.val * 8#32).toNat = 8 * r.val
    rw [BitVec.toNat_mul, BitVec.toNat_ofNat, BitVec.toNat_ofNat]
    omega
  have s1 : ∀ r : Fin 147456, k0_off3 (BitVec.ofNat 32 r.val) = sOff r.val := fun r => by
    show ![(Scalar.muli (BitVec.ofNat 32 r.val) 8#32).toNat, 0] = _; rw [mul]; rfl
  have s2 : ∀ r : Fin 147456, k0_off6 (BitVec.ofNat 32 r.val) = sOff r.val := fun r => by
    show ![(Scalar.muli (BitVec.ofNat 32 r.val) 8#32).toNat, 0] = _; rw [mul]; rfl
  have s3 : ∀ r : Fin 147456, k0_off9 (BitVec.ofNat 32 r.val) = sOff r.val := fun r => by
    show ![(Scalar.muli (BitVec.ofNat 32 r.val) 8#32).toNat, 0] = _; rw [mul]; rfl
  have s4 : ∀ r : Fin 147456, k0_off12 (BitVec.ofNat 32 r.val) = sOff r.val := fun r => by
    show ![(Scalar.muli (BitVec.ofNat 32 r.val) 8#32).toNat, 0] = _; rw [mul]; rfl
  have c1 : ∀ r : Fin 147456, k0_chk1 (BitVec.ofNat 32 r.val) := fun r =>
    ⟨by show 8 ∣ (Scalar.muli (BitVec.ofNat 32 r.val) 8#32).toNat; rw [mul]; exact ⟨_, rfl⟩, by rw [s1]; exact sOff_inb r⟩
  have c2 : ∀ r : Fin 147456, k0_chk2 (BitVec.ofNat 32 r.val) := fun r =>
    ⟨by show 8 ∣ (Scalar.muli (BitVec.ofNat 32 r.val) 8#32).toNat; rw [mul]; exact ⟨_, rfl⟩, by rw [s2]; exact sOff_inb r⟩
  have c3 : ∀ r : Fin 147456, k0_chk3 (BitVec.ofNat 32 r.val) := fun r =>
    ⟨by show 8 ∣ (Scalar.muli (BitVec.ofNat 32 r.val) 8#32).toNat; rw [mul]; exact ⟨_, rfl⟩, by rw [s3]; exact sOff_inb r⟩
  have c4 : ∀ r : Fin 147456, k0_chk4 (BitVec.ofNat 32 r.val) := fun r =>
    ⟨by show 8 ∣ (Scalar.muli (BitVec.ofNat 32 r.val) 8#32).toNat; rw [mul]; exact ⟨_, rfl⟩, by rw [s4]; exact sOff_inb r⟩
  have d1 : k0_off2 k = dOff (4 * k.val) := by
    rw [k0_off2_eq]; unfold dOff; rw [show 4 * k.val % 4 = 0 by omega, show 4 * k.val / 4 = k.val by omega]
  have d2 : k0_off5 k = dOff (4 * k.val + 1) := by
    rw [k0_off5_eq]; unfold dOff; rw [show (4 * k.val + 1) % 4 = 1 by omega, show (4 * k.val + 1) / 4 = k.val by omega]
  have d3 : k0_off8 k = dOff (4 * k.val + 2) := by
    rw [k0_off8_eq]; unfold dOff; rw [show (4 * k.val + 2) % 4 = 2 by omega, show (4 * k.val + 2) / 4 = k.val by omega]
  have d4 : k0_off11 k = dOff (4 * k.val + 3) := by
    rw [k0_off11_eq]; unfold dOff; rw [show (4 * k.val + 3) % 4 = 3 by omega, show (4 * k.val + 3) / 4 = k.val by omega]
  have b0 : 4 * k.val < 1024 := by omega
  have b1 : 4 * k.val + 1 < 1024 := by omega
  have b2 : 4 * k.val + 1 + 1 < 1024 := by omega
  have b3 : 4 * k.val + 1 + 1 + 1 < 1024 := by omega
  unfold issueInv
  rw [Ring.bigSep_rangeSet_head (lo := 4 * k.val) (by omega) (by omega), Ring.bigSep_rangeSet_head (lo := 4 * k.val + 1) (by omega) (by omega),
    Ring.bigSep_rangeSet_head (lo := 4 * k.val + 1 + 1) (by omega) (by omega), Ring.bigSep_rangeSet_head (lo := 4 * k.val + 1 + 1 + 1) (by omega) (by omega),
    show 4 * (k.val + 1) = 4 * k.val + 1 + 1 + 1 + 1 by omega]
  iintro ⟨HB, ⟨H0, H1, H2, H3, Hs⟩, HT⟩
  unfold k0_t1_body
  simp only [k0_part1_eq_skeleton]; unfold k0_part1_skel
  sl_exec
  iapply (issue c row f g ⟨4 * k.val, b0⟩ _ d1 _ _ (s1 _) _) $$ [HB H0]
  · isplitl [H0]; · iexact H0
    iexact HB
  iintro HB
  simp only [ret_bind']
  sl_exec
  iapply (issue c row f g ⟨4 * k.val + 1, b1⟩ _ d2 _ _ (s2 _) _) $$ [HB H1]
  · isplitl [H1]; · iexact H1
    iexact HB
  iintro HB
  simp only [ret_bind']
  sl_exec
  iapply (issue c row f g ⟨4 * k.val + 1 + 1, b2⟩ _ d3 _ _ (s3 _) _) $$ [HB H2]
  · isplitl [H2]; · iexact H2
    iexact HB
  iintro HB
  simp only [ret_bind']
  sl_exec
  iapply (issue c row f g ⟨4 * k.val + 1 + 1 + 1, b3⟩ _ d4 _ _ (s4 _) _) $$ [HB H3]
  · isplitl [H3]; · iexact H3
    iexact HB
  iintro HB
  simp only [ret_bind']
  sl_step
  isplitl [HB]; · iexact HB
  isplitl [Hs]; · iexact Hs
  iexact HT

/-! ## The second loop -/

theorem trips2 : k0_t2_loop.trips = 1024 := by decide

/-- Before trip `k` of the second loop: while a wait is left, the batch with `k` copies' units taken; after the last, the
    cell at zero and everything the copies hand back. -/
def drainInv (k : ℕ) (_ : Unit) : sProp 𝕄 :=
  iprop((∃ W, owes (c : Thread nD τ) 0 W)
    ∗ (if k < 1024 then batch c row f 1024 (k * NN)
       else iprop(semVal ((c : Thread nD τ), SemLoc.dma cell) 0 ∗ bigSep Finset.univ (deliv c row f))))

theorem lt_wait {k N : ℕ} (hpos : 0 < N) (h1 : k + 1 < 1024) : k * N + N < N * 1024 :=
  calc k * N + N = (k + 1) * N := (Nat.succ_mul k N).symm
    _ ≤ 1023 * N := Nat.mul_le_mul_right _ (by omega)
    _ < N * 1024 := by omega

theorem drain_step (i : grid0.Coords) (arg1 : Memref sig .tc .smem S1024 .i32) (harg1 : arg1.IsWhole)
    (arg2 : Memref sig .tc .vmem S256x4 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1024 .f32) (harg5 : arg5.IsWhole)
    (arg7 : Memref sig .tc .vmem S256x1024 .f32) (harg7 : arg7.IsWhole)
    (k : Fin k0_t2_loop.trips) (acc : Unit) :
    drainInv c row f k.val acc ⊢ wp frame (wpE (defs₀ (F := F)) Variants.none (c : Thread nD τ) none) Set.univ
      (k0_t2_body i arg1 harg1 arg2 harg2 arg3 harg3 arg4 harg4 arg5 harg5 (Memref.whole main_v0) (Memref.isWhole_whole _) arg7 harg7
        (Memref.whole cc0_scratch0) (Memref.isWhole_whole _) cc0_scratch1 k acc)
      (drainInv c row f (k.val + 1)) := by
  have hk : k.val < 1024 := lt_of_lt_of_eq k.isLt trips2
  unfold drainInv
  simp only [if_pos hk]
  unfold k0_t2_body
  have hpos : 0 < NN := by decide
  rcases Nat.lt_or_ge (k.val + 1) 1024 with h1 | h1
  · simp only [if_pos h1]
    iintro ⟨⟨%W, HO⟩, HB⟩
    iapply (Transfers.wp_waitBatch (countersEmb (U := Pipeline.UC sig nD τ)) Variants.none (c : Thread nD τ) none () (N := NN) rfl (D := deliv c row f) (u := k.val * NN)
      (lt_wait hpos h1)) $$ [HB HO]
    · isplitl [HB]; · iexact HB
      iexact HO
    iintro ⟨HB, HO⟩
    simp only [ret_bind']
    sl_step
    isplitl [HO]; · iexists _; iexact HO
    rw [show (k.val + 1) * NN = k.val * NN + NN from Nat.succ_mul _ _]
    iexact HB
  · simp only [if_neg (Nat.not_lt.mpr h1)]
    iintro ⟨⟨%W, HO⟩, HB⟩
    iapply (Transfers.wp_waitBatchLast (countersEmb (U := Pipeline.UC sig nD τ)) Variants.none (c : Thread nD τ) none () (N := NN) rfl hpos (D := deliv c row f) (u := k.val * NN)
      (by rw [show k.val = 1023 by omega]; omega)) $$ [HB HO]
    · isplitl [HB]; · iexact HB
      iexact HO
    iintro ⟨HD, Hv, HO⟩
    simp only [ret_bind']
    sl_step
    isplitl [HO]; · iexists _; iexact HO
    isplitl [Hv]; · iexact Hv
    iexact HD

/-! ## The two buffers as slots -/

/-- What the copies leave aside of the source: the share no copy takes, and of each copy's share the rows it does not read. -/
abbrev aside : sProp 𝕄 :=
  iprop(((Memref.whole main_v0 : Memref sig .tc .hbm S1179648x128 .f32).view.loc (c : Thread nD τ) ↦{Transfers.shareDrop fullShare 1024} f)
    ∗ bigSep Finset.univ fun t : Fin 1024 =>
      (Memref.whole main_v0 : Memref sig .tc .hbm S1179648x128 .f32).view.loc (c : Thread nD τ) ↦[Finset.univ \ sset (row t)]{Transfers.shareTokN fullShare t.val} f)

theorem slots_eq : (bigSep Finset.univ (slot c row f g) : sProp 𝕄)
    = iprop(((Memref.whole cc0_scratch0 : Memref sig .tc .vmem S4x2048x128 .f32).view.loc (c : Thread nD τ) ↦{fullShare} g)
      ∗ bigSep Finset.univ fun t : Fin 1024 =>
        (Memref.whole main_v0 : Memref sig .tc .hbm S1179648x128 .f32).view.loc (c : Thread nD τ) ↦[sset (row t)]{Transfers.shareTokN fullShare t.val} f) := by
  rw [Ring.pointsTo_blocks (ℓ := (Memref.whole cc0_scratch0 : Memref sig .tc .vmem S4x2048x128 .f32).view.loc (c : Thread nD τ)) (q := fullShare) bset bset_disjoint bset_cover g]
  exact BI.bigSep_sep _ _ _

theorem tok_eq (t : Fin 1024) :
    ((Memref.whole main_v0 : Memref sig .tc .hbm S1179648x128 .f32).view.loc (c : Thread nD τ) ↦{Transfers.shareTokN fullShare t.val} f : sProp 𝕄)
    ⊣⊢ iprop(((Memref.whole main_v0 : Memref sig .tc .hbm S1179648x128 .f32).view.loc (c : Thread nD τ) ↦[sset (row t)]{Transfers.shareTokN fullShare t.val} f)
      ∗ ((Memref.whole main_v0 : Memref sig .tc .hbm S1179648x128 .f32).view.loc (c : Thread nD τ) ↦[Finset.univ \ sset (row t)]{Transfers.shareTokN fullShare t.val} f)) := by
  have h : ((Memref.whole main_v0 : Memref sig .tc .hbm S1179648x128 .f32).view.loc (c : Thread nD τ) ↦[sset (row t) ∪ (Finset.univ \ sset (row t))]{Transfers.shareTokN fullShare t.val} f : sProp 𝕄)
      ⊣⊢ iprop(((Memref.whole main_v0 : Memref sig .tc .hbm S1179648x128 .f32).view.loc (c : Thread nD τ) ↦[sset (row t)]{Transfers.shareTokN fullShare t.val} f)
      ∗ ((Memref.whole main_v0 : Memref sig .tc .hbm S1179648x128 .f32).view.loc (c : Thread nD τ) ↦[Finset.univ \ sset (row t)]{Transfers.shareTokN fullShare t.val} f)) :=
    pointsTo_union Finset.disjoint_sdiff
  rw [Finset.union_sdiff_of_subset (Finset.subset_univ _)] at h
  exact h

abbrev toks : sProp 𝕄 := bigSep Finset.univ fun t : Fin 1024 =>
  (Memref.whole main_v0 : Memref sig .tc .hbm S1179648x128 .f32).view.loc (c : Thread nD τ) ↦{Transfers.shareTokN fullShare t.val} f

theorem source_toks :
    ((Memref.whole main_v0 : Memref sig .tc .hbm S1179648x128 .f32).view.loc (c : Thread nD τ) ↦{fullShare} f : sProp 𝕄)
    ⊣⊢ iprop(((Memref.whole main_v0 : Memref sig .tc .hbm S1179648x128 .f32).view.loc (c : Thread nD τ) ↦{Transfers.shareDrop fullShare 1024} f) ∗ toks c f) := by
  have e : (toks c f : sProp 𝕄) = bigSep (Finset.range 1024) fun i =>
      (Memref.whole main_v0 : Memref sig .tc .hbm S1179648x128 .f32).view.loc (c : Thread nD τ) ↦{Transfers.shareTokN fullShare i} f := by
    unfold toks
    rw [← Ring.rangeSet_univ]
    exact Ring.bigSep_rangeSet_eq_range le_rfl _ fun k h => (congrArg (fun i => ((Memref.whole main_v0 : Memref sig .tc .hbm S1179648x128 .f32).view.loc (c : Thread nD τ) ↦{Transfers.shareTokN fullShare i} f : sProp 𝕄)) (Nat.zero_add k)).symm
  rw [e]
  exact Transfers.pointsTo_toks_range fullShare 1024

theorem source_split :
    ((Memref.whole main_v0 : Memref sig .tc .hbm S1179648x128 .f32).view.loc (c : Thread nD τ) ↦{fullShare} f : sProp 𝕄)
    ⊢ iprop((bigSep Finset.univ fun t : Fin 1024 =>
        (Memref.whole main_v0 : Memref sig .tc .hbm S1179648x128 .f32).view.loc (c : Thread nD τ) ↦[sset (row t)]{Transfers.shareTokN fullShare t.val} f)
      ∗ aside c row f) := by
  refine (source_toks c f).1.trans ?_
  iintro ⟨Hd, Ht⟩
  ihave Ht2 := (show toks c f ⊢ iprop((bigSep Finset.univ fun t : Fin 1024 =>
        (Memref.whole main_v0 : Memref sig .tc .hbm S1179648x128 .f32).view.loc (c : Thread nD τ) ↦[sset (row t)]{Transfers.shareTokN fullShare t.val} f)
      ∗ bigSep Finset.univ fun t : Fin 1024 =>
      (Memref.whole main_v0 : Memref sig .tc .hbm S1179648x128 .f32).view.loc (c : Thread nD τ) ↦[Finset.univ \ sset (row t)]{Transfers.shareTokN fullShare t.val} f) from (BI.bigSep_mono fun t _ => (tok_eq c row f t).1).trans (Entails.of_eq (BI.bigSep_sep _ _ _))) $$ Ht
  icases Ht2 with ⟨Ha, Hb⟩
  isplitl [Ha]; · iexact Ha
  isplitl [Hd]; · iexact Hd
  iexact Hb

theorem source_join :
    iprop((bigSep Finset.univ fun t : Fin 1024 =>
        (Memref.whole main_v0 : Memref sig .tc .hbm S1179648x128 .f32).view.loc (c : Thread nD τ) ↦[sset (row t)]{Transfers.shareTokN fullShare t.val} f)
      ∗ aside c row f)
    ⊢ ((Memref.whole main_v0 : Memref sig .tc .hbm S1179648x128 .f32).view.loc (c : Thread nD τ) ↦{fullShare} f : sProp 𝕄) := by
  refine BIBase.Entails.trans ?_ (source_toks c f).2
  iintro ⟨Ha, Hd, Hb⟩
  isplitl [Hd]; · iexact Hd
  iapply (show iprop((bigSep Finset.univ fun t : Fin 1024 =>
        (Memref.whole main_v0 : Memref sig .tc .hbm S1179648x128 .f32).view.loc (c : Thread nD τ) ↦[sset (row t)]{Transfers.shareTokN fullShare t.val} f)
      ∗ bigSep Finset.univ fun t : Fin 1024 =>
      (Memref.whole main_v0 : Memref sig .tc .hbm S1179648x128 .f32).view.loc (c : Thread nD τ) ↦[Finset.univ \ sset (row t)]{Transfers.shareTokN fullShare t.val} f) ⊢ toks c f from (Entails.of_eq (BI.bigSep_sep _ _ _).symm).trans (BI.bigSep_mono fun t _ => (tok_eq c row f t).2))
  isplitl [Ha]; · iexact Ha
  iexact Hb

end Cert.Kernel3Ideal.Combine
-- ==== Proof.CombineBody.lean ====
/- The combining kernel's body at one grid point: the copies, then the weighted sum of the gathered rows, the residual and the
   layer norm. -/
module

public import proofs.«01_k».proof.Proof.CombineLoops

@[expose] public section

set_option maxRecDepth 16384

noncomputable section

namespace Cert.Kernel3Ideal.Combine

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (c : Dev nD) (row : Fin 1024 → Fin 147456) (f : S1179648x128.Idx → Elt F .f32)

/-- An index of the scratch buffer. -/
def scr (p : Fin 4) (a : Fin 2048) (b : Fin 128) : S4x2048x128.Idx := fun d => match d with
  | 0 => p
  | 1 => a
  | 2 => b

/-- Plane `p` of the scratch buffer, its rows at places `s` modulo 8. -/
def plane (G : S4x2048x128.Idx → Elt F .f32) (p : Fin 4) (s : Fin 8) : Vec F S256x128 .f32 := fun j =>
  G (scr p ⟨8 * (j 0).val + s.val, by have h : (j 0).val < 256 := (j 0).isLt; omega⟩ (j 1))

theorem readAt_plane (G : S4x2048x128.Idx → Elt F .f32) (p : Fin 4) (s : Fin 8) (op : Fin 3 → ℕ) (hop : op = ![p.val, 0, 0])
    (inb : ∀ a, op a + S1x2048x128.size a ≤ S4x2048x128.size a) (os : Fin 2 → ℕ) (hos : os = ![s.val, 0])
    (hs) (hh) (sq) :
    View.readAt (Elt F) (((Memref.whole cc0_scratch0 : Memref sig .tc .vmem S4x2048x128 .f32).slice (Rect.unit (s := S4x2048x128) op S1x2048x128.size inb) hh).squeeze S2048x128 sq).view
      (⟨os, S256x128.size, ![8, 1], hs⟩ : LoadRect S2048x128) G = plane G p s := by
  subst hop hos
  funext j
  show G _ = G _
  congr 1
  have h0 : (j 0).val < 256 := (j 0).isLt
  have hr : ∀ x : S2048x128.Idx, Shape.reshapeEquiv squeezes_S1x2048x128_S2048x128.numel_eq x = (Fin.cons (⟨0, Nat.one_pos⟩ : Fin 1) x : S1x2048x128.Idx) := fun x =>
    Shape.reshapeEquiv_cons_one (d := ![2048, 128]) _ x
  have key : ∀ (x : S2048x128.Idx) (a : Fin 3), ((((Memref.whole cc0_scratch0 : Memref sig .tc .vmem S4x2048x128 .f32).slice (Rect.unit (s := S4x2048x128) ![p.val, 0, 0] S1x2048x128.size inb) hh).squeeze S2048x128 sq).view.emb x a).val
      = (![p.val, 0, 0] : Fin 3 → ℕ) a + 1 * (Shape.reshapeEquiv squeezes_S1x2048x128_S2048x128.numel_eq x a).val := fun x a => rfl
  funext a
  refine Fin.ext ((key _ a).trans ?_)
  rw [hr]
  fin_cases a
  · show p.val + 1 * 0 = p.val; omega
  · show 0 + 1 * (s.val + 8 * (j 0).val) = 8 * (j 0).val + s.val; omega
  · show 0 + 1 * (0 + 1 * (j 1).val) = (j 1).val; omega

/-- The output block: the four gathered rows of each token weighted and summed, the scaled residual, the layer norm. -/
def combined (x1 : Vec F S256x4 .f32) (x2 : Vec F S256x1024 .f32) (x3 x4 : Vec F S1x1024 .f32) (G : S4x2048x128.Idx → Elt F .f32) : Vec F S256x1024 .f32 :=
  k0_pay1 (k0_pay9 (k0_pay7 (k0_pay5 (k0_pay3 (k0_pay2 x1) (plane G 0 0) (plane G 0 1) (plane G 0 2) (plane G 0 3) (plane G 0 4) (plane G 0 5) (plane G 0 6) (plane G 0 7)) (k0_pay4 x1) (plane G 1 0) (plane G 1 1) (plane G 1 2) (plane G 1 3) (plane G 1 4) (plane G 1 5) (plane G 1 6) (plane G 1 7)) (k0_pay6 x1) (plane G 2 0) (plane G 2 1) (plane G 2 2) (plane G 2 3) (plane G 2 4) (plane G 2 5) (plane G 2 6) (plane G 2 7)) (k0_pay8 x1) (plane G 3 0) (plane G 3 1) (plane G 3 2) (plane G 3 3) (plane G 3 4) (plane G 3 5) (plane G 3 6) (plane G 3 7) x2) x3 x4

set_option maxHeartbeats 4000000 in
/-- The body on whole staging buffers: it leaves its inputs, and in the output block `combined` of them and of the rows the
    table names. -/
theorem run_body (i : grid0.Coords) (arg1 : Memref sig .tc .smem S1024 .i32) (harg1 : arg1.IsWhole)
    (arg2 : Memref sig .tc .vmem S256x4 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1024 .f32) (harg5 : arg5.IsWhole)
    (arg7 : Memref sig .tc .vmem S256x1024 .f32) (harg7 : arg7.IsWhole)
    (T : Vec F S1024 .i32) (x1 : Vec F S256x4 .f32) (x2 : Vec F S256x1024 .f32) (x3 x4 : Vec F S1x1024 .f32)
    (hT : ∀ t : Fin 1024, T (pos t) = BitVec.ofNat 32 (row t).val) (K : PUnit → sProp 𝕄) :
    iprop(owns c arg1 fullShare T ∗ owns c arg2 fullShare x1 ∗ owns c arg3 fullShare x2 ∗ owns c arg4 fullShare x3 ∗ owns c arg5 fullShare x4
        ∗ (∃ d, owns c arg7 fullShare d)
        ∗ ((Memref.whole main_v0 : Memref sig .tc .hbm S1179648x128 .f32).view.loc (c : Thread nD τ) ↦{fullShare} f)
        ∗ (∃ g, (Memref.whole cc0_scratch0 : Memref sig .tc .vmem S4x2048x128 .f32).view.loc (c : Thread nD τ) ↦{fullShare} g)
        ∗ semVal ((c : Thread nD τ), SemLoc.dma cell) 0 ∗ (∃ W, owes (c : Thread nD τ) 0 W)
        ∗ (iprop(owns c arg1 fullShare T ∗ owns c arg2 fullShare x1 ∗ owns c arg3 fullShare x2 ∗ owns c arg4 fullShare x3 ∗ owns c arg5 fullShare x4
          ∗ owns c arg7 fullShare (combined x1 x2 x3 x4 (gathered row f))
          ∗ ((Memref.whole main_v0 : Memref sig .tc .hbm S1179648x128 .f32).view.loc (c : Thread nD τ) ↦{fullShare} f)
          ∗ (∃ g, (Memref.whole cc0_scratch0 : Memref sig .tc .vmem S4x2048x128 .f32).view.loc (c : Thread nD τ) ↦{fullShare} g)
          ∗ semVal ((c : Thread nD τ), SemLoc.dma cell) 0 ∗ (∃ W, owes (c : Thread nD τ) 0 W)) -∗ K ⟨⟩))
      ⊢ wp frame (wpE (defs₀ (F := F)) Variants.none (c : Thread nD τ) none) Set.univ
        (cc0__moe_combine_kernel i arg1 harg1 arg2 harg2 arg3 harg3 arg4 harg4 arg5 harg5 (Memref.whole main_v0) (Memref.isWhole_whole _) arg7 harg7
          (Memref.whole cc0_scratch0) (Memref.isWhole_whole _) cc0_scratch1) K := by
  simp only [cc0__moe_combine_kernel_eq_skeleton]; unfold cc0__moe_combine_kernel_skel
  simp only [k0_part2_eq_skeleton]; unfold k0_part2_skel
  have hset : arg1.view.set = Finset.univ := harg1.set_eq_univ
  unfold owns
  iintro ⟨⟨%ft, %hft, HT⟩, ⟨%f1, %hf1, H1⟩, ⟨%f2, %hf2, H2⟩, ⟨%f3, %hf3, H3⟩, ⟨%f4, %hf4, H4⟩, ⟨%d5, %f5, -, H5⟩, HV, ⟨%g, HG⟩, Hc, HO, Hk⟩
  subst hft hf1 hf2 hf3 hf4
  ihave HS := (source_split c row f) $$ HV
  icases HS with ⟨HS, HA⟩
  ihave HQ := (Entails.of_eq (slots_eq c row f g).symm) $$ [HG HS]
  · isplitl [HG]; · iexact HG
    iexact HS
  imod (Transfers.batch_alloc' (Lvl := ℕ) (countersEmb (U := Pipeline.UC sig nD τ)) (c := (c : Thread nD τ)) () NN (deliv c row f) (sm := .dma cell) (E := Set.univ)) $$ Hc with HB
  rw [wp_bind]
  sl_for (issueInv c row f g arg1 ft) $$ [HB HQ HT]
  · intro k acc; exact issue_step c row f g i arg1 harg1 arg2 harg2 arg3 harg3 arg4 harg4 arg5 harg5 arg7 harg7 ft hT k acc
  · unfold issueInv
    rw [Nat.mul_zero, Ring.rangeSet_univ, hset]
    isplitl [HB]; · iexact HB
    isplitl [HQ]; · iexact HQ
    iexact HT
  iintro %acc HL
  ihave HL2 := (show issueInv c row f g arg1 ft (Scf.trips k0_t1_loop.lb k0_t1_loop.ub k0_t1_loop.st) acc ⊢ iprop(batch c row f 1024 0 ∗ (arg1.view.loc (c : Thread nD τ) ↦{fullShare} ft)) from by
      have ht : Scf.trips k0_t1_loop.lb k0_t1_loop.ub k0_t1_loop.st = 256 := trips1
      unfold issueInv; rw [ht]; iintro ⟨HB, -, HT⟩
      isplitl [HB] <;> iassumption) $$ HL
  icases HL2 with ⟨HB, HT⟩
  sl_for (drainInv c row f) $$ [HB HO]
  · intro k acc; exact drain_step c row f i arg1 harg1 arg2 harg2 arg3 harg3 arg4 harg4 arg5 harg5 arg7 harg7 k acc
  · unfold drainInv
    rw [if_pos (by decide), Nat.zero_mul]
    isplitl [HO]; · iexact HO
    iexact HB
  iintro %acc2 HL
  ihave HL2 := (show drainInv c row f (Scf.trips k0_t2_loop.lb k0_t2_loop.ub k0_t2_loop.st) acc2 ⊢ iprop((∃ W, owes (c : Thread nD τ) 0 W) ∗ semVal ((c : Thread nD τ), SemLoc.dma cell) 0 ∗ bigSep Finset.univ (slot c row f (gathered row f))) from by
      have ht : Scf.trips k0_t2_loop.lb k0_t2_loop.ub k0_t2_loop.st = 1024 := trips2
      unfold drainInv; rw [ht, if_neg (Nat.lt_irrefl _)]) $$ HL
  icases HL2 with ⟨HO, Hc, HQ⟩
  ihave HQ2 := (Entails.of_eq (slots_eq c row f (gathered row f))) $$ HQ
  icases HQ2 with ⟨HG, HS⟩
  ihave HV := (source_join c row f) $$ [HS HA]
  · isplitl [HS]; · iexact HS
    iexact HA
  sl_exec
  sl_step
  iapply Hk
  isplitl [HT]
  · iexists ft; isplitr; · ipureintro; rfl
    rw [hset]; iexact HT
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans ?_
    have q00 := fun inb hs hh sq => readAt_plane (gathered row f) 0 0 ![0, 0, 0] rfl inb ![0, 0] rfl hs hh sq
    have q01 := fun inb hs hh sq => readAt_plane (gathered row f) 0 1 ![0, 0, 0] rfl inb ![1, 0] rfl hs hh sq
    have q02 := fun inb hs hh sq => readAt_plane (gathered row f) 0 2 ![0, 0, 0] rfl inb ![2, 0] rfl hs hh sq
    have q03 := fun inb hs hh sq => readAt_plane (gathered row f) 0 3 ![0, 0, 0] rfl inb ![3, 0] rfl hs hh sq
    have q04 := fun inb hs hh sq => readAt_plane (gathered row f) 0 4 ![0, 0, 0] rfl inb ![4, 0] rfl hs hh sq
    have q05 := fun inb hs hh sq => readAt_plane (gathered row f) 0 5 ![0, 0, 0] rfl inb ![5, 0] rfl hs hh sq
    have q06 := fun inb hs hh sq => readAt_plane (gathered row f) 0 6 ![0, 0, 0] rfl inb ![6, 0] rfl hs hh sq
    have q07 := fun inb hs hh sq => readAt_plane (gathered row f) 0 7 ![0, 0, 0] rfl inb ![7, 0] rfl hs hh sq
    have q10 := fun inb hs hh sq => readAt_plane (gathered row f) 1 0 ![1, 0, 0] rfl inb ![0, 0] rfl hs hh sq
    have q11 := fun inb hs hh sq => readAt_plane (gathered row f) 1 1 ![1, 0, 0] rfl inb ![1, 0] rfl hs hh sq
    have q12 := fun inb hs hh sq => readAt_plane (gathered row f) 1 2 ![1, 0, 0] rfl inb ![2, 0] rfl hs hh sq
    have q13 := fun inb hs hh sq => readAt_plane (gathered row f) 1 3 ![1, 0, 0] rfl inb ![3, 0] rfl hs hh sq
    have q14 := fun inb hs hh sq => readAt_plane (gathered row f) 1 4 ![1, 0, 0] rfl inb ![4, 0] rfl hs hh sq
    have q15 := fun inb hs hh sq => readAt_plane (gathered row f) 1 5 ![1, 0, 0] rfl inb ![5, 0] rfl hs hh sq
    have q16 := fun inb hs hh sq => readAt_plane (gathered row f) 1 6 ![1, 0, 0] rfl inb ![6, 0] rfl hs hh sq
    have q17 := fun inb hs hh sq => readAt_plane (gathered row f) 1 7 ![1, 0, 0] rfl inb ![7, 0] rfl hs hh sq
    have q20 := fun inb hs hh sq => readAt_plane (gathered row f) 2 0 ![2, 0, 0] rfl inb ![0, 0] rfl hs hh sq
    have q21 := fun inb hs hh sq => readAt_plane (gathered row f) 2 1 ![2, 0, 0] rfl inb ![1, 0] rfl hs hh sq
    have q22 := fun inb hs hh sq => readAt_plane (gathered row f) 2 2 ![2, 0, 0] rfl inb ![2, 0] rfl hs hh sq
    have q23 := fun inb hs hh sq => readAt_plane (gathered row f) 2 3 ![2, 0, 0] rfl inb ![3, 0] rfl hs hh sq
    have q24 := fun inb hs hh sq => readAt_plane (gathered row f) 2 4 ![2, 0, 0] rfl inb ![4, 0] rfl hs hh sq
    have q25 := fun inb hs hh sq => readAt_plane (gathered row f) 2 5 ![2, 0, 0] rfl inb ![5, 0] rfl hs hh sq
    have q26 := fun inb hs hh sq => readAt_plane (gathered row f) 2 6 ![2, 0, 0] rfl inb ![6, 0] rfl hs hh sq
    have q27 := fun inb hs hh sq => readAt_plane (gathered row f) 2 7 ![2, 0, 0] rfl inb ![7, 0] rfl hs hh sq
    have q30 := fun inb hs hh sq => readAt_plane (gathered row f) 3 0 ![3, 0, 0] rfl inb ![0, 0] rfl hs hh sq
    have q31 := fun inb hs hh sq => readAt_plane (gathered row f) 3 1 ![3, 0, 0] rfl inb ![1, 0] rfl hs hh sq
    have q32 := fun inb hs hh sq => readAt_plane (gathered row f) 3 2 ![3, 0, 0] rfl inb ![2, 0] rfl hs hh sq
    have q33 := fun inb hs hh sq => readAt_plane (gathered row f) 3 3 ![3, 0, 0] rfl inb ![3, 0] rfl hs hh sq
    have q34 := fun inb hs hh sq => readAt_plane (gathered row f) 3 4 ![3, 0, 0] rfl inb ![4, 0] rfl hs hh sq
    have q35 := fun inb hs hh sq => readAt_plane (gathered row f) 3 5 ![3, 0, 0] rfl inb ![5, 0] rfl hs hh sq
    have q36 := fun inb hs hh sq => readAt_plane (gathered row f) 3 6 ![3, 0, 0] rfl inb ![6, 0] rfl hs hh sq
    have q37 := fun inb hs hh sq => readAt_plane (gathered row f) 3 7 ![3, 0, 0] rfl inb ![7, 0] rfl hs hh sq
    have z4 : (View.readAt (Elt F) arg5.view (Rect.unit (s := S1x1024) ![0, 0] ![1, 1024] inb_S1x1024_S1x1024_0_0).toLoadRect f4) = arg5.view.read (Elt F) f4 := View.readAt_full _ _ _
    rw [z4]
    delta run_body.sl.r_9
    delta run_body.sl.r_8
    delta run_body.sl.r_7
    delta run_body.sl.r_6
    delta run_body.sl.r_5
    delta run_body.sl.r_4
    delta run_body.sl.r_3
    delta run_body.sl.r_2
    delta run_body.sl.r_1
    delta run_body.sl.r
    have z1 : (View.readAt (Elt F) arg2.view (Rect.unit (s := S256x4) ![0, 0] S256x4.size inb_S256x4_S256x4_0_0).toLoadRect f1) = arg2.view.read (Elt F) f1 := View.readAt_full _ _ _
    have z2 : (View.readAt (Elt F) arg3.view (Rect.unit (s := S256x1024) ![0, 0] S256x1024.size inb_S256x1024_S256x1024_0_0).toLoadRect f2) = arg3.view.read (Elt F) f2 := View.readAt_full _ _ _
    have z3 : (View.readAt (Elt F) arg4.view (Rect.unit (s := S1x1024) ![0, 0] S1x1024.size inb_S1x1024_S1x1024_0_0).toLoadRect f3) = arg4.view.read (Elt F) f3 := View.readAt_full _ _ _
    rw [z1, z2, z3]
    have w6 : run_body.sl.v6 row f = plane (gathered row f) 0 0 := q00 inb_S4x2048x128_S1x2048x128_0_0_0 inb_S2048x128_S256x128_0_0_s_8_1 (fun _ => rfl) squeezes_S1x2048x128_S2048x128
    have w9 : run_body.sl.v9 row f = plane (gathered row f) 0 1 := q01 inb_S4x2048x128_S1x2048x128_0_0_0 inb_S2048x128_S256x128_1_0_s_8_1 (fun _ => rfl) squeezes_S1x2048x128_S2048x128
    have w12 : run_body.sl.v12 row f = plane (gathered row f) 0 2 := q02 inb_S4x2048x128_S1x2048x128_0_0_0 inb_S2048x128_S256x128_2_0_s_8_1 (fun _ => rfl) squeezes_S1x2048x128_S2048x128
    have w15 : run_body.sl.v15 row f = plane (gathered row f) 0 3 := q03 inb_S4x2048x128_S1x2048x128_0_0_0 inb_S2048x128_S256x128_3_0_s_8_1 (fun _ => rfl) squeezes_S1x2048x128_S2048x128
    have w18 : run_body.sl.v18 row f = plane (gathered row f) 0 4 := q04 inb_S4x2048x128_S1x2048x128_0_0_0 inb_S2048x128_S256x128_4_0_s_8_1 (fun _ => rfl) squeezes_S1x2048x128_S2048x128
    have w21 : run_body.sl.v21 row f = plane (gathered row f) 0 5 := q05 inb_S4x2048x128_S1x2048x128_0_0_0 inb_S2048x128_S256x128_5_0_s_8_1 (fun _ => rfl) squeezes_S1x2048x128_S2048x128
    have w24 : run_body.sl.v24 row f = plane (gathered row f) 0 6 := q06 inb_S4x2048x128_S1x2048x128_0_0_0 inb_S2048x128_S256x128_6_0_s_8_1 (fun _ => rfl) squeezes_S1x2048x128_S2048x128
    have w27 : run_body.sl.v27 row f = plane (gathered row f) 0 7 := q07 inb_S4x2048x128_S1x2048x128_0_0_0 inb_S2048x128_S256x128_7_0_s_8_1 (fun _ => rfl) squeezes_S1x2048x128_S2048x128
    have w34 : run_body.sl.v34 row f = plane (gathered row f) 1 0 := q10 inb_S4x2048x128_S1x2048x128_1_0_0 inb_S2048x128_S256x128_0_0_s_8_1 (fun _ => rfl) squeezes_S1x2048x128_S2048x128
    have w37 : run_body.sl.v37 row f = plane (gathered row f) 1 1 := q11 inb_S4x2048x128_S1x2048x128_1_0_0 inb_S2048x128_S256x128_1_0_s_8_1 (fun _ => rfl) squeezes_S1x2048x128_S2048x128
    have w40 : run_body.sl.v40 row f = plane (gathered row f) 1 2 := q12 inb_S4x2048x128_S1x2048x128_1_0_0 inb_S2048x128_S256x128_2_0_s_8_1 (fun _ => rfl) squeezes_S1x2048x128_S2048x128
    have w43 : run_body.sl.v43 row f = plane (gathered row f) 1 3 := q13 inb_S4x2048x128_S1x2048x128_1_0_0 inb_S2048x128_S256x128_3_0_s_8_1 (fun _ => rfl) squeezes_S1x2048x128_S2048x128
    have w46 : run_body.sl.v46 row f = plane (gathered row f) 1 4 := q14 inb_S4x2048x128_S1x2048x128_1_0_0 inb_S2048x128_S256x128_4_0_s_8_1 (fun _ => rfl) squeezes_S1x2048x128_S2048x128
    have w49 : run_body.sl.v49 row f = plane (gathered row f) 1 5 := q15 inb_S4x2048x128_S1x2048x128_1_0_0 inb_S2048x128_S256x128_5_0_s_8_1 (fun _ => rfl) squeezes_S1x2048x128_S2048x128
    have w52 : run_body.sl.v52 row f = plane (gathered row f) 1 6 := q16 inb_S4x2048x128_S1x2048x128_1_0_0 inb_S2048x128_S256x128_6_0_s_8_1 (fun _ => rfl) squeezes_S1x2048x128_S2048x128
    have w55 : run_body.sl.v55 row f = plane (gathered row f) 1 7 := q17 inb_S4x2048x128_S1x2048x128_1_0_0 inb_S2048x128_S256x128_7_0_s_8_1 (fun _ => rfl) squeezes_S1x2048x128_S2048x128
    have w63 : run_body.sl.v63 row f = plane (gathered row f) 2 0 := q20 inb_S4x2048x128_S1x2048x128_2_0_0 inb_S2048x128_S256x128_0_0_s_8_1 (fun _ => rfl) squeezes_S1x2048x128_S2048x128
    have w66 : run_body.sl.v66 row f = plane (gathered row f) 2 1 := q21 inb_S4x2048x128_S1x2048x128_2_0_0 inb_S2048x128_S256x128_1_0_s_8_1 (fun _ => rfl) squeezes_S1x2048x128_S2048x128
    have w69 : run_body.sl.v69 row f = plane (gathered row f) 2 2 := q22 inb_S4x2048x128_S1x2048x128_2_0_0 inb_S2048x128_S256x128_2_0_s_8_1 (fun _ => rfl) squeezes_S1x2048x128_S2048x128
    have w72 : run_body.sl.v72 row f = plane (gathered row f) 2 3 := q23 inb_S4x2048x128_S1x2048x128_2_0_0 inb_S2048x128_S256x128_3_0_s_8_1 (fun _ => rfl) squeezes_S1x2048x128_S2048x128
    have w75 : run_body.sl.v75 row f = plane (gathered row f) 2 4 := q24 inb_S4x2048x128_S1x2048x128_2_0_0 inb_S2048x128_S256x128_4_0_s_8_1 (fun _ => rfl) squeezes_S1x2048x128_S2048x128
    have w78 : run_body.sl.v78 row f = plane (gathered row f) 2 5 := q25 inb_S4x2048x128_S1x2048x128_2_0_0 inb_S2048x128_S256x128_5_0_s_8_1 (fun _ => rfl) squeezes_S1x2048x128_S2048x128
    have w81 : run_body.sl.v81 row f = plane (gathered row f) 2 6 := q26 inb_S4x2048x128_S1x2048x128_2_0_0 inb_S2048x128_S256x128_6_0_s_8_1 (fun _ => rfl) squeezes_S1x2048x128_S2048x128
    have w84 : run_body.sl.v84 row f = plane (gathered row f) 2 7 := q27 inb_S4x2048x128_S1x2048x128_2_0_0 inb_S2048x128_S256x128_7_0_s_8_1 (fun _ => rfl) squeezes_S1x2048x128_S2048x128
    have w92 : run_body.sl.v92 row f = plane (gathered row f) 3 0 := q30 inb_S4x2048x128_S1x2048x128_3_0_0 inb_S2048x128_S256x128_0_0_s_8_1 (fun _ => rfl) squeezes_S1x2048x128_S2048x128
    have w95 : run_body.sl.v95 row f = plane (gathered row f) 3 1 := q31 inb_S4x2048x128_S1x2048x128_3_0_0 inb_S2048x128_S256x128_1_0_s_8_1 (fun _ => rfl) squeezes_S1x2048x128_S2048x128
    have w98 : run_body.sl.v98 row f = plane (gathered row f) 3 2 := q32 inb_S4x2048x128_S1x2048x128_3_0_0 inb_S2048x128_S256x128_2_0_s_8_1 (fun _ => rfl) squeezes_S1x2048x128_S2048x128
    have w101 : run_body.sl.v101 row f = plane (gathered row f) 3 3 := q33 inb_S4x2048x128_S1x2048x128_3_0_0 inb_S2048x128_S256x128_3_0_s_8_1 (fun _ => rfl) squeezes_S1x2048x128_S2048x128
    have w104 : run_body.sl.v104 row f = plane (gathered row f) 3 4 := q34 inb_S4x2048x128_S1x2048x128_3_0_0 inb_S2048x128_S256x128_4_0_s_8_1 (fun _ => rfl) squeezes_S1x2048x128_S2048x128
    have w107 : run_body.sl.v107 row f = plane (gathered row f) 3 5 := q35 inb_S4x2048x128_S1x2048x128_3_0_0 inb_S2048x128_S256x128_5_0_s_8_1 (fun _ => rfl) squeezes_S1x2048x128_S2048x128
    have w110 : run_body.sl.v110 row f = plane (gathered row f) 3 6 := q36 inb_S4x2048x128_S1x2048x128_3_0_0 inb_S2048x128_S256x128_6_0_s_8_1 (fun _ => rfl) squeezes_S1x2048x128_S2048x128
    have w113 : run_body.sl.v113 row f = plane (gathered row f) 3 7 := q37 inb_S4x2048x128_S1x2048x128_3_0_0 inb_S2048x128_S256x128_7_0_s_8_1 (fun _ => rfl) squeezes_S1x2048x128_S2048x128
    rw [w6, w9, w12, w15, w18, w21, w24, w27, w34, w37, w40, w43, w46, w49, w52, w55, w63, w66, w69, w72, w75, w78, w81, w84, w92, w95, w98, w101, w104, w107, w110, w113]
    rfl
  isplitl [HV]; · iexact HV
  isplitl [HG]; · iexists _; iexact HG
  isplitl [Hc]; · iexact Hc
  iexact HO

end Cert.Kernel3Ideal.Combine
-- ==== Proof.CombineFrame.lean ====
/- The launch of the combining kernel: what its windows hold at each grid point, the body there, and the run of the whole
   program, over any float values. -/
module

public import proofs.«01_k».proof.Proof.CombineBody
public import Idealize.ShloMosaic.Lib.StableHlo.ReadAt
public import Idealize.ShloMosaic.Lib.Pipeline.ValueKit.Geometry

@[expose] public section

set_option maxRecDepth 16384

noncomputable section

namespace Cert.Kernel3Ideal.Combine

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The memory the launch finds -/

/-- Core `c`'s buffers when the launch begins: the three reshapes done. -/
def V (c : Dev nD) (b : Ref sig .tc) : Buf (Elt F) ((c : Thread nD τ).loc b) :=
  StableHlo.after (hostOps0 (F := F)) (fun b => m (c, b)) b

/-- A buffer none of the three reshapes writes is as launched. -/
theorem V_keep (c : Dev nD) (b : Ref sig .tc) (h0 : Proc.devRef .tc b ≠ Proc.devRef (τ := τ) .tc main_v0)
    (h1 : Proc.devRef .tc b ≠ Proc.devRef (τ := τ) .tc main_v1) (h2 : Proc.devRef .tc b ≠ Proc.devRef (τ := τ) .tc main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨h0, h1, h2⟩))

/-- The table of the rows to gather. -/
def Tab (c : Dev nD) : Vec F S131072 .i32 := V m c main_arg1

/-- What the precondition says of the table: every entry names a row. -/
structure Good : Prop where
  rows : ∀ y, (Tab m 0 y).toNat < 147456

variable (hg : Good m)

/-- Window `w`'s block at point `t`, read off its array as the launch finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

include hg in
theorem word_lt (c : Dev nD) (t : Fin cfg0.N) (k : Fin 1024) : ((iblk m c 0 t : Vec F S1024 .i32) (pos k)).toNat < 147456 := by
  obtain rfl : c = 0 := Subsingleton.elim _ _
  exact hg.rows _

/-- The row copy `k` of point `t` brings. -/
def rowAt (c : Dev nD) (t : Fin cfg0.N) (k : Fin 1024) : Fin 147456 := ⟨((iblk m c 0 t : Vec F S1024 .i32) (pos k)).toNat, word_lt m hg c t k⟩

/-- The source array. -/
abbrev Src (c : Dev nD) : S1179648x128.Idx → Elt F .f32 := V m c main_v0

/-- The block of the output at point `t`. -/
def outAt (c : Dev nD) (t : Fin cfg0.N) : Vec F S256x1024 .f32 :=
  combined (iblk m c 1 t) (iblk m c 2 t) (iblk m c 3 t) (iblk m c 4 t) (gathered (rowAt m hg c t) (Src m c))

/-- The invariant: the source array, the scratch buffer at anything, the copies' cell at zero, the generator register. -/
def Inv (c : Dev nD) : sProp 𝕄 :=
  iprop(((Memref.whole main_v0 : Memref sig .tc .hbm S1179648x128 .f32).view.loc (c : Thread nD τ) ↦{fullShare} Src m c)
    ∗ (∃ g, (Memref.whole cc0_scratch0 : Memref sig .tc .vmem S4x2048x128 .f32).view.loc (c : Thread nD τ) ↦{fullShare} g)
    ∗ semVal ((c : Thread nD τ), SemLoc.dma cell) 0 ∗ (∃ r, prngReg c r))

/-- The launch's proof data. -/
def dats (p : Fin 1) (c : Dev nD) : Dat τ (Elt F) Unit ℕ (Pipeline.UC sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m hg c t
  Φ _ := Inv m c
  q _ := fullShare
  owed _ := 0

theorem A_eq (c : Dev nD) (w : Fin cfg0.W) : (dats m hg 0 c).A w = V m c (Pipeline.arrRef spec0 w) := by
  dsimp only [dats]

theorem after_0 (c : Dev nD) (t : Fin cfg0.N) : (dats m hg 0 c).after 0 t = iblk m c 0 t := by dsimp only [dats]
theorem after_1 (c : Dev nD) (t : Fin cfg0.N) : (dats m hg 0 c).after 1 t = iblk m c 1 t := by dsimp only [dats]
theorem after_2 (c : Dev nD) (t : Fin cfg0.N) : (dats m hg 0 c).after 2 t = iblk m c 2 t := by dsimp only [dats]
theorem after_3 (c : Dev nD) (t : Fin cfg0.N) : (dats m hg 0 c).after 3 t = iblk m c 3 t := by dsimp only [dats]
theorem after_4 (c : Dev nD) (t : Fin cfg0.N) : (dats m hg 0 c).after 4 t = iblk m c 4 t := by dsimp only [dats]
theorem after_5 (c : Dev nD) (t : Fin cfg0.N) : (dats m hg 0 c).after 5 t = outAt m hg c t := by dsimp only [dats]

/-- Each input's staging buffer holds its block at every point. -/
theorem before_0 (c : Dev nD) (t : Fin cfg0.N) (d) : (dats m hg 0 c).before 0 t d = iblk m c 0 t :=
  ((dats m hg 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m hg 0 c).before 1 t d = iblk m c 1 t :=
  ((dats m hg 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m hg 0 c).before 2 t d = iblk m c 2 t :=
  ((dats m hg 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m hg 0 c).before 3 t d = iblk m c 3 t :=
  ((dats m hg 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m hg 0 c).before 4 t d = iblk m c 4 t :=
  ((dats m hg 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The body at point `t`. -/
def bodyAt (t : Fin cfg0.N) : Prog (TpuEff nD τ sig (Elt F) Λ₀ .tc) PUnit :=
  cc0__moe_combine_kernel (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Memref.whole main_v0) (Memref.isWhole_whole _) (win0_5.stage (cfg0.slots t 5)) (hstage0_5 ((cfg0.slots t 5).cast nbuf0_5))
    (Memref.whole cc0_scratch0) (Memref.isWhole_whole _) cc0_scratch1

theorem defs₀_row (t : Fin cfg0.N) :
    defs₀ (F := F) .tc cfg0.body (cfg0.bodyArgs t (cfg0.slots t)) = bodyAt t := by
  unfold defs₀; rw [Defs.onTc_tc]; rfl

/-- The staging buffer of window `w` at point `t`. -/
abbrev st (w : Fin cfg0.W) (t : Fin cfg0.N) := (cfg0.win w).stage (cfg0.slots t w)

/-- What the body is called with at point `t`, -/
def bodyPre (c : Dev nD) (t : Fin cfg0.N) : sProp 𝕄 :=
  iprop((dats m hg 0 c).Φ t.castSucc ∗ (dats m hg 0 c).owesAt () t.castSucc
    ∗ (∃ d, owns (c : Thread nD τ) (st 0 t) fullShare ((dats m hg 0 c).before 0 t d))
    ∗ (∃ d, owns (c : Thread nD τ) (st 1 t) fullShare ((dats m hg 0 c).before 1 t d))
    ∗ (∃ d, owns (c : Thread nD τ) (st 2 t) fullShare ((dats m hg 0 c).before 2 t d))
    ∗ (∃ d, owns (c : Thread nD τ) (st 3 t) fullShare ((dats m hg 0 c).before 3 t d))
    ∗ (∃ d, owns (c : Thread nD τ) (st 4 t) fullShare ((dats m hg 0 c).before 4 t d))
    ∗ (∃ d, owns (c : Thread nD τ) (st 5 t) fullShare ((dats m hg 0 c).before 5 t d)))

/-- and what it returns. -/
def bodyPost (c : Dev nD) (t : Fin cfg0.N) : sProp 𝕄 :=
  iprop((dats m hg 0 c).Φ t.succ ∗ (dats m hg 0 c).owesAt () t.succ
    ∗ owns (c : Thread nD τ) (st 0 t) fullShare ((dats m hg 0 c).after 0 t)
    ∗ owns (c : Thread nD τ) (st 1 t) fullShare ((dats m hg 0 c).after 1 t)
    ∗ owns (c : Thread nD τ) (st 2 t) fullShare ((dats m hg 0 c).after 2 t)
    ∗ owns (c : Thread nD τ) (st 3 t) fullShare ((dats m hg 0 c).after 3 t)
    ∗ owns (c : Thread nD τ) (st 4 t) fullShare ((dats m hg 0 c).after 4 t)
    ∗ owns (c : Thread nD τ) (st 5 t) fullShare ((dats m hg 0 c).after 5 t))

set_option maxHeartbeats 1000000 in
/-- The body at any point, from the invariant and the point's blocks to the invariant and the output block. -/
theorem sound_body (c : Dev nD) (t : Fin cfg0.N) :
    bodyPre m hg c t ⊢ wp frame (wpE (defs₀ (F := F)) Variants.none (c : Thread nD τ) none) Set.univ (bodyAt t) (fun _ => bodyPost m hg c t) := by
  unfold bodyPre bodyPost bodyAt
  simp only [before_0, before_1, before_2, before_3, before_4]
  rw [show (dats m hg 0 c).Φ t.succ = Inv m c from rfl, show (dats m hg 0 c).Φ t.castSucc = Inv m c from rfl,
    show (dats m hg 0 c).owesAt () t.succ = (dats m hg 0 c).owesAt () t.castSucc from rfl,
    after_0, after_1, after_2, after_3, after_4, after_5]
  unfold Inv
  iintro ⟨⟨HV, HG, Hc, Hr⟩, ⟨%W, -, HO⟩, ⟨%d0, H0⟩, ⟨%d1, H1⟩, ⟨%d2, H2⟩, ⟨%d3, H3⟩, ⟨%d4, H4⟩, ⟨%d5, H5⟩⟩
  iapply (run_body c (rowAt m hg c t) (Src m c) (grid0.coords t) _ _ _ _ _ _ _ _ _ _ _ _
    (iblk m c 0 t) (iblk m c 1 t) (iblk m c 2 t) (iblk m c 3 t) (iblk m c 4 t)
    (fun k => by show _ = BitVec.ofNat 32 ((iblk m c 0 t : Vec F S1024 .i32) (pos k)).toNat; rw [BitVec.ofNat_toNat, BitVec.setWidth_eq]) _)
  isplitl [H0]; · iexact H0
  isplitl [H1]; · iexact H1
  isplitl [H2]; · iexact H2
  isplitl [H3]; · iexact H3
  isplitl [H4]; · iexact H4
  isplitl [H5]; · iexists _; iexact H5
  isplitl [HV]; · iexact HV
  isplitl [HG]; · iexact HG
  isplitl [Hc]; · iexact Hc
  isplitl [HO]; · iexists _; iexact HO
  iintro ⟨H0, H1, H2, H3, H4, H5, HV, HG, Hc, ⟨%W', HO⟩⟩
  isplitl [HV HG Hc Hr]
  · isplitl [HV]; · iexact HV
    isplitl [HG]; · iexact HG
    isplitl [Hc]; · iexact Hc
    iexact Hr
  isplitl [HO]
  · iexists _; isplitr
    swap; · iexact HO
    ipureintro
    exact fun _ _ => Or.inl trivial
  isplitl [H0]; · iexact H0
  isplitl [H1]; · iexact H1
  isplitl [H2]; · iexact H2
  isplitl [H3]; · iexact H3
  isplitl [H4]; · iexact H4
  iexact H5

theorem body_obligation (c : Dev nD) : BodyObligation (dats m hg 0 c) (defs₀ (F := F)) Variants.none () Set.univ := fun t => by
  rw [bigSep_W0, bigSep_W0, show defs₀ (F := F) .tc (cfgs 0).body ((cfgs 0).bodyArgs t ((cfgs 0).slots t)) = bodyAt t from defs₀_row t]
  exact triple_restated (sound_body m hg c t) rfl .rfl fun _ => .rfl

/-! ## Entering and leaving the pipeline -/

/-- The kernel's own semaphore cell. -/
def osem : Fin 1 → SemLoc sig := fun _ => .dma cell

theorem own : Pipeline.OwnSemFacts spec0 osem := by decide

theorem ends_eq (c : Dev nD) (W : (b : Ref sig .tc) → Buf (Elt F) ((c.tc : Thread nD τ).loc b)) :
    (Pipeline.Ends spec0 osem {main_v0} c W : sProp 𝕄)
    = iprop((((c.tc : Thread nD τ).loc main_v0) ↦{fullShare} W main_v0) ∗ semVal ((c.tc : Thread nD τ), SemLoc.dma cell) 0
      ∗ (∃ f : Buf (Elt F) ((c : Thread nD τ).loc cc0_scratch0), ((c : Thread nD τ).loc cc0_scratch0) ↦{fullShare} f) ∗ ∃ r, prngReg c r) := by
  unfold Pipeline.Ends
  rw [Pipeline.routed_singleton, Pipeline.ownSems0_eq_of_list c osem [0] (by decide) (by decide), scopedRest0_eq]
  rfl

theorem hin (c : Dev nD) : (Pipeline.Ends spec0 osem {main_v0} c (V m c) : sProp 𝕄) ⊢ (dats m hg 0 c).Φ 0 := by
  rw [show (dats m hg 0 c).Φ 0 = Inv m c from rfl, ends_eq]
  unfold Inv
  iintro ⟨HV, Hc, HG, Hr⟩
  isplitl [HV]; · iexact HV
  isplitl [HG]; · iexact HG
  isplitl [Hc]; · iexact Hc
  iexact Hr

theorem hout (c : Dev nD) : (dats m hg 0 c).Φ (Fin.last cfg0.N) ⊢ (Pipeline.Ends spec0 osem {main_v0} c (V m c) : sProp 𝕄) := by
  rw [show (dats m hg 0 c).Φ (Fin.last cfg0.N) = Inv m c from rfl, ends_eq]
  unfold Inv
  iintro ⟨HV, HG, Hc, Hr⟩
  isplitl [HV]; · iexact HV
  isplitl [Hc]; · iexact Hc
  isplitl [HG]; · iexact HG
  iexact Hr

/-! ## The run -/

-- the launch theorem's implicit arguments are found by unifying its conclusion with this one, which takes unfolding plain
-- definitions in a metavariable's type
set_option backward.isDefEq.respectTransparency.types false in
set_option maxHeartbeats 1600000 in
/-- The whole program runs to an end, every array of the pipeline at what its blocks make it, every other buffer as the
    launch found it, every counter at zero. -/
theorem run_main : θ_run defs (onTc (τ := τ) (main (F := F))) (s₀ m ρ)
    (fun r => Pipeline.RoutedPost cfgs (dats m hg) 0 {main_v0} (V m) (V m) r ∧ r.2.sem = fun _ => 0) :=
  Pipeline.θ_run_frame_routed (Q' := _) cfgs (dats m hg) (0 : Fin 1) launch0 own defs₀ Variants.none m ρ main
    (hbody := fun c => (body_obligation m hg c).loose) (hshare := fun c => (dats m hg 0 c).share_full fun _ => rfl)
    (howed := fun _ _ => rfl) (V := V m)
    (hmain := Pipeline.hmain_prefix cfgs 0 defs₀ Variants.none m main hostOps0 hostOps0_sub ⟨rfl, rfl, rfl⟩ main_chain)
    (hA := A_eq m hg) (R := {main_v0}) (hR := by decide) (Y := V m) (hin := hin m hg) (hout := hout m hg)

/-- What the run leaves of the arguments. -/
theorem kept_args (r) (h : Pipeline.RoutedPost cfgs (dats m hg) 0 {main_v0} (V m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have rest : ∀ b, b ≠ main_v0 → b.isScoped = false → (∀ w : Fin 6, (spec0 w).arr.view.ref ≠ b) → r.2.mem ((c.tc : Thread nD τ).loc b) = V m c b :=
    fun b hne hs ha => (h c).2.2 b (Finset.mem_sdiff.mpr ⟨Pipeline.mem_restRefs_of b hs ha, fun hb => hne (Finset.mem_singleton.mp hb)⟩)
  have arr : ∀ w : Fin 6, (spec0 w).isOut = false → r.2.mem ((c.tc : Thread nD τ).loc (Pipeline.arrRef spec0 w)) = V m c (Pipeline.arrRef spec0 w) :=
    fun w hw => ((h c).1 w).trans (Dat.arrAt_in (dats m hg 0 c) w hw _)
  exact ⟨(rest main_arg0 (by decide) rfl (by decide)).trans (V_keep m c _ (by decide) (by decide) (by decide)),
    (arr 0 rfl).trans (V_keep m c _ (by decide) (by decide) (by decide)),
    (arr 1 rfl).trans (V_keep m c _ (by decide) (by decide) (by decide)),
    (arr 2 rfl).trans (V_keep m c _ (by decide) (by decide) (by decide)),
    (rest main_arg4 (by decide) rfl (by decide)).trans (V_keep m c _ (by decide) (by decide) (by decide)),
    (rest main_arg5 (by decide) rfl (by decide)).trans (V_keep m c _ (by decide) (by decide) (by decide))⟩

include hg in
/-- The whole program ends with its arguments unchanged and its counters at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  exact (θ_run defs _ _).mono (fun r h => ⟨kept_args m hg r h.1, h.2⟩) (run_main m ρ hg)

/-- and its result is what the output blocks make it. -/
theorem run_all : θ_run defs (onTc (τ := τ) (main (F := F))) (s₀ m ρ) (fun r =>
    (∀ c : Dev nD, r.2.mem ((c.tc : Thread nD τ).loc main_v3) = (dats m hg 0 c).arrAt 5 cfg0.N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => ⟨fun c => (h.1 c).1 5, kept_args m hg r h.1⟩) (run_main m ρ hg)

end Cert.Kernel3Ideal.Combine

end
-- ==== Proof.CombinePre.lean ====
/- What the precondition says of the table of the combining kernel. -/
module

public import proofs.«01_k».proof.Pre_rows_named
public import proofs.«01_k».proof.Proof.CombineFrame
public import Idealize.ShloMosaic.Lib.StableHlo.Predicate

@[expose] public section

noncomputable section

namespace Cert.Kernel3Ideal.Combine

open Cert.Kernel3Ideal.Gen
open Idealize.ShloMosaic Idealize.ShloMosaic.TcCoe

variable {F : FTy → Type} [FloatOps F] [Cert.Pre_rows_named.Facts]

theorem of_bits : ∀ p q : Bool, IntOp.andi (BitVec.ofBool p) (BitVec.ofBool q) = 1#1 → p = true ∧ q = true := by
  decide

theorem of_word (a : BitVec 32) (h : IntOp.andi (IntOp.cmpi .sge a 0#32) (IntOp.cmpi .slt a 147456#32) = 1#1) : a.toNat < 147456 := by
  obtain ⟨h1, h2⟩ := of_bits (decide ((0#32).toInt ≤ a.toInt)) (decide (a.toInt < (147456#32).toInt)) h
  have h1 := of_decide_eq_true h1
  have h2 := of_decide_eq_true h2
  rw [show (0#32).toInt = 0 by decide] at h1
  rw [show (147456#32).toInt = 147456 by decide] at h2
  rw [BitVec.toInt_eq_toNat_cond] at h1 h2
  split at h1 <;> omega

/-- The precondition, as a fact of the words. -/
theorem words (A0 : FVec F S147456x1024 .f32) (A1 : IVec S131072 32) (A2 : FVec F S32768x4 .f32) (A3 : FVec F S32768x1024 .f32)
    (A4 A5 : FVec F S1024 .f32) (h : Cert.Pre_rows_named.fn A0 A1 A2 A3 A4 A5 = fun _ => 1#1) (y : S131072.Idx) : (A1 y).toNat < 147456 := by
  have hx := fun x => congrFun h x
  simp only [Cert.Pre_rows_named.fn, andi, cmpi, constantI, broadcastInDim] at hx
  exact of_word _ (hx y)

/-- The table of a memory the precondition holds of. -/
theorem good (m : (ℓ : Loc nD τ sig) → Buf (Elt F) ℓ)
    (h : ∀ c : Dev nD, Cert.Pre_rows_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Good m := by
  have e1 : Tab m 0 = m (((0 : Dev nD).tc : Thread nD τ).loc main_arg1) := V_keep m 0 _ (by decide) (by decide) (by decide)
  exact ⟨fun y => by rw [e1]; exact words _ _ _ _ _ _ (h 0) y⟩

end Cert.Kernel3Ideal.Combine

end
-- ==== Proof.CombineMath.lean ====
/- What the combining kernel's body computes, entry by entry, over extended reals. -/
module

public import proofs.«01_k».proof.Proof.CombineBody
public import proofs.«01_k».proof.Proof.NormSpec
public import Idealize.ShloMosaic.Lib.Pointwise

@[expose] public section

set_option maxRecDepth 16384

noncomputable section

namespace Cert.Kernel3Ideal.Combine

open Cert.Kernel3Ideal.Gen Cert.NormSpec
open Idealize.ShloMosaic Idealize.ShloMosaic.TcCoe Idealize.ShloMosaic.Tactic

/-- The row of token `a` that plane `k` of the scratch buffer holds. -/
def spread (G : S4x2048x128.Idx → EReal) (k : Fin 4) (a : Fin 256) (j : Fin 1024) : EReal :=
  G (scr k ⟨8 * a.val + j.val / 128, by omega⟩ ⟨j.val % 128, by omega⟩)

theorem scr_at (G : S4x2048x128.Idx → EReal) (k : Fin 4) (a a' b b' : ℕ) (ha : a < 2048) (hb : b < 128) (ha' : a' < 2048) (hb' : b' < 128)
    (h : a = a') (h' : b = b') : G (scr k ⟨a, ha⟩ ⟨b, hb⟩) = G (scr k ⟨a', ha'⟩ ⟨b', hb'⟩) := by subst h; subst h'; rfl

theorem plane_apply (G : S4x2048x128.Idx → EReal) (k : Fin 4) (s : Fin 8) (a : Fin 256) (b : Fin 128) :
    plane (F := Ideal) G k s (ix2 a b) = G (scr k ⟨8 * a.val + s.val, by omega⟩ b) := rfl

variable (G : S4x2048x128.Idx → EReal) (k : Fin 4) (a : Fin 256) (j : Fin 1024)

theorem pay2_apply (v : Vec Ideal S256x4 .f32) : k0_pay2 v (ix2 a 0) = v (ix2 a 0) := by pointwise [k0_pay2]
theorem pay4_apply (v : Vec Ideal S256x4 .f32) : k0_pay4 v (ix2 a 0) = v (ix2 a 1) := by pointwise [k0_pay4]
theorem pay6_apply (v : Vec Ideal S256x4 .f32) : k0_pay6 v (ix2 a 0) = v (ix2 a 2) := by pointwise [k0_pay6]
theorem pay8_apply (v : Vec Ideal S256x4 .f32) : k0_pay8 v (ix2 a 0) = v (ix2 a 3) := by pointwise [k0_pay8]

theorem pay3_apply (v : FVec Ideal S256x1 .f32) :
    k0_pay3 v (plane G k 0) (plane G k 1) (plane G k 2) (plane G k 3) (plane G k 4) (plane G k 5) (plane G k 6) (plane G k 7) (ix2 a j)
      = v (ix2 a 0) * spread G k a j := by
  pointwise [k0_pay3, spread]
  refine congrArg (_ * ·) ?_
  simp only [plane_apply]
  split_ifs <;> first | exact scr_at G k _ _ _ _ _ _ _ _ (by simp; omega) (by omega) | (exfalso; omega)

theorem pay5_apply (u : FVec Ideal S256x1024 .f32) (v : FVec Ideal S256x1 .f32) :
    k0_pay5 u v (plane G k 0) (plane G k 1) (plane G k 2) (plane G k 3) (plane G k 4) (plane G k 5) (plane G k 6) (plane G k 7) (ix2 a j)
      = u (ix2 a j) + v (ix2 a 0) * spread G k a j := by
  rw [← pay3_apply]
  pointwise [k0_pay5, k0_pay3]

theorem pay7_apply (u : FVec Ideal S256x1024 .f32) (v : FVec Ideal S256x1 .f32) :
    k0_pay7 u v (plane G k 0) (plane G k 1) (plane G k 2) (plane G k 3) (plane G k 4) (plane G k 5) (plane G k 6) (plane G k 7) (ix2 a j)
      = u (ix2 a j) + v (ix2 a 0) * spread G k a j := by
  rw [← pay3_apply]
  pointwise [k0_pay7, k0_pay3]

theorem pay9_apply (u : FVec Ideal S256x1024 .f32) (v : FVec Ideal S256x1 .f32) (x : Vec Ideal S256x1024 .f32) :
    k0_pay9 u v (plane G k 0) (plane G k 1) (plane G k 2) (plane G k 3) (plane G k 4) (plane G k 5) (plane G k 6) (plane G k 7) x (ix2 a j)
      = alpha * x (ix2 a j) + (u (ix2 a j) + v (ix2 a 0) * spread G k a j) := by
  rw [← pay3_apply]
  pointwise [k0_pay9, k0_pay3, alpha]

theorem pay1_apply (z : FVec Ideal S256x1024 .f32) (g b : Vec Ideal S1x1024 .f32) :
    k0_pay1 z g b (ix2 a j) = norm (fun i => z (ix2 a i)) (g (ix2 0 j)) (b (ix2 0 j)) j := by
  pointwise [k0_pay1]
  rfl

/-- What the body writes, at any place of its block. -/
theorem combined_apply (x1 : Vec Ideal S256x4 .f32) (x2 : Vec Ideal S256x1024 .f32) (x3 x4 : Vec Ideal S1x1024 .f32) :
    combined (F := Ideal) x1 x2 x3 x4 G (ix2 a j)
      = norm (mixed4 (fun i => x2 (ix2 a i)) (fun k => x1 (ix2 a k)) (fun k i => spread G k a i)) (x3 (ix2 0 j)) (x4 (ix2 0 j)) j := by
  unfold combined
  rw [pay1_apply]
  congr 1
  funext i
  rw [pay9_apply, pay7_apply, pay5_apply, pay3_apply, pay2_apply, pay4_apply, pay6_apply, pay8_apply]
  unfold mixed4
  rw [Fin.sum_univ_four]
  simp only [mul_comm]

end Cert.Kernel3Ideal.Combine

end
-- ==== Proof.CombineValue.lean ====
/- The combining kernel's result, as an array. -/
module

public import proofs.«01_k».proof.Proof.CombineFrame
public import proofs.«01_k».proof.Proof.CombineMath
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Kernel3Ideal.Combine

open Cert.Kernel3Ideal Cert.Kernel3Ideal.Gen Cert.NormSpec
open Idealize.ShloMosaic Idealize.ShloMosaic.TcCoe Idealize.ShloMosaic.Tactic
open Idealize.ShloMosaic.Pipeline (Dat Cfg Window)

variable (m : (ℓ : Loc nD τ sig) → Buf (Elt Ideal) ℓ) (hg : Good m)

theorem V_v0 (c : Dev nD) (R : Fin 1179648) (l : Fin 128) :
    V m c main_v0 (ix2 R l) = m ((c.tc : Thread nD τ).loc main_arg0) (ix2 ⟨R.val / 8, by omega⟩ ⟨R.val % 8 * 128 + l.val, by omega⟩) := by
  unfold V
  after_reads_at

theorem V_v1 (c : Dev nD) (j : Fin 1024) : V m c main_v1 (ix2 0 j) = m ((c.tc : Thread nD τ).loc main_arg4) (ix1 j) := by
  unfold V
  after_reads_at

theorem V_v2 (c : Dev nD) (j : Fin 1024) : V m c main_v2 (ix2 0 j) = m ((c.tc : Thread nD τ).loc main_arg5) (ix1 j) := by
  unfold V
  after_reads_at

theorem V_arg1 (c : Dev nD) : V m c main_arg1 = m ((c.tc : Thread nD τ).loc main_arg1) := V_keep m c _ (by decide) (by decide) (by decide)
theorem V_arg2 (c : Dev nD) : V m c main_arg2 = m ((c.tc : Thread nD τ).loc main_arg2) := V_keep m c _ (by decide) (by decide) (by decide)
theorem V_arg3 (c : Dev nD) : V m c main_arg3 = m ((c.tc : Thread nD τ).loc main_arg3) := V_keep m c _ (by decide) (by decide) (by decide)

theorem idx : ∀ t : Fin cfg0.N, win0_0.index t = ![t.val] ∧ win0_1.index t = ![t.val, 0] ∧ win0_2.index t = ![t.val, 0] ∧ win0_3.index t = ![0, 0]
    ∧ win0_4.index t = ![0, 0] ∧ win0_5.index t = ![t.val, 0] := by
  decide +kernel

theorem named_eq (w : BitVec 32) (h : w.toNat < 147456) : (named w).val = w.toNat := by
  show min w.toInt.toNat 147455 = w.toNat
  rw [BitVec.toInt_eq_toNat_cond]; split <;> omega

/-- The result, as an array. -/
def result (c : Dev nD) : S32768x1024.Idx → EReal := fun y =>
  norm (mixed4 (fun j => m (c.tc.loc main_arg3) (ix2 (y 0) j)) (fun k => m (c.tc.loc main_arg2) (ix2 (y 0) k))
      (fun k j => m (c.tc.loc main_arg0) (ix2 (named (m (c.tc.loc main_arg1) (ix1 ⟨(y 0).val * 4 + k.val, by have h : (y 0).val < 32768 := (y 0).isLt; omega⟩))) j)))
    (m (c.tc.loc main_arg4) (ix1 (y 1))) (m (c.tc.loc main_arg5) (ix1 (y 1))) (y 1)

theorem norm_congr {z z' : Fin 1024 → EReal} {g g' b b' : EReal} {j j' : Fin 1024} (hz : ∀ i, z i = z' i) (hg : g = g') (hb : b = b') (hj : j = j') :
    norm z g b j = norm z' g' b' j' := by
  obtain rfl := funext hz; rw [hg, hb, hj]

theorem mixed4_congr {x x' : Fin 1024 → EReal} {g g' : Fin 4 → EReal} {y y' : Fin 4 → Fin 1024 → EReal} (hx : ∀ j, x j = x' j) (hg : ∀ k, g k = g' k)
    (hy : ∀ k j, y k j = y' k j) (j : Fin 1024) : mixed4 x g y j = mixed4 x' g' y' j := by
  obtain rfl := funext hx; obtain rfl := funext hg; obtain rfl := funext fun k => funext (hy k); rfl

/-! ### The blocks of the arrays -/

theorem t_lt (t : Fin cfg0.N) : t.val < 128 := t.isLt.trans_eq N_0

theorem row_lt (t : Fin cfg0.N) (p : Fin 256) : t.val * 256 + p.val < 32768 := by
  have ht := t_lt t
  omega

theorem word_at (t : Fin cfg0.N) (k : Fin 1024) : t.val * 1024 + k.val < 131072 := by
  have ht := t_lt t
  omega

theorem iblk0_apply (c : Dev nD) (t : Fin cfg0.N) (k : Fin 1024) : iblk m c 0 t (ix1 k) = m (c.tc.loc main_arg1) (ix1 ⟨t.val * 1024 + k.val, word_at t k⟩) := by
  refine Eq.trans ?_ (congrFun (V_arg1 m c) _)
  blk_ext [iblk, (idx t).1]

theorem iblk1_apply (c : Dev nD) (t : Fin cfg0.N) (p : Fin 256) (k : Fin 4) : iblk m c 1 t (ix2 p k) = m (c.tc.loc main_arg2) (ix2 ⟨t.val * 256 + p.val, row_lt t p⟩ k) := by
  refine Eq.trans ?_ (congrFun (V_arg2 m c) _)
  blk_ext [iblk, (idx t).2.1]

theorem iblk2_apply (c : Dev nD) (t : Fin cfg0.N) (p : Fin 256) (j : Fin 1024) : iblk m c 2 t (ix2 p j) = m (c.tc.loc main_arg3) (ix2 ⟨t.val * 256 + p.val, row_lt t p⟩ j) := by
  refine Eq.trans ?_ (congrFun (V_arg3 m c) _)
  blk_ext [iblk, (idx t).2.2.1]

theorem iblk3_apply (c : Dev nD) (t : Fin cfg0.N) (j : Fin 1024) : iblk m c 3 t (ix2 0 j) = m (c.tc.loc main_arg4) (ix1 j) := by
  refine Eq.trans ?_ (V_v1 m c j)
  blk_ext [iblk, (idx t).2.2.2.1]

theorem iblk4_apply (c : Dev nD) (t : Fin cfg0.N) (j : Fin 1024) : iblk m c 4 t (ix2 0 j) = m (c.tc.loc main_arg5) (ix1 j) := by
  refine Eq.trans ?_ (V_v2 m c j)
  blk_ext [iblk, (idx t).2.2.2.2.1]

/-- The row that plane `k` holds of a token is the row of the source its table's word names. -/
theorem spread_gathered (c : Dev nD) (t : Fin cfg0.N) (p : Fin 256) (k : Fin 4) (j : Fin 1024) (n : Fin 131072) (hn : n.val = (t.val * 256 + p.val) * 4 + k.val) :
    spread (gathered (F := Ideal) (rowAt m hg c t) (Src m c)) k p j = m (c.tc.loc main_arg0) (ix2 (named (m (c.tc.loc main_arg1) (ix1 n))) j) := by
  have hk : copyOf (scr k ⟨8 * p.val + j.val / 128, by omega⟩ ⟨j.val % 128, by omega⟩) = ⟨4 * p.val + k.val, by omega⟩ := by
    refine Fin.ext ?_
    show 4 * ((8 * p.val + j.val / 128) / 8) + k.val = 4 * p.val + k.val
    omega
  have hw : (iblk m c 0 t : Vec Ideal S1024 .i32) (pos ⟨4 * p.val + k.val, by omega⟩) = m (c.tc.loc main_arg1) (ix1 n) := by
    refine (congrArg (iblk m c 0 t : Vec Ideal S1024 .i32) (?_ : pos _ = ix1 ⟨4 * p.val + k.val, by omega⟩)).trans ((iblk0_apply m c t _).trans ?_)
    · funext a
      fin_cases a
      rfl
    · refine congrArg (fun n => m (c.tc.loc main_arg1) (ix1 n)) (Fin.ext ?_)
      show t.val * 1024 + (4 * p.val + k.val) = n.val
      omega
  have hr : (rowAt m hg c t ⟨4 * p.val + k.val, by omega⟩).val = (named (m (c.tc.loc main_arg1) (ix1 n))).val := by
    have hl := word_lt m hg c t ⟨4 * p.val + k.val, by omega⟩
    rw [hw] at hl
    rw [named_eq _ hl]
    show ((iblk m c 0 t : Vec Ideal S1024 .i32) (pos _)).toNat = _
    rw [hw]
  have hr' : (rowAt m hg c t (copyOf (scr k ⟨8 * p.val + j.val / 128, by omega⟩ ⟨j.val % 128, by omega⟩))).val = (named (m (c.tc.loc main_arg1) (ix1 n))).val := by
    rw [hk]; exact hr
  generalize hN : named (m (c.tc.loc main_arg1) (ix1 n)) = N at hr' ⊢
  have hlt := N.isLt
  have key : from' (rowAt m hg c t) (scr k ⟨8 * p.val + j.val / 128, by omega⟩ ⟨j.val % 128, by omega⟩)
      = ix2 ⟨8 * N.val + j.val / 128, by omega⟩ ⟨j.val % 128, by omega⟩ := by
    funext a
    refine Fin.ext ?_
    match a with
    | ⟨0, _⟩ =>
      show 8 * (rowAt m hg c t (copyOf _)).val + (8 * p.val + j.val / 128) % 8 = 8 * N.val + j.val / 128
      rw [hr']
      omega
    | ⟨1, _⟩ => rfl
  show V m c main_v0 (from' (rowAt m hg c t) _) = _
  rw [key, V_v0]
  refine congrArg (m (c.tc.loc main_arg0)) ?_
  funext a
  refine Fin.ext ?_
  match a with
  | ⟨0, _⟩ => show (8 * N.val + j.val / 128) / 8 = N.val; omega
  | ⟨1, _⟩ => show (8 * N.val + j.val / 128) % 8 * 128 + j.val % 128 = j.val; omega

/-- What a grid point writes, at any place of its block. -/
theorem outAt_apply (c : Dev nD) (t : Fin cfg0.N) (p : Fin 256) (q : Fin 1024) :
    outAt m hg c t (ix2 p q) = result m c (ix2 ⟨t.val * 256 + p.val, row_lt t p⟩ q) := by
  refine (combined_apply _ p q _ _ _ _).trans ?_
  exact norm_congr (mixed4_congr (iblk2_apply m c t p) (iblk1_apply m c t p) (fun k j => spread_gathered m hg c t p k j _ rfl))
    (iblk3_apply m c t q) (iblk4_apply m c t q) rfl

/-- The result array after the run. -/
theorem arr_eq (c : Dev nD) : (dats m hg 0 c).arrAt 5 cfg0.N = result m c := by
  refine (dats m hg 0 c).arrAt_eq_of_covers 5 _ (by decide +kernel) fun t hf (y : S256x1024.Idx) => ?_
  have hy : y = ix2 (y 0) (y 1) := by funext a; fin_cases a <;> rfl
  refine (congrFun (after_5 m hg c t) y).trans ((congrArg (outAt m hg c t) hy).trans ((outAt_apply m hg c t (y 0) (y 1)).trans ?_))
  blk_ext [(idx t).2.2.2.2.2]

end Cert.Kernel3Ideal.Combine

end
-- ==== Proof.CombineRef.lean ====
/- The combining reference's result read at an index. -/
module

public import proofs.«01_k».proof.Proof.Gen.Reference3Ideal.Run
public import proofs.«01_k».proof.Proof.NormSpec

@[expose] public section

set_option maxRecDepth 16384

noncomputable section

namespace Cert.Reference3Ideal.Combine

open Cert.NormSpec
open Cert.Reference3Ideal Cert.Reference3Ideal.Gen Cert.Reference3Ideal.Value
open Idealize.ShloMosaic Idealize.ShloMosaic.TcCoe Idealize.ShloMosaic.Tactic

/-- The rows a table names, entry by entry. -/
theorem gather_row (wf : GatherDims.WF S147456x1024 S131072x1 S131072x1024 [1] [0] [] [0] [] 1 ![1, 1024])
    (x : S147456x1024.Idx → EReal) (T : IVec S131072x1 32) (a : Fin 131072) (b : Fin 1024) :
    Host.gather { offsetDims := [1], collapsedSliceDims := [0], operandBatchingDims := [], startIndicesBatchingDims := [], startIndexMap := [0], indexVectorDim := 1, sliceSizes := ![1, 1024], wf := wf }
      x T (ix2 a b) = x (ix2 (named (T (ix2 a 0))) b) := by
  unfold Host.gather
  congr 1
  funext i
  refine Fin.ext ?_
  match i with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (BitVec.toInt (T _)).toNat 147455 = min (BitVec.toInt (T _)).toNat 147455
    congr 4
    funext q
    match q with
    | ⟨0, _⟩ => rfl
    | ⟨1, _⟩ => rfl
  | ⟨1, _⟩ =>
    show GatherDims.start _ _ _ 1 + GatherDims.batchCoord _ _ 1 + GatherDims.offCoord _ _ 1 = b.val
    rw [GatherDims.batchCoord_eq_zero _ _ _ List.not_mem_nil]
    unfold GatherDims.start
    rw [dif_neg (fun h => absurd (congrArg Fin.val (List.mem_singleton.mp h)) (by decide : (1 : ℕ) ≠ 0))]
    simp only [Nat.zero_add]
    rfl

theorem rows_apply (x : FVec Ideal S147456x1024 .f32) (T : IVec S131072x1 32) (a : Fin 131072) (b : Fin 1024) :
    Host.gather gather_S147456x1024_S131072x1_S131072x1024_1_0_n_n_0_1_11024 x T (ix2 a b) = x (ix2 (named (T (ix2 a 0))) b) :=
  gather_row _ x T a b

variable (m : (ℓ : Loc nD τ sig) → Buf (Elt Ideal) ℓ)

theorem res_apply (c : Dev nD) (p : Fin 32768) (q : Fin 1024) : (res_out0 (F := Ideal) m c : S32768x1024.Idx → EReal) (ix2 p q)
    = norm (mixed4 (fun j => m (c.tc.loc main_arg3) (ix2 p j)) (fun k => m (c.tc.loc main_arg2) (ix2 p k))
        (fun k j => m (c.tc.loc main_arg0) (ix2 (named (m (c.tc.loc main_arg1) (ix1 ⟨p.val * 4 + k.val, by omega⟩))) j)))
      (m (c.tc.loc main_arg4) (ix1 q)) (m (c.tc.loc main_arg5) (ix1 q)) q := by
  unfold res_out0 res_main_v32
  pointwise
  simp only [rows_apply]
  pointwise
  rfl

end Cert.Reference3Ideal.Combine

end
-- ==== Proof.Combine.lean ====
/- The combination of each token's four rows with the residual and the second layer norm: the five claims. -/
module

public import proofs.«01_k».proof.Defs
public import proofs.«01_k».proof.Proof.Gen.Kernel3
public import proofs.«01_k».proof.Proof.Gen.Kernel3.Skeleton
public import proofs.«01_k».proof.Proof.Gen.Pre_rows_named
public import proofs.«01_k».proof.Proof.CombinePre
public import proofs.«01_k».proof.Proof.CombineValue
public import proofs.«01_k».proof.Proof.CombineRef
public import Idealize.ShloMosaic.Lib.Quiescent

@[expose] public section

set_option maxRecDepth 16384

noncomputable section

namespace Cert.Combine

open Idealize.ShloMosaic Idealize.SL.Sem

theorem part1_eq : @Cert.Kernel3.k0_part1 Bits _ = @Cert.Kernel3Ideal.k0_part1 Bits _ := by
  rw [Cert.Kernel3.Gen.k0_part1_eq_skeleton, Cert.Kernel3Ideal.Gen.k0_part1_eq_skeleton]
  unfold Cert.Kernel3.Gen.k0_part1_skel Cert.Kernel3Ideal.Gen.k0_part1_skel
  rfl

theorem part2_eq : @Cert.Kernel3.k0_part2 Bits _ = @Cert.Kernel3Ideal.k0_part2 Bits _ := by
  rw [Cert.Kernel3.Gen.k0_part2_eq_skeleton, Cert.Kernel3Ideal.Gen.k0_part2_eq_skeleton]
  unfold Cert.Kernel3.Gen.k0_part2_skel Cert.Kernel3Ideal.Gen.k0_part2_skel
  rfl

theorem part3_eq : @Cert.Kernel3.k0_part3 Bits _ _ = @Cert.Kernel3Ideal.k0_part3 Bits _ _ := by
  rw [Cert.Kernel3.Gen.k0_part3_eq_skeleton, Cert.Kernel3Ideal.Gen.k0_part3_eq_skeleton]
  unfold Cert.Kernel3.Gen.k0_part3_skel Cert.Kernel3Ideal.Gen.k0_part3_skel
  rfl

theorem part4_eq : @Cert.Kernel3.k0_part4 Bits _ _ = @Cert.Kernel3Ideal.k0_part4 Bits _ _ := by
  rw [Cert.Kernel3.Gen.k0_part4_eq_skeleton, Cert.Kernel3Ideal.Gen.k0_part4_eq_skeleton]
  unfold Cert.Kernel3.Gen.k0_part4_skel Cert.Kernel3Ideal.Gen.k0_part4_skel
  rfl

theorem part5_eq : @Cert.Kernel3.k0_part5 Bits _ _ = @Cert.Kernel3Ideal.k0_part5 Bits _ _ := by
  rw [Cert.Kernel3.Gen.k0_part5_eq_skeleton, Cert.Kernel3Ideal.Gen.k0_part5_eq_skeleton]
  unfold Cert.Kernel3.Gen.k0_part5_skel Cert.Kernel3Ideal.Gen.k0_part5_skel
  rfl

theorem part6_eq : @Cert.Kernel3.k0_part6 Bits _ _ = @Cert.Kernel3Ideal.k0_part6 Bits _ _ := by
  rw [Cert.Kernel3.Gen.k0_part6_eq_skeleton, Cert.Kernel3Ideal.Gen.k0_part6_eq_skeleton]
  unfold Cert.Kernel3.Gen.k0_part6_skel Cert.Kernel3Ideal.Gen.k0_part6_skel
  rfl

/-- The body as printed is the body of the idealization: the two are one text. -/
theorem body_eq : @Cert.Kernel3.cc0__moe_combine_kernel Bits _ _ = @Cert.Kernel3Ideal.cc0__moe_combine_kernel Bits _ _ := by
  rw [Cert.Kernel3.Gen.cc0__moe_combine_kernel_eq_skeleton, Cert.Kernel3Ideal.Gen.cc0__moe_combine_kernel_eq_skeleton]
  unfold Cert.Kernel3.Gen.cc0__moe_combine_kernel_skel Cert.Kernel3Ideal.Gen.cc0__moe_combine_kernel_skel
  rfl

/-- and so are the two tables of bodies. -/
theorem defs_eq : (Cert.Kernel3.defs₀ (F := Bits)) = Cert.Kernel3Ideal.defs₀ (F := Bits) := by
  unfold Cert.Kernel3.defs₀ Cert.Kernel3Ideal.defs₀
  refine congrArg Defs.onTc ?_
  funext l x
  match l with
  | 0 =>
    obtain ⟨t, s⟩ := x
    dsimp only
    exact congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _

/-- The kernel as printed runs as its idealization does, read at the machine's floats. -/
theorem frame_kernel : Cert.quiescent_Kernel3 := fun m ρ hp => by
  have h := Cert.Kernel3Ideal.Combine.frame (F := Bits) m ρ (Cert.Kernel3Ideal.Combine.good (F := Bits) m hp)
  unfold Cert.Kernel3Ideal.defs at h
  rw [← defs_eq] at h
  exact h

theorem frame_ideal : Cert.quiescent_Kernel3Ideal := fun m ρ hp =>
  Cert.Kernel3Ideal.Combine.frame m ρ (Cert.Kernel3Ideal.Combine.good m hp)

theorem frame_reference : Cert.quiescent_Reference3Ideal := fun m ρ _ =>
  (θ_run _ _ _).mono (fun r h => ⟨fun c => (h c).2, sem_eq_zero_of_no_sems rfl r.2⟩) (Cert.Reference3Ideal.Value.run m ρ)

/-- The kernel's result and the reference's are the same array. -/
theorem same : Cert.algebraic_Kernel3Ideal_Reference3Ideal := fun m ρ m' ρ' hp ha => by
  have hg := Cert.Kernel3Ideal.Combine.good m hp
  refine ⟨fun c => Cert.Kernel3Ideal.Combine.result m c, ?_, ?_⟩
  · refine (θ_run _ _ _).mono (fun r h c => ?_) (Cert.Kernel3Ideal.Combine.run_all m ρ hg)
    exact ⟨(h.1 c).trans (Cert.Kernel3Ideal.Combine.arr_eq m hg c), h.2 c⟩
  · refine (θ_run _ _ _).mono (fun r h c => ?_) (Cert.Reference3Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1, h2, h3, h4, h5⟩ := ha c
    refine (congrArg _ hy).trans ((Cert.Reference3Ideal.Combine.res_apply m' c (y 0) (y 1)).trans ?_)
    rw [h0, h1, h2, h3, h4, h5]
    rfl

end Cert.Combine

end
-- ==== Proof.ProjSpec.lean ====
/- Sums of products by a constant factor, and the columns of the projections' results, over extended reals. -/
module

public import Idealize.ShloMosaic.Lib.Pointwise
public import Idealize.ShloMosaic.Lib.IdealHost

@[expose] public section

noncomputable section

namespace Cert.ProjSpec

open Idealize.ShloMosaic

/-- The queries' scale where a head has 64 columns. -/
def eighth : EReal := Ideal.ofBits FTy.f32 1040187392#32

theorem eighth_eq : eighth = ((1 / 8 : ℝ) : EReal) := by
  unfold eighth
  simp [Ideal.ofBits, Ideal.ieee, -EReal.coe_mul]
  norm_num

theorem eighth_nonneg : 0 ≤ eighth := by
  rw [eighth_eq]; exact EReal.coe_nonneg.mpr (by norm_num)

theorem eighth_ne_top : eighth ≠ ⊤ := by
  rw [eighth_eq]; exact EReal.coe_ne_top _

/-- A factor that is a number of zero or more comes out of a sum. -/
theorem sum_mul_right {n : ℕ} (f : Fin n → EReal) (s : EReal) (h0 : 0 ≤ s) (h1 : s ≠ ⊤) : ∑ i, f i * s = (∑ i, f i) * s := by
  induction n with
  | zero => simp
  | succ n ih => rw [Fin.sum_univ_succ, Fin.sum_univ_succ, ih, EReal.right_distrib_of_nonneg_of_ne_top h0 h1]

/-- A product with scaled weights is the product, scaled. -/
theorem sum_scaled {n : ℕ} (x w : Fin n → EReal) (s : EReal) (h0 : 0 ≤ s) (h1 : s ≠ ⊤) : ∑ i, x i * (w i * s) = (∑ i, x i * w i) * s := by
  rw [← sum_mul_right _ s h0 h1]
  exact Finset.sum_congr rfl fun i _ => (mul_assoc _ _ _).symm

/-- An entry of a product: a row against a column. -/
def entry (x w : Fin 1024 → EReal) : EReal := ∑ k, x k * w k

theorem entry_congr {x x' w w' : Fin 1024 → EReal} (hx : ∀ k, x k = x' k) (hw : ∀ k, w k = w' k) : entry x w = entry x' w' := by
  obtain rfl := funext hx; obtain rfl := funext hw; rfl

theorem entry_comm (x w : Fin 1024 → EReal) : entry x w = entry w x := Finset.sum_congr rfl fun _ _ => mul_comm _ _

/-- A product with weights of zero is zero. -/
theorem sum_zero {n : ℕ} (x : Fin n → EReal) : ∑ i, x i * 0 = 0 := by simp

/-- The columns that the sparse attention's projection keeps of a row `h` of the whole projection: queries by their
    scale, keys, each index head's 64 columns by their scale and 64 of zeros, the 64 index keys, and zeros. -/
def sparse (h : Fin 6468 → EReal) (j : Fin 2048) : EReal :=
  if h1 : j.val < 512 then h ⟨j.val, by omega⟩ * eighth
  else if h2 : j.val < 1024 then h ⟨j.val, by omega⟩
  else if h3 : j.val < 1536 then
    if h4 : j.val % 128 < 64 then h ⟨1536 + (j.val - 1024) / 128 * 64 + j.val % 128, by omega⟩ * eighth else 0
  else if h5 : j.val < 1600 then h ⟨256 + j.val, by omega⟩
  else 0

/-- The columns of a product are the product with the columns of the weights. -/
theorem sparse_sum (x : Fin 1024 → EReal) (w : Fin 1024 → Fin 6468 → EReal) (j : Fin 2048) :
    ∑ k, x k * sparse (w k) j = sparse (fun col => ∑ k, x k * w k col) j := by
  unfold sparse
  split_ifs
  · exact sum_scaled _ _ _ eighth_nonneg eighth_ne_top
  · rfl
  · exact sum_scaled _ _ _ eighth_nonneg eighth_ne_top
  · exact sum_zero _
  · rfl
  · exact sum_zero _

/-! Its columns, one range at a time. -/

section Sparse

variable (h : Fin 6468 → EReal) (j : Fin 2048)

theorem sparse_query (h1 : j.val < 512) (c : Fin 6468) (hc : c.val = j.val) : sparse h j = h c * eighth := by
  rw [show c = ⟨j.val, by omega⟩ from Fin.ext hc]; unfold sparse; rw [dif_pos h1]

theorem sparse_key (h0 : 512 ≤ j.val) (h1 : j.val < 1024) (c : Fin 6468) (hc : c.val = j.val) : sparse h j = h c := by
  rw [show c = ⟨j.val, by omega⟩ from Fin.ext hc]; unfold sparse; rw [dif_neg (by omega), dif_pos h1]

theorem sparse_index (h0 : 1024 ≤ j.val) (h1 : j.val < 1536) (h2 : j.val % 128 < 64) (c : Fin 6468)
    (hc : c.val = 1536 + (j.val - 1024) / 128 * 64 + j.val % 128) : sparse h j = h c * eighth := by
  rw [show c = ⟨1536 + (j.val - 1024) / 128 * 64 + j.val % 128, by omega⟩ from Fin.ext hc]; unfold sparse; rw [dif_neg (by omega), dif_neg (by omega), dif_pos h1, dif_pos h2]

theorem sparse_index_zero (h0 : 1024 ≤ j.val) (h1 : j.val < 1536) (h2 : ¬j.val % 128 < 64) : sparse h j = 0 := by
  unfold sparse; rw [dif_neg (by omega), dif_neg (by omega), dif_pos h1, dif_neg h2]

theorem sparse_index_key (h0 : 1536 ≤ j.val) (h1 : j.val < 1600) (c : Fin 6468) (hc : c.val = 256 + j.val) : sparse h j = h c := by
  rw [show c = ⟨256 + j.val, by omega⟩ from Fin.ext hc]; unfold sparse; rw [dif_neg (by omega), dif_neg (by omega), dif_neg (by omega), dif_pos h1]

theorem sparse_zero (h0 : 1600 ≤ j.val) : sparse h j = 0 := by
  unfold sparse; rw [dif_neg (by omega), dif_neg (by omega), dif_neg (by omega), dif_neg (by omega)]

end Sparse

/-! ## The dilated attention's columns -/

/-- The columns that the projection for the group `g` of the dilated attention keeps of a row `h` of the whole
    projection: queries by their scale, keys, values. -/
def dilated (g : Fin 3) (h : Fin 6468 → EReal) (j : Fin 1536) : EReal :=
  if h1 : j.val < 512 then h ⟨1860 + g.val * 512 + j.val, by omega⟩ * eighth
  else h ⟨1860 + j.val / 512 * 1536 + g.val * 512 + j.val % 512, by omega⟩

theorem dilated_sum (g : Fin 3) (x : Fin 1024 → EReal) (w : Fin 1024 → Fin 6468 → EReal) (j : Fin 1536) :
    ∑ k, x k * dilated g (w k) j = dilated g (fun col => ∑ k, x k * w k col) j := by
  unfold dilated
  split_ifs
  · exact sum_scaled _ _ _ eighth_nonneg eighth_ne_top
  · rfl

theorem dilated_query (g : Fin 3) (h : Fin 6468 → EReal) (j : Fin 1536) (h1 : j.val < 512) (c : Fin 6468) (hc : c.val = 1860 + g.val * 512 + j.val) :
    dilated g h j = h c * eighth := by
  rw [show c = ⟨1860 + g.val * 512 + j.val, by omega⟩ from Fin.ext hc]; unfold dilated; rw [dif_pos h1]

theorem dilated_rest (g : Fin 3) (h : Fin 6468 → EReal) (j : Fin 1536) (h1 : 512 ≤ j.val) (c : Fin 6468)
    (hc : c.val = 1860 + j.val / 512 * 1536 + g.val * 512 + j.val % 512) : dilated g h j = h c := by
  rw [show c = ⟨1860 + j.val / 512 * 1536 + g.val * 512 + j.val % 512, by omega⟩ from Fin.ext hc]; unfold dilated; rw [dif_neg (by omega)]

/-! ## The gated linear attention's columns -/

/-- The columns that the gated linear attention's projection keeps of a row `h` of the whole projection: queries by their
    scale, keys, values, output gates, decay gates, and zeros. -/
def gated (h : Fin 2064 → EReal) (j : Fin 2048) : EReal :=
  if h1 : j.val < 256 then h ⟨j.val, by omega⟩ * eighth
  else if h2 : j.val < 1552 then h ⟨j.val, by omega⟩
  else 0

theorem gated_sum (x : Fin 1024 → EReal) (w : Fin 1024 → Fin 2064 → EReal) (j : Fin 2048) :
    ∑ k, x k * gated (w k) j = gated (fun col => ∑ k, x k * w k col) j := by
  unfold gated
  split_ifs
  · exact sum_scaled _ _ _ eighth_nonneg eighth_ne_top
  · rfl
  · exact sum_zero _

theorem gated_query (h : Fin 2064 → EReal) (j : Fin 2048) (h1 : j.val < 256) (c : Fin 2064) (hc : c.val = j.val) : gated h j = h c * eighth := by
  rw [show c = ⟨j.val, by omega⟩ from Fin.ext hc]; unfold gated; rw [dif_pos h1]

theorem gated_rest (h : Fin 2064 → EReal) (j : Fin 2048) (h0 : 256 ≤ j.val) (h1 : j.val < 1552) (c : Fin 2064) (hc : c.val = j.val) : gated h j = h c := by
  rw [show c = ⟨j.val, by omega⟩ from Fin.ext hc]; unfold gated; rw [dif_neg (by omega), dif_pos h1]

theorem gated_zero (h : Fin 2064 → EReal) (j : Fin 2048) (h0 : 1552 ≤ j.val) : gated h j = 0 := by
  unfold gated; rw [dif_neg (by omega), dif_neg (by omega)]

/-- The integer zero is the number zero. -/
theorem int_zero : (FloatOps.sitofp (F := Ideal) FTy.f32 0#32 : EReal) = 0 := by
  show ((((0#32 : BitVec 32).toInt : ℝ)) : EReal) = 0
  norm_num

end Cert.ProjSpec

end
-- ==== Proof.SparseProj.lean ====
/- The projection of the sparse attention in an odd layer: the five claims. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference4Ideal.SparseProj

open Cert.Reference4Ideal Cert.Reference4Ideal.Gen Cert.Reference4Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's result from the whole projection `h`. -/
def laid (h : FVec Ideal S32768x6468 .f32) : FVec Ideal S32768x2048 .bf16 :=
  truncf .bf16 ((concatenate S32768x2048 1 [⟨S32768x512, ((mulf (extractStridedSlice S32768x512 ![0, 0] h slices_S32768x6468_S32768x512_0_0) (broadcastInDim S32768x512 ![] bcast_S_S32768x512 (constant (F := Ideal) S_ .f32 0x3E000000#32))) : (⟨S32768x512, .f32⟩ : BufTy).Contents (Elt Ideal))⟩, ⟨S32768x512, ((extractStridedSlice S32768x512 ![0, 512] h slices_S32768x6468_S32768x512_0_512) : (⟨S32768x512, .f32⟩ : BufTy).Contents (Elt Ideal))⟩, ⟨S32768x512, ((shapeCast _ (pad S32768x4x128 ![0, 0, 0] ![0, 0, 64] ![0, 0, 0] (shapeCast _ (mulf (extractStridedSlice S32768x256 ![0, 1536] h slices_S32768x6468_S32768x256_0_1536) (broadcastInDim S32768x256 ![] bcast_S_S32768x256 (constant (F := Ideal) S_ .f32 0x3E000000#32))) shapeCasts_S32768x256_S32768x4x64) (sitofp (F := Ideal) .f32 (constantI S_ 32 0#32)) pads_S32768x4x64_S32768x4x128_000_000_0640 h_S_) shapeCasts_S32768x4x128_S32768x512) : (⟨S32768x512, .f32⟩ : BufTy).Contents (Elt Ideal))⟩, ⟨S32768x512, ((pad S32768x512 ![0, 0] ![0, 448] ![0, 0] (extractStridedSlice S32768x64 ![0, 1792] h slices_S32768x6468_S32768x64_0_1792) (sitofp (F := Ideal) .f32 (constantI S_ 32 0#32)) pads_S32768x64_S32768x512_000_04480 h_S_) : (⟨S32768x512, .f32⟩ : BufTy).Contents (Elt Ideal))⟩] concatenates_S32768x512_S32768x512_S32768x512_S32768x512_S32768x2048_d1 : (⟨S32768x2048, .f32⟩ : BufTy).Contents (Elt Ideal))) bitsLt_bf16_f32

set_option maxHeartbeats 4000000 in
theorem laid_apply (h : FVec Ideal S32768x6468 .f32) (p : Fin 32768) (j : Fin 2048) : laid h (ix2 p j) = sparse (fun col => h (ix2 p col)) j := by
  unfold laid
  pointwise
  have hj := j.isLt
  split_ifs
  all_goals first
    | (have h1 : j.val < 512 := by omega
       exact (sparse_query (fun col => h (ix2 p col)) j h1 ⟨j.val, by omega⟩ rfl).symm)
    | (have h1 : 512 ≤ j.val ∧ j.val < 1024 := by omega
       exact (sparse_key (fun col => h (ix2 p col)) j h1.1 h1.2 ⟨512 + (j.val - 512), by omega⟩ (show 512 + (j.val - 512) = _ by omega)).symm)
    | (have h1 : 1024 ≤ j.val ∧ j.val < 1536 ∧ j.val % 128 < 64 ∧ 0 ≤ j.val := by omega
       exact (sparse_index (fun col => h (ix2 p col)) j h1.1 h1.2.1 h1.2.2.1 ⟨1536 + ((j.val - 512 - 512) / 128 * 64 + (j.val - 512 - 512) % 128), by omega⟩ (show 1536 + ((j.val - 512 - 512) / 128 * 64 + (j.val - 512 - 512) % 128) = _ by omega)).symm)
    | (have h1 : 1536 ≤ j.val ∧ j.val < 1600 := by omega
       exact (sparse_index_key (fun col => h (ix2 p col)) j h1.1 h1.2 ⟨1792 + (j.val - 512 - 512 - 512), by omega⟩ (show 1792 + (j.val - 512 - 512 - 512) = _ by omega)).symm)
    | (have h1 : 1024 ≤ j.val ∧ j.val < 1536 ∧ ¬ j.val % 128 < 64 := by omega
       exact int_zero.trans (sparse_index_zero (fun col => h (ix2 p col)) j h1.1 h1.2.1 h1.2.2).symm)
    | (have h1 : 1600 ≤ j.val := by omega
       exact int_zero.trans (sparse_zero (fun col => h (ix2 p col)) j h1).symm)

end Cert.Reference4Ideal.SparseProj

/-! ## The kernel's entries -/

namespace Cert.Kernel4Ideal.SparseProj

open Cert.Kernel4Ideal Cert.Kernel4Ideal.Gen Cert.Kernel4Ideal.Value

variable (m : (ℓ : Loc nD τ sig) → Buf (Elt Ideal) ℓ)

theorem pay_apply (x0 x1) (p : Fin 1024) (q : Fin 1024) : k0_pay1 (F := Ideal) x0 x1 (ix2 p q) = entry (fun k => x0 (ix2 p k)) (fun k => x1 (ix2 k q)) := by
  pointwise [k0_pay1]
  rfl

set_option maxHeartbeats 4000000 in
/-- The weights, a column of them. -/
theorem V_w (c : Dev nD) (d : Fin 1024) (j : Fin 2048) : V m c main_v64 (ix2 d j) = sparse (fun col => m (c.tc.loc main_arg1) (ix2 d col)) j := by
  unfold V
  after_reads_at
  have hj := j.isLt
  split_ifs
  all_goals first | (exfalso; omega) | skip
  all_goals after_reads_at
  all_goals try split_ifs
  all_goals first | (exfalso; omega) | skip
  all_goals try after_reads_at
  all_goals try split_ifs
  all_goals first
    | (have h1 : j.val < 512 := by omega
       exact (sparse_query (fun col => m (c.tc.loc main_arg1) (ix2 d col)) j h1 ⟨j.val, by omega⟩ rfl).symm)
    | (have h1 : 512 ≤ j.val ∧ j.val < 1024 := by omega
       exact (sparse_key (fun col => m (c.tc.loc main_arg1) (ix2 d col)) j h1.1 h1.2 ⟨512 + (j.val - 512), by omega⟩ (show 512 + (j.val - 512) = _ by omega)).symm)
    | (have h1 : 1024 ≤ j.val ∧ j.val < 1536 ∧ j.val % 128 < 64 ∧ j.val < 1152 := by omega
       exact (sparse_index (fun col => m (c.tc.loc main_arg1) (ix2 d col)) j h1.1 h1.2.1 h1.2.2.1 ⟨1536 + (j.val - 512 - 512), by omega⟩ (show 1536 + (j.val - 512 - 512) = _ by omega)).symm)
    | (have h1 : 1024 ≤ j.val ∧ j.val < 1536 ∧ j.val % 128 < 64 ∧ 1152 ≤ j.val ∧ j.val < 1280 := by omega
       exact (sparse_index (fun col => m (c.tc.loc main_arg1) (ix2 d col)) j h1.1 h1.2.1 h1.2.2.1 ⟨1536 + (64 + (j.val - 512 - 512 - 128)), by omega⟩ (show 1536 + (64 + (j.val - 512 - 512 - 128)) = _ by omega)).symm)
    | (have h1 : 1024 ≤ j.val ∧ j.val < 1536 ∧ j.val % 128 < 64 ∧ 1280 ≤ j.val ∧ j.val < 1408 := by omega
       exact (sparse_index (fun col => m (c.tc.loc main_arg1) (ix2 d col)) j h1.1 h1.2.1 h1.2.2.1 ⟨1536 + (128 + (j.val - 512 - 512 - 128 - 128)), by omega⟩ (show 1536 + (128 + (j.val - 512 - 512 - 128 - 128)) = _ by omega)).symm)
    | (have h1 : 1024 ≤ j.val ∧ j.val < 1536 ∧ j.val % 128 < 64 ∧ 1408 ≤ j.val ∧ j.val < 1536 := by omega
       exact (sparse_index (fun col => m (c.tc.loc main_arg1) (ix2 d col)) j h1.1 h1.2.1 h1.2.2.1 ⟨1536 + (192 + (j.val - 512 - 512 - 128 - 128 - 128)), by omega⟩ (show 1536 + (192 + (j.val - 512 - 512 - 128 - 128 - 128)) = _ by omega)).symm)
    | (have h1 : 1536 ≤ j.val ∧ j.val < 1600 := by omega
       exact (sparse_index_key (fun col => m (c.tc.loc main_arg1) (ix2 d col)) j h1.1 h1.2 ⟨1792 + (j.val - 512 - 512 - 512), by omega⟩ (show 1792 + (j.val - 512 - 512 - 512) = _ by omega)).symm)
    | (have h1 : 1024 ≤ j.val ∧ j.val < 1536 ∧ ¬ j.val % 128 < 64 := by omega
       exact (sparse_index_zero (fun col => m (c.tc.loc main_arg1) (ix2 d col)) j h1.1 h1.2.1 h1.2.2).symm)
    | (have h1 : 1600 ≤ j.val := by omega
       exact (sparse_zero (fun col => m (c.tc.loc main_arg1) (ix2 d col)) j h1).symm)

theorem idx : ∀ t : Fin cfg0.N, win0_0.index t = ![t.val / 2, 0] ∧ win0_1.index t = ![0, t.val % 2] ∧ win0_2.index t = ![t.val / 2, t.val % 2] := by
  decide +kernel

/-- The result, as an array. -/
def result (c : Dev nD) : S32768x2048.Idx → EReal := fun y =>
  sparse (fun col => entry (fun k => m (c.tc.loc main_arg0) (ix2 (y 0) k)) (fun k => m (c.tc.loc main_arg1) (ix2 k col))) (y 1)

theorem row_lt (t : Fin cfg0.N) (p : Fin 1024) : t.val / 2 * 1024 + p.val < 32768 := by
  have ht : t.val < 64 := t.isLt.trans_eq N_0
  omega

theorem col_lt (t : Fin cfg0.N) (q : Fin 1024) : t.val % 2 * 1024 + q.val < 2048 := by
  omega

theorem iblk0_apply (c : Dev nD) (t : Fin cfg0.N) (p k : Fin 1024) : iblk m c 0 t (ix2 p k) = m (c.tc.loc main_arg0) (ix2 ⟨t.val / 2 * 1024 + p.val, row_lt t p⟩ k) := by
  refine Eq.trans ?_ (congrFun (V_main_arg0 m c) _)
  blk_ext [iblk, (idx t).1]

theorem iblk1_apply (c : Dev nD) (t : Fin cfg0.N) (k : Fin 1024) (q : Fin 1024) : iblk m c 1 t (ix2 k q)
    = sparse (fun col => m (c.tc.loc main_arg1) (ix2 k col)) ⟨t.val % 2 * 1024 + q.val, col_lt t q⟩ := by
  refine Eq.trans ?_ (V_w m c k _)
  blk_ext [iblk, (idx t).2.1]

/-- What a grid point writes, at any place of its block. -/
theorem pay_result (c : Dev nD) (t : Fin cfg0.N) (p : Fin 1024) (q : Fin 1024) :
    k0_pay1 (iblk m c 0 t) (iblk m c 1 t) (ix2 p q) = result m c (ix2 ⟨t.val / 2 * 1024 + p.val, row_lt t p⟩ ⟨t.val % 2 * 1024 + q.val, col_lt t q⟩) := by
  refine (pay_apply _ _ p q).trans ((entry_congr (fun k => iblk0_apply m c t p k) (fun k => iblk1_apply m c t k q)).trans ?_)
  exact sparse_sum _ _ _

/-- The result array after the run. -/
theorem arr_eq (c : Dev nD) : (dats m 0 c).arrAt 2 (cfgs 0).N = result m c := by
  refine (dats m 0 c).arrAt_eq_of_covers 2 _ (by decide +kernel) fun t hf (y : S1024x1024.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel4Ideal.SparseProj

/-! ## The claims -/

namespace Cert.SparseProj

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run _ _ _).mono (fun r h => ⟨fun c => (h c).2, sem_eq_zero_of_no_sems rfl r.2⟩) (Cert.Reference4Ideal.Value.run m ρ)

/-- The kernel's result and the reference's are the same array. -/
theorem same : Cert.algebraic_Kernel4Ideal_Reference4Ideal := fun m ρ m' ρ' _ ha => by
  refine ⟨fun c => Cert.Kernel4Ideal.SparseProj.result m c, ?_, ?_⟩
  · refine (θ_run _ _ _).mono (fun r h c => ?_) (Cert.Kernel4Ideal.Value.run_blocks m ρ)
    exact ⟨(h c).1.trans (Cert.Kernel4Ideal.SparseProj.arr_eq m c), (h c).2⟩
  · refine (θ_run _ _ _).mono (fun r h c => ?_) (Cert.Reference4Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference4Ideal.SparseProj.laid_apply _ (y 0) (y 1)).trans ?_)
    refine (congrArg (fun f => sparse f (y 1)) (funext fun col => Cert.Reference4Ideal.SparseProj.dot_apply _ _ (y 0) col)).trans ?_
    rw [h0, h1]
    rfl

end Cert.SparseProj

end
-- ==== Proof.DilProj1.lean ====
/- The projection of the dilated attention's group of dilation 1 in an odd layer: the five claims. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference5Ideal.DilProj1

open Cert.Reference5Ideal Cert.Reference5Ideal.Gen Cert.Reference5Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's result from the whole projection `h`. -/
def laid (h : FVec Ideal S32768x6468 .f32) : FVec Ideal S32768x1536 .bf16 :=
  truncf .bf16 ((concatenate S32768x1536 1 [⟨S32768x512, ((mulf (shapeCast _ (extractStridedSlice S32768x1x1x512 ![0, 0, 0, 0] (shapeCast _ (extractStridedSlice S32768x4608 ![0, 1860] h slices_S32768x6468_S32768x4608_0_1860) shapeCasts_S32768x4608_S32768x3x3x512) slices_S32768x3x3x512_S32768x1x1x512_0_0_0_0) shapeCasts_S32768x1x1x512_S32768x512) (broadcastInDim S32768x512 ![] bcast_S_S32768x512 (constant (F := Ideal) S_ .f32 0x3E000000#32))) : (⟨S32768x512, .f32⟩ : BufTy).Contents (Elt Ideal))⟩, ⟨S32768x512, ((shapeCast _ (extractStridedSlice S32768x1x1x512 ![0, 1, 0, 0] (shapeCast _ (extractStridedSlice S32768x4608 ![0, 1860] h slices_S32768x6468_S32768x4608_0_1860) shapeCasts_S32768x4608_S32768x3x3x512) slices_S32768x3x3x512_S32768x1x1x512_0_1_0_0) shapeCasts_S32768x1x1x512_S32768x512) : (⟨S32768x512, .f32⟩ : BufTy).Contents (Elt Ideal))⟩, ⟨S32768x512, ((shapeCast _ (extractStridedSlice S32768x1x1x512 ![0, 2, 0, 0] (shapeCast _ (extractStridedSlice S32768x4608 ![0, 1860] h slices_S32768x6468_S32768x4608_0_1860) shapeCasts_S32768x4608_S32768x3x3x512) slices_S32768x3x3x512_S32768x1x1x512_0_2_0_0) shapeCasts_S32768x1x1x512_S32768x512) : (⟨S32768x512, .f32⟩ : BufTy).Contents (Elt Ideal))⟩] concatenates_S32768x512_S32768x512_S32768x512_S32768x1536_d1 : (⟨S32768x1536, .f32⟩ : BufTy).Contents (Elt Ideal))) bitsLt_bf16_f32

set_option maxHeartbeats 4000000 in
theorem laid_apply (h : FVec Ideal S32768x6468 .f32) (p : Fin 32768) (j : Fin 1536) : laid h (ix2 p j) = dilated 0 (fun col => h (ix2 p col)) j := by
  unfold laid
  pointwise
  have hj := j.isLt
  split_ifs
  all_goals first
    | (have h1 : j.val < 512 := by omega
       exact (dilated_query 0 (fun col => h (ix2 p col)) j h1 _ (by dsimp only; omega)).symm)
    | (have h1 : 512 ≤ j.val := by omega
       exact (dilated_rest 0 (fun col => h (ix2 p col)) j h1 _ (by dsimp only; omega)).symm)

end Cert.Reference5Ideal.DilProj1

/-! ## The kernel's entries -/

namespace Cert.Kernel5Ideal.DilProj1

open Cert.Kernel5Ideal Cert.Kernel5Ideal.Gen Cert.Kernel5Ideal.Value

variable (m : (ℓ : Loc nD τ sig) → Buf (Elt Ideal) ℓ)

theorem pay_apply (x0 x1) (p : Fin 1024) (q : Fin 1536) : k0_pay1 (F := Ideal) x0 x1 (ix2 p q) = entry (fun k => x0 (ix2 p k)) (fun k => x1 (ix2 k q)) := by
  pointwise [k0_pay1]
  rfl

set_option maxHeartbeats 4000000 in
/-- The weights, a column of them. -/
theorem V_w (c : Dev nD) (d : Fin 1024) (j : Fin 1536) : V m c main_v38 (ix2 d j) = dilated 0 (fun col => m (c.tc.loc main_arg1) (ix2 d col)) j := by
  unfold V
  after_reads_at
  have hj := j.isLt
  split_ifs
  all_goals first | (exfalso; omega) | skip
  all_goals after_reads_at
  all_goals try split_ifs
  all_goals first | (exfalso; omega) | skip
  all_goals try after_reads_at
  all_goals try split_ifs
  all_goals first
    | (have h1 : j.val < 512 := by omega
       exact (dilated_query 0 (fun col => m (c.tc.loc main_arg1) (ix2 d col)) j h1 _ (by dsimp only; omega)).symm)
    | (have h1 : 512 ≤ j.val := by omega
       exact (dilated_rest 0 (fun col => m (c.tc.loc main_arg1) (ix2 d col)) j h1 _ (by dsimp only; omega)).symm)

theorem idx : ∀ t : Fin cfg0.N, win0_0.index t = ![t.val, 0] ∧ win0_1.index t = ![0, 0] ∧ win0_2.index t = ![t.val, 0] := by
  decide +kernel

/-- The result, as an array. -/
def result (c : Dev nD) : S32768x1536.Idx → EReal := fun y =>
  dilated 0 (fun col => entry (fun k => m (c.tc.loc main_arg0) (ix2 (y 0) k)) (fun k => m (c.tc.loc main_arg1) (ix2 k col))) (y 1)

theorem row_lt (t : Fin cfg0.N) (p : Fin 1024) : t.val * 1024 + p.val < 32768 := by
  have ht : t.val < 32 := t.isLt.trans_eq N_0
  omega

theorem iblk0_apply (c : Dev nD) (t : Fin cfg0.N) (p k : Fin 1024) : iblk m c 0 t (ix2 p k) = m (c.tc.loc main_arg0) (ix2 ⟨t.val * 1024 + p.val, row_lt t p⟩ k) := by
  refine Eq.trans ?_ (congrFun (V_main_arg0 m c) _)
  blk_ext [iblk, (idx t).1]

theorem iblk1_apply (c : Dev nD) (t : Fin cfg0.N) (k : Fin 1024) (q : Fin 1536) : iblk m c 1 t (ix2 k q)
    = dilated 0 (fun col => m (c.tc.loc main_arg1) (ix2 k col)) (q) := by
  refine Eq.trans ?_ (V_w m c k _)
  blk_ext [iblk, (idx t).2.1]

/-- What a grid point writes, at any place of its block. -/
theorem pay_result (c : Dev nD) (t : Fin cfg0.N) (p : Fin 1024) (q : Fin 1536) :
    k0_pay1 (iblk m c 0 t) (iblk m c 1 t) (ix2 p q) = result m c (ix2 ⟨t.val * 1024 + p.val, row_lt t p⟩ q) := by
  refine (pay_apply _ _ p q).trans ((entry_congr (fun k => iblk0_apply m c t p k) (fun k => iblk1_apply m c t k q)).trans ?_)
  exact dilated_sum 0 _ _ _

/-- The result array after the run. -/
theorem arr_eq (c : Dev nD) : (dats m 0 c).arrAt 2 (cfgs 0).N = result m c := by
  refine (dats m 0 c).arrAt_eq_of_covers 2 _ (by decide +kernel) fun t hf (y : S1024x1536.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel5Ideal.DilProj1

/-! ## The claims -/

namespace Cert.DilProj1

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run _ _ _).mono (fun r h => ⟨fun c => (h c).2, sem_eq_zero_of_no_sems rfl r.2⟩) (Cert.Reference5Ideal.Value.run m ρ)

/-- The kernel's result and the reference's are the same array. -/
theorem same : Cert.algebraic_Kernel5Ideal_Reference5Ideal := fun m ρ m' ρ' _ ha => by
  refine ⟨fun c => Cert.Kernel5Ideal.DilProj1.result m c, ?_, ?_⟩
  · refine (θ_run _ _ _).mono (fun r h c => ?_) (Cert.Kernel5Ideal.Value.run_blocks m ρ)
    exact ⟨(h c).1.trans (Cert.Kernel5Ideal.DilProj1.arr_eq m c), (h c).2⟩
  · refine (θ_run _ _ _).mono (fun r h c => ?_) (Cert.Reference5Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference5Ideal.DilProj1.laid_apply _ (y 0) (y 1)).trans ?_)
    refine (congrArg (fun f => dilated 0 f (y 1)) (funext fun col => Cert.Reference5Ideal.DilProj1.dot_apply _ _ (y 0) col)).trans ?_
    rw [h0, h1]
    rfl

end Cert.DilProj1

end
-- ==== Proof.DilScratch.lean ====
/- What the projection of dilation 4 leaves in its result block: the product through the scratch planes. -/
module

public import proofs.«01_k».proof.Defs
public import proofs.«01_k».proof.Proof.Gen.Kernel6Ideal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.Kernel6Ideal.DilProj4

open Cert.Kernel6Ideal Cert.Kernel6Ideal.Gen Cert.Kernel6Ideal.Value
open Cert.ProjSpec

/-- The scratch planes: plane `c` holds the product's columns from `128 c` on. -/
def planes (X : FVec Ideal S1024x1536 .f32) (y : S12x1024x128.Idx) : EReal :=
  X (ix2 (y 1) ⟨128 * (y 0).val + (y 2).val, by have h0 : (y 0).val < 12 := (y 0).isLt; have h2 : (y 2).val < 128 := (y 2).isLt; omega⟩)

/-- The result block: row `p`, column `1536 r + j` holds row `4 p + r`, column `j` of the product. -/
def spread (X : FVec Ideal S1024x1536 .f32) (y : S256x6144.Idx) : EReal :=
  X (ix2 ⟨4 * (y 0).val + (y 1).val / 1536, by have h0 : (y 0).val < 256 := (y 0).isLt; have h1 : (y 1).val < 6144 := (y 1).isLt; omega⟩
    ⟨(y 1).val % 1536, Nat.mod_lt _ (by decide)⟩)

/-- One plane stored. -/
theorem plane_piece (X : FVec Ideal S1024x1536 .f32) (k o : ℕ) (ho : o = 128 * k)
    (inb : ∀ a, (![k, 0, 0] : Fin 3 → ℕ) a + S1x1024x128.size a ≤ S12x1024x128.size a)
    (h1) (h2)
    (x : (Rect.unit (s := S12x1024x128) ![k, 0, 0] S1x1024x128.size inb).shape.Idx) :
    (shapeCast S1x1024x128 (extractStridedSlice S1024x128 ![0, o] X h1) h2 : FVec Ideal S1x1024x128 .f32) x
      = planes X ((Rect.unit (s := S12x1024x128) ![k, 0, 0] S1x1024x128.size inb).emb x) := by
  subst ho
  have hx : x = ix3 (x 0) (x 1) (x 2) := by funext a; match a with | ⟨0, _⟩ => rfl | ⟨1, _⟩ => rfl | ⟨2, _⟩ => rfl
  have h0 : (x 0).val < 1 := (x 0).isLt
  unfold planes
  rw [hx]
  pointwise
  refine congrArg X ?_
  funext a
  match a with
  | ⟨0, _⟩ =>
    refine Fin.ext ?_
    show (x 1).val = 0 + 1 * (x 1).val
    omega
  | ⟨1, _⟩ =>
    refine Fin.ext ?_
    show 128 * k + (x 2).val = 128 * (k + 1 * (x 0).val) + (0 + 1 * (x 2).val)
    omega

/-- One piece of the result block. -/
theorem spread_piece (X : FVec Ideal S1024x1536 .f32) (L : List (View.Piece (Elt Ideal) S12x1024x128 .f32)) (hL : View.canon L = planes X)
    (arg4 : Memref sig .tc .vmem S12x1024x128 .f32) (k r o : ℕ) (ho : o = 1536 * r + 128 * k) (hk : k < 12)
    (i1 : ∀ a, (![k, 0, 0] : Fin 3 → ℕ) a + S1x1024x128.size a ≤ S12x1024x128.size a)
    (i2) (ha hb hw hn)
    (i3 : ∀ a, (![0, o] : Fin 2 → ℕ) a + (![256, 128] : Fin 2 → ℕ) a ≤ S256x6144.size a)
    (hlt : FTy.bf16.bits < FTy.f32.bits)
    (x : (Rect.unit (s := S256x6144) ![0, o] ![256, 128] i3).shape.Idx) :
    (truncf .bf16 (LoadRect.valAlong (lr := ({ off := ![r, 0], size := S256x128.size, stride := ![4, 1], inb := i2 } : LoadRect S1024x128)) hn
      (arg4.view.readCov L ((Rect.unit (s := S12x1024x128) ![k, 0, 0] S1x1024x128.size i1).withinL
        (LoadRect.consLift ({ off := ![r, 0], size := S256x128.size, stride := ![4, 1], inb := i2 } : LoadRect S1024x128) ![1, 1024, 128] ha hb) hw)) : FVec Ideal S256x128 .f32) hlt : FVec Ideal S256x128 .bf16) x
      = spread X ((Rect.unit (s := S256x6144) ![0, o] ![256, 128] i3).emb x) := by
  rw [View.readCov_eq_canon', hL]
  show planes X (LoadRect.idx _ (Shape.reshapeEquiv hn x)) = _
  refine (congrArg (fun z => planes X (LoadRect.idx _ z)) (Shape.reshapeEquiv_cons_one (d := S256x128.size) hn x)).trans ?_
  have h0 : (x 0).val < 256 := (x 0).isLt
  have h1 : (x 1).val < 128 := (x 1).isLt
  unfold planes spread
  refine congrArg X ?_
  funext a
  match a with
  | ⟨0, _⟩ =>
    refine Fin.ext ?_
    show 0 + r + 4 * (x 0).val = 4 * (0 + 1 * (x 0).val) + (o + 1 * (x 1).val) / 1536
    omega
  | ⟨1, _⟩ =>
    refine Fin.ext ?_
    show 128 * (k + 0 + 1 * 0) + (0 + 0 + 1 * (x 1).val) = (o + 1 * (x 1).val) % 1536
    omega

theorem read1 (arg1 : Memref sig .tc .vmem S1024x1024 .f32) (harg1 : arg1.IsWhole) (x0 : Vec Ideal S1024x1024 .f32) :
    View.readAt (Elt Ideal) arg1.view (Rect.unit ![0, 0] S1024x1024.size inb_S1024x1024_S1024x1024_0_0).toLoadRect (harg1.unread x0) = x0 := by
  simp (disch := decide) only [View.ld_unit_lit', View.readAt_eq_ld, Memref.IsWhole.read_unread]

theorem read2 (arg2 : Memref sig .tc .vmem S1024x1536 .bf16) (harg2 : arg2.IsWhole) (x1 : Vec Ideal S1024x1536 .bf16) :
    View.readAt (Elt Ideal) arg2.view (Rect.unit ![0, 0] S1024x1536.size inb_S1024x1536_S1024x1536_0_0).toLoadRect (harg2.unread x1) = x1 := by
  simp (disch := decide) only [View.ld_unit_lit', View.readAt_eq_ld, Memref.IsWhole.read_unread]

section

variable (c : Dev nD) (arg1 : Memref sig .tc .vmem S1024x1024 .f32) (harg1 : arg1.IsWhole) (arg2 : Memref sig .tc .vmem S1024x1536 .bf16) (harg2 : arg2.IsWhole)
  (x0 : Vec Ideal S1024x1024 .f32) (x1 : Vec Ideal S1024x1536 .bf16)

theorem planes_pieces : View.PiecesOf (planes (k0_pay2 x0 x1)) (kernelRun0_A.sl.HS0_12 c arg1 harg1 arg2 harg2 x0 x1) := by
  unfold kernelRun0_A.sl.HS0_12 kernelRun0_A.sl.r kernelRun0_A.sl.r_1
  rw [read1 arg1 harg1 x0, read2 arg2 harg2 x1]
  refine ⟨fun x => ?_, fun x => ?_, fun x => ?_, fun x => ?_, fun x => ?_, fun x => ?_, fun x => ?_, fun x => ?_, fun x => ?_, fun x => ?_, fun x => ?_, fun x => ?_, trivial⟩
  · exact plane_piece (k0_pay2 x0 x1) 11 1408 rfl inb_S12x1024x128_S1x1024x128_11_0_0 slices_S1024x1536_o0_1408_S1024x128 shapeCasts_S1024x128_S1x1024x128 x
  · exact plane_piece (k0_pay2 x0 x1) 10 1280 rfl inb_S12x1024x128_S1x1024x128_10_0_0 slices_S1024x1536_o0_1280_S1024x128 shapeCasts_S1024x128_S1x1024x128 x
  · exact plane_piece (k0_pay2 x0 x1) 9 1152 rfl inb_S12x1024x128_S1x1024x128_9_0_0 slices_S1024x1536_o0_1152_S1024x128 shapeCasts_S1024x128_S1x1024x128 x
  · exact plane_piece (k0_pay2 x0 x1) 8 1024 rfl inb_S12x1024x128_S1x1024x128_8_0_0 slices_S1024x1536_o0_1024_S1024x128 shapeCasts_S1024x128_S1x1024x128 x
  · exact plane_piece (k0_pay2 x0 x1) 7 896 rfl inb_S12x1024x128_S1x1024x128_7_0_0 slices_S1024x1536_o0_896_S1024x128 shapeCasts_S1024x128_S1x1024x128 x
  · exact plane_piece (k0_pay2 x0 x1) 6 768 rfl inb_S12x1024x128_S1x1024x128_6_0_0 slices_S1024x1536_o0_768_S1024x128 shapeCasts_S1024x128_S1x1024x128 x
  · exact plane_piece (k0_pay2 x0 x1) 5 640 rfl inb_S12x1024x128_S1x1024x128_5_0_0 slices_S1024x1536_o0_640_S1024x128 shapeCasts_S1024x128_S1x1024x128 x
  · exact plane_piece (k0_pay2 x0 x1) 4 512 rfl inb_S12x1024x128_S1x1024x128_4_0_0 slices_S1024x1536_o0_512_S1024x128 shapeCasts_S1024x128_S1x1024x128 x
  · exact plane_piece (k0_pay2 x0 x1) 3 384 rfl inb_S12x1024x128_S1x1024x128_3_0_0 slices_S1024x1536_o0_384_S1024x128 shapeCasts_S1024x128_S1x1024x128 x
  · exact plane_piece (k0_pay2 x0 x1) 2 256 rfl inb_S12x1024x128_S1x1024x128_2_0_0 slices_S1024x1536_o0_256_S1024x128 shapeCasts_S1024x128_S1x1024x128 x
  · exact plane_piece (k0_pay2 x0 x1) 1 128 rfl inb_S12x1024x128_S1x1024x128_1_0_0 slices_S1024x1536_o0_128_S1024x128 shapeCasts_S1024x128_S1x1024x128 x
  · exact plane_piece (k0_pay2 x0 x1) 0 0 rfl inb_S12x1024x128_S1x1024x128_0_0_0 slices_S1024x1536_o0_0_S1024x128 shapeCasts_S1024x128_S1x1024x128 x

theorem planes_cover (y : S12x1024x128.Idx) : ∃ pc ∈ kernelRun0_A.sl.HS0_12 c arg1 harg1 arg2 harg2 x0 x1, y ∈ pc.1.set :=
  View.cover_of_tiledL (kernelRun0_A.sl.HS0_12 c arg1 harg1 arg2 harg2 x0 x1) S1x1024x128.size (by sl_kernel_rfl) y

theorem planes_all : View.canon (kernelRun0_A.sl.HS0_12 c arg1 harg1 arg2 harg2 x0 x1) = planes (k0_pay2 x0 x1) :=
  funext fun y => View.canon_apply_of_pieces _ _ (planes_pieces c arg1 harg1 arg2 harg2 x0 x1).mem y (planes_cover c arg1 harg1 arg2 harg2 x0 x1 y)

variable (i : grid0.Coords) (arg3 : Memref sig .tc .vmem S256x6144 .bf16) (harg3 : arg3.IsWhole) (arg4 : Memref sig .tc .vmem S12x1024x128 .f32) (harg4 : arg4.IsWhole)

theorem spread_pieces : View.PiecesOf (spread (k0_pay2 x0 x1)) (kernelRun0_A c i arg1 harg1 arg2 harg2 arg3 harg3 arg4 harg4 x0 x1).1 := by
  unfold kernelRun0_A
  dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact spread_piece (k0_pay2 x0 x1) _ (planes_all c arg1 harg1 arg2 harg2 x0 x1) arg4 11 3 6016 rfl (by decide) _ _ _ _ _ _ inb_S256x6144_S256x128_0_6016 _ x
  · exact spread_piece (k0_pay2 x0 x1) _ (planes_all c arg1 harg1 arg2 harg2 x0 x1) arg4 10 3 5888 rfl (by decide) _ _ _ _ _ _ inb_S256x6144_S256x128_0_5888 _ x
  · exact spread_piece (k0_pay2 x0 x1) _ (planes_all c arg1 harg1 arg2 harg2 x0 x1) arg4 9 3 5760 rfl (by decide) _ _ _ _ _ _ inb_S256x6144_S256x128_0_5760 _ x
  · exact spread_piece (k0_pay2 x0 x1) _ (planes_all c arg1 harg1 arg2 harg2 x0 x1) arg4 8 3 5632 rfl (by decide) _ _ _ _ _ _ inb_S256x6144_S256x128_0_5632 _ x
  · exact spread_piece (k0_pay2 x0 x1) _ (planes_all c arg1 harg1 arg2 harg2 x0 x1) arg4 7 3 5504 rfl (by decide) _ _ _ _ _ _ inb_S256x6144_S256x128_0_5504 _ x
  · exact spread_piece (k0_pay2 x0 x1) _ (planes_all c arg1 harg1 arg2 harg2 x0 x1) arg4 6 3 5376 rfl (by decide) _ _ _ _ _ _ inb_S256x6144_S256x128_0_5376 _ x
  · exact spread_piece (k0_pay2 x0 x1) _ (planes_all c arg1 harg1 arg2 harg2 x0 x1) arg4 5 3 5248 rfl (by decide) _ _ _ _ _ _ inb_S256x6144_S256x128_0_5248 _ x
  · exact spread_piece (k0_pay2 x0 x1) _ (planes_all c arg1 harg1 arg2 harg2 x0 x1) arg4 4 3 5120 rfl (by decide) _ _ _ _ _ _ inb_S256x6144_S256x128_0_5120 _ x
  · exact spread_piece (k0_pay2 x0 x1) _ (planes_all c arg1 harg1 arg2 harg2 x0 x1) arg4 3 3 4992 rfl (by decide) _ _ _ _ _ _ inb_S256x6144_S256x128_0_4992 _ x
  · exact spread_piece (k0_pay2 x0 x1) _ (planes_all c arg1 harg1 arg2 harg2 x0 x1) arg4 2 3 4864 rfl (by decide) _ _ _ _ _ _ inb_S256x6144_S256x128_0_4864 _ x
  · exact spread_piece (k0_pay2 x0 x1) _ (planes_all c arg1 harg1 arg2 harg2 x0 x1) arg4 1 3 4736 rfl (by decide) _ _ _ _ _ _ inb_S256x6144_S256x128_0_4736 _ x
  · exact spread_piece (k0_pay2 x0 x1) _ (planes_all c arg1 harg1 arg2 harg2 x0 x1) arg4 0 3 4608 rfl (by decide) _ _ _ _ _ _ inb_S256x6144_S256x128_0_4608 _ x
  · exact spread_piece (k0_pay2 x0 x1) _ (planes_all c arg1 harg1 arg2 harg2 x0 x1) arg4 11 2 4480 rfl (by decide) _ _ _ _ _ _ inb_S256x6144_S256x128_0_4480 _ x
  · exact spread_piece (k0_pay2 x0 x1) _ (planes_all c arg1 harg1 arg2 harg2 x0 x1) arg4 10 2 4352 rfl (by decide) _ _ _ _ _ _ inb_S256x6144_S256x128_0_4352 _ x
  · exact spread_piece (k0_pay2 x0 x1) _ (planes_all c arg1 harg1 arg2 harg2 x0 x1) arg4 9 2 4224 rfl (by decide) _ _ _ _ _ _ inb_S256x6144_S256x128_0_4224 _ x
  · exact spread_piece (k0_pay2 x0 x1) _ (planes_all c arg1 harg1 arg2 harg2 x0 x1) arg4 8 2 4096 rfl (by decide) _ _ _ _ _ _ inb_S256x6144_S256x128_0_4096 _ x
  · exact spread_piece (k0_pay2 x0 x1) _ (planes_all c arg1 harg1 arg2 harg2 x0 x1) arg4 7 2 3968 rfl (by decide) _ _ _ _ _ _ inb_S256x6144_S256x128_0_3968 _ x
  · exact spread_piece (k0_pay2 x0 x1) _ (planes_all c arg1 harg1 arg2 harg2 x0 x1) arg4 6 2 3840 rfl (by decide) _ _ _ _ _ _ inb_S256x6144_S256x128_0_3840 _ x
  · exact spread_piece (k0_pay2 x0 x1) _ (planes_all c arg1 harg1 arg2 harg2 x0 x1) arg4 5 2 3712 rfl (by decide) _ _ _ _ _ _ inb_S256x6144_S256x128_0_3712 _ x
  · exact spread_piece (k0_pay2 x0 x1) _ (planes_all c arg1 harg1 arg2 harg2 x0 x1) arg4 4 2 3584 rfl (by decide) _ _ _ _ _ _ inb_S256x6144_S256x128_0_3584 _ x
  · exact spread_piece (k0_pay2 x0 x1) _ (planes_all c arg1 harg1 arg2 harg2 x0 x1) arg4 3 2 3456 rfl (by decide) _ _ _ _ _ _ inb_S256x6144_S256x128_0_3456 _ x
  · exact spread_piece (k0_pay2 x0 x1) _ (planes_all c arg1 harg1 arg2 harg2 x0 x1) arg4 2 2 3328 rfl (by decide) _ _ _ _ _ _ inb_S256x6144_S256x128_0_3328 _ x
  · exact spread_piece (k0_pay2 x0 x1) _ (planes_all c arg1 harg1 arg2 harg2 x0 x1) arg4 1 2 3200 rfl (by decide) _ _ _ _ _ _ inb_S256x6144_S256x128_0_3200 _ x
  · exact spread_piece (k0_pay2 x0 x1) _ (planes_all c arg1 harg1 arg2 harg2 x0 x1) arg4 0 2 3072 rfl (by decide) _ _ _ _ _ _ inb_S256x6144_S256x128_0_3072 _ x
  · exact spread_piece (k0_pay2 x0 x1) _ (planes_all c arg1 harg1 arg2 harg2 x0 x1) arg4 11 1 2944 rfl (by decide) _ _ _ _ _ _ inb_S256x6144_S256x128_0_2944 _ x
  · exact spread_piece (k0_pay2 x0 x1) _ (planes_all c arg1 harg1 arg2 harg2 x0 x1) arg4 10 1 2816 rfl (by decide) _ _ _ _ _ _ inb_S256x6144_S256x128_0_2816 _ x
  · exact spread_piece (k0_pay2 x0 x1) _ (planes_all c arg1 harg1 arg2 harg2 x0 x1) arg4 9 1 2688 rfl (by decide) _ _ _ _ _ _ inb_S256x6144_S256x128_0_2688 _ x
  · exact spread_piece (k0_pay2 x0 x1) _ (planes_all c arg1 harg1 arg2 harg2 x0 x1) arg4 8 1 2560 rfl (by decide) _ _ _ _ _ _ inb_S256x6144_S256x128_0_2560 _ x
  · exact spread_piece (k0_pay2 x0 x1) _ (planes_all c arg1 harg1 arg2 harg2 x0 x1) arg4 7 1 2432 rfl (by decide) _ _ _ _ _ _ inb_S256x6144_S256x128_0_2432 _ x
  · exact spread_piece (k0_pay2 x0 x1) _ (planes_all c arg1 harg1 arg2 harg2 x0 x1) arg4 6 1 2304 rfl (by decide) _ _ _ _ _ _ inb_S256x6144_S256x128_0_2304 _ x
  · exact spread_piece (k0_pay2 x0 x1) _ (planes_all c arg1 harg1 arg2 harg2 x0 x1) arg4 5 1 2176 rfl (by decide) _ _ _ _ _ _ inb_S256x6144_S256x128_0_2176 _ x
  · exact spread_piece (k0_pay2 x0 x1) _ (planes_all c arg1 harg1 arg2 harg2 x0 x1) arg4 4 1 2048 rfl (by decide) _ _ _ _ _ _ inb_S256x6144_S256x128_0_2048 _ x
  · exact spread_piece (k0_pay2 x0 x1) _ (planes_all c arg1 harg1 arg2 harg2 x0 x1) arg4 3 1 1920 rfl (by decide) _ _ _ _ _ _ inb_S256x6144_S256x128_0_1920 _ x
  · exact spread_piece (k0_pay2 x0 x1) _ (planes_all c arg1 harg1 arg2 harg2 x0 x1) arg4 2 1 1792 rfl (by decide) _ _ _ _ _ _ inb_S256x6144_S256x128_0_1792 _ x
  · exact spread_piece (k0_pay2 x0 x1) _ (planes_all c arg1 harg1 arg2 harg2 x0 x1) arg4 1 1 1664 rfl (by decide) _ _ _ _ _ _ inb_S256x6144_S256x128_0_1664 _ x
  · exact spread_piece (k0_pay2 x0 x1) _ (planes_all c arg1 harg1 arg2 harg2 x0 x1) arg4 0 1 1536 rfl (by decide) _ _ _ _ _ _ inb_S256x6144_S256x128_0_1536 _ x
  · exact spread_piece (k0_pay2 x0 x1) _ (planes_all c arg1 harg1 arg2 harg2 x0 x1) arg4 11 0 1408 rfl (by decide) _ _ _ _ _ _ inb_S256x6144_S256x128_0_1408 _ x
  · exact spread_piece (k0_pay2 x0 x1) _ (planes_all c arg1 harg1 arg2 harg2 x0 x1) arg4 10 0 1280 rfl (by decide) _ _ _ _ _ _ inb_S256x6144_S256x128_0_1280 _ x
  · exact spread_piece (k0_pay2 x0 x1) _ (planes_all c arg1 harg1 arg2 harg2 x0 x1) arg4 9 0 1152 rfl (by decide) _ _ _ _ _ _ inb_S256x6144_S256x128_0_1152 _ x
  · exact spread_piece (k0_pay2 x0 x1) _ (planes_all c arg1 harg1 arg2 harg2 x0 x1) arg4 8 0 1024 rfl (by decide) _ _ _ _ _ _ inb_S256x6144_S256x128_0_1024 _ x
  · exact spread_piece (k0_pay2 x0 x1) _ (planes_all c arg1 harg1 arg2 harg2 x0 x1) arg4 7 0 896 rfl (by decide) _ _ _ _ _ _ inb_S256x6144_S256x128_0_896 _ x
  · exact spread_piece (k0_pay2 x0 x1) _ (planes_all c arg1 harg1 arg2 harg2 x0 x1) arg4 6 0 768 rfl (by decide) _ _ _ _ _ _ inb_S256x6144_S256x128_0_768 _ x
  · exact spread_piece (k0_pay2 x0 x1) _ (planes_all c arg1 harg1 arg2 harg2 x0 x1) arg4 5 0 640 rfl (by decide) _ _ _ _ _ _ inb_S256x6144_S256x128_0_640 _ x
  · exact spread_piece (k0_pay2 x0 x1) _ (planes_all c arg1 harg1 arg2 harg2 x0 x1) arg4 4 0 512 rfl (by decide) _ _ _ _ _ _ inb_S256x6144_S256x128_0_512 _ x
  · exact spread_piece (k0_pay2 x0 x1) _ (planes_all c arg1 harg1 arg2 harg2 x0 x1) arg4 3 0 384 rfl (by decide) _ _ _ _ _ _ inb_S256x6144_S256x128_0_384 _ x
  · exact spread_piece (k0_pay2 x0 x1) _ (planes_all c arg1 harg1 arg2 harg2 x0 x1) arg4 2 0 256 rfl (by decide) _ _ _ _ _ _ inb_S256x6144_S256x128_0_256 _ x
  · exact spread_piece (k0_pay2 x0 x1) _ (planes_all c arg1 harg1 arg2 harg2 x0 x1) arg4 1 0 128 rfl (by decide) _ _ _ _ _ _ inb_S256x6144_S256x128_0_128 _ x
  · exact spread_piece (k0_pay2 x0 x1) _ (planes_all c arg1 harg1 arg2 harg2 x0 x1) arg4 0 0 0 rfl (by decide) _ _ _ _ _ _ inb_S256x6144_S256x128_0_0 _ x

theorem out_eq : out0_A_2 c i arg1 harg1 arg2 harg2 arg3 harg3 arg4 harg4 x0 x1 = spread (k0_pay2 x0 x1) := by
  unfold out0_A_2
  rw [View.read_writes_junk_eq_canon]
  exact funext fun y => View.canon_apply_of_pieces _ _ (spread_pieces c arg1 harg1 arg2 harg2 x0 x1 i arg3 harg3 arg4 harg4).mem y
    (cover0_A_2 c i arg1 harg1 arg2 harg2 arg3 harg3 arg4 harg4 x0 x1 y)

end

end Cert.Kernel6Ideal.DilProj4

end
-- ==== Proof.DilProj4.lean ====
/- The projection of the dilated attention's group of dilation 4 in an odd layer: the five claims. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.ProjSpec
public import proofs.«01_k».proof.Proof.DilScratch
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference6Ideal.DilProj4

open Cert.Reference6Ideal Cert.Reference6Ideal.Gen Cert.Reference6Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's projection, its columns set in order, from the whole projection `h`. -/
def rows (h : FVec Ideal S32768x6468 .f32) : FVec Ideal S32768x1536 .f32 :=
  ((concatenate S32768x1536 1 [⟨S32768x512, ((mulf (shapeCast _ (extractStridedSlice S32768x1x1x512 ![0, 0, 1, 0] (shapeCast _ (extractStridedSlice S32768x4608 ![0, 1860] h slices_S32768x6468_S32768x4608_0_1860) shapeCasts_S32768x4608_S32768x3x3x512) slices_S32768x3x3x512_S32768x1x1x512_0_0_1_0) shapeCasts_S32768x1x1x512_S32768x512) (broadcastInDim S32768x512 ![] bcast_S_S32768x512 (constant (F := Ideal) S_ .f32 0x3E000000#32))) : (⟨S32768x512, .f32⟩ : BufTy).Contents (Elt Ideal))⟩, ⟨S32768x512, ((shapeCast _ (extractStridedSlice S32768x1x1x512 ![0, 1, 1, 0] (shapeCast _ (extractStridedSlice S32768x4608 ![0, 1860] h slices_S32768x6468_S32768x4608_0_1860) shapeCasts_S32768x4608_S32768x3x3x512) slices_S32768x3x3x512_S32768x1x1x512_0_1_1_0) shapeCasts_S32768x1x1x512_S32768x512) : (⟨S32768x512, .f32⟩ : BufTy).Contents (Elt Ideal))⟩, ⟨S32768x512, ((shapeCast _ (extractStridedSlice S32768x1x1x512 ![0, 2, 1, 0] (shapeCast _ (extractStridedSlice S32768x4608 ![0, 1860] h slices_S32768x6468_S32768x4608_0_1860) shapeCasts_S32768x4608_S32768x3x3x512) slices_S32768x3x3x512_S32768x1x1x512_0_2_1_0) shapeCasts_S32768x1x1x512_S32768x512) : (⟨S32768x512, .f32⟩ : BufTy).Contents (Elt Ideal))⟩] concatenates_S32768x512_S32768x512_S32768x512_S32768x1536_d1 : (⟨S32768x1536, .f32⟩ : BufTy).Contents (Elt Ideal)))

/-- The reference's result: four rows of it to a row. -/
def laid (h : FVec Ideal S32768x6468 .f32) : FVec Ideal S8192x6144 .bf16 :=
  truncf .bf16 (shapeCast _ (rows h) shapeCasts_S32768x1536_S8192x6144) bitsLt_bf16_f32

set_option maxHeartbeats 4000000 in
theorem rows_apply (h : FVec Ideal S32768x6468 .f32) (p : Fin 32768) (j : Fin 1536) : rows h (ix2 p j) = dilated 1 (fun col => h (ix2 p col)) j := by
  unfold rows
  pointwise
  have hj := j.isLt
  split_ifs
  all_goals first
    | (have h1 : j.val < 512 := by omega
       exact (dilated_query 1 (fun col => h (ix2 p col)) j h1 _ (by dsimp only; omega)).symm)
    | (have h1 : 512 ≤ j.val := by omega
       exact (dilated_rest 1 (fun col => h (ix2 p col)) j h1 _ (by dsimp only; omega)).symm)

theorem laid_apply (h : FVec Ideal S32768x6468 .f32) (p : Fin 8192) (j : Fin 6144) : laid h (ix2 p j)
    = dilated 1 (fun col => h (ix2 ⟨4 * p.val + j.val / 1536, by omega⟩ col)) ⟨j.val % 1536, Nat.mod_lt _ (by decide)⟩ := by
  refine Eq.trans ?_ (rows_apply h _ _)
  unfold laid
  pointwise
  exact congrArg (fun z : Fin 32768 => rows h (ix2 z _)) (Fin.ext (by dsimp only; omega))

end Cert.Reference6Ideal.DilProj4

/-! ## The kernel's entries -/

namespace Cert.Kernel6Ideal.DilProj4

open Cert.Kernel6Ideal Cert.Kernel6Ideal.Gen Cert.Kernel6Ideal.Value

variable (m : (ℓ : Loc nD τ sig) → Buf (Elt Ideal) ℓ)

theorem pay_apply (x0 x1) (p : Fin 1024) (q : Fin 1536) : k0_pay2 (F := Ideal) x0 x1 (ix2 p q) = entry (fun k => x0 (ix2 p k)) (fun k => x1 (ix2 k q)) := by
  pointwise [k0_pay2]
  rfl

set_option maxHeartbeats 4000000 in
/-- The weights, a column of them. -/
theorem V_w (c : Dev nD) (d : Fin 1024) (j : Fin 1536) : V m c main_v48 (ix2 d j) = dilated 1 (fun col => m (c.tc.loc main_arg1) (ix2 d col)) j := by
  unfold V
  after_reads_at
  have hj := j.isLt
  split_ifs
  all_goals first | (exfalso; omega) | skip
  all_goals after_reads_at
  all_goals try split_ifs
  all_goals first | (exfalso; omega) | skip
  all_goals try after_reads_at
  all_goals try split_ifs
  all_goals first
    | (have h1 : j.val < 512 := by omega
       exact (dilated_query 1 (fun col => m (c.tc.loc main_arg1) (ix2 d col)) j h1 _ (by dsimp only; omega)).symm)
    | (have h1 : 512 ≤ j.val := by omega
       exact (dilated_rest 1 (fun col => m (c.tc.loc main_arg1) (ix2 d col)) j h1 _ (by dsimp only; omega)).symm)

theorem idx : ∀ t : Fin cfg0.N, win0_0.index t = ![t.val, 0] ∧ win0_1.index t = ![0, 0] ∧ win0_2.index t = ![t.val, 0] := by
  decide +kernel

/-- The result, as an array. -/
def result (c : Dev nD) : S8192x6144.Idx → EReal := fun y =>
  dilated 1 (fun col => entry (fun k => m (c.tc.loc main_arg0) (ix2 ⟨4 * (y 0).val + (y 1).val / 1536, by have h0 : (y 0).val < 8192 := (y 0).isLt; have h1 : (y 1).val < 6144 := (y 1).isLt; omega⟩ k))
    (fun k => m (c.tc.loc main_arg1) (ix2 k col))) ⟨(y 1).val % 1536, Nat.mod_lt _ (by decide)⟩

theorem row_lt (t : Fin cfg0.N) (p : Fin 1024) : t.val * 1024 + p.val < 32768 := by
  have ht : t.val < 32 := t.isLt.trans_eq N_0
  omega

theorem iblk0_apply (c : Dev nD) (t : Fin cfg0.N) (p k : Fin 1024) : iblk m c 0 t (ix2 p k) = m (c.tc.loc main_arg0) (ix2 ⟨t.val * 1024 + p.val, row_lt t p⟩ k) := by
  refine Eq.trans ?_ (congrFun (V_main_arg0 m c) _)
  blk_ext [iblk, (idx t).1]

theorem iblk1_apply (c : Dev nD) (t : Fin cfg0.N) (k : Fin 1024) (q : Fin 1536) : iblk m c 1 t (ix2 k q)
    = dilated 1 (fun col => m (c.tc.loc main_arg1) (ix2 k col)) (q) := by
  refine Eq.trans ?_ (V_w m c k _)
  blk_ext [iblk, (idx t).2.1]

/-- What a grid point computes, at any place of its product. -/
theorem pay_result (c : Dev nD) (t : Fin cfg0.N) (p : Fin 1024) (q : Fin 1536) :
    k0_pay2 (iblk m c 0 t) (iblk m c 1 t) (ix2 p q)
      = dilated 1 (fun col => entry (fun k => m (c.tc.loc main_arg0) (ix2 ⟨t.val * 1024 + p.val, row_lt t p⟩ k)) (fun k => m (c.tc.loc main_arg1) (ix2 k col))) q := by
  refine (pay_apply _ _ p q).trans ((entry_congr (fun k => iblk0_apply m c t p k) (fun k => iblk1_apply m c t k q)).trans ?_)
  exact dilated_sum 1 _ _ _

/-- What a grid point writes, at any place of its block. -/
theorem spread_result (c : Dev nD) (t : Fin cfg0.N) (p : Fin 256) (q : Fin 6144) :
    spread (k0_pay2 (iblk m c 0 t) (iblk m c 1 t)) (ix2 p q)
      = result m c (ix2 ⟨t.val * 256 + p.val, by have ht : t.val < 32 := t.isLt.trans_eq N_0; omega⟩ q) := by
  refine (pay_result m c t _ _).trans ?_
  unfold result
  refine congrArg (fun z => dilated 1 z _) (funext fun col => ?_)
  refine congrArg (fun z => entry z _) (funext fun k => ?_)
  refine congrArg (fun z : Fin 32768 => m (c.tc.loc main_arg0) (ix2 z k)) (Fin.ext ?_)
  show t.val * 1024 + (4 * p.val + q.val / 1536) = 4 * (t.val * 256 + p.val) + q.val / 1536
  omega

/-- The result array after the run. -/
theorem arr_eq (c : Dev nD) : (dats m 0 c).arrAt 2 (cfgs 0).N = result m c := by
  refine (dats m 0 c).arrAt_eq_of_covers 2 _ (by decide +kernel) fun t hf (y : S256x6144.Idx) => ?_
  blk_simp
  rw [after0_2]
  unfold outsAt0
  rw [out_eq]
  have hy : y = ix2 (y 0) (y 1) := by funext a; fin_cases a <;> rfl
  refine (congrArg _ hy).trans ((spread_result m c t (y 0) (y 1)).trans ?_)
  blk_ext [(idx t).2.2]

end Cert.Kernel6Ideal.DilProj4

/-! ## The claims -/

namespace Cert.DilProj4

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run _ _ _).mono (fun r h => ⟨fun c => (h c).2, sem_eq_zero_of_no_sems rfl r.2⟩) (Cert.Reference6Ideal.Value.run m ρ)

/-- The kernel's result and the reference's are the same array. -/
theorem same : Cert.algebraic_Kernel6Ideal_Reference6Ideal := fun m ρ m' ρ' _ ha => by
  refine ⟨fun c => Cert.Kernel6Ideal.DilProj4.result m c, ?_, ?_⟩
  · refine (θ_run _ _ _).mono (fun r h c => ?_) (Cert.Kernel6Ideal.Value.run_blocks m ρ)
    exact ⟨(h c).1.trans (Cert.Kernel6Ideal.DilProj4.arr_eq m c), (h c).2⟩
  · refine (θ_run _ _ _).mono (fun r h c => ?_) (Cert.Reference6Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference6Ideal.DilProj4.laid_apply _ (y 0) (y 1)).trans ?_)
    refine (congrArg (fun f => dilated 1 f _) (funext fun col => Cert.Reference6Ideal.DilProj4.dot_apply _ _ _ col)).trans ?_
    rw [h0, h1]
    rfl

end Cert.DilProj4

end
-- ==== Proof.DilScratch16.lean ====
/- What the projection of dilation 16 leaves in its result block: the product through the scratch planes. -/
module

public import proofs.«01_k».proof.Defs
public import proofs.«01_k».proof.Proof.Gen.Kernel7Ideal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.Kernel7Ideal.DilProj16

open Cert.Kernel7Ideal Cert.Kernel7Ideal.Gen Cert.Kernel7Ideal.Value
open Cert.ProjSpec

/-- The scratch planes: plane `c` holds the product's columns from `128 c` on. -/
def planes (X : FVec Ideal S1024x1536 .f32) (y : S12x1024x128.Idx) : EReal :=
  X (ix2 (y 1) ⟨128 * (y 0).val + (y 2).val, by have h0 : (y 0).val < 12 := (y 0).isLt; have h2 : (y 2).val < 128 := (y 2).isLt; omega⟩)

/-- The result block: row `p`, column `1536 r + j` holds row `16 p + r`, column `j` of the product. -/
def spread (X : FVec Ideal S1024x1536 .f32) (y : S64x24576.Idx) : EReal :=
  X (ix2 ⟨16 * (y 0).val + (y 1).val / 1536, by have h0 : (y 0).val < 64 := (y 0).isLt; have h1 : (y 1).val < 24576 := (y 1).isLt; omega⟩
    ⟨(y 1).val % 1536, Nat.mod_lt _ (by decide)⟩)

/-- One plane stored. -/
theorem plane_piece (X : FVec Ideal S1024x1536 .f32) (k o : ℕ) (ho : o = 128 * k)
    (inb : ∀ a, (![k, 0, 0] : Fin 3 → ℕ) a + S1x1024x128.size a ≤ S12x1024x128.size a)
    (h1) (h2)
    (x : (Rect.unit (s := S12x1024x128) ![k, 0, 0] S1x1024x128.size inb).shape.Idx) :
    (shapeCast S1x1024x128 (extractStridedSlice S1024x128 ![0, o] X h1) h2 : FVec Ideal S1x1024x128 .f32) x
      = planes X ((Rect.unit (s := S12x1024x128) ![k, 0, 0] S1x1024x128.size inb).emb x) := by
  subst ho
  have hx : x = ix3 (x 0) (x 1) (x 2) := by funext a; match a with | ⟨0, _⟩ => rfl | ⟨1, _⟩ => rfl | ⟨2, _⟩ => rfl
  have h0 : (x 0).val < 1 := (x 0).isLt
  unfold planes
  rw [hx]
  pointwise
  refine congrArg X ?_
  funext a
  match a with
  | ⟨0, _⟩ =>
    refine Fin.ext ?_
    show (x 1).val = 0 + 1 * (x 1).val
    omega
  | ⟨1, _⟩ =>
    refine Fin.ext ?_
    show 128 * k + (x 2).val = 128 * (k + 1 * (x 0).val) + (0 + 1 * (x 2).val)
    omega

/-- One piece of the result block. -/
theorem spread_piece (X : FVec Ideal S1024x1536 .f32) (L : List (View.Piece (Elt Ideal) S12x1024x128 .f32)) (hL : View.canon L = planes X)
    (arg4 : Memref sig .tc .vmem S12x1024x128 .f32) (k r o : ℕ) (ho : o = 1536 * r + 128 * k) (hk : k < 12)
    (i1 : ∀ a, (![k, 0, 0] : Fin 3 → ℕ) a + S1x1024x128.size a ≤ S12x1024x128.size a)
    (i2) (ha hb hw hn)
    (i3 : ∀ a, (![0, o] : Fin 2 → ℕ) a + (![64, 128] : Fin 2 → ℕ) a ≤ S64x24576.size a)
    (hlt : FTy.bf16.bits < FTy.f32.bits)
    (x : (Rect.unit (s := S64x24576) ![0, o] ![64, 128] i3).shape.Idx) :
    (truncf .bf16 (LoadRect.valAlong (lr := ({ off := ![r, 0], size := S64x128.size, stride := ![16, 1], inb := i2 } : LoadRect S1024x128)) hn
      (arg4.view.readCov L ((Rect.unit (s := S12x1024x128) ![k, 0, 0] S1x1024x128.size i1).withinL
        (LoadRect.consLift ({ off := ![r, 0], size := S64x128.size, stride := ![16, 1], inb := i2 } : LoadRect S1024x128) ![1, 1024, 128] ha hb) hw)) : FVec Ideal S64x128 .f32) hlt : FVec Ideal S64x128 .bf16) x
      = spread X ((Rect.unit (s := S64x24576) ![0, o] ![64, 128] i3).emb x) := by
  rw [View.readCov_eq_canon', hL]
  show planes X (LoadRect.idx _ (Shape.reshapeEquiv hn x)) = _
  refine (congrArg (fun z => planes X (LoadRect.idx _ z)) (Shape.reshapeEquiv_cons_one (d := S64x128.size) hn x)).trans ?_
  have h0 : (x 0).val < 64 := (x 0).isLt
  have h1 : (x 1).val < 128 := (x 1).isLt
  unfold planes spread
  refine congrArg X ?_
  funext a
  match a with
  | ⟨0, _⟩ =>
    refine Fin.ext ?_
    show 0 + r + 16 * (x 0).val = 16 * (0 + 1 * (x 0).val) + (o + 1 * (x 1).val) / 1536
    omega
  | ⟨1, _⟩ =>
    refine Fin.ext ?_
    show 128 * (k + 0 + 1 * 0) + (0 + 0 + 1 * (x 1).val) = (o + 1 * (x 1).val) % 1536
    omega

theorem read1 (arg1 : Memref sig .tc .vmem S1024x1024 .f32) (harg1 : arg1.IsWhole) (x0 : Vec Ideal S1024x1024 .f32) :
    View.readAt (Elt Ideal) arg1.view (Rect.unit ![0, 0] S1024x1024.size inb_S1024x1024_S1024x1024_0_0).toLoadRect (harg1.unread x0) = x0 := by
  simp (disch := decide) only [View.ld_unit_lit', View.readAt_eq_ld, Memref.IsWhole.read_unread]

theorem read2 (arg2 : Memref sig .tc .vmem S1024x1536 .bf16) (harg2 : arg2.IsWhole) (x1 : Vec Ideal S1024x1536 .bf16) :
    View.readAt (Elt Ideal) arg2.view (Rect.unit ![0, 0] S1024x1536.size inb_S1024x1536_S1024x1536_0_0).toLoadRect (harg2.unread x1) = x1 := by
  simp (disch := decide) only [View.ld_unit_lit', View.readAt_eq_ld, Memref.IsWhole.read_unread]

section

variable (c : Dev nD) (arg1 : Memref sig .tc .vmem S1024x1024 .f32) (harg1 : arg1.IsWhole) (arg2 : Memref sig .tc .vmem S1024x1536 .bf16) (harg2 : arg2.IsWhole)
  (x0 : Vec Ideal S1024x1024 .f32) (x1 : Vec Ideal S1024x1536 .bf16)

theorem planes_pieces : View.PiecesOf (planes (k0_pay2 x0 x1)) (kernelRun0_A.sl.HS0_12 c arg1 harg1 arg2 harg2 x0 x1) := by
  unfold kernelRun0_A.sl.HS0_12 kernelRun0_A.sl.r kernelRun0_A.sl.r_1
  rw [read1 arg1 harg1 x0, read2 arg2 harg2 x1]
  refine ⟨fun x => ?_, fun x => ?_, fun x => ?_, fun x => ?_, fun x => ?_, fun x => ?_, fun x => ?_, fun x => ?_, fun x => ?_, fun x => ?_, fun x => ?_, fun x => ?_, trivial⟩
  · exact plane_piece (k0_pay2 x0 x1) 11 1408 rfl inb_S12x1024x128_S1x1024x128_11_0_0 slices_S1024x1536_o0_1408_S1024x128 shapeCasts_S1024x128_S1x1024x128 x
  · exact plane_piece (k0_pay2 x0 x1) 10 1280 rfl inb_S12x1024x128_S1x1024x128_10_0_0 slices_S1024x1536_o0_1280_S1024x128 shapeCasts_S1024x128_S1x1024x128 x
  · exact plane_piece (k0_pay2 x0 x1) 9 1152 rfl inb_S12x1024x128_S1x1024x128_9_0_0 slices_S1024x1536_o0_1152_S1024x128 shapeCasts_S1024x128_S1x1024x128 x
  · exact plane_piece (k0_pay2 x0 x1) 8 1024 rfl inb_S12x1024x128_S1x1024x128_8_0_0 slices_S1024x1536_o0_1024_S1024x128 shapeCasts_S1024x128_S1x1024x128 x
  · exact plane_piece (k0_pay2 x0 x1) 7 896 rfl inb_S12x1024x128_S1x1024x128_7_0_0 slices_S1024x1536_o0_896_S1024x128 shapeCasts_S1024x128_S1x1024x128 x
  · exact plane_piece (k0_pay2 x0 x1) 6 768 rfl inb_S12x1024x128_S1x1024x128_6_0_0 slices_S1024x1536_o0_768_S1024x128 shapeCasts_S1024x128_S1x1024x128 x
  · exact plane_piece (k0_pay2 x0 x1) 5 640 rfl inb_S12x1024x128_S1x1024x128_5_0_0 slices_S1024x1536_o0_640_S1024x128 shapeCasts_S1024x128_S1x1024x128 x
  · exact plane_piece (k0_pay2 x0 x1) 4 512 rfl inb_S12x1024x128_S1x1024x128_4_0_0 slices_S1024x1536_o0_512_S1024x128 shapeCasts_S1024x128_S1x1024x128 x
  · exact plane_piece (k0_pay2 x0 x1) 3 384 rfl inb_S12x1024x128_S1x1024x128_3_0_0 slices_S1024x1536_o0_384_S1024x128 shapeCasts_S1024x128_S1x1024x128 x
  · exact plane_piece (k0_pay2 x0 x1) 2 256 rfl inb_S12x1024x128_S1x1024x128_2_0_0 slices_S1024x1536_o0_256_S1024x128 shapeCasts_S1024x128_S1x1024x128 x
  · exact plane_piece (k0_pay2 x0 x1) 1 128 rfl inb_S12x1024x128_S1x1024x128_1_0_0 slices_S1024x1536_o0_128_S1024x128 shapeCasts_S1024x128_S1x1024x128 x
  · exact plane_piece (k0_pay2 x0 x1) 0 0 rfl inb_S12x1024x128_S1x1024x128_0_0_0 slices_S1024x1536_o0_0_S1024x128 shapeCasts_S1024x128_S1x1024x128 x

theorem planes_cover (y : S12x1024x128.Idx) : ∃ pc ∈ kernelRun0_A.sl.HS0_12 c arg1 harg1 arg2 harg2 x0 x1, y ∈ pc.1.set :=
  View.cover_of_tiledL (kernelRun0_A.sl.HS0_12 c arg1 harg1 arg2 harg2 x0 x1) S1x1024x128.size (by sl_kernel_rfl) y

theorem planes_all : View.canon (kernelRun0_A.sl.HS0_12 c arg1 harg1 arg2 harg2 x0 x1) = planes (k0_pay2 x0 x1) :=
  funext fun y => View.canon_apply_of_pieces _ _ (planes_pieces c arg1 harg1 arg2 harg2 x0 x1).mem y (planes_cover c arg1 harg1 arg2 harg2 x0 x1 y)

variable (i : grid0.Coords) (arg3 : Memref sig .tc .vmem S64x24576 .bf16) (harg3 : arg3.IsWhole) (arg4 : Memref sig .tc .vmem S12x1024x128 .f32) (harg4 : arg4.IsWhole)

theorem spread_pieces : View.PiecesOf (spread (k0_pay2 x0 x1)) (kernelRun0_A c i arg1 harg1 arg2 harg2 arg3 harg3 arg4 harg4 x0 x1).1 := by
  unfold kernelRun0_A
  dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact spread_piece (k0_pay2 x0 x1) _ (planes_all c arg1 harg1 arg2 harg2 x0 x1) arg4 11 15 24448 rfl (by decide) _ _ _ _ _ _ inb_S64x24576_S64x128_0_24448 _ x
  · exact spread_piece (k0_pay2 x0 x1) _ (planes_all c arg1 harg1 arg2 harg2 x0 x1) arg4 10 15 24320 rfl (by decide) _ _ _ _ _ _ inb_S64x24576_S64x128_0_24320 _ x
  · exact spread_piece (k0_pay2 x0 x1) _ (planes_all c arg1 harg1 arg2 harg2 x0 x1) arg4 9 15 24192 rfl (by decide) _ _ _ _ _ _ inb_S64x24576_S64x128_0_24192 _ x
  · exact spread_piece (k0_pay2 x0 x1) _ (planes_all c arg1 harg1 arg2 harg2 x0 x1) arg4 8 15 24064 rfl (by decide) _ _ _ _ _ _ inb_S64x24576_S64x128_0_24064 _ x
  · exact spread_piece (k0_pay2 x0 x1) _ (planes_all c arg1 harg1 arg2 harg2 x0 x1) arg4 7 15 23936 rfl (by decide) _ _ _ _ _ _ inb_S64x24576_S64x128_0_23936 _ x
  · exact spread_piece (k0_pay2 x0 x1) _ (planes_all c arg1 harg1 arg2 harg2 x0 x1) arg4 6 15 23808 rfl (by decide) _ _ _ _ _ _ inb_S64x24576_S64x128_0_23808 _ x
  · exact spread_piece (k0_pay2 x0 x1) _ (planes_all c arg1 harg1 arg2 harg2 x0 x1) arg4 5 15 23680 rfl (by decide) _ _ _ _ _ _ inb_S64x24576_S64x128_0_23680 _ x
  · exact spread_piece (k0_pay2 x0 x1) _ (planes_all c arg1 harg1 arg2 harg2 x0 x1) arg4 4 15 23552 rfl (by decide) _ _ _ _ _ _ inb_S64x24576_S64x128_0_23552 _ x
  · exact spread_piece (k0_pay2 x0 x1) _ (planes_all c arg1 harg1 arg2 harg2 x0 x1) arg4 3 15 23424 rfl (by decide) _ _ _ _ _ _ inb_S64x24576_S64x128_0_23424 _ x
  · exact spread_piece (k0_pay2 x0 x1) _ (planes_all c arg1 harg1 arg2 harg2 x0 x1) arg4 2 15 23296 rfl (by decide) _ _ _ _ _ _ inb_S64x24576_S64x128_0_23296 _ x
  · exact spread_piece (k0_pay2 x0 x1) _ (planes_all c arg1 harg1 arg2 harg2 x0 x1) arg4 1 15 23168 rfl (by decide) _ _ _ _ _ _ inb_S64x24576_S64x128_0_23168 _ x
  · exact spread_piece (k0_pay2 x0 x1) _ (planes_all c arg1 harg1 arg2 harg2 x0 x1) arg4 0 15 23040 rfl (by decide) _ _ _ _ _ _ inb_S64x24576_S64x128_0_23040 _ x
  · exact spread_piece (k0_pay2 x0 x1) _ (planes_all c arg1 harg1 arg2 harg2 x0 x1) arg4 11 14 22912 rfl (by decide) _ _ _ _ _ _ inb_S64x24576_S64x128_0_22912 _ x
  · exact spread_piece (k0_pay2 x0 x1) _ (planes_all c arg1 harg1 arg2 harg2 x0 x1) arg4 10 14 22784 rfl (by decide) _ _ _ _ _ _ inb_S64x24576_S64x128_0_22784 _ x
  · exact spread_piece (k0_pay2 x0 x1) _ (planes_all c arg1 harg1 arg2 harg2 x0 x1) arg4 9 14 22656 rfl (by decide) _ _ _ _ _ _ inb_S64x24576_S64x128_0_22656 _ x
  · exact spread_piece (k0_pay2 x0 x1) _ (planes_all c arg1 harg1 arg2 harg2 x0 x1) arg4 8 14 22528 rfl (by decide) _ _ _ _ _ _ inb_S64x24576_S64x128_0_22528 _ x
  · exact spread_piece (k0_pay2 x0 x1) _ (planes_all c arg1 harg1 arg2 harg2 x0 x1) arg4 7 14 22400 rfl (by decide) _ _ _ _ _ _ inb_S64x24576_S64x128_0_22400 _ x
  · exact spread_piece (k0_pay2 x0 x1) _ (planes_all c arg1 harg1 arg2 harg2 x0 x1) arg4 6 14 22272 rfl (by decide) _ _ _ _ _ _ inb_S64x24576_S64x128_0_22272 _ x
  · exact spread_piece (k0_pay2 x0 x1) _ (planes_all c arg1 harg1 arg2 harg2 x0 x1) arg4 5 14 22144 rfl (by decide) _ _ _ _ _ _ inb_S64x24576_S64x128_0_22144 _ x
  · exact spread_piece (k0_pay2 x0 x1) _ (planes_all c arg1 harg1 arg2 harg2 x0 x1) arg4 4 14 22016 rfl (by decide) _ _ _ _ _ _ inb_S64x24576_S64x128_0_22016 _ x
  · exact spread_piece (k0_pay2 x0 x1) _ (planes_all c arg1 harg1 arg2 harg2 x0 x1) arg4 3 14 21888 rfl (by decide) _ _ _ _ _ _ inb_S64x24576_S64x128_0_21888 _ x
  · exact spread_piece (k0_pay2 x0 x1) _ (planes_all c arg1 harg1 arg2 harg2 x0 x1) arg4 2 14 21760 rfl (by decide) _ _ _ _ _ _ inb_S64x24576_S64x128_0_21760 _ x
  · exact spread_piece (k0_pay2 x0 x1) _ (planes_all c arg1 harg1 arg2 harg2 x0 x1) arg4 1 14 21632 rfl (by decide) _ _ _ _ _ _ inb_S64x24576_S64x128_0_21632 _ x
  · exact spread_piece (k0_pay2 x0 x1) _ (planes_all c arg1 harg1 arg2 harg2 x0 x1) arg4 0 14 21504 rfl (by decide) _ _ _ _ _ _ inb_S64x24576_S64x128_0_21504 _ x
  · exact spread_piece (k0_pay2 x0 x1) _ (planes_all c arg1 harg1 arg2 harg2 x0 x1) arg4 11 13 21376 rfl (by decide) _ _ _ _ _ _ inb_S64x24576_S64x128_0_21376 _ x
  · exact spread_piece (k0_pay2 x0 x1) _ (planes_all c arg1 harg1 arg2 harg2 x0 x1) arg4 10 13 21248 rfl (by decide) _ _ _ _ _ _ inb_S64x24576_S64x128_0_21248 _ x
  · exact spread_piece (k0_pay2 x0 x1) _ (planes_all c arg1 harg1 arg2 harg2 x0 x1) arg4 9 13 21120 rfl (by decide) _ _ _ _ _ _ inb_S64x24576_S64x128_0_21120 _ x
  · exact spread_piece (k0_pay2 x0 x1) _ (planes_all c arg1 harg1 arg2 harg2 x0 x1) arg4 8 13 20992 rfl (by decide) _ _ _ _ _ _ inb_S64x24576_S64x128_0_20992 _ x
  · exact spread_piece (k0_pay2 x0 x1) _ (planes_all c arg1 harg1 arg2 harg2 x0 x1) arg4 7 13 20864 rfl (by decide) _ _ _ _ _ _ inb_S64x24576_S64x128_0_20864 _ x
  · exact spread_piece (k0_pay2 x0 x1) _ (planes_all c arg1 harg1 arg2 harg2 x0 x1) arg4 6 13 20736 rfl (by decide) _ _ _ _ _ _ inb_S64x24576_S64x128_0_20736 _ x
  · exact spread_piece (k0_pay2 x0 x1) _ (planes_all c arg1 harg1 arg2 harg2 x0 x1) arg4 5 13 20608 rfl (by decide) _ _ _ _ _ _ inb_S64x24576_S64x128_0_20608 _ x
  · exact spread_piece (k0_pay2 x0 x1) _ (planes_all c arg1 harg1 arg2 harg2 x0 x1) arg4 4 13 20480 rfl (by decide) _ _ _ _ _ _ inb_S64x24576_S64x128_0_20480 _ x
  · exact spread_piece (k0_pay2 x0 x1) _ (planes_all c arg1 harg1 arg2 harg2 x0 x1) arg4 3 13 20352 rfl (by decide) _ _ _ _ _ _ inb_S64x24576_S64x128_0_20352 _ x
  · exact spread_piece (k0_pay2 x0 x1) _ (planes_all c arg1 harg1 arg2 harg2 x0 x1) arg4 2 13 20224 rfl (by decide) _ _ _ _ _ _ inb_S64x24576_S64x128_0_20224 _ x
  · exact spread_piece (k0_pay2 x0 x1) _ (planes_all c arg1 harg1 arg2 harg2 x0 x1) arg4 1 13 20096 rfl (by decide) _ _ _ _ _ _ inb_S64x24576_S64x128_0_20096 _ x
  · exact spread_piece (k0_pay2 x0 x1) _ (planes_all c arg1 harg1 arg2 harg2 x0 x1) arg4 0 13 19968 rfl (by decide) _ _ _ _ _ _ inb_S64x24576_S64x128_0_19968 _ x
  · exact spread_piece (k0_pay2 x0 x1) _ (planes_all c arg1 harg1 arg2 harg2 x0 x1) arg4 11 12 19840 rfl (by decide) _ _ _ _ _ _ inb_S64x24576_S64x128_0_19840 _ x
  · exact spread_piece (k0_pay2 x0 x1) _ (planes_all c arg1 harg1 arg2 harg2 x0 x1) arg4 10 12 19712 rfl (by decide) _ _ _ _ _ _ inb_S64x24576_S64x128_0_19712 _ x
  · exact spread_piece (k0_pay2 x0 x1) _ (planes_all c arg1 harg1 arg2 harg2 x0 x1) arg4 9 12 19584 rfl (by decide) _ _ _ _ _ _ inb_S64x24576_S64x128_0_19584 _ x
  · exact spread_piece (k0_pay2 x0 x1) _ (planes_all c arg1 harg1 arg2 harg2 x0 x1) arg4 8 12 19456 rfl (by decide) _ _ _ _ _ _ inb_S64x24576_S64x128_0_19456 _ x
  · exact spread_piece (k0_pay2 x0 x1) _ (planes_all c arg1 harg1 arg2 harg2 x0 x1) arg4 7 12 19328 rfl (by decide) _ _ _ _ _ _ inb_S64x24576_S64x128_0_19328 _ x
  · exact spread_piece (k0_pay2 x0 x1) _ (planes_all c arg1 harg1 arg2 harg2 x0 x1) arg4 6 12 19200 rfl (by decide) _ _ _ _ _ _ inb_S64x24576_S64x128_0_19200 _ x
  · exact spread_piece (k0_pay2 x0 x1) _ (planes_all c arg1 harg1 arg2 harg2 x0 x1) arg4 5 12 19072 rfl (by decide) _ _ _ _ _ _ inb_S64x24576_S64x128_0_19072 _ x
  · exact spread_piece (k0_pay2 x0 x1) _ (planes_all c arg1 harg1 arg2 harg2 x0 x1) arg4 4 12 18944 rfl (by decide) _ _ _ _ _ _ inb_S64x24576_S64x128_0_18944 _ x
  · exact spread_piece (k0_pay2 x0 x1) _ (planes_all c arg1 harg1 arg2 harg2 x0 x1) arg4 3 12 18816 rfl (by decide) _ _ _ _ _ _ inb_S64x24576_S64x128_0_18816 _ x
  · exact spread_piece (k0_pay2 x0 x1) _ (planes_all c arg1 harg1 arg2 harg2 x0 x1) arg4 2 12 18688 rfl (by decide) _ _ _ _ _ _ inb_S64x24576_S64x128_0_18688 _ x
  · exact spread_piece (k0_pay2 x0 x1) _ (planes_all c arg1 harg1 arg2 harg2 x0 x1) arg4 1 12 18560 rfl (by decide) _ _ _ _ _ _ inb_S64x24576_S64x128_0_18560 _ x
  · exact spread_piece (k0_pay2 x0 x1) _ (planes_all c arg1 harg1 arg2 harg2 x0 x1) arg4 0 12 18432 rfl (by decide) _ _ _ _ _ _ inb_S64x24576_S64x128_0_18432 _ x
  · exact spread_piece (k0_pay2 x0 x1) _ (planes_all c arg1 harg1 arg2 harg2 x0 x1) arg4 11 11 18304 rfl (by decide) _ _ _ _ _ _ inb_S64x24576_S64x128_0_18304 _ x
  · exact spread_piece (k0_pay2 x0 x1) _ (planes_all c arg1 harg1 arg2 harg2 x0 x1) arg4 10 11 18176 rfl (by decide) _ _ _ _ _ _ inb_S64x24576_S64x128_0_18176 _ x
  · exact spread_piece (k0_pay2 x0 x1) _ (planes_all c arg1 harg1 arg2 harg2 x0 x1) arg4 9 11 18048 rfl (by decide) _ _ _ _ _ _ inb_S64x24576_S64x128_0_18048 _ x
  · exact spread_piece (k0_pay2 x0 x1) _ (planes_all c arg1 harg1 arg2 harg2 x0 x1) arg4 8 11 17920 rfl (by decide) _ _ _ _ _ _ inb_S64x24576_S64x128_0_17920 _ x
  · exact spread_piece (k0_pay2 x0 x1) _ (planes_all c arg1 harg1 arg2 harg2 x0 x1) arg4 7 11 17792 rfl (by decide) _ _ _ _ _ _ inb_S64x24576_S64x128_0_17792 _ x
  · exact spread_piece (k0_pay2 x0 x1) _ (planes_all c arg1 harg1 arg2 harg2 x0 x1) arg4 6 11 17664 rfl (by decide) _ _ _ _ _ _ inb_S64x24576_S64x128_0_17664 _ x
  · exact spread_piece (k0_pay2 x0 x1) _ (planes_all c arg1 harg1 arg2 harg2 x0 x1) arg4 5 11 17536 rfl (by decide) _ _ _ _ _ _ inb_S64x24576_S64x128_0_17536 _ x
  · exact spread_piece (k0_pay2 x0 x1) _ (planes_all c arg1 harg1 arg2 harg2 x0 x1) arg4 4 11 17408 rfl (by decide) _ _ _ _ _ _ inb_S64x24576_S64x128_0_17408 _ x
  · exact spread_piece (k0_pay2 x0 x1) _ (planes_all c arg1 harg1 arg2 harg2 x0 x1) arg4 3 11 17280 rfl (by decide) _ _ _ _ _ _ inb_S64x24576_S64x128_0_17280 _ x
  · exact spread_piece (k0_pay2 x0 x1) _ (planes_all c arg1 harg1 arg2 harg2 x0 x1) arg4 2 11 17152 rfl (by decide) _ _ _ _ _ _ inb_S64x24576_S64x128_0_17152 _ x
  · exact spread_piece (k0_pay2 x0 x1) _ (planes_all c arg1 harg1 arg2 harg2 x0 x1) arg4 1 11 17024 rfl (by decide) _ _ _ _ _ _ inb_S64x24576_S64x128_0_17024 _ x
  · exact spread_piece (k0_pay2 x0 x1) _ (planes_all c arg1 harg1 arg2 harg2 x0 x1) arg4 0 11 16896 rfl (by decide) _ _ _ _ _ _ inb_S64x24576_S64x128_0_16896 _ x
  · exact spread_piece (k0_pay2 x0 x1) _ (planes_all c arg1 harg1 arg2 harg2 x0 x1) arg4 11 10 16768 rfl (by decide) _ _ _ _ _ _ inb_S64x24576_S64x128_0_16768 _ x
  · exact spread_piece (k0_pay2 x0 x1) _ (planes_all c arg1 harg1 arg2 harg2 x0 x1) arg4 10 10 16640 rfl (by decide) _ _ _ _ _ _ inb_S64x24576_S64x128_0_16640 _ x
  · exact spread_piece (k0_pay2 x0 x1) _ (planes_all c arg1 harg1 arg2 harg2 x0 x1) arg4 9 10 16512 rfl (by decide) _ _ _ _ _ _ inb_S64x24576_S64x128_0_16512 _ x
  · exact spread_piece (k0_pay2 x0 x1) _ (planes_all c arg1 harg1 arg2 harg2 x0 x1) arg4 8 10 16384 rfl (by decide) _ _ _ _ _ _ inb_S64x24576_S64x128_0_16384 _ x
  · exact spread_piece (k0_pay2 x0 x1) _ (planes_all c arg1 harg1 arg2 harg2 x0 x1) arg4 7 10 16256 rfl (by decide) _ _ _ _ _ _ inb_S64x24576_S64x128_0_16256 _ x
  · exact spread_piece (k0_pay2 x0 x1) _ (planes_all c arg1 harg1 arg2 harg2 x0 x1) arg4 6 10 16128 rfl (by decide) _ _ _ _ _ _ inb_S64x24576_S64x128_0_16128 _ x
  · exact spread_piece (k0_pay2 x0 x1) _ (planes_all c arg1 harg1 arg2 harg2 x0 x1) arg4 5 10 16000 rfl (by decide) _ _ _ _ _ _ inb_S64x24576_S64x128_0_16000 _ x
  · exact spread_piece (k0_pay2 x0 x1) _ (planes_all c arg1 harg1 arg2 harg2 x0 x1) arg4 4 10 15872 rfl (by decide) _ _ _ _ _ _ inb_S64x24576_S64x128_0_15872 _ x
  · exact spread_piece (k0_pay2 x0 x1) _ (planes_all c arg1 harg1 arg2 harg2 x0 x1) arg4 3 10 15744 rfl (by decide) _ _ _ _ _ _ inb_S64x24576_S64x128_0_15744 _ x
  · exact spread_piece (k0_pay2 x0 x1) _ (planes_all c arg1 harg1 arg2 harg2 x0 x1) arg4 2 10 15616 rfl (by decide) _ _ _ _ _ _ inb_S64x24576_S64x128_0_15616 _ x
  · exact spread_piece (k0_pay2 x0 x1) _ (planes_all c arg1 harg1 arg2 harg2 x0 x1) arg4 1 10 15488 rfl (by decide) _ _ _ _ _ _ inb_S64x24576_S64x128_0_15488 _ x
  · exact spread_piece (k0_pay2 x0 x1) _ (planes_all c arg1 harg1 arg2 harg2 x0 x1) arg4 0 10 15360 rfl (by decide) _ _ _ _ _ _ inb_S64x24576_S64x128_0_15360 _ x
  · exact spread_piece (k0_pay2 x0 x1) _ (planes_all c arg1 harg1 arg2 harg2 x0 x1) arg4 11 9 15232 rfl (by decide) _ _ _ _ _ _ inb_S64x24576_S64x128_0_15232 _ x
  · exact spread_piece (k0_pay2 x0 x1) _ (planes_all c arg1 harg1 arg2 harg2 x0 x1) arg4 10 9 15104 rfl (by decide) _ _ _ _ _ _ inb_S64x24576_S64x128_0_15104 _ x
  · exact spread_piece (k0_pay2 x0 x1) _ (planes_all c arg1 harg1 arg2 harg2 x0 x1) arg4 9 9 14976 rfl (by decide) _ _ _ _ _ _ inb_S64x24576_S64x128_0_14976 _ x
  · exact spread_piece (k0_pay2 x0 x1) _ (planes_all c arg1 harg1 arg2 harg2 x0 x1) arg4 8 9 14848 rfl (by decide) _ _ _ _ _ _ inb_S64x24576_S64x128_0_14848 _ x
  · exact spread_piece (k0_pay2 x0 x1) _ (planes_all c arg1 harg1 arg2 harg2 x0 x1) arg4 7 9 14720 rfl (by decide) _ _ _ _ _ _ inb_S64x24576_S64x128_0_14720 _ x
  · exact spread_piece (k0_pay2 x0 x1) _ (planes_all c arg1 harg1 arg2 harg2 x0 x1) arg4 6 9 14592 rfl (by decide) _ _ _ _ _ _ inb_S64x24576_S64x128_0_14592 _ x
  · exact spread_piece (k0_pay2 x0 x1) _ (planes_all c arg1 harg1 arg2 harg2 x0 x1) arg4 5 9 14464 rfl (by decide) _ _ _ _ _ _ inb_S64x24576_S64x128_0_14464 _ x
  · exact spread_piece (k0_pay2 x0 x1) _ (planes_all c arg1 harg1 arg2 harg2 x0 x1) arg4 4 9 14336 rfl (by decide) _ _ _ _ _ _ inb_S64x24576_S64x128_0_14336 _ x
  · exact spread_piece (k0_pay2 x0 x1) _ (planes_all c arg1 harg1 arg2 harg2 x0 x1) arg4 3 9 14208 rfl (by decide) _ _ _ _ _ _ inb_S64x24576_S64x128_0_14208 _ x
  · exact spread_piece (k0_pay2 x0 x1) _ (planes_all c arg1 harg1 arg2 harg2 x0 x1) arg4 2 9 14080 rfl (by decide) _ _ _ _ _ _ inb_S64x24576_S64x128_0_14080 _ x
  · exact spread_piece (k0_pay2 x0 x1) _ (planes_all c arg1 harg1 arg2 harg2 x0 x1) arg4 1 9 13952 rfl (by decide) _ _ _ _ _ _ inb_S64x24576_S64x128_0_13952 _ x
  · exact spread_piece (k0_pay2 x0 x1) _ (planes_all c arg1 harg1 arg2 harg2 x0 x1) arg4 0 9 13824 rfl (by decide) _ _ _ _ _ _ inb_S64x24576_S64x128_0_13824 _ x
  · exact spread_piece (k0_pay2 x0 x1) _ (planes_all c arg1 harg1 arg2 harg2 x0 x1) arg4 11 8 13696 rfl (by decide) _ _ _ _ _ _ inb_S64x24576_S64x128_0_13696 _ x
  · exact spread_piece (k0_pay2 x0 x1) _ (planes_all c arg1 harg1 arg2 harg2 x0 x1) arg4 10 8 13568 rfl (by decide) _ _ _ _ _ _ inb_S64x24576_S64x128_0_13568 _ x
  · exact spread_piece (k0_pay2 x0 x1) _ (planes_all c arg1 harg1 arg2 harg2 x0 x1) arg4 9 8 13440 rfl (by decide) _ _ _ _ _ _ inb_S64x24576_S64x128_0_13440 _ x
  · exact spread_piece (k0_pay2 x0 x1) _ (planes_all c arg1 harg1 arg2 harg2 x0 x1) arg4 8 8 13312 rfl (by decide) _ _ _ _ _ _ inb_S64x24576_S64x128_0_13312 _ x
  · exact spread_piece (k0_pay2 x0 x1) _ (planes_all c arg1 harg1 arg2 harg2 x0 x1) arg4 7 8 13184 rfl (by decide) _ _ _ _ _ _ inb_S64x24576_S64x128_0_13184 _ x
  · exact spread_piece (k0_pay2 x0 x1) _ (planes_all c arg1 harg1 arg2 harg2 x0 x1) arg4 6 8 13056 rfl (by decide) _ _ _ _ _ _ inb_S64x24576_S64x128_0_13056 _ x
  · exact spread_piece (k0_pay2 x0 x1) _ (planes_all c arg1 harg1 arg2 harg2 x0 x1) arg4 5 8 12928 rfl (by decide) _ _ _ _ _ _ inb_S64x24576_S64x128_0_12928 _ x
  · exact spread_piece (k0_pay2 x0 x1) _ (planes_all c arg1 harg1 arg2 harg2 x0 x1) arg4 4 8 12800 rfl (by decide) _ _ _ _ _ _ inb_S64x24576_S64x128_0_12800 _ x
  · exact spread_piece (k0_pay2 x0 x1) _ (planes_all c arg1 harg1 arg2 harg2 x0 x1) arg4 3 8 12672 rfl (by decide) _ _ _ _ _ _ inb_S64x24576_S64x128_0_12672 _ x
  · exact spread_piece (k0_pay2 x0 x1) _ (planes_all c arg1 harg1 arg2 harg2 x0 x1) arg4 2 8 12544 rfl (by decide) _ _ _ _ _ _ inb_S64x24576_S64x128_0_12544 _ x
  · exact spread_piece (k0_pay2 x0 x1) _ (planes_all c arg1 harg1 arg2 harg2 x0 x1) arg4 1 8 12416 rfl (by decide) _ _ _ _ _ _ inb_S64x24576_S64x128_0_12416 _ x
  · exact spread_piece (k0_pay2 x0 x1) _ (planes_all c arg1 harg1 arg2 harg2 x0 x1) arg4 0 8 12288 rfl (by decide) _ _ _ _ _ _ inb_S64x24576_S64x128_0_12288 _ x
  · exact spread_piece (k0_pay2 x0 x1) _ (planes_all c arg1 harg1 arg2 harg2 x0 x1) arg4 11 7 12160 rfl (by decide) _ _ _ _ _ _ inb_S64x24576_S64x128_0_12160 _ x
  · exact spread_piece (k0_pay2 x0 x1) _ (planes_all c arg1 harg1 arg2 harg2 x0 x1) arg4 10 7 12032 rfl (by decide) _ _ _ _ _ _ inb_S64x24576_S64x128_0_12032 _ x
  · exact spread_piece (k0_pay2 x0 x1) _ (planes_all c arg1 harg1 arg2 harg2 x0 x1) arg4 9 7 11904 rfl (by decide) _ _ _ _ _ _ inb_S64x24576_S64x128_0_11904 _ x
  · exact spread_piece (k0_pay2 x0 x1) _ (planes_all c arg1 harg1 arg2 harg2 x0 x1) arg4 8 7 11776 rfl (by decide) _ _ _ _ _ _ inb_S64x24576_S64x128_0_11776 _ x
  · exact spread_piece (k0_pay2 x0 x1) _ (planes_all c arg1 harg1 arg2 harg2 x0 x1) arg4 7 7 11648 rfl (by decide) _ _ _ _ _ _ inb_S64x24576_S64x128_0_11648 _ x
  · exact spread_piece (k0_pay2 x0 x1) _ (planes_all c arg1 harg1 arg2 harg2 x0 x1) arg4 6 7 11520 rfl (by decide) _ _ _ _ _ _ inb_S64x24576_S64x128_0_11520 _ x
  · exact spread_piece (k0_pay2 x0 x1) _ (planes_all c arg1 harg1 arg2 harg2 x0 x1) arg4 5 7 11392 rfl (by decide) _ _ _ _ _ _ inb_S64x24576_S64x128_0_11392 _ x
  · exact spread_piece (k0_pay2 x0 x1) _ (planes_all c arg1 harg1 arg2 harg2 x0 x1) arg4 4 7 11264 rfl (by decide) _ _ _ _ _ _ inb_S64x24576_S64x128_0_11264 _ x
  · exact spread_piece (k0_pay2 x0 x1) _ (planes_all c arg1 harg1 arg2 harg2 x0 x1) arg4 3 7 11136 rfl (by decide) _ _ _ _ _ _ inb_S64x24576_S64x128_0_11136 _ x
  · exact spread_piece (k0_pay2 x0 x1) _ (planes_all c arg1 harg1 arg2 harg2 x0 x1) arg4 2 7 11008 rfl (by decide) _ _ _ _ _ _ inb_S64x24576_S64x128_0_11008 _ x
  · exact spread_piece (k0_pay2 x0 x1) _ (planes_all c arg1 harg1 arg2 harg2 x0 x1) arg4 1 7 10880 rfl (by decide) _ _ _ _ _ _ inb_S64x24576_S64x128_0_10880 _ x
  · exact spread_piece (k0_pay2 x0 x1) _ (planes_all c arg1 harg1 arg2 harg2 x0 x1) arg4 0 7 10752 rfl (by decide) _ _ _ _ _ _ inb_S64x24576_S64x128_0_10752 _ x
  · exact spread_piece (k0_pay2 x0 x1) _ (planes_all c arg1 harg1 arg2 harg2 x0 x1) arg4 11 6 10624 rfl (by decide) _ _ _ _ _ _ inb_S64x24576_S64x128_0_10624 _ x
  · exact spread_piece (k0_pay2 x0 x1) _ (planes_all c arg1 harg1 arg2 harg2 x0 x1) arg4 10 6 10496 rfl (by decide) _ _ _ _ _ _ inb_S64x24576_S64x128_0_10496 _ x
  · exact spread_piece (k0_pay2 x0 x1) _ (planes_all c arg1 harg1 arg2 harg2 x0 x1) arg4 9 6 10368 rfl (by decide) _ _ _ _ _ _ inb_S64x24576_S64x128_0_10368 _ x
  · exact spread_piece (k0_pay2 x0 x1) _ (planes_all c arg1 harg1 arg2 harg2 x0 x1) arg4 8 6 10240 rfl (by decide) _ _ _ _ _ _ inb_S64x24576_S64x128_0_10240 _ x
  · exact spread_piece (k0_pay2 x0 x1) _ (planes_all c arg1 harg1 arg2 harg2 x0 x1) arg4 7 6 10112 rfl (by decide) _ _ _ _ _ _ inb_S64x24576_S64x128_0_10112 _ x
  · exact spread_piece (k0_pay2 x0 x1) _ (planes_all c arg1 harg1 arg2 harg2 x0 x1) arg4 6 6 9984 rfl (by decide) _ _ _ _ _ _ inb_S64x24576_S64x128_0_9984 _ x
  · exact spread_piece (k0_pay2 x0 x1) _ (planes_all c arg1 harg1 arg2 harg2 x0 x1) arg4 5 6 9856 rfl (by decide) _ _ _ _ _ _ inb_S64x24576_S64x128_0_9856 _ x
  · exact spread_piece (k0_pay2 x0 x1) _ (planes_all c arg1 harg1 arg2 harg2 x0 x1) arg4 4 6 9728 rfl (by decide) _ _ _ _ _ _ inb_S64x24576_S64x128_0_9728 _ x
  · exact spread_piece (k0_pay2 x0 x1) _ (planes_all c arg1 harg1 arg2 harg2 x0 x1) arg4 3 6 9600 rfl (by decide) _ _ _ _ _ _ inb_S64x24576_S64x128_0_9600 _ x
  · exact spread_piece (k0_pay2 x0 x1) _ (planes_all c arg1 harg1 arg2 harg2 x0 x1) arg4 2 6 9472 rfl (by decide) _ _ _ _ _ _ inb_S64x24576_S64x128_0_9472 _ x
  · exact spread_piece (k0_pay2 x0 x1) _ (planes_all c arg1 harg1 arg2 harg2 x0 x1) arg4 1 6 9344 rfl (by decide) _ _ _ _ _ _ inb_S64x24576_S64x128_0_9344 _ x
  · exact spread_piece (k0_pay2 x0 x1) _ (planes_all c arg1 harg1 arg2 harg2 x0 x1) arg4 0 6 9216 rfl (by decide) _ _ _ _ _ _ inb_S64x24576_S64x128_0_9216 _ x
  · exact spread_piece (k0_pay2 x0 x1) _ (planes_all c arg1 harg1 arg2 harg2 x0 x1) arg4 11 5 9088 rfl (by decide) _ _ _ _ _ _ inb_S64x24576_S64x128_0_9088 _ x
  · exact spread_piece (k0_pay2 x0 x1) _ (planes_all c arg1 harg1 arg2 harg2 x0 x1) arg4 10 5 8960 rfl (by decide) _ _ _ _ _ _ inb_S64x24576_S64x128_0_8960 _ x
  · exact spread_piece (k0_pay2 x0 x1) _ (planes_all c arg1 harg1 arg2 harg2 x0 x1) arg4 9 5 8832 rfl (by decide) _ _ _ _ _ _ inb_S64x24576_S64x128_0_8832 _ x
  · exact spread_piece (k0_pay2 x0 x1) _ (planes_all c arg1 harg1 arg2 harg2 x0 x1) arg4 8 5 8704 rfl (by decide) _ _ _ _ _ _ inb_S64x24576_S64x128_0_8704 _ x
  · exact spread_piece (k0_pay2 x0 x1) _ (planes_all c arg1 harg1 arg2 harg2 x0 x1) arg4 7 5 8576 rfl (by decide) _ _ _ _ _ _ inb_S64x24576_S64x128_0_8576 _ x
  · exact spread_piece (k0_pay2 x0 x1) _ (planes_all c arg1 harg1 arg2 harg2 x0 x1) arg4 6 5 8448 rfl (by decide) _ _ _ _ _ _ inb_S64x24576_S64x128_0_8448 _ x
  · exact spread_piece (k0_pay2 x0 x1) _ (planes_all c arg1 harg1 arg2 harg2 x0 x1) arg4 5 5 8320 rfl (by decide) _ _ _ _ _ _ inb_S64x24576_S64x128_0_8320 _ x
  · exact spread_piece (k0_pay2 x0 x1) _ (planes_all c arg1 harg1 arg2 harg2 x0 x1) arg4 4 5 8192 rfl (by decide) _ _ _ _ _ _ inb_S64x24576_S64x128_0_8192 _ x
  · exact spread_piece (k0_pay2 x0 x1) _ (planes_all c arg1 harg1 arg2 harg2 x0 x1) arg4 3 5 8064 rfl (by decide) _ _ _ _ _ _ inb_S64x24576_S64x128_0_8064 _ x
  · exact spread_piece (k0_pay2 x0 x1) _ (planes_all c arg1 harg1 arg2 harg2 x0 x1) arg4 2 5 7936 rfl (by decide) _ _ _ _ _ _ inb_S64x24576_S64x128_0_7936 _ x
  · exact spread_piece (k0_pay2 x0 x1) _ (planes_all c arg1 harg1 arg2 harg2 x0 x1) arg4 1 5 7808 rfl (by decide) _ _ _ _ _ _ inb_S64x24576_S64x128_0_7808 _ x
  · exact spread_piece (k0_pay2 x0 x1) _ (planes_all c arg1 harg1 arg2 harg2 x0 x1) arg4 0 5 7680 rfl (by decide) _ _ _ _ _ _ inb_S64x24576_S64x128_0_7680 _ x
  · exact spread_piece (k0_pay2 x0 x1) _ (planes_all c arg1 harg1 arg2 harg2 x0 x1) arg4 11 4 7552 rfl (by decide) _ _ _ _ _ _ inb_S64x24576_S64x128_0_7552 _ x
  · exact spread_piece (k0_pay2 x0 x1) _ (planes_all c arg1 harg1 arg2 harg2 x0 x1) arg4 10 4 7424 rfl (by decide) _ _ _ _ _ _ inb_S64x24576_S64x128_0_7424 _ x
  · exact spread_piece (k0_pay2 x0 x1) _ (planes_all c arg1 harg1 arg2 harg2 x0 x1) arg4 9 4 7296 rfl (by decide) _ _ _ _ _ _ inb_S64x24576_S64x128_0_7296 _ x
  · exact spread_piece (k0_pay2 x0 x1) _ (planes_all c arg1 harg1 arg2 harg2 x0 x1) arg4 8 4 7168 rfl (by decide) _ _ _ _ _ _ inb_S64x24576_S64x128_0_7168 _ x
  · exact spread_piece (k0_pay2 x0 x1) _ (planes_all c arg1 harg1 arg2 harg2 x0 x1) arg4 7 4 7040 rfl (by decide) _ _ _ _ _ _ inb_S64x24576_S64x128_0_7040 _ x
  · exact spread_piece (k0_pay2 x0 x1) _ (planes_all c arg1 harg1 arg2 harg2 x0 x1) arg4 6 4 6912 rfl (by decide) _ _ _ _ _ _ inb_S64x24576_S64x128_0_6912 _ x
  · exact spread_piece (k0_pay2 x0 x1) _ (planes_all c arg1 harg1 arg2 harg2 x0 x1) arg4 5 4 6784 rfl (by decide) _ _ _ _ _ _ inb_S64x24576_S64x128_0_6784 _ x
  · exact spread_piece (k0_pay2 x0 x1) _ (planes_all c arg1 harg1 arg2 harg2 x0 x1) arg4 4 4 6656 rfl (by decide) _ _ _ _ _ _ inb_S64x24576_S64x128_0_6656 _ x
  · exact spread_piece (k0_pay2 x0 x1) _ (planes_all c arg1 harg1 arg2 harg2 x0 x1) arg4 3 4 6528 rfl (by decide) _ _ _ _ _ _ inb_S64x24576_S64x128_0_6528 _ x
  · exact spread_piece (k0_pay2 x0 x1) _ (planes_all c arg1 harg1 arg2 harg2 x0 x1) arg4 2 4 6400 rfl (by decide) _ _ _ _ _ _ inb_S64x24576_S64x128_0_6400 _ x
  · exact spread_piece (k0_pay2 x0 x1) _ (planes_all c arg1 harg1 arg2 harg2 x0 x1) arg4 1 4 6272 rfl (by decide) _ _ _ _ _ _ inb_S64x24576_S64x128_0_6272 _ x
  · exact spread_piece (k0_pay2 x0 x1) _ (planes_all c arg1 harg1 arg2 harg2 x0 x1) arg4 0 4 6144 rfl (by decide) _ _ _ _ _ _ inb_S64x24576_S64x128_0_6144 _ x
  · exact spread_piece (k0_pay2 x0 x1) _ (planes_all c arg1 harg1 arg2 harg2 x0 x1) arg4 11 3 6016 rfl (by decide) _ _ _ _ _ _ inb_S64x24576_S64x128_0_6016 _ x
  · exact spread_piece (k0_pay2 x0 x1) _ (planes_all c arg1 harg1 arg2 harg2 x0 x1) arg4 10 3 5888 rfl (by decide) _ _ _ _ _ _ inb_S64x24576_S64x128_0_5888 _ x
  · exact spread_piece (k0_pay2 x0 x1) _ (planes_all c arg1 harg1 arg2 harg2 x0 x1) arg4 9 3 5760 rfl (by decide) _ _ _ _ _ _ inb_S64x24576_S64x128_0_5760 _ x
  · exact spread_piece (k0_pay2 x0 x1) _ (planes_all c arg1 harg1 arg2 harg2 x0 x1) arg4 8 3 5632 rfl (by decide) _ _ _ _ _ _ inb_S64x24576_S64x128_0_5632 _ x
  · exact spread_piece (k0_pay2 x0 x1) _ (planes_all c arg1 harg1 arg2 harg2 x0 x1) arg4 7 3 5504 rfl (by decide) _ _ _ _ _ _ inb_S64x24576_S64x128_0_5504 _ x
  · exact spread_piece (k0_pay2 x0 x1) _ (planes_all c arg1 harg1 arg2 harg2 x0 x1) arg4 6 3 5376 rfl (by decide) _ _ _ _ _ _ inb_S64x24576_S64x128_0_5376 _ x
  · exact spread_piece (k0_pay2 x0 x1) _ (planes_all c arg1 harg1 arg2 harg2 x0 x1) arg4 5 3 5248 rfl (by decide) _ _ _ _ _ _ inb_S64x24576_S64x128_0_5248 _ x
  · exact spread_piece (k0_pay2 x0 x1) _ (planes_all c arg1 harg1 arg2 harg2 x0 x1) arg4 4 3 5120 rfl (by decide) _ _ _ _ _ _ inb_S64x24576_S64x128_0_5120 _ x
  · exact spread_piece (k0_pay2 x0 x1) _ (planes_all c arg1 harg1 arg2 harg2 x0 x1) arg4 3 3 4992 rfl (by decide) _ _ _ _ _ _ inb_S64x24576_S64x128_0_4992 _ x
  · exact spread_piece (k0_pay2 x0 x1) _ (planes_all c arg1 harg1 arg2 harg2 x0 x1) arg4 2 3 4864 rfl (by decide) _ _ _ _ _ _ inb_S64x24576_S64x128_0_4864 _ x
  · exact spread_piece (k0_pay2 x0 x1) _ (planes_all c arg1 harg1 arg2 harg2 x0 x1) arg4 1 3 4736 rfl (by decide) _ _ _ _ _ _ inb_S64x24576_S64x128_0_4736 _ x
  · exact spread_piece (k0_pay2 x0 x1) _ (planes_all c arg1 harg1 arg2 harg2 x0 x1) arg4 0 3 4608 rfl (by decide) _ _ _ _ _ _ inb_S64x24576_S64x128_0_4608 _ x
  · exact spread_piece (k0_pay2 x0 x1) _ (planes_all c arg1 harg1 arg2 harg2 x0 x1) arg4 11 2 4480 rfl (by decide) _ _ _ _ _ _ inb_S64x24576_S64x128_0_4480 _ x
  · exact spread_piece (k0_pay2 x0 x1) _ (planes_all c arg1 harg1 arg2 harg2 x0 x1) arg4 10 2 4352 rfl (by decide) _ _ _ _ _ _ inb_S64x24576_S64x128_0_4352 _ x
  · exact spread_piece (k0_pay2 x0 x1) _ (planes_all c arg1 harg1 arg2 harg2 x0 x1) arg4 9 2 4224 rfl (by decide) _ _ _ _ _ _ inb_S64x24576_S64x128_0_4224 _ x
  · exact spread_piece (k0_pay2 x0 x1) _ (planes_all c arg1 harg1 arg2 harg2 x0 x1) arg4 8 2 4096 rfl (by decide) _ _ _ _ _ _ inb_S64x24576_S64x128_0_4096 _ x
  · exact spread_piece (k0_pay2 x0 x1) _ (planes_all c arg1 harg1 arg2 harg2 x0 x1) arg4 7 2 3968 rfl (by decide) _ _ _ _ _ _ inb_S64x24576_S64x128_0_3968 _ x
  · exact spread_piece (k0_pay2 x0 x1) _ (planes_all c arg1 harg1 arg2 harg2 x0 x1) arg4 6 2 3840 rfl (by decide) _ _ _ _ _ _ inb_S64x24576_S64x128_0_3840 _ x
  · exact spread_piece (k0_pay2 x0 x1) _ (planes_all c arg1 harg1 arg2 harg2 x0 x1) arg4 5 2 3712 rfl (by decide) _ _ _ _ _ _ inb_S64x24576_S64x128_0_3712 _ x
  · exact spread_piece (k0_pay2 x0 x1) _ (planes_all c arg1 harg1 arg2 harg2 x0 x1) arg4 4 2 3584 rfl (by decide) _ _ _ _ _ _ inb_S64x24576_S64x128_0_3584 _ x
  · exact spread_piece (k0_pay2 x0 x1) _ (planes_all c arg1 harg1 arg2 harg2 x0 x1) arg4 3 2 3456 rfl (by decide) _ _ _ _ _ _ inb_S64x24576_S64x128_0_3456 _ x
  · exact spread_piece (k0_pay2 x0 x1) _ (planes_all c arg1 harg1 arg2 harg2 x0 x1) arg4 2 2 3328 rfl (by decide) _ _ _ _ _ _ inb_S64x24576_S64x128_0_3328 _ x
  · exact spread_piece (k0_pay2 x0 x1) _ (planes_all c arg1 harg1 arg2 harg2 x0 x1) arg4 1 2 3200 rfl (by decide) _ _ _ _ _ _ inb_S64x24576_S64x128_0_3200 _ x
  · exact spread_piece (k0_pay2 x0 x1) _ (planes_all c arg1 harg1 arg2 harg2 x0 x1) arg4 0 2 3072 rfl (by decide) _ _ _ _ _ _ inb_S64x24576_S64x128_0_3072 _ x
  · exact spread_piece (k0_pay2 x0 x1) _ (planes_all c arg1 harg1 arg2 harg2 x0 x1) arg4 11 1 2944 rfl (by decide) _ _ _ _ _ _ inb_S64x24576_S64x128_0_2944 _ x
  · exact spread_piece (k0_pay2 x0 x1) _ (planes_all c arg1 harg1 arg2 harg2 x0 x1) arg4 10 1 2816 rfl (by decide) _ _ _ _ _ _ inb_S64x24576_S64x128_0_2816 _ x
  · exact spread_piece (k0_pay2 x0 x1) _ (planes_all c arg1 harg1 arg2 harg2 x0 x1) arg4 9 1 2688 rfl (by decide) _ _ _ _ _ _ inb_S64x24576_S64x128_0_2688 _ x
  · exact spread_piece (k0_pay2 x0 x1) _ (planes_all c arg1 harg1 arg2 harg2 x0 x1) arg4 8 1 2560 rfl (by decide) _ _ _ _ _ _ inb_S64x24576_S64x128_0_2560 _ x
  · exact spread_piece (k0_pay2 x0 x1) _ (planes_all c arg1 harg1 arg2 harg2 x0 x1) arg4 7 1 2432 rfl (by decide) _ _ _ _ _ _ inb_S64x24576_S64x128_0_2432 _ x
  · exact spread_piece (k0_pay2 x0 x1) _ (planes_all c arg1 harg1 arg2 harg2 x0 x1) arg4 6 1 2304 rfl (by decide) _ _ _ _ _ _ inb_S64x24576_S64x128_0_2304 _ x
  · exact spread_piece (k0_pay2 x0 x1) _ (planes_all c arg1 harg1 arg2 harg2 x0 x1) arg4 5 1 2176 rfl (by decide) _ _ _ _ _ _ inb_S64x24576_S64x128_0_2176 _ x
  · exact spread_piece (k0_pay2 x0 x1) _ (planes_all c arg1 harg1 arg2 harg2 x0 x1) arg4 4 1 2048 rfl (by decide) _ _ _ _ _ _ inb_S64x24576_S64x128_0_2048 _ x
  · exact spread_piece (k0_pay2 x0 x1) _ (planes_all c arg1 harg1 arg2 harg2 x0 x1) arg4 3 1 1920 rfl (by decide) _ _ _ _ _ _ inb_S64x24576_S64x128_0_1920 _ x
  · exact spread_piece (k0_pay2 x0 x1) _ (planes_all c arg1 harg1 arg2 harg2 x0 x1) arg4 2 1 1792 rfl (by decide) _ _ _ _ _ _ inb_S64x24576_S64x128_0_1792 _ x
  · exact spread_piece (k0_pay2 x0 x1) _ (planes_all c arg1 harg1 arg2 harg2 x0 x1) arg4 1 1 1664 rfl (by decide) _ _ _ _ _ _ inb_S64x24576_S64x128_0_1664 _ x
  · exact spread_piece (k0_pay2 x0 x1) _ (planes_all c arg1 harg1 arg2 harg2 x0 x1) arg4 0 1 1536 rfl (by decide) _ _ _ _ _ _ inb_S64x24576_S64x128_0_1536 _ x
  · exact spread_piece (k0_pay2 x0 x1) _ (planes_all c arg1 harg1 arg2 harg2 x0 x1) arg4 11 0 1408 rfl (by decide) _ _ _ _ _ _ inb_S64x24576_S64x128_0_1408 _ x
  · exact spread_piece (k0_pay2 x0 x1) _ (planes_all c arg1 harg1 arg2 harg2 x0 x1) arg4 10 0 1280 rfl (by decide) _ _ _ _ _ _ inb_S64x24576_S64x128_0_1280 _ x
  · exact spread_piece (k0_pay2 x0 x1) _ (planes_all c arg1 harg1 arg2 harg2 x0 x1) arg4 9 0 1152 rfl (by decide) _ _ _ _ _ _ inb_S64x24576_S64x128_0_1152 _ x
  · exact spread_piece (k0_pay2 x0 x1) _ (planes_all c arg1 harg1 arg2 harg2 x0 x1) arg4 8 0 1024 rfl (by decide) _ _ _ _ _ _ inb_S64x24576_S64x128_0_1024 _ x
  · exact spread_piece (k0_pay2 x0 x1) _ (planes_all c arg1 harg1 arg2 harg2 x0 x1) arg4 7 0 896 rfl (by decide) _ _ _ _ _ _ inb_S64x24576_S64x128_0_896 _ x
  · exact spread_piece (k0_pay2 x0 x1) _ (planes_all c arg1 harg1 arg2 harg2 x0 x1) arg4 6 0 768 rfl (by decide) _ _ _ _ _ _ inb_S64x24576_S64x128_0_768 _ x
  · exact spread_piece (k0_pay2 x0 x1) _ (planes_all c arg1 harg1 arg2 harg2 x0 x1) arg4 5 0 640 rfl (by decide) _ _ _ _ _ _ inb_S64x24576_S64x128_0_640 _ x
  · exact spread_piece (k0_pay2 x0 x1) _ (planes_all c arg1 harg1 arg2 harg2 x0 x1) arg4 4 0 512 rfl (by decide) _ _ _ _ _ _ inb_S64x24576_S64x128_0_512 _ x
  · exact spread_piece (k0_pay2 x0 x1) _ (planes_all c arg1 harg1 arg2 harg2 x0 x1) arg4 3 0 384 rfl (by decide) _ _ _ _ _ _ inb_S64x24576_S64x128_0_384 _ x
  · exact spread_piece (k0_pay2 x0 x1) _ (planes_all c arg1 harg1 arg2 harg2 x0 x1) arg4 2 0 256 rfl (by decide) _ _ _ _ _ _ inb_S64x24576_S64x128_0_256 _ x
  · exact spread_piece (k0_pay2 x0 x1) _ (planes_all c arg1 harg1 arg2 harg2 x0 x1) arg4 1 0 128 rfl (by decide) _ _ _ _ _ _ inb_S64x24576_S64x128_0_128 _ x
  · exact spread_piece (k0_pay2 x0 x1) _ (planes_all c arg1 harg1 arg2 harg2 x0 x1) arg4 0 0 0 rfl (by decide) _ _ _ _ _ _ inb_S64x24576_S64x128_0_0 _ x

theorem out_eq : out0_A_2 c i arg1 harg1 arg2 harg2 arg3 harg3 arg4 harg4 x0 x1 = spread (k0_pay2 x0 x1) := by
  unfold out0_A_2
  rw [View.read_writes_junk_eq_canon]
  exact funext fun y => View.canon_apply_of_pieces _ _ (spread_pieces c arg1 harg1 arg2 harg2 x0 x1 i arg3 harg3 arg4 harg4).mem y
    (cover0_A_2 c i arg1 harg1 arg2 harg2 arg3 harg3 arg4 harg4 x0 x1 y)

end

end Cert.Kernel7Ideal.DilProj16

end
-- ==== Proof.DilProj16.lean ====
/- The projection of the dilated attention's group of dilation 16 in an odd layer: the five claims. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.ProjSpec
public import proofs.«01_k».proof.Proof.DilScratch16
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference7Ideal.DilProj16

open Cert.Reference7Ideal Cert.Reference7Ideal.Gen Cert.Reference7Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's projection, its columns set in order, from the whole projection `h`. -/
def rows (h : FVec Ideal S32768x6468 .f32) : FVec Ideal S32768x1536 .f32 :=
  ((concatenate S32768x1536 1 [⟨S32768x512, ((mulf (shapeCast _ (extractStridedSlice S32768x1x1x512 ![0, 0, 2, 0] (shapeCast _ (extractStridedSlice S32768x4608 ![0, 1860] h slices_S32768x6468_S32768x4608_0_1860) shapeCasts_S32768x4608_S32768x3x3x512) slices_S32768x3x3x512_S32768x1x1x512_0_0_2_0) shapeCasts_S32768x1x1x512_S32768x512) (broadcastInDim S32768x512 ![] bcast_S_S32768x512 (constant (F := Ideal) S_ .f32 0x3E000000#32))) : (⟨S32768x512, .f32⟩ : BufTy).Contents (Elt Ideal))⟩, ⟨S32768x512, ((shapeCast _ (extractStridedSlice S32768x1x1x512 ![0, 1, 2, 0] (shapeCast _ (extractStridedSlice S32768x4608 ![0, 1860] h slices_S32768x6468_S32768x4608_0_1860) shapeCasts_S32768x4608_S32768x3x3x512) slices_S32768x3x3x512_S32768x1x1x512_0_1_2_0) shapeCasts_S32768x1x1x512_S32768x512) : (⟨S32768x512, .f32⟩ : BufTy).Contents (Elt Ideal))⟩, ⟨S32768x512, ((shapeCast _ (extractStridedSlice S32768x1x1x512 ![0, 2, 2, 0] (shapeCast _ (extractStridedSlice S32768x4608 ![0, 1860] h slices_S32768x6468_S32768x4608_0_1860) shapeCasts_S32768x4608_S32768x3x3x512) slices_S32768x3x3x512_S32768x1x1x512_0_2_2_0) shapeCasts_S32768x1x1x512_S32768x512) : (⟨S32768x512, .f32⟩ : BufTy).Contents (Elt Ideal))⟩] concatenates_S32768x512_S32768x512_S32768x512_S32768x1536_d1 : (⟨S32768x1536, .f32⟩ : BufTy).Contents (Elt Ideal)))

/-- The reference's result: sixteen rows of it to a row. -/
def laid (h : FVec Ideal S32768x6468 .f32) : FVec Ideal S2048x24576 .bf16 :=
  truncf .bf16 (shapeCast _ (rows h) shapeCasts_S32768x1536_S2048x24576) bitsLt_bf16_f32

set_option maxHeartbeats 4000000 in
theorem rows_apply (h : FVec Ideal S32768x6468 .f32) (p : Fin 32768) (j : Fin 1536) : rows h (ix2 p j) = dilated 2 (fun col => h (ix2 p col)) j := by
  unfold rows
  pointwise
  have hj := j.isLt
  split_ifs
  all_goals first
    | (have h1 : j.val < 512 := by omega
       exact (dilated_query 2 (fun col => h (ix2 p col)) j h1 _ (by dsimp only; omega)).symm)
    | (have h1 : 512 ≤ j.val := by omega
       exact (dilated_rest 2 (fun col => h (ix2 p col)) j h1 _ (by dsimp only; omega)).symm)

theorem laid_apply (h : FVec Ideal S32768x6468 .f32) (p : Fin 2048) (j : Fin 24576) : laid h (ix2 p j)
    = dilated 2 (fun col => h (ix2 ⟨16 * p.val + j.val / 1536, by omega⟩ col)) ⟨j.val % 1536, Nat.mod_lt _ (by decide)⟩ := by
  refine Eq.trans ?_ (rows_apply h _ _)
  unfold laid
  pointwise
  exact congrArg (fun z : Fin 32768 => rows h (ix2 z _)) (Fin.ext (by dsimp only; omega))

end Cert.Reference7Ideal.DilProj16

/-! ## The kernel's entries -/

namespace Cert.Kernel7Ideal.DilProj16

open Cert.Kernel7Ideal Cert.Kernel7Ideal.Gen Cert.Kernel7Ideal.Value

variable (m : (ℓ : Loc nD τ sig) → Buf (Elt Ideal) ℓ)

theorem pay_apply (x0 x1) (p : Fin 1024) (q : Fin 1536) : k0_pay2 (F := Ideal) x0 x1 (ix2 p q) = entry (fun k => x0 (ix2 p k)) (fun k => x1 (ix2 k q)) := by
  pointwise [k0_pay2]
  rfl

set_option maxHeartbeats 4000000 in
/-- The weights, a column of them. -/
theorem V_w (c : Dev nD) (d : Fin 1024) (j : Fin 1536) : V m c main_v58 (ix2 d j) = dilated 2 (fun col => m (c.tc.loc main_arg1) (ix2 d col)) j := by
  unfold V
  after_reads_at
  have hj := j.isLt
  split_ifs
  all_goals first | (exfalso; omega) | skip
  all_goals after_reads_at
  all_goals try split_ifs
  all_goals first | (exfalso; omega) | skip
  all_goals try after_reads_at
  all_goals try split_ifs
  all_goals first
    | (have h1 : j.val < 512 := by omega
       exact (dilated_query 2 (fun col => m (c.tc.loc main_arg1) (ix2 d col)) j h1 _ (by dsimp only; omega)).symm)
    | (have h1 : 512 ≤ j.val := by omega
       exact (dilated_rest 2 (fun col => m (c.tc.loc main_arg1) (ix2 d col)) j h1 _ (by dsimp only; omega)).symm)

theorem idx : ∀ t : Fin cfg0.N, win0_0.index t = ![t.val, 0] ∧ win0_1.index t = ![0, 0] ∧ win0_2.index t = ![t.val, 0] := by
  decide +kernel

/-- The result, as an array. -/
def result (c : Dev nD) : S2048x24576.Idx → EReal := fun y =>
  dilated 2 (fun col => entry (fun k => m (c.tc.loc main_arg0) (ix2 ⟨16 * (y 0).val + (y 1).val / 1536, by have h0 : (y 0).val < 2048 := (y 0).isLt; have h1 : (y 1).val < 24576 := (y 1).isLt; omega⟩ k))
    (fun k => m (c.tc.loc main_arg1) (ix2 k col))) ⟨(y 1).val % 1536, Nat.mod_lt _ (by decide)⟩

theorem row_lt (t : Fin cfg0.N) (p : Fin 1024) : t.val * 1024 + p.val < 32768 := by
  have ht : t.val < 32 := t.isLt.trans_eq N_0
  omega

theorem iblk0_apply (c : Dev nD) (t : Fin cfg0.N) (p k : Fin 1024) : iblk m c 0 t (ix2 p k) = m (c.tc.loc main_arg0) (ix2 ⟨t.val * 1024 + p.val, row_lt t p⟩ k) := by
  refine Eq.trans ?_ (congrFun (V_main_arg0 m c) _)
  blk_ext [iblk, (idx t).1]

theorem iblk1_apply (c : Dev nD) (t : Fin cfg0.N) (k : Fin 1024) (q : Fin 1536) : iblk m c 1 t (ix2 k q)
    = dilated 2 (fun col => m (c.tc.loc main_arg1) (ix2 k col)) (q) := by
  refine Eq.trans ?_ (V_w m c k _)
  blk_ext [iblk, (idx t).2.1]

/-- What a grid point computes, at any place of its product. -/
theorem pay_result (c : Dev nD) (t : Fin cfg0.N) (p : Fin 1024) (q : Fin 1536) :
    k0_pay2 (iblk m c 0 t) (iblk m c 1 t) (ix2 p q)
      = dilated 2 (fun col => entry (fun k => m (c.tc.loc main_arg0) (ix2 ⟨t.val * 1024 + p.val, row_lt t p⟩ k)) (fun k => m (c.tc.loc main_arg1) (ix2 k col))) q := by
  refine (pay_apply _ _ p q).trans ((entry_congr (fun k => iblk0_apply m c t p k) (fun k => iblk1_apply m c t k q)).trans ?_)
  exact dilated_sum 2 _ _ _

/-- What a grid point writes, at any place of its block. -/
theorem spread_result (c : Dev nD) (t : Fin cfg0.N) (p : Fin 64) (q : Fin 24576) :
    spread (k0_pay2 (iblk m c 0 t) (iblk m c 1 t)) (ix2 p q)
      = result m c (ix2 ⟨t.val * 64 + p.val, by have ht : t.val < 32 := t.isLt.trans_eq N_0; omega⟩ q) := by
  refine (pay_result m c t _ _).trans ?_
  unfold result
  refine congrArg (fun z => dilated 2 z _) (funext fun col => ?_)
  refine congrArg (fun z => entry z _) (funext fun k => ?_)
  refine congrArg (fun z : Fin 32768 => m (c.tc.loc main_arg0) (ix2 z k)) (Fin.ext ?_)
  show t.val * 1024 + (16 * p.val + q.val / 1536) = 16 * (t.val * 64 + p.val) + q.val / 1536
  omega

/-- The result array after the run. -/
theorem arr_eq (c : Dev nD) : (dats m 0 c).arrAt 2 (cfgs 0).N = result m c := by
  refine (dats m 0 c).arrAt_eq_of_covers 2 _ (by decide +kernel) fun t hf (y : S64x24576.Idx) => ?_
  blk_simp
  rw [after0_2]
  unfold outsAt0
  rw [out_eq]
  have hy : y = ix2 (y 0) (y 1) := by funext a; fin_cases a <;> rfl
  refine (congrArg _ hy).trans ((spread_result m c t (y 0) (y 1)).trans ?_)
  blk_ext [(idx t).2.2]

end Cert.Kernel7Ideal.DilProj16

/-! ## The claims -/

namespace Cert.DilProj16

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run _ _ _).mono (fun r h => ⟨fun c => (h c).2, sem_eq_zero_of_no_sems rfl r.2⟩) (Cert.Reference7Ideal.Value.run m ρ)

/-- The kernel's result and the reference's are the same array. -/
theorem same : Cert.algebraic_Kernel7Ideal_Reference7Ideal := fun m ρ m' ρ' _ ha => by
  refine ⟨fun c => Cert.Kernel7Ideal.DilProj16.result m c, ?_, ?_⟩
  · refine (θ_run _ _ _).mono (fun r h c => ?_) (Cert.Kernel7Ideal.Value.run_blocks m ρ)
    exact ⟨(h c).1.trans (Cert.Kernel7Ideal.DilProj16.arr_eq m c), (h c).2⟩
  · refine (θ_run _ _ _).mono (fun r h c => ?_) (Cert.Reference7Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference7Ideal.DilProj16.laid_apply _ (y 0) (y 1)).trans ?_)
    refine (congrArg (fun f => dilated 2 f _) (funext fun col => Cert.Reference7Ideal.DilProj16.dot_apply _ _ _ col)).trans ?_
    rw [h0, h1]
    rfl

end Cert.DilProj16

end
-- ==== Proof.ValuesProj.lean ====
/- The values of the sparse attention in an odd layer, by columns: the five claims. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference8Ideal.ValuesProj

open Cert.Reference8Ideal Cert.Reference8Ideal.Gen Cert.Reference8Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's result from the whole projection `h`. -/
def laid (h : FVec Ideal S32768x6468 .f32) : FVec Ideal S512x32768 .bf16 :=
  truncf .bf16 (transpose S512x32768 [1, 0] (extractStridedSlice S32768x512 ![0, 1024] h slices_S32768x6468_S32768x512_0_1024) transposes_S32768x512_S512x32768_1_0) bitsLt_bf16_f32

set_option maxHeartbeats 4000000 in
theorem laid_apply (h : FVec Ideal S32768x6468 .f32) (j : Fin 512) (p : Fin 32768) : laid h (ix2 j p) = h (ix2 p ⟨1024 + j.val, by omega⟩) := by
  unfold laid
  pointwise

end Cert.Reference8Ideal.ValuesProj

/-! ## The kernel's entries -/

namespace Cert.Kernel8Ideal.ValuesProj

open Cert.Kernel8Ideal Cert.Kernel8Ideal.Gen Cert.Kernel8Ideal.Value

variable (m : (ℓ : Loc nD τ sig) → Buf (Elt Ideal) ℓ)

theorem pay_apply (x0 x1) (j : Fin 512) (q : Fin 1024) : k0_pay1 (F := Ideal) x0 x1 (ix2 j q) = entry (fun k => x0 (ix2 j k)) (fun k => x1 (ix2 q k)) := by
  pointwise [k0_pay1]
  rfl

/-- The weights, transposed. -/
theorem V_w (c : Dev nD) (j : Fin 512) (d : Fin 1024) : V m c main_v66 (ix2 j d) = m (c.tc.loc main_arg1) (ix2 d ⟨1024 + j.val, by omega⟩) := by
  unfold V
  after_reads_at

theorem idx : ∀ t : Fin cfg0.N, win0_0.index t = ![0, 0] ∧ win0_1.index t = ![t.val, 0] ∧ win0_2.index t = ![0, t.val] := by
  decide +kernel

/-- The result, as an array. -/
def result (c : Dev nD) : S512x32768.Idx → EReal := fun y =>
  entry (fun k => m (c.tc.loc main_arg0) (ix2 (y 1) k)) (fun k => m (c.tc.loc main_arg1) (ix2 k ⟨1024 + (y 0).val, by have : (y 0).val < 512 := (y 0).isLt; omega⟩))

theorem row_lt (t : Fin cfg0.N) (p : Fin 1024) : t.val * 1024 + p.val < 32768 := by
  have ht : t.val < 32 := t.isLt.trans_eq N_0
  omega

theorem iblk0_apply (c : Dev nD) (t : Fin cfg0.N) (j : Fin 512) (k : Fin 1024) : iblk m c 0 t (ix2 j k) = m (c.tc.loc main_arg1) (ix2 k ⟨1024 + j.val, by omega⟩) := by
  refine Eq.trans ?_ (V_w m c j k)
  blk_ext [iblk, (idx t).1]

theorem iblk1_apply (c : Dev nD) (t : Fin cfg0.N) (q k : Fin 1024) : iblk m c 1 t (ix2 q k) = m (c.tc.loc main_arg0) (ix2 ⟨t.val * 1024 + q.val, row_lt t q⟩ k) := by
  refine Eq.trans ?_ (congrFun (V_main_arg0 m c) _)
  blk_ext [iblk, (idx t).2.1]

/-- What a grid point writes, at any place of its block. -/
theorem pay_result (c : Dev nD) (t : Fin cfg0.N) (j : Fin 512) (q : Fin 1024) :
    k0_pay1 (iblk m c 0 t) (iblk m c 1 t) (ix2 j q) = result m c (ix2 j ⟨t.val * 1024 + q.val, row_lt t q⟩) := by
  refine (pay_apply _ _ j q).trans ((entry_congr (fun k => iblk0_apply m c t j k) (fun k => iblk1_apply m c t q k)).trans ?_)
  exact entry_comm _ _

/-- The result array after the run. -/
theorem arr_eq (c : Dev nD) : (dats m 0 c).arrAt 2 (cfgs 0).N = result m c := by
  refine (dats m 0 c).arrAt_eq_of_covers 2 _ (by decide +kernel) fun t hf (y : S512x1024.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel8Ideal.ValuesProj

/-! ## The claims -/

namespace Cert.ValuesProj

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run _ _ _).mono (fun r h => ⟨fun c => (h c).2, sem_eq_zero_of_no_sems rfl r.2⟩) (Cert.Reference8Ideal.Value.run m ρ)

/-- The kernel's result and the reference's are the same array. -/
theorem same : Cert.algebraic_Kernel8Ideal_Reference8Ideal := fun m ρ m' ρ' _ ha => by
  refine ⟨fun c => Cert.Kernel8Ideal.ValuesProj.result m c, ?_, ?_⟩
  · refine (θ_run _ _ _).mono (fun r h c => ?_) (Cert.Kernel8Ideal.Value.run_blocks m ρ)
    exact ⟨(h c).1.trans (Cert.Kernel8Ideal.ValuesProj.arr_eq m c), (h c).2⟩
  · refine (θ_run _ _ _).mono (fun r h c => ?_) (Cert.Reference8Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference8Ideal.ValuesProj.laid_apply _ (y 0) (y 1)).trans ?_)
    refine (Cert.Reference8Ideal.ValuesProj.dot_apply _ _ (y 1) _).trans ?_
    rw [h0, h1]
    rfl

end Cert.ValuesProj

end
-- ==== Proof.GlaProj.lean ====
/- The projection of the gated linear attention in an even layer: the five claims. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference9Ideal.GlaProj

open Cert.Reference9Ideal Cert.Reference9Ideal.Gen Cert.Reference9Ideal.Value

variable (m : (ℓ : Loc nD τ sig) → Buf (Elt Ideal) ℓ)

theorem dot_apply (x : FVec Ideal S32768x1024 .f32) (w : FVec Ideal S1024x2064 .f32) (p : Fin 32768) (col : Fin 2064) :
    (Host.dotGeneral dot_S32768x1024_S1024x2064_S32768x2064_1_0_0_1_n_n none x w : FVec Ideal S32768x2064 .f32) (ix2 p col)
      = entry (fun k => x (ix2 p k)) (fun k => w (ix2 k col)) := by
  pointwise
  rfl

/-- The reference's result from the whole projection `h`. -/
def laid (h : FVec Ideal S32768x2064 .f32) : FVec Ideal S32768x2048 .f32 :=
  (concatenate S32768x2048 1 [⟨S32768x256, ((mulf (extractStridedSlice S32768x256 ![0, 0] h slices_S32768x2064_S32768x256_0_0) (broadcastInDim S32768x256 ![] bcast_S_S32768x256 (constant (F := Ideal) S_ .f32 0x3E000000#32))) : (⟨S32768x256, .f32⟩ : BufTy).Contents (Elt Ideal))⟩, ⟨S32768x256, ((extractStridedSlice S32768x256 ![0, 256] h slices_S32768x2064_S32768x256_0_256) : (⟨S32768x256, .f32⟩ : BufTy).Contents (Elt Ideal))⟩, ⟨S32768x512, ((extractStridedSlice S32768x512 ![0, 512] h slices_S32768x2064_S32768x512_0_512) : (⟨S32768x512, .f32⟩ : BufTy).Contents (Elt Ideal))⟩, ⟨S32768x512, ((extractStridedSlice S32768x512 ![0, 1024] h slices_S32768x2064_S32768x512_0_1024) : (⟨S32768x512, .f32⟩ : BufTy).Contents (Elt Ideal))⟩, ⟨S32768x512, ((pad S32768x512 ![0, 0] ![0, 496] ![0, 0] (extractStridedSlice S32768x16 ![0, 1536] h slices_S32768x2064_S32768x16_0_1536) (sitofp (F := Ideal) .f32 (constantI S_ 32 0#32)) pads_S32768x16_S32768x512_000_04960 h_S_) : (⟨S32768x512, .f32⟩ : BufTy).Contents (Elt Ideal))⟩] concatenates_S32768x256_S32768x256_S32768x512_S32768x512_S32768x512_S32768x2048_d1 : (⟨S32768x2048, .f32⟩ : BufTy).Contents (Elt Ideal))

set_option maxHeartbeats 4000000 in
theorem laid_apply (h : FVec Ideal S32768x2064 .f32) (p : Fin 32768) (j : Fin 2048) : laid h (ix2 p j) = gated (fun col => h (ix2 p col)) j := by
  unfold laid
  pointwise
  have hj := j.isLt
  split_ifs
  all_goals first
    | (have h1 : j.val < 256 := by omega
       exact (gated_query (fun col => h (ix2 p col)) j h1 ⟨j.val, by omega⟩ rfl).symm)
    | (have h1 : 256 ≤ j.val ∧ j.val < 512 := by omega
       exact (gated_rest (fun col => h (ix2 p col)) j (by omega) (by omega) ⟨256 + (j.val - 256), by omega⟩ (show 256 + (j.val - 256) = _ by omega)).symm)
    | (have h1 : 512 ≤ j.val ∧ j.val < 1024 := by omega
       exact (gated_rest (fun col => h (ix2 p col)) j (by omega) (by omega) ⟨512 + (j.val - 256 - 256), by omega⟩ (show 512 + (j.val - 256 - 256) = _ by omega)).symm)
    | (have h1 : 1024 ≤ j.val ∧ j.val < 1536 := by omega
       exact (gated_rest (fun col => h (ix2 p col)) j (by omega) (by omega) ⟨1024 + (j.val - 256 - 256 - 512), by omega⟩ (show 1024 + (j.val - 256 - 256 - 512) = _ by omega)).symm)
    | (have h1 : 1536 ≤ j.val ∧ j.val < 1552 := by omega
       exact (gated_rest (fun col => h (ix2 p col)) j (by omega) (by omega) ⟨1536 + (j.val - 256 - 256 - 512 - 512), by omega⟩ (show 1536 + (j.val - 256 - 256 - 512 - 512) = _ by omega)).symm)
    | (have h1 : 1552 ≤ j.val := by omega
       exact int_zero.trans (gated_zero (fun col => h (ix2 p col)) j h1).symm)

end Cert.Reference9Ideal.GlaProj

/-! ## The kernel's entries -/

namespace Cert.Kernel9Ideal.GlaProj

open Cert.Kernel9Ideal Cert.Kernel9Ideal.Gen Cert.Kernel9Ideal.Value

variable (m : (ℓ : Loc nD τ sig) → Buf (Elt Ideal) ℓ)

theorem pay_apply (x0 x1) (p : Fin 1024) (q : Fin 512) : k0_pay1 (F := Ideal) x0 x1 (ix2 p q) = entry (fun k => x0 (ix2 p k)) (fun k => x1 (ix2 k q)) := by
  pointwise [k0_pay1]
  rfl

set_option maxHeartbeats 4000000 in
/-- The weights, a column of them. -/
theorem V_w (c : Dev nD) (d : Fin 1024) (j : Fin 2048) : V m c main_v10 (ix2 d j) = gated (fun col => m (c.tc.loc main_arg1) (ix2 d col)) j := by
  unfold V
  after_reads_at
  have hj := j.isLt
  split_ifs
  all_goals first | (exfalso; omega) | skip
  all_goals after_reads_at
  all_goals try split_ifs
  all_goals first | (exfalso; omega) | skip
  all_goals try after_reads_at
  all_goals try split_ifs
  all_goals first
    | (have h1 : j.val < 256 := by omega
       exact (gated_query (fun col => m (c.tc.loc main_arg1) (ix2 d col)) j h1 ⟨j.val, by omega⟩ rfl).symm)
    | (have h1 : 256 ≤ j.val ∧ j.val < 512 := by omega
       exact (gated_rest (fun col => m (c.tc.loc main_arg1) (ix2 d col)) j (by omega) (by omega) ⟨256 + (j.val - 256), by omega⟩ (show 256 + (j.val - 256) = _ by omega)).symm)
    | (have h1 : 512 ≤ j.val ∧ j.val < 1024 := by omega
       exact (gated_rest (fun col => m (c.tc.loc main_arg1) (ix2 d col)) j (by omega) (by omega) ⟨512 + (j.val - 256 - 256), by omega⟩ (show 512 + (j.val - 256 - 256) = _ by omega)).symm)
    | (have h1 : 1024 ≤ j.val ∧ j.val < 1536 := by omega
       exact (gated_rest (fun col => m (c.tc.loc main_arg1) (ix2 d col)) j (by omega) (by omega) ⟨1024 + (j.val - 256 - 256 - 512), by omega⟩ (show 1024 + (j.val - 256 - 256 - 512) = _ by omega)).symm)
    | (have h1 : 1536 ≤ j.val ∧ j.val < 1552 := by omega
       exact (gated_rest (fun col => m (c.tc.loc main_arg1) (ix2 d col)) j (by omega) (by omega) ⟨1536 + (j.val - 256 - 256 - 512 - 512), by omega⟩ (show 1536 + (j.val - 256 - 256 - 512 - 512) = _ by omega)).symm)
    | (have h1 : 1552 ≤ j.val := by omega
       exact (gated_zero (fun col => m (c.tc.loc main_arg1) (ix2 d col)) j h1).symm)

theorem idx : ∀ t : Fin cfg0.N, win0_0.index t = ![t.val / 4, 0] ∧ win0_1.index t = ![0, t.val % 4] ∧ win0_2.index t = ![t.val / 4, t.val % 4] := by
  decide +kernel

/-- The result, as an array. -/
def result (c : Dev nD) : S32768x2048.Idx → EReal := fun y =>
  gated (fun col => entry (fun k => m (c.tc.loc main_arg0) (ix2 (y 0) k)) (fun k => m (c.tc.loc main_arg1) (ix2 k col))) (y 1)

theorem row_lt (t : Fin cfg0.N) (p : Fin 1024) : t.val / 4 * 1024 + p.val < 32768 := by
  have ht : t.val < 128 := t.isLt.trans_eq N_0
  omega

theorem col_lt (t : Fin cfg0.N) (q : Fin 512) : t.val % 4 * 512 + q.val < 2048 := by
  omega

theorem iblk0_apply (c : Dev nD) (t : Fin cfg0.N) (p k : Fin 1024) : iblk m c 0 t (ix2 p k) = m (c.tc.loc main_arg0) (ix2 ⟨t.val / 4 * 1024 + p.val, row_lt t p⟩ k) := by
  refine Eq.trans ?_ (congrFun (V_main_arg0 m c) _)
  blk_ext [iblk, (idx t).1]

theorem iblk1_apply (c : Dev nD) (t : Fin cfg0.N) (k : Fin 1024) (q : Fin 512) : iblk m c 1 t (ix2 k q)
    = gated (fun col => m (c.tc.loc main_arg1) (ix2 k col)) ⟨t.val % 4 * 512 + q.val, col_lt t q⟩ := by
  refine Eq.trans ?_ (V_w m c k _)
  blk_ext [iblk, (idx t).2.1]

/-- What a grid point writes, at any place of its block. -/
theorem pay_result (c : Dev nD) (t : Fin cfg0.N) (p : Fin 1024) (q : Fin 512) :
    k0_pay1 (iblk m c 0 t) (iblk m c 1 t) (ix2 p q) = result m c (ix2 ⟨t.val / 4 * 1024 + p.val, row_lt t p⟩ ⟨t.val % 4 * 512 + q.val, col_lt t q⟩) := by
  refine (pay_apply _ _ p q).trans ((entry_congr (fun k => iblk0_apply m c t p k) (fun k => iblk1_apply m c t k q)).trans ?_)
  exact gated_sum _ _ _

/-- The result array after the run. -/
theorem arr_eq (c : Dev nD) : (dats m 0 c).arrAt 2 (cfgs 0).N = result m c := by
  refine (dats m 0 c).arrAt_eq_of_covers 2 _ (by decide +kernel) fun t hf (y : S1024x512.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel9Ideal.GlaProj

/-! ## The claims -/

namespace Cert.GlaProj

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run _ _ _).mono (fun r h => ⟨fun c => (h c).2, sem_eq_zero_of_no_sems rfl r.2⟩) (Cert.Reference9Ideal.Value.run m ρ)

/-- The kernel's result and the reference's are the same array. -/
theorem same : Cert.algebraic_Kernel9Ideal_Reference9Ideal := fun m ρ m' ρ' _ ha => by
  refine ⟨fun c => Cert.Kernel9Ideal.GlaProj.result m c, ?_, ?_⟩
  · refine (θ_run _ _ _).mono (fun r h c => ?_) (Cert.Kernel9Ideal.Value.run_blocks m ρ)
    exact ⟨(h c).1.trans (Cert.Kernel9Ideal.GlaProj.arr_eq m c), (h c).2⟩
  · refine (θ_run _ _ _).mono (fun r h c => ?_) (Cert.Reference9Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference9Ideal.GlaProj.laid_apply _ (y 0) (y 1)).trans ?_)
    refine (congrArg (fun f => gated f (y 1)) (funext fun col => Cert.Reference9Ideal.GlaProj.dot_apply _ _ (y 0) col)).trans ?_
    rw [h0, h1]
    rfl

end Cert.GlaProj

end
-- ==== Proof.S5Proj.lean ====
/- The S5 input in an even layer, by columns: the five claims. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The reference's entries -/

namespace Cert.Reference10Ideal.S5Proj

open Cert.Reference10Ideal Cert.Reference10Ideal.Gen Cert.Reference10Ideal.Value

variable (m : (ℓ : Loc nD τ sig) → Buf (Elt Ideal) ℓ)

theorem dot_apply (x : FVec Ideal S32768x1024 .f32) (w : FVec Ideal S1024x2064 .f32) (p : Fin 32768) (col : Fin 2064) :
    (Host.dotGeneral dot_S32768x1024_S1024x2064_S32768x2064_1_0_0_1_n_n none x w : FVec Ideal S32768x2064 .f32) (ix2 p col)
      = entry (fun k => x (ix2 p k)) (fun k => w (ix2 k col)) := by
  pointwise
  rfl

/-- The reference's result from the whole projection `h`. -/
def laid (h : FVec Ideal S32768x2064 .f32) : FVec Ideal S512x32768 .f32 :=
  transpose S512x32768 [1, 0] (extractStridedSlice S32768x512 ![0, 1552] h slices_S32768x2064_S32768x512_0_1552) transposes_S32768x512_S512x32768_1_0

set_option maxHeartbeats 4000000 in
theorem laid_apply (h : FVec Ideal S32768x2064 .f32) (j : Fin 512) (p : Fin 32768) : laid h (ix2 j p) = h (ix2 p ⟨1552 + j.val, by omega⟩) := by
  unfold laid
  pointwise

end Cert.Reference10Ideal.S5Proj

/-! ## The kernel's entries -/

namespace Cert.Kernel10Ideal.S5Proj

open Cert.Kernel10Ideal Cert.Kernel10Ideal.Gen Cert.Kernel10Ideal.Value

variable (m : (ℓ : Loc nD τ sig) → Buf (Elt Ideal) ℓ)

theorem pay_apply (x0 x1) (j : Fin 512) (q : Fin 1024) : k0_pay1 (F := Ideal) x0 x1 (ix2 j q) = entry (fun k => x0 (ix2 j k)) (fun k => x1 (ix2 q k)) := by
  pointwise [k0_pay1]
  rfl

/-- The weights, transposed. -/
theorem V_w (c : Dev nD) (j : Fin 512) (d : Fin 1024) : V m c main_v12 (ix2 j d) = m (c.tc.loc main_arg1) (ix2 d ⟨1552 + j.val, by omega⟩) := by
  unfold V
  after_reads_at

theorem idx : ∀ t : Fin cfg0.N, win0_0.index t = ![0, 0] ∧ win0_1.index t = ![t.val, 0] ∧ win0_2.index t = ![0, t.val] := by
  decide +kernel

/-- The result, as an array. -/
def result (c : Dev nD) : S512x32768.Idx → EReal := fun y =>
  entry (fun k => m (c.tc.loc main_arg0) (ix2 (y 1) k)) (fun k => m (c.tc.loc main_arg1) (ix2 k ⟨1552 + (y 0).val, by have : (y 0).val < 512 := (y 0).isLt; omega⟩))

theorem row_lt (t : Fin cfg0.N) (p : Fin 1024) : t.val * 1024 + p.val < 32768 := by
  have ht : t.val < 32 := t.isLt.trans_eq N_0
  omega

theorem iblk0_apply (c : Dev nD) (t : Fin cfg0.N) (j : Fin 512) (k : Fin 1024) : iblk m c 0 t (ix2 j k) = m (c.tc.loc main_arg1) (ix2 k ⟨1552 + j.val, by omega⟩) := by
  refine Eq.trans ?_ (V_w m c j k)
  blk_ext [iblk, (idx t).1]

theorem iblk1_apply (c : Dev nD) (t : Fin cfg0.N) (q k : Fin 1024) : iblk m c 1 t (ix2 q k) = m (c.tc.loc main_arg0) (ix2 ⟨t.val * 1024 + q.val, row_lt t q⟩ k) := by
  refine Eq.trans ?_ (congrFun (V_main_arg0 m c) _)
  blk_ext [iblk, (idx t).2.1]

/-- What a grid point writes, at any place of its block. -/
theorem pay_result (c : Dev nD) (t : Fin cfg0.N) (j : Fin 512) (q : Fin 1024) :
    k0_pay1 (iblk m c 0 t) (iblk m c 1 t) (ix2 j q) = result m c (ix2 j ⟨t.val * 1024 + q.val, row_lt t q⟩) := by
  refine (pay_apply _ _ j q).trans ((entry_congr (fun k => iblk0_apply m c t j k) (fun k => iblk1_apply m c t q k)).trans ?_)
  exact entry_comm _ _

/-- The result array after the run. -/
theorem arr_eq (c : Dev nD) : (dats m 0 c).arrAt 2 (cfgs 0).N = result m c := by
  refine (dats m 0 c).arrAt_eq_of_covers 2 _ (by decide +kernel) fun t hf (y : S512x1024.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel10Ideal.S5Proj

/-! ## The claims -/

namespace Cert.S5Proj

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run _ _ _).mono (fun r h => ⟨fun c => (h c).2, sem_eq_zero_of_no_sems rfl r.2⟩) (Cert.Reference10Ideal.Value.run m ρ)

/-- The kernel's result and the reference's are the same array. -/
theorem same : Cert.algebraic_Kernel10Ideal_Reference10Ideal := fun m ρ m' ρ' _ ha => by
  refine ⟨fun c => Cert.Kernel10Ideal.S5Proj.result m c, ?_, ?_⟩
  · refine (θ_run _ _ _).mono (fun r h c => ?_) (Cert.Kernel10Ideal.Value.run_blocks m ρ)
    exact ⟨(h c).1.trans (Cert.Kernel10Ideal.S5Proj.arr_eq m c), (h c).2⟩
  · refine (θ_run _ _ _).mono (fun r h c => ?_) (Cert.Reference10Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference10Ideal.S5Proj.laid_apply _ (y 0) (y 1)).trans ?_)
    refine (Cert.Reference10Ideal.S5Proj.dot_apply _ _ (y 1) _).trans ?_
    rw [h0, h1]
    rfl

end Cert.S5Proj

end
-- ==== Proof.S5Glu.lean ====
/- The gate on the S5 mixer's output: the five claims. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem

/-! ## The common value -/

namespace Cert.GluSpec

/-- An entry of the mixer's output by the logistic of its row's product with a column of the gate's weights and that column's bias. -/
def gated (y : EReal) (x w : Fin 512 → EReal) (b : EReal) : EReal := y * Ideal.logistic ((∑ k, x k * w k) + b)

theorem gated_congr {y y' b b' : EReal} {x x' w w' : Fin 512 → EReal} (hy : y = y') (hx : ∀ k, x k = x' k) (hw : ∀ k, w k = w' k) (hb : b = b') :
    gated y x w b = gated y' x' w' b' := by
  obtain rfl := funext hx; obtain rfl := funext hw; rw [hy, hb]

theorem gated_comm (y : EReal) (x w : Fin 512 → EReal) (b : EReal) : gated y w x b = gated y x w b := by
  unfold gated
  rw [Finset.sum_congr rfl fun k _ => mul_comm (w k) (x k)]

end Cert.GluSpec

open Cert.GluSpec

/-! ## The reference's entries -/

namespace Cert.Reference11Ideal.S5Glu

open Cert.Reference11Ideal Cert.Reference11Ideal.Gen Cert.Reference11Ideal.Value

/-- The reference's result from its arguments. -/
def result (y : FVec Ideal S512x32768 .f32) (w : FVec Ideal S512x512 .f32) (b : FVec Ideal S512 .f32) : FVec Ideal S32768x512 .bf16 :=
  truncf .bf16 (mulf (transpose S32768x512 [1, 0] y transposes_S512x32768_S32768x512_1_0) (Host.divf (broadcastInDim S32768x512 ![] bcast_S_S32768x512 (constant S_ .f32 0x3F800000#32)) (addf (broadcastInDim S32768x512 ![] bcast_S_S32768x512 (constant S_ .f32 0x3F800000#32)) (Host.exp (Host.negf (addf (Host.dotGeneral dot_S32768x512_S512x512_S32768x512_1_0_0_1_n_n none (transpose S32768x512 [1, 0] y transposes_S512x32768_S32768x512_1_0) w) (broadcastInDim S32768x512 ![0, 1] bcast_S1x512_S32768x512_0_1 (broadcastInDim S1x512 ![1] bcast_S512_S1x512_1 b)))))))) bitsLt_bf16_f32

set_option maxHeartbeats 4000000 in
theorem result_apply (y : FVec Ideal S512x32768 .f32) (w : FVec Ideal S512x512 .f32) (b : FVec Ideal S512 .f32) (p : Fin 32768) (j : Fin 512) :
    result y w b (ix2 p j) = gated (y (ix2 j p)) (fun k => y (ix2 k p)) (fun k => w (ix2 k j)) (b (ix1 j)) := by
  unfold result
  pointwise
  rfl

end Cert.Reference11Ideal.S5Glu

/-! ## The kernel's entries -/

namespace Cert.Kernel11Ideal.S5Glu

open Cert.Kernel11Ideal Cert.Kernel11Ideal.Gen Cert.Kernel11Ideal.Value

variable (m : (ℓ : Loc nD τ sig) → Buf (Elt Ideal) ℓ)

theorem pay_apply (x0 x1 x2) (q : Fin 1024) (j : Fin 512) :
    k0_pay1 (F := Ideal) x0 x1 x2 (ix2 q j) = gated (x0 (ix2 j q)) (fun k => x1 (ix2 j k)) (fun k => x0 (ix2 k q)) (x2 (ix2 j 0)) := by
  pointwise [k0_pay1]
  rfl

/-- The gate's weights, transposed. -/
theorem V_w (c : Dev nD) (j k : Fin 512) : V m c main_v1 (ix2 j k) = m (c.tc.loc main_arg1) (ix2 k j) := by
  unfold V
  after_reads_at

/-- The gate's bias, as a column. -/
theorem V_b (c : Dev nD) (j : Fin 512) : V m c main_v2 (ix2 j 0) = m (c.tc.loc main_arg2) (ix1 j) := by
  unfold V
  after_reads_at

theorem idx : ∀ t : Fin cfg0.N, win0_0.index t = ![0, t.val] ∧ win0_1.index t = ![0, 0] ∧ win0_2.index t = ![0, 0] ∧ win0_3.index t = ![t.val, 0] := by
  decide +kernel

/-- The result, as an array. -/
def result (c : Dev nD) : S32768x512.Idx → EReal := fun i =>
  gated (m (c.tc.loc main_arg0) (ix2 (i 1) (i 0))) (fun k => m (c.tc.loc main_arg0) (ix2 k (i 0))) (fun k => m (c.tc.loc main_arg1) (ix2 k (i 1)))
    (m (c.tc.loc main_arg2) (ix1 (i 1)))

theorem row_lt (t : Fin cfg0.N) (p : Fin 1024) : t.val * 1024 + p.val < 32768 := by
  have ht : t.val < 32 := t.isLt.trans_eq N_0
  omega

theorem iblk0_apply (c : Dev nD) (t : Fin cfg0.N) (j : Fin 512) (q : Fin 1024) : iblk m c 0 t (ix2 j q) = m (c.tc.loc main_arg0) (ix2 j ⟨t.val * 1024 + q.val, row_lt t q⟩) := by
  refine Eq.trans ?_ (congrFun (V_main_arg0 m c) _)
  blk_ext [iblk, (idx t).1]

theorem iblk1_apply (c : Dev nD) (t : Fin cfg0.N) (j k : Fin 512) : iblk m c 1 t (ix2 j k) = m (c.tc.loc main_arg1) (ix2 k j) := by
  refine Eq.trans ?_ (V_w m c j k)
  blk_ext [iblk, (idx t).2.1]

theorem iblk2_apply (c : Dev nD) (t : Fin cfg0.N) (j : Fin 512) : iblk m c 2 t (ix2 j 0) = m (c.tc.loc main_arg2) (ix1 j) := by
  refine Eq.trans ?_ (V_b m c j)
  blk_ext [iblk, (idx t).2.2.1]

/-- What a grid point writes, at any place of its block. -/
theorem pay_result (c : Dev nD) (t : Fin cfg0.N) (q : Fin 1024) (j : Fin 512) :
    k0_pay1 (iblk m c 0 t) (iblk m c 1 t) (iblk m c 2 t) (ix2 q j) = result m c (ix2 ⟨t.val * 1024 + q.val, row_lt t q⟩ j) := by
  refine (pay_apply _ _ _ q j).trans ((gated_congr (iblk0_apply m c t j q) (fun k => iblk1_apply m c t j k) (fun k => iblk0_apply m c t k q) (iblk2_apply m c t j)).trans ?_)
  exact gated_comm _ _ _ _

/-- The result array after the run. -/
theorem arr_eq (c : Dev nD) : (dats m 0 c).arrAt 3 (cfgs 0).N = result m c := by
  refine (dats m 0 c).arrAt_eq_of_covers 3 _ (by decide +kernel) fun t hf (y : S1024x512.Idx) => ?_
  blk_simp
  rw [after0_3]
  frame_out
  have hy : y = ix2 (y 0) (y 1) := by funext a; fin_cases a <;> rfl
  refine (congrArg _ hy).trans ((pay_result m c t (y 0) (y 1)).trans ?_)
  blk_ext [(idx t).2.2.2]

end Cert.Kernel11Ideal.S5Glu

/-! ## The claims -/

namespace Cert.S5Glu

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run _ _ _).mono (fun r h => ⟨fun c => (h c).2, sem_eq_zero_of_no_sems rfl r.2⟩) (Cert.Reference11Ideal.Value.run m ρ)

/-- The kernel's result and the reference's are the same array. -/
theorem same : Cert.algebraic_Kernel11Ideal_Reference11Ideal := fun m ρ m' ρ' _ ha => by
  refine ⟨fun c => Cert.Kernel11Ideal.S5Glu.result m c, ?_, ?_⟩
  · refine (θ_run _ _ _).mono (fun r h c => ?_) (Cert.Kernel11Ideal.Value.run_blocks m ρ)
    exact ⟨(h c).1.trans (Cert.Kernel11Ideal.S5Glu.arr_eq m c), (h c).2⟩
  · refine (θ_run _ _ _).mono (fun r h c => ?_) (Cert.Reference11Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1, h2⟩ := ha c
    refine (congrArg _ hy).trans ((Cert.Reference11Ideal.S5Glu.result_apply _ _ _ (y 0) (y 1)).trans ?_)
    rw [h0, h1, h2]
    rfl

end Cert.S5Glu

end
-- ==== Proof.IdxProj.lean ====
/- The weights of the sparse attention's index heads in an odd layer, by columns: the five claims. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.ProjSpec
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.ProjSpec

/-! ## The columns -/

namespace Cert.IdxSpec

/-- The index heads' scale. -/
def half : EReal := Ideal.ofBits FTy.f32 1056964608#32

theorem half_eq : half = ((1 / 2 : ℝ) : EReal) := by
  unfold half
  simp [Ideal.ofBits, Ideal.ieee, -EReal.coe_mul]
  norm_num

theorem half_nonneg : 0 ≤ half := by
  rw [half_eq]; exact EReal.coe_nonneg.mpr (by norm_num)

theorem half_ne_top : half ≠ ⊤ := by
  rw [half_eq]; exact EReal.coe_ne_top _

/-- The columns that the projection keeps of a row `h` of the whole projection: the four index heads' weights by their
    scale, and zeros. -/
def heads (h : Fin 6468 → EReal) (j : Fin 8) : EReal :=
  if h1 : j.val < 4 then h ⟨1856 + j.val, by omega⟩ * half else 0

theorem heads_pos (h : Fin 6468 → EReal) (j : Fin 8) (h1 : j.val < 4) : heads h j = h ⟨1856 + j.val, by omega⟩ * half := by
  unfold heads; rw [dif_pos h1]

theorem heads_zero (h : Fin 6468 → EReal) (j : Fin 8) (h1 : ¬j.val < 4) : heads h j = 0 := by
  unfold heads; rw [dif_neg h1]

theorem heads_sum (x : Fin 1024 → EReal) (w : Fin 1024 → Fin 6468 → EReal) (j : Fin 8) :
    ∑ k, x k * heads (w k) j = heads (fun col => ∑ k, x k * w k col) j := by
  unfold heads
  split_ifs
  · exact sum_scaled _ _ _ half_nonneg half_ne_top
  · exact sum_zero _

end Cert.IdxSpec

open Cert.IdxSpec

/-! ## The reference's entries -/

namespace Cert.Reference12Ideal.IdxProj

open Cert.Reference12Ideal Cert.Reference12Ideal.Gen Cert.Reference12Ideal.Value

variable (m : (ℓ : Loc nD τ sig) → Buf (Elt Ideal) ℓ)

theorem dot_apply (x : FVec Ideal S32768x1024 .f32) (w : FVec Ideal S1024x6468 .f32) (p : Fin 32768) (col : Fin 6468) :
    (Host.dotGeneral dot_S32768x1024_S1024x6468_S32768x6468_1_0_0_1_n_n none x w : FVec Ideal S32768x6468 .f32) (ix2 p col)
      = entry (fun k => x (ix2 p k)) (fun k => w (ix2 k col)) := by
  pointwise
  rfl

/-- The reference's result from the whole projection `h`. -/
def laid (h : FVec Ideal S32768x6468 .f32) : FVec Ideal S8x32768 .f32 :=
  transpose S8x32768 [1, 0] (pad S32768x8 ![0, 0] ![0, 4] ![0, 0] (mulf (extractStridedSlice S32768x4 ![0, 1856] h slices_S32768x6468_S32768x4_0_1856) (broadcastInDim S32768x4 ![] bcast_S_S32768x4 (constant S_ .f32 0x3F000000#32))) (sitofp .f32 (constantI S_ 32 0#32)) pads_S32768x4_S32768x8_000_040 h_S_) transposes_S32768x8_S8x32768_1_0

set_option maxHeartbeats 4000000 in
theorem laid_apply (h : FVec Ideal S32768x6468 .f32) (j : Fin 8) (p : Fin 32768) : laid h (ix2 j p) = heads (fun col => h (ix2 p col)) j := by
  unfold laid
  pointwise
  split_ifs
  · exact (heads_pos (fun col => h (ix2 p col)) j (by omega)).symm
  · exact int_zero.trans (heads_zero (fun col => h (ix2 p col)) j (by omega)).symm

end Cert.Reference12Ideal.IdxProj

/-! ## The kernel's entries -/

namespace Cert.Kernel12Ideal.IdxProj

open Cert.Kernel12Ideal Cert.Kernel12Ideal.Gen Cert.Kernel12Ideal.Value

variable (m : (ℓ : Loc nD τ sig) → Buf (Elt Ideal) ℓ)

theorem pay_apply (x0 x1) (j : Fin 8) (q : Fin 1024) : k0_pay1 (F := Ideal) x0 x1 (ix2 j q) = entry (fun k => x0 (ix2 j k)) (fun k => x1 (ix2 q k)) := by
  pointwise [k0_pay1]
  rfl

set_option maxHeartbeats 4000000 in
/-- The weights, transposed. -/
theorem V_w (c : Dev nD) (j : Fin 8) (d : Fin 1024) : V m c main_v72 (ix2 j d) = heads (fun col => m (c.tc.loc main_arg1) (ix2 d col)) j := by
  unfold V
  after_reads_at
  have hj := j.isLt
  split_ifs
  all_goals first | (exfalso; omega) | skip
  all_goals try after_reads_at
  all_goals first
    | exact (heads_pos (fun col => m (c.tc.loc main_arg1) (ix2 d col)) j (by omega)).symm
    | exact (heads_zero (fun col => m (c.tc.loc main_arg1) (ix2 d col)) j (by omega)).symm

theorem idx : ∀ t : Fin cfg0.N, win0_0.index t = ![0, 0] ∧ win0_1.index t = ![t.val, 0] ∧ win0_2.index t = ![0, t.val] := by
  decide +kernel

/-- The result, as an array. -/
def result (c : Dev nD) : S8x32768.Idx → EReal := fun y =>
  heads (fun col => entry (fun k => m (c.tc.loc main_arg0) (ix2 (y 1) k)) (fun k => m (c.tc.loc main_arg1) (ix2 k col))) (y 0)

theorem row_lt (t : Fin cfg0.N) (p : Fin 1024) : t.val * 1024 + p.val < 32768 := by
  have ht : t.val < 32 := t.isLt.trans_eq N_0
  omega

theorem iblk0_apply (c : Dev nD) (t : Fin cfg0.N) (j : Fin 8) (k : Fin 1024) : iblk m c 0 t (ix2 j k) = heads (fun col => m (c.tc.loc main_arg1) (ix2 k col)) j := by
  refine Eq.trans ?_ (V_w m c j k)
  blk_ext [iblk, (idx t).1]

theorem iblk1_apply (c : Dev nD) (t : Fin cfg0.N) (q k : Fin 1024) : iblk m c 1 t (ix2 q k) = m (c.tc.loc main_arg0) (ix2 ⟨t.val * 1024 + q.val, row_lt t q⟩ k) := by
  refine Eq.trans ?_ (congrFun (V_main_arg0 m c) _)
  blk_ext [iblk, (idx t).2.1]

/-- What a grid point writes, at any place of its block. -/
theorem pay_result (c : Dev nD) (t : Fin cfg0.N) (j : Fin 8) (q : Fin 1024) :
    k0_pay1 (iblk m c 0 t) (iblk m c 1 t) (ix2 j q) = result m c (ix2 j ⟨t.val * 1024 + q.val, row_lt t q⟩) := by
  refine (pay_apply _ _ j q).trans ((entry_congr (fun k => iblk0_apply m c t j k) (fun k => iblk1_apply m c t q k)).trans ?_)
  exact (entry_comm _ _).trans (heads_sum _ _ _)

/-- The result array after the run. -/
theorem arr_eq (c : Dev nD) : (dats m 0 c).arrAt 2 (cfgs 0).N = result m c := by
  refine (dats m 0 c).arrAt_eq_of_covers 2 _ (by decide +kernel) fun t hf (y : S8x1024.Idx) => ?_
  blk_simp
  rw [after0_2]
  frame_out
  have hy : y = ix2 (y 0) (y 1) := by funext a; fin_cases a <;> rfl
  refine (congrArg _ hy).trans ((pay_result m c t (y 0) (y 1)).trans ?_)
  blk_ext [(idx t).2.2]

end Cert.Kernel12Ideal.IdxProj

/-! ## The claims -/

namespace Cert.IdxProj

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run _ _ _).mono (fun r h => ⟨fun c => (h c).2, sem_eq_zero_of_no_sems rfl r.2⟩) (Cert.Reference12Ideal.Value.run m ρ)

/-- The kernel's result and the reference's are the same array. -/
theorem same : Cert.algebraic_Kernel12Ideal_Reference12Ideal := fun m ρ m' ρ' _ ha => by
  refine ⟨fun c => Cert.Kernel12Ideal.IdxProj.result m c, ?_, ?_⟩
  · refine (θ_run _ _ _).mono (fun r h c => ?_) (Cert.Kernel12Ideal.Value.run_blocks m ρ)
    exact ⟨(h c).1.trans (Cert.Kernel12Ideal.IdxProj.arr_eq m c), (h c).2⟩
  · refine (θ_run _ _ _).mono (fun r h c => ?_) (Cert.Reference12Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1⟩ := ha c
    refine (congrArg _ hy).trans ((Cert.Reference12Ideal.IdxProj.laid_apply _ (y 0) (y 1)).trans ?_)
    refine (congrArg (fun f => heads f _) (funext fun col => Cert.Reference12Ideal.IdxProj.dot_apply _ _ (y 1) col)).trans ?_
    rw [h0, h1]
    rfl

end Cert.IdxProj

end
-- ==== Proof.DilMix.lean ====
/- The arithmetic of combining the dilated groups by their log softmax denominators. -/
module

public import Idealize.ShloMosaic.Lib.StableHlo.ReadAt
public import Idealize.ShloMosaic.Lib.Pointwise

@[expose] public section
noncomputable section

open Idealize.ShloMosaic Idealize.ShloMosaic.TcCoe Idealize.ShloMosaic.Tactic Idealize.SL.Sem

namespace Cert.DilMix

theorem low : Ideal.ofBits .f32 4286578688#32 = ⊥ := by
  first | rfl | decide | simp [Ideal.ofBits]
theorem high : Ideal.ofBits .f32 0x7F800000#32 = ⊤ := by
  first | rfl | decide | simp [Ideal.ofBits]

/-- The greatest of three arrays' entries. -/
theorem reduce_max (n1 n2 : ℕ) (x : FVec Ideal ⟨3, ![3, n1, n2]⟩ .f32) (v : FVec Ideal ⟨0, ![]⟩ .f32)
    (h : (⟨3, ![3, n1, n2]⟩ : Shape).ReducesTo [0] ⟨2, ![n1, n2]⟩) (hu : 0 < (⟨0, ![]⟩ : Shape).numel) (p : Fin n1) (q : Fin n2) :
    (Host.reduce FloatOps.maximumf x v h hu : FVec Ideal ⟨2, ![n1, n2]⟩ .f32) (ix2 p q) = max (x (ix3 0 p q)) (max (x (ix3 1 p q)) (max (x (ix3 2 p q)) (v (Shape.Idx.first hu)))) := by
  pointwise
  rfl

theorem exp_ne_top (a : EReal) (h : a ≠ ⊤) : Ideal.exp a ≠ ⊤ := by
  induction a with
  | bot => exact EReal.zero_ne_top
  | top => exact absurd rfl h
  | coe r => exact EReal.coe_ne_top _

theorem exp_nonneg (a : EReal) : 0 ≤ Ideal.exp a := by
  induction a with
  | bot => exact le_refl _
  | top => exact le_top
  | coe r => exact EReal.coe_nonneg.mpr (Real.exp_pos r).le

theorem exp_zero : Ideal.exp 0 = 1 := by
  show ((Real.exp 0 : ℝ) : EReal) = 1
  rw [Real.exp_zero]; rfl

/-- The power of a denominator less the greatest one is a number, and not negative. -/
theorem power (a m : EReal) (ha : a ≤ m) (h1 : m ≠ ⊤) (h2 : m ≠ ⊥) : ∃ r : ℝ, 0 ≤ r ∧ Ideal.exp (a - m) = (r : EReal) := by
  have hn : a - m ≠ ⊤ := by
    lift m to ℝ using ⟨h1, h2⟩
    induction a with
    | bot => simp
    | top => exact absurd (top_le_iff.mp ha) (EReal.coe_ne_top _)
    | coe r => rw [← EReal.coe_sub]; exact EReal.coe_ne_top _
  have h0 := exp_nonneg (a - m)
  refine ⟨(Ideal.exp (a - m)).toReal, EReal.toReal_nonneg h0, (EReal.coe_toReal (exp_ne_top _ hn) ?_).symm⟩
  exact fun e => absurd (e ▸ h0) (by simp)

/-- The groups combined: their outputs by the powers of their denominators, over the sum of the powers. -/
def mixed (o1 o4 o16 l1 l4 l16 : EReal) : EReal :=
  Ideal.div (Ideal.exp (l1 - max (max l1 l4) l16) * o1 + Ideal.exp (l4 - max (max l1 l4) l16) * o4 + Ideal.exp (l16 - max (max l1 l4) l16) * o16)
    (Ideal.exp (l1 - max (max l1 l4) l16) + Ideal.exp (l4 - max (max l1 l4) l16) + Ideal.exp (l16 - max (max l1 l4) l16))

/-- Each output by its weight, the weights summing to one: the same where the greatest denominator is a number. -/
theorem mixed_eq (o1 o4 o16 l1 l4 l16 m : EReal) (hm : m = max (max l1 l4) l16) (h1 : m ≠ ⊤) (h2 : m ≠ ⊥) :
    mixed o1 o4 o16 l1 l4 l16
      = Ideal.div (Ideal.exp (l1 - m)) (Ideal.exp (l1 - m) + Ideal.exp (l4 - m) + Ideal.exp (l16 - m)) * o1
        + Ideal.div (Ideal.exp (l4 - m)) (Ideal.exp (l1 - m) + Ideal.exp (l4 - m) + Ideal.exp (l16 - m)) * o4
        + Ideal.div (Ideal.exp (l16 - m)) (Ideal.exp (l1 - m) + Ideal.exp (l4 - m) + Ideal.exp (l16 - m)) * o16 := by
  unfold mixed
  rw [← hm]
  have hself : Ideal.exp (m - m) = 1 := by rw [EReal.sub_self h1 h2]; exact exp_zero
  obtain ⟨a, ha, ea⟩ := power l1 m (hm ▸ (le_max_left _ _).trans (le_max_left _ _)) h1 h2
  obtain ⟨b, hb, eb⟩ := power l4 m (hm ▸ (le_max_right _ _).trans (le_max_left _ _)) h1 h2
  obtain ⟨d, hd, ed⟩ := power l16 m (hm ▸ le_max_right _ _) h1 h2
  have hpos : 0 < a + b + d := by
    have key : (1 : EReal) = (a : EReal) ∨ (1 : EReal) = (b : EReal) ∨ (1 : EReal) = (d : EReal) := by
      rcases max_choice (max l1 l4) l16 with h | h
      · rcases max_choice l1 l4 with h' | h'
        · left; rw [← ea, ← hself]; exact congrArg (fun z => Ideal.exp (z - m)) (hm.trans (h.trans h'))
        · right; left; rw [← eb, ← hself]; exact congrArg (fun z => Ideal.exp (z - m)) (hm.trans (h.trans h'))
      · right; right; rw [← ed, ← hself]; exact congrArg (fun z => Ideal.exp (z - m)) (hm.trans h)
    rcases key with k | k | k
    · have : (1 : ℝ) = a := EReal.coe_injective (by simpa using k)
      linarith
    · have : (1 : ℝ) = b := EReal.coe_injective (by simpa using k)
      linarith
    · have : (1 : ℝ) = d := EReal.coe_injective (by simpa using k)
      linarith
  rw [ea, eb, ed]
  have hs : (a : EReal) + (b : EReal) + (d : EReal) = ((a + b + d : ℝ) : EReal) := by rw [EReal.coe_add, EReal.coe_add]
  rw [hs, Ideal.div_coe hpos.ne', Ideal.div_coe hpos.ne', Ideal.div_coe hpos.ne', Ideal.div_coe hpos.ne']
  have hi : (0 : EReal) ≤ ((1 / (a + b + d) : ℝ) : EReal) := EReal.coe_nonneg.mpr (by positivity)
  rw [EReal.right_distrib_of_nonneg_of_ne_top hi (EReal.coe_ne_top _), EReal.right_distrib_of_nonneg_of_ne_top hi (EReal.coe_ne_top _)]
  rw [mul_right_comm, mul_right_comm (b : EReal), mul_right_comm (d : EReal)]

end Cert.DilMix
end
-- ==== Proof.DilPlanes.lean ====
/- What the combination of the dilated groups keeps in its scratch planes: the groups' arrays, a token to a row. -/
module

public import proofs.«01_k».proof.Defs
public import proofs.«01_k».proof.Proof.Gen.Kernel13Ideal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.Kernel13Ideal.DilCombine

open Cert.Kernel13Ideal Cert.Kernel13Ideal.Gen Cert.Kernel13Ideal.Value
open Cert.ProjSpec

/-! ## Covering by strided pieces -/

/-- Whether every plane `k` and every remainder `r` below `n` have a piece: the rows of plane `k` that leave `r`. -/
def strided (n h : ℕ) (L : List (View.Piece (Elt Ideal) S4x512x128 .f32)) : Bool :=
  (List.range 4).all fun k => (List.range n).all fun r => L.any fun p =>
    Nat.beq (p.1.off 0) k && Nat.beq (p.1.off 1) r && Nat.beq (p.1.off 2) 0
      && Nat.beq (p.1.size 0) 1 && Nat.beq (p.1.size 1) h && Nat.beq (p.1.size 2) 128
      && Nat.beq (p.1.stride 1) n && Nat.beq (p.1.stride 2) 1

theorem cover_of_strided (n h : ℕ) (hn : 0 < n) (hh : n * h = 512) (L : List (View.Piece (Elt Ideal) S4x512x128 .f32)) (hL : strided n h L = true)
    (y : S4x512x128.Idx) : ∃ p ∈ L, y ∈ p.1.set := by
  have hy0 : (y 0).val < 4 := (y 0).isLt
  have hy1 : (y 1).val < 512 := (y 1).isLt
  have hy2 : (y 2).val < 128 := (y 2).isLt
  have h1 := List.all_eq_true.mp hL (y 0).val (List.mem_range.mpr hy0)
  have h2 := List.all_eq_true.mp h1 ((y 1).val % n) (List.mem_range.mpr (Nat.mod_lt _ hn))
  obtain ⟨p, hp, h3⟩ := List.any_eq_true.mp h2
  simp only [Bool.and_eq_true, Nat.beq_eq] at h3
  obtain ⟨⟨⟨⟨⟨⟨⟨o0, o1⟩, o2⟩, s0⟩, s1⟩, s2⟩, t1⟩, t2⟩ := h3
  refine ⟨p, hp, (LoadRect.mem_set _).mpr fun a => ?_⟩
  match a with
  | ⟨0, _⟩ => exact ⟨0, by show 0 < p.1.size 0; omega, by show (y 0).val = p.1.off 0 + p.1.stride 0 * 0; omega⟩
  | ⟨1, _⟩ =>
    refine ⟨(y 1).val / n, ?_, ?_⟩
    · show (y 1).val / n < p.1.size 1
      rw [s1]
      exact Nat.div_lt_of_lt_mul (by omega)
    · show (y 1).val = p.1.off 1 + p.1.stride 1 * ((y 1).val / n)
      rw [o1, t1]
      exact (Nat.mod_add_div _ _).symm
  | ⟨2, _⟩ => exact ⟨(y 2).val, by show (y 2).val < p.1.size 2; omega, by show (y 2).val = p.1.off 2 + p.1.stride 2 * (y 2).val; rw [o2, t2]; omega⟩

/-! ## The four planes, side by side -/

/-- Four planes side by side, at a place. -/
theorem sides (A B C D : Vec Ideal S1x512x128 .f32) (Z : S4x512x128.Idx → EReal)
    (hA : ∀ p j, A (ix3 0 p j) = Z (ix3 0 p j)) (hB : ∀ p j, B (ix3 0 p j) = Z (ix3 1 p j))
    (hC : ∀ p j, C (ix3 0 p j) = Z (ix3 2 p j)) (hD : ∀ p j, D (ix3 0 p j) = Z (ix3 3 p j)) (p q : Fin 512) :
    (k0_pay167 (F := Ideal) A B C D : FVec Ideal S512x512 .f32) (ix2 p q) = Z (ix3 ⟨q.val / 128, by omega⟩ p ⟨q.val % 128, by omega⟩) := by
  have hz : ∀ (k : Fin 4) (j : Fin 128), k.val = q.val / 128 → j.val = q.val % 128 →
      Z (ix3 k p j) = Z (ix3 ⟨q.val / 128, by omega⟩ p ⟨q.val % 128, by omega⟩) := by
    intro k j hk hj
    rw [Fin.ext (a := k) (b := ⟨q.val / 128, by omega⟩) hk, Fin.ext (a := j) (b := ⟨q.val % 128, by omega⟩) hj]
  pointwise [k0_pay167]
  split_ifs
  all_goals first
    | exact (hA p _).trans (hz 0 ⟨_, _⟩ (by show 0 = q.val / 128; omega) (by dsimp only; omega))
    | exact (hB p _).trans (hz 1 ⟨_, _⟩ (by show 1 = q.val / 128; omega) (by dsimp only; omega))
    | exact (hC p _).trans (hz 2 ⟨_, _⟩ (by show 2 = q.val / 128; omega) (by dsimp only; omega))
    | exact (hD p _).trans (hz 3 ⟨_, _⟩ (by show 3 = q.val / 128; omega) (by dsimp only; omega))
    | (rename_i h; exact absurd rfl h)

theorem plane (Z : S4x512x128.Idx → EReal) (L : List (View.Piece (Elt Ideal) S4x512x128 .f32)) (hL : View.canon L = Z)
    (arg : Memref sig .tc .vmem S4x512x128 .f32) (k : ℕ) (hk : k < 4) (i) (p : Fin 512) (j : Fin 128) :
    arg.view.readCov L (Rect.unit (s := S4x512x128) ![k, 0, 0] S1x512x128.size i).toLoadRect (ix3 (0 : Fin 1) p j) = Z (ix3 ⟨k, hk⟩ p j) := by
  rw [View.readCov_eq_canon', hL]
  refine congrArg Z (funext fun a => ?_)
  match a with
  | ⟨0, _⟩ => exact Fin.ext (show k + 1 * 0 = k by omega)
  | ⟨1, _⟩ => exact Fin.ext (show 0 + 1 * p.val = p.val by omega)
  | ⟨2, _⟩ => exact Fin.ext (show 0 + 1 * j.val = j.val by omega)

theorem four_planes (Z : S4x512x128.Idx → EReal) (L : List (View.Piece (Elt Ideal) S4x512x128 .f32)) (hL : View.canon L = Z)
    (arg : Memref sig .tc .vmem S4x512x128 .f32) (p q : Fin 512) :
    (k0_pay167 (F := Ideal) (arg.view.readCov L (Rect.unit (s := S4x512x128) ![0, 0, 0] S1x512x128.size inb_S4x512x128_S1x512x128_0_0_0).toLoadRect)
      (arg.view.readCov L (Rect.unit (s := S4x512x128) ![1, 0, 0] S1x512x128.size inb_S4x512x128_S1x512x128_1_0_0).toLoadRect)
      (arg.view.readCov L (Rect.unit (s := S4x512x128) ![2, 0, 0] S1x512x128.size inb_S4x512x128_S1x512x128_2_0_0).toLoadRect)
      (arg.view.readCov L (Rect.unit (s := S4x512x128) ![3, 0, 0] S1x512x128.size inb_S4x512x128_S1x512x128_3_0_0).toLoadRect) : FVec Ideal S512x512 .f32) (ix2 p q)
      = Z (ix3 ⟨q.val / 128, by omega⟩ p ⟨q.val % 128, by omega⟩) :=
  sides _ _ _ _ Z (plane Z L hL arg 0 (by decide) _) (plane Z L hL arg 1 (by decide) _) (plane Z L hL arg 2 (by decide) _) (plane Z L hL arg 3 (by decide) _) p q

/-! ## The group of dilation 4 -/

/-- Plane `k`, row `t`, lane `j` of scratch: the group's column `128 k + j` of token `t`, its rows holding 4 tokens each. -/
def tok4 (X : Vec Ideal S128x2048 .f32) (y : S4x512x128.Idx) : EReal :=
  X (ix2 ⟨(y 1).val / 4, by have h1 : (y 1).val < 512 := (y 1).isLt; omega⟩
    ⟨512 * ((y 1).val % 4) + 128 * (y 0).val + (y 2).val, by have h0 : (y 0).val < 4 := (y 0).isLt; have h2 : (y 2).val < 128 := (y 2).isLt; omega⟩)

/-- One strided store. -/
theorem tok4_piece (arg : Memref sig .tc .vmem S128x2048 .f32) (harg : arg.IsWhole) (X : Vec Ideal S128x2048 .f32) (k r o : ℕ) (ho : o = 512 * r + 128 * k) (hr : r < 4)
    (i1 : ∀ a, (![k, 0, 0] : Fin 3 → ℕ) a + S1x512x128.size a ≤ S4x512x128.size a) (i2) (sp) (ha hb hw hn)
    (i3 : ∀ a, (![0, o] : Fin 2 → ℕ) a + S128x128.size a ≤ S128x2048.size a) (hc)
    (x : ((Rect.unit (s := S4x512x128) ![k, 0, 0] S1x512x128.size i1).within
      (Rect.consLift (⟨({ off := ![r, 0], size := S128x128.size, stride := ![4, 1], inb := i2 } : LoadRect S512x128), sp⟩ : Rect S512x128) ![1, 512, 128] ha hb) hw).shape.Idx) :
    (Rect.payAlong (r := (⟨({ off := ![r, 0], size := S128x128.size, stride := ![4, 1], inb := i2 } : LoadRect S512x128), sp⟩ : Rect S512x128))
      (R := (Rect.unit (s := S4x512x128) ![k, 0, 0] S1x512x128.size i1).within
      (Rect.consLift (⟨({ off := ![r, 0], size := S128x128.size, stride := ![4, 1], inb := i2 } : LoadRect S512x128), sp⟩ : Rect S512x128) ![1, 512, 128] ha hb) hw) hn
      (shapeCast S128x128 (View.readAt (Elt Ideal) arg.view (Rect.unit (s := S128x2048) ![0, o] S128x128.size i3).toLoadRect (harg.unread X)) hc : FVec Ideal S128x128 .f32)) x
      = tok4 X (((Rect.unit (s := S4x512x128) ![k, 0, 0] S1x512x128.size i1).within
      (Rect.consLift (⟨({ off := ![r, 0], size := S128x128.size, stride := ![4, 1], inb := i2 } : LoadRect S512x128), sp⟩ : Rect S512x128) ![1, 512, 128] ha hb) hw).emb x) := by
  subst ho
  have h0 : (x 0).val < 1 := (x 0).isLt
  have h1 : (x 1).val < 128 := (x 1).isLt
  have h2 : (x 2).val < 128 := (x 2).isLt
  refine (Rect.payAlong_consLift _ _ ha hb _ _ x (ix2 ⟨(x 1).val, h1⟩ ⟨(x 2).val, h2⟩) (fun i => ?_)).trans ?_
  · match i with
    | ⟨0, _⟩ => rfl
    | ⟨1, _⟩ => rfl
  rw [View.readAt_eq_ld, Memref.IsWhole.read_unread]
  pointwise
  unfold tok4
  refine congrArg X ?_
  funext a
  match a with
  | ⟨0, _⟩ =>
    refine Fin.ext ?_
    show (x 1).val = (0 + r + 4 * (x 1).val) / 4
    omega
  | ⟨1, _⟩ =>
    refine Fin.ext ?_
    show 512 * r + 128 * k + (x 2).val = 512 * ((0 + r + 4 * (x 1).val) % 4) + 128 * (k + 0 + 1 * (x 0).val) + (0 + 0 + 1 * (x 2).val)
    omega

/-! ## The group of dilation 16 -/

/-- Plane `k`, row `t`, lane `j` of scratch: the group's column `128 k + j` of token `t`, its rows holding 16 tokens each. -/
def tok16 (X : Vec Ideal S32x8192 .f32) (y : S4x512x128.Idx) : EReal :=
  X (ix2 ⟨(y 1).val / 16, by have h1 : (y 1).val < 512 := (y 1).isLt; omega⟩
    ⟨512 * ((y 1).val % 16) + 128 * (y 0).val + (y 2).val, by have h0 : (y 0).val < 4 := (y 0).isLt; have h2 : (y 2).val < 128 := (y 2).isLt; omega⟩)

/-- One strided store. -/
theorem tok16_piece (arg : Memref sig .tc .vmem S32x8192 .f32) (harg : arg.IsWhole) (X : Vec Ideal S32x8192 .f32) (k r o : ℕ) (ho : o = 512 * r + 128 * k) (hr : r < 16)
    (i1 : ∀ a, (![k, 0, 0] : Fin 3 → ℕ) a + S1x512x128.size a ≤ S4x512x128.size a) (i2) (sp) (ha hb hw hn)
    (i3 : ∀ a, (![0, o] : Fin 2 → ℕ) a + S32x128.size a ≤ S32x8192.size a) (hc)
    (x : ((Rect.unit (s := S4x512x128) ![k, 0, 0] S1x512x128.size i1).within
      (Rect.consLift (⟨({ off := ![r, 0], size := S32x128.size, stride := ![16, 1], inb := i2 } : LoadRect S512x128), sp⟩ : Rect S512x128) ![1, 512, 128] ha hb) hw).shape.Idx) :
    (Rect.payAlong (r := (⟨({ off := ![r, 0], size := S32x128.size, stride := ![16, 1], inb := i2 } : LoadRect S512x128), sp⟩ : Rect S512x128))
      (R := (Rect.unit (s := S4x512x128) ![k, 0, 0] S1x512x128.size i1).within
      (Rect.consLift (⟨({ off := ![r, 0], size := S32x128.size, stride := ![16, 1], inb := i2 } : LoadRect S512x128), sp⟩ : Rect S512x128) ![1, 512, 128] ha hb) hw) hn
      (shapeCast S32x128 (View.readAt (Elt Ideal) arg.view (Rect.unit (s := S32x8192) ![0, o] S32x128.size i3).toLoadRect (harg.unread X)) hc : FVec Ideal S32x128 .f32)) x
      = tok16 X (((Rect.unit (s := S4x512x128) ![k, 0, 0] S1x512x128.size i1).within
      (Rect.consLift (⟨({ off := ![r, 0], size := S32x128.size, stride := ![16, 1], inb := i2 } : LoadRect S512x128), sp⟩ : Rect S512x128) ![1, 512, 128] ha hb) hw).emb x) := by
  subst ho
  have h0 : (x 0).val < 1 := (x 0).isLt
  have h1 : (x 1).val < 32 := (x 1).isLt
  have h2 : (x 2).val < 128 := (x 2).isLt
  refine (Rect.payAlong_consLift _ _ ha hb _ _ x (ix2 ⟨(x 1).val, h1⟩ ⟨(x 2).val, h2⟩) (fun i => ?_)).trans ?_
  · match i with
    | ⟨0, _⟩ => rfl
    | ⟨1, _⟩ => rfl
  rw [View.readAt_eq_ld, Memref.IsWhole.read_unread]
  pointwise
  unfold tok16
  refine congrArg X ?_
  funext a
  match a with
  | ⟨0, _⟩ =>
    refine Fin.ext ?_
    show (x 1).val = (0 + r + 16 * (x 1).val) / 16
    omega
  | ⟨1, _⟩ =>
    refine Fin.ext ?_
    show 512 * r + 128 * k + (x 2).val = 512 * ((0 + r + 16 * (x 1).val) % 16) + 128 * (k + 0 + 1 * (x 0).val) + (0 + 0 + 1 * (x 2).val)
    omega

section

variable (c : Dev nD) (arg2 : Memref sig .tc .vmem S128x2048 .f32) (harg2 : arg2.IsWhole) (X : Vec Ideal S128x2048 .f32)

set_option maxHeartbeats 8000000 in
theorem outs4_pieces : View.PiecesOf (tok4 X) (kernelRun0_A.sl.HS0_16 c arg2 harg2 X) := by
  unfold kernelRun0_A.sl.HS0_16
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tok4_piece arg2 harg2 X 3 3 1920 rfl (by decide) inb_S4x512x128_S1x512x128_3_0_0 inb_S512x128_S128x128_3_0_s_4_1 spos_4_1 _ _ (fun _ => rfl) _ inb_S128x2048_S128x128_0_1920 shapeCasts_S128x128_S128x128 x
  · exact tok4_piece arg2 harg2 X 2 3 1792 rfl (by decide) inb_S4x512x128_S1x512x128_2_0_0 inb_S512x128_S128x128_3_0_s_4_1 spos_4_1 _ _ (fun _ => rfl) _ inb_S128x2048_S128x128_0_1792 shapeCasts_S128x128_S128x128 x
  · exact tok4_piece arg2 harg2 X 1 3 1664 rfl (by decide) inb_S4x512x128_S1x512x128_1_0_0 inb_S512x128_S128x128_3_0_s_4_1 spos_4_1 _ _ (fun _ => rfl) _ inb_S128x2048_S128x128_0_1664 shapeCasts_S128x128_S128x128 x
  · exact tok4_piece arg2 harg2 X 0 3 1536 rfl (by decide) inb_S4x512x128_S1x512x128_0_0_0 inb_S512x128_S128x128_3_0_s_4_1 spos_4_1 _ _ (fun _ => rfl) _ inb_S128x2048_S128x128_0_1536 shapeCasts_S128x128_S128x128 x
  · exact tok4_piece arg2 harg2 X 3 2 1408 rfl (by decide) inb_S4x512x128_S1x512x128_3_0_0 inb_S512x128_S128x128_2_0_s_4_1 spos_4_1 _ _ (fun _ => rfl) _ inb_S128x2048_S128x128_0_1408 shapeCasts_S128x128_S128x128 x
  · exact tok4_piece arg2 harg2 X 2 2 1280 rfl (by decide) inb_S4x512x128_S1x512x128_2_0_0 inb_S512x128_S128x128_2_0_s_4_1 spos_4_1 _ _ (fun _ => rfl) _ inb_S128x2048_S128x128_0_1280 shapeCasts_S128x128_S128x128 x
  · exact tok4_piece arg2 harg2 X 1 2 1152 rfl (by decide) inb_S4x512x128_S1x512x128_1_0_0 inb_S512x128_S128x128_2_0_s_4_1 spos_4_1 _ _ (fun _ => rfl) _ inb_S128x2048_S128x128_0_1152 shapeCasts_S128x128_S128x128 x
  · exact tok4_piece arg2 harg2 X 0 2 1024 rfl (by decide) inb_S4x512x128_S1x512x128_0_0_0 inb_S512x128_S128x128_2_0_s_4_1 spos_4_1 _ _ (fun _ => rfl) _ inb_S128x2048_S128x128_0_1024 shapeCasts_S128x128_S128x128 x
  · exact tok4_piece arg2 harg2 X 3 1 896 rfl (by decide) inb_S4x512x128_S1x512x128_3_0_0 inb_S512x128_S128x128_1_0_s_4_1 spos_4_1 _ _ (fun _ => rfl) _ inb_S128x2048_S128x128_0_896 shapeCasts_S128x128_S128x128 x
  · exact tok4_piece arg2 harg2 X 2 1 768 rfl (by decide) inb_S4x512x128_S1x512x128_2_0_0 inb_S512x128_S128x128_1_0_s_4_1 spos_4_1 _ _ (fun _ => rfl) _ inb_S128x2048_S128x128_0_768 shapeCasts_S128x128_S128x128 x
  · exact tok4_piece arg2 harg2 X 1 1 640 rfl (by decide) inb_S4x512x128_S1x512x128_1_0_0 inb_S512x128_S128x128_1_0_s_4_1 spos_4_1 _ _ (fun _ => rfl) _ inb_S128x2048_S128x128_0_640 shapeCasts_S128x128_S128x128 x
  · exact tok4_piece arg2 harg2 X 0 1 512 rfl (by decide) inb_S4x512x128_S1x512x128_0_0_0 inb_S512x128_S128x128_1_0_s_4_1 spos_4_1 _ _ (fun _ => rfl) _ inb_S128x2048_S128x128_0_512 shapeCasts_S128x128_S128x128 x
  · exact tok4_piece arg2 harg2 X 3 0 384 rfl (by decide) inb_S4x512x128_S1x512x128_3_0_0 inb_S512x128_S128x128_0_0_s_4_1 spos_4_1 _ _ (fun _ => rfl) _ inb_S128x2048_S128x128_0_384 shapeCasts_S128x128_S128x128 x
  · exact tok4_piece arg2 harg2 X 2 0 256 rfl (by decide) inb_S4x512x128_S1x512x128_2_0_0 inb_S512x128_S128x128_0_0_s_4_1 spos_4_1 _ _ (fun _ => rfl) _ inb_S128x2048_S128x128_0_256 shapeCasts_S128x128_S128x128 x
  · exact tok4_piece arg2 harg2 X 1 0 128 rfl (by decide) inb_S4x512x128_S1x512x128_1_0_0 inb_S512x128_S128x128_0_0_s_4_1 spos_4_1 _ _ (fun _ => rfl) _ inb_S128x2048_S128x128_0_128 shapeCasts_S128x128_S128x128 x
  · exact tok4_piece arg2 harg2 X 0 0 0 rfl (by decide) inb_S4x512x128_S1x512x128_0_0_0 inb_S512x128_S128x128_0_0_s_4_1 spos_4_1 _ _ (fun _ => rfl) _ inb_S128x2048_S128x128_0_0 shapeCasts_S128x128_S128x128 x

theorem outs4_all : View.canon (kernelRun0_A.sl.HS0_16 c arg2 harg2 X) = tok4 X :=
  funext fun y => View.canon_apply_of_pieces _ _ (outs4_pieces c arg2 harg2 X).mem y
    (cover_of_strided 4 128 (by decide) (by decide) _ (by sl_kernel_rfl) y)

end

section

variable (c : Dev nD) (arg3 : Memref sig .tc .vmem S32x8192 .f32) (harg3 : arg3.IsWhole) (X : Vec Ideal S32x8192 .f32)

set_option maxHeartbeats 8000000 in
theorem outs16_pieces : View.PiecesOf (tok16 X) (kernelRun0_A.sl.HS1_64 c arg3 harg3 X) := by
  unfold kernelRun0_A.sl.HS1_64 kernelRun0_A.sl.HS1_50 kernelRun0_A.sl.HS1_20
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tok16_piece arg3 harg3 X 3 15 8064 rfl (by decide) inb_S4x512x128_S1x512x128_3_0_0 inb_S512x128_S32x128_15_0_s_16_1 spos_16_1 _ _ (fun _ => rfl) _ inb_S32x8192_S32x128_0_8064 shapeCasts_S32x128_S32x128 x
  · exact tok16_piece arg3 harg3 X 2 15 7936 rfl (by decide) inb_S4x512x128_S1x512x128_2_0_0 inb_S512x128_S32x128_15_0_s_16_1 spos_16_1 _ _ (fun _ => rfl) _ inb_S32x8192_S32x128_0_7936 shapeCasts_S32x128_S32x128 x
  · exact tok16_piece arg3 harg3 X 1 15 7808 rfl (by decide) inb_S4x512x128_S1x512x128_1_0_0 inb_S512x128_S32x128_15_0_s_16_1 spos_16_1 _ _ (fun _ => rfl) _ inb_S32x8192_S32x128_0_7808 shapeCasts_S32x128_S32x128 x
  · exact tok16_piece arg3 harg3 X 0 15 7680 rfl (by decide) inb_S4x512x128_S1x512x128_0_0_0 inb_S512x128_S32x128_15_0_s_16_1 spos_16_1 _ _ (fun _ => rfl) _ inb_S32x8192_S32x128_0_7680 shapeCasts_S32x128_S32x128 x
  · exact tok16_piece arg3 harg3 X 3 14 7552 rfl (by decide) inb_S4x512x128_S1x512x128_3_0_0 inb_S512x128_S32x128_14_0_s_16_1 spos_16_1 _ _ (fun _ => rfl) _ inb_S32x8192_S32x128_0_7552 shapeCasts_S32x128_S32x128 x
  · exact tok16_piece arg3 harg3 X 2 14 7424 rfl (by decide) inb_S4x512x128_S1x512x128_2_0_0 inb_S512x128_S32x128_14_0_s_16_1 spos_16_1 _ _ (fun _ => rfl) _ inb_S32x8192_S32x128_0_7424 shapeCasts_S32x128_S32x128 x
  · exact tok16_piece arg3 harg3 X 1 14 7296 rfl (by decide) inb_S4x512x128_S1x512x128_1_0_0 inb_S512x128_S32x128_14_0_s_16_1 spos_16_1 _ _ (fun _ => rfl) _ inb_S32x8192_S32x128_0_7296 shapeCasts_S32x128_S32x128 x
  · exact tok16_piece arg3 harg3 X 0 14 7168 rfl (by decide) inb_S4x512x128_S1x512x128_0_0_0 inb_S512x128_S32x128_14_0_s_16_1 spos_16_1 _ _ (fun _ => rfl) _ inb_S32x8192_S32x128_0_7168 shapeCasts_S32x128_S32x128 x
  · exact tok16_piece arg3 harg3 X 3 13 7040 rfl (by decide) inb_S4x512x128_S1x512x128_3_0_0 inb_S512x128_S32x128_13_0_s_16_1 spos_16_1 _ _ (fun _ => rfl) _ inb_S32x8192_S32x128_0_7040 shapeCasts_S32x128_S32x128 x
  · exact tok16_piece arg3 harg3 X 2 13 6912 rfl (by decide) inb_S4x512x128_S1x512x128_2_0_0 inb_S512x128_S32x128_13_0_s_16_1 spos_16_1 _ _ (fun _ => rfl) _ inb_S32x8192_S32x128_0_6912 shapeCasts_S32x128_S32x128 x
  · exact tok16_piece arg3 harg3 X 1 13 6784 rfl (by decide) inb_S4x512x128_S1x512x128_1_0_0 inb_S512x128_S32x128_13_0_s_16_1 spos_16_1 _ _ (fun _ => rfl) _ inb_S32x8192_S32x128_0_6784 shapeCasts_S32x128_S32x128 x
  · exact tok16_piece arg3 harg3 X 0 13 6656 rfl (by decide) inb_S4x512x128_S1x512x128_0_0_0 inb_S512x128_S32x128_13_0_s_16_1 spos_16_1 _ _ (fun _ => rfl) _ inb_S32x8192_S32x128_0_6656 shapeCasts_S32x128_S32x128 x
  · exact tok16_piece arg3 harg3 X 3 12 6528 rfl (by decide) inb_S4x512x128_S1x512x128_3_0_0 inb_S512x128_S32x128_12_0_s_16_1 spos_16_1 _ _ (fun _ => rfl) _ inb_S32x8192_S32x128_0_6528 shapeCasts_S32x128_S32x128 x
  · exact tok16_piece arg3 harg3 X 2 12 6400 rfl (by decide) inb_S4x512x128_S1x512x128_2_0_0 inb_S512x128_S32x128_12_0_s_16_1 spos_16_1 _ _ (fun _ => rfl) _ inb_S32x8192_S32x128_0_6400 shapeCasts_S32x128_S32x128 x
  · exact tok16_piece arg3 harg3 X 1 12 6272 rfl (by decide) inb_S4x512x128_S1x512x128_1_0_0 inb_S512x128_S32x128_12_0_s_16_1 spos_16_1 _ _ (fun _ => rfl) _ inb_S32x8192_S32x128_0_6272 shapeCasts_S32x128_S32x128 x
  · exact tok16_piece arg3 harg3 X 0 12 6144 rfl (by decide) inb_S4x512x128_S1x512x128_0_0_0 inb_S512x128_S32x128_12_0_s_16_1 spos_16_1 _ _ (fun _ => rfl) _ inb_S32x8192_S32x128_0_6144 shapeCasts_S32x128_S32x128 x
  · exact tok16_piece arg3 harg3 X 3 11 6016 rfl (by decide) inb_S4x512x128_S1x512x128_3_0_0 inb_S512x128_S32x128_11_0_s_16_1 spos_16_1 _ _ (fun _ => rfl) _ inb_S32x8192_S32x128_0_6016 shapeCasts_S32x128_S32x128 x
  · exact tok16_piece arg3 harg3 X 2 11 5888 rfl (by decide) inb_S4x512x128_S1x512x128_2_0_0 inb_S512x128_S32x128_11_0_s_16_1 spos_16_1 _ _ (fun _ => rfl) _ inb_S32x8192_S32x128_0_5888 shapeCasts_S32x128_S32x128 x
  · exact tok16_piece arg3 harg3 X 1 11 5760 rfl (by decide) inb_S4x512x128_S1x512x128_1_0_0 inb_S512x128_S32x128_11_0_s_16_1 spos_16_1 _ _ (fun _ => rfl) _ inb_S32x8192_S32x128_0_5760 shapeCasts_S32x128_S32x128 x
  · exact tok16_piece arg3 harg3 X 0 11 5632 rfl (by decide) inb_S4x512x128_S1x512x128_0_0_0 inb_S512x128_S32x128_11_0_s_16_1 spos_16_1 _ _ (fun _ => rfl) _ inb_S32x8192_S32x128_0_5632 shapeCasts_S32x128_S32x128 x
  · exact tok16_piece arg3 harg3 X 3 10 5504 rfl (by decide) inb_S4x512x128_S1x512x128_3_0_0 inb_S512x128_S32x128_10_0_s_16_1 spos_16_1 _ _ (fun _ => rfl) _ inb_S32x8192_S32x128_0_5504 shapeCasts_S32x128_S32x128 x
  · exact tok16_piece arg3 harg3 X 2 10 5376 rfl (by decide) inb_S4x512x128_S1x512x128_2_0_0 inb_S512x128_S32x128_10_0_s_16_1 spos_16_1 _ _ (fun _ => rfl) _ inb_S32x8192_S32x128_0_5376 shapeCasts_S32x128_S32x128 x
  · exact tok16_piece arg3 harg3 X 1 10 5248 rfl (by decide) inb_S4x512x128_S1x512x128_1_0_0 inb_S512x128_S32x128_10_0_s_16_1 spos_16_1 _ _ (fun _ => rfl) _ inb_S32x8192_S32x128_0_5248 shapeCasts_S32x128_S32x128 x
  · exact tok16_piece arg3 harg3 X 0 10 5120 rfl (by decide) inb_S4x512x128_S1x512x128_0_0_0 inb_S512x128_S32x128_10_0_s_16_1 spos_16_1 _ _ (fun _ => rfl) _ inb_S32x8192_S32x128_0_5120 shapeCasts_S32x128_S32x128 x
  · exact tok16_piece arg3 harg3 X 3 9 4992 rfl (by decide) inb_S4x512x128_S1x512x128_3_0_0 inb_S512x128_S32x128_9_0_s_16_1 spos_16_1 _ _ (fun _ => rfl) _ inb_S32x8192_S32x128_0_4992 shapeCasts_S32x128_S32x128 x
  · exact tok16_piece arg3 harg3 X 2 9 4864 rfl (by decide) inb_S4x512x128_S1x512x128_2_0_0 inb_S512x128_S32x128_9_0_s_16_1 spos_16_1 _ _ (fun _ => rfl) _ inb_S32x8192_S32x128_0_4864 shapeCasts_S32x128_S32x128 x
  · exact tok16_piece arg3 harg3 X 1 9 4736 rfl (by decide) inb_S4x512x128_S1x512x128_1_0_0 inb_S512x128_S32x128_9_0_s_16_1 spos_16_1 _ _ (fun _ => rfl) _ inb_S32x8192_S32x128_0_4736 shapeCasts_S32x128_S32x128 x
  · exact tok16_piece arg3 harg3 X 0 9 4608 rfl (by decide) inb_S4x512x128_S1x512x128_0_0_0 inb_S512x128_S32x128_9_0_s_16_1 spos_16_1 _ _ (fun _ => rfl) _ inb_S32x8192_S32x128_0_4608 shapeCasts_S32x128_S32x128 x
  · exact tok16_piece arg3 harg3 X 3 8 4480 rfl (by decide) inb_S4x512x128_S1x512x128_3_0_0 inb_S512x128_S32x128_8_0_s_16_1 spos_16_1 _ _ (fun _ => rfl) _ inb_S32x8192_S32x128_0_4480 shapeCasts_S32x128_S32x128 x
  · exact tok16_piece arg3 harg3 X 2 8 4352 rfl (by decide) inb_S4x512x128_S1x512x128_2_0_0 inb_S512x128_S32x128_8_0_s_16_1 spos_16_1 _ _ (fun _ => rfl) _ inb_S32x8192_S32x128_0_4352 shapeCasts_S32x128_S32x128 x
  · exact tok16_piece arg3 harg3 X 1 8 4224 rfl (by decide) inb_S4x512x128_S1x512x128_1_0_0 inb_S512x128_S32x128_8_0_s_16_1 spos_16_1 _ _ (fun _ => rfl) _ inb_S32x8192_S32x128_0_4224 shapeCasts_S32x128_S32x128 x
  · exact tok16_piece arg3 harg3 X 0 8 4096 rfl (by decide) inb_S4x512x128_S1x512x128_0_0_0 inb_S512x128_S32x128_8_0_s_16_1 spos_16_1 _ _ (fun _ => rfl) _ inb_S32x8192_S32x128_0_4096 shapeCasts_S32x128_S32x128 x
  · exact tok16_piece arg3 harg3 X 3 7 3968 rfl (by decide) inb_S4x512x128_S1x512x128_3_0_0 inb_S512x128_S32x128_7_0_s_16_1 spos_16_1 _ _ (fun _ => rfl) _ inb_S32x8192_S32x128_0_3968 shapeCasts_S32x128_S32x128 x
  · exact tok16_piece arg3 harg3 X 2 7 3840 rfl (by decide) inb_S4x512x128_S1x512x128_2_0_0 inb_S512x128_S32x128_7_0_s_16_1 spos_16_1 _ _ (fun _ => rfl) _ inb_S32x8192_S32x128_0_3840 shapeCasts_S32x128_S32x128 x
  · exact tok16_piece arg3 harg3 X 1 7 3712 rfl (by decide) inb_S4x512x128_S1x512x128_1_0_0 inb_S512x128_S32x128_7_0_s_16_1 spos_16_1 _ _ (fun _ => rfl) _ inb_S32x8192_S32x128_0_3712 shapeCasts_S32x128_S32x128 x
  · exact tok16_piece arg3 harg3 X 0 7 3584 rfl (by decide) inb_S4x512x128_S1x512x128_0_0_0 inb_S512x128_S32x128_7_0_s_16_1 spos_16_1 _ _ (fun _ => rfl) _ inb_S32x8192_S32x128_0_3584 shapeCasts_S32x128_S32x128 x
  · exact tok16_piece arg3 harg3 X 3 6 3456 rfl (by decide) inb_S4x512x128_S1x512x128_3_0_0 inb_S512x128_S32x128_6_0_s_16_1 spos_16_1 _ _ (fun _ => rfl) _ inb_S32x8192_S32x128_0_3456 shapeCasts_S32x128_S32x128 x
  · exact tok16_piece arg3 harg3 X 2 6 3328 rfl (by decide) inb_S4x512x128_S1x512x128_2_0_0 inb_S512x128_S32x128_6_0_s_16_1 spos_16_1 _ _ (fun _ => rfl) _ inb_S32x8192_S32x128_0_3328 shapeCasts_S32x128_S32x128 x
  · exact tok16_piece arg3 harg3 X 1 6 3200 rfl (by decide) inb_S4x512x128_S1x512x128_1_0_0 inb_S512x128_S32x128_6_0_s_16_1 spos_16_1 _ _ (fun _ => rfl) _ inb_S32x8192_S32x128_0_3200 shapeCasts_S32x128_S32x128 x
  · exact tok16_piece arg3 harg3 X 0 6 3072 rfl (by decide) inb_S4x512x128_S1x512x128_0_0_0 inb_S512x128_S32x128_6_0_s_16_1 spos_16_1 _ _ (fun _ => rfl) _ inb_S32x8192_S32x128_0_3072 shapeCasts_S32x128_S32x128 x
  · exact tok16_piece arg3 harg3 X 3 5 2944 rfl (by decide) inb_S4x512x128_S1x512x128_3_0_0 inb_S512x128_S32x128_5_0_s_16_1 spos_16_1 _ _ (fun _ => rfl) _ inb_S32x8192_S32x128_0_2944 shapeCasts_S32x128_S32x128 x
  · exact tok16_piece arg3 harg3 X 2 5 2816 rfl (by decide) inb_S4x512x128_S1x512x128_2_0_0 inb_S512x128_S32x128_5_0_s_16_1 spos_16_1 _ _ (fun _ => rfl) _ inb_S32x8192_S32x128_0_2816 shapeCasts_S32x128_S32x128 x
  · exact tok16_piece arg3 harg3 X 1 5 2688 rfl (by decide) inb_S4x512x128_S1x512x128_1_0_0 inb_S512x128_S32x128_5_0_s_16_1 spos_16_1 _ _ (fun _ => rfl) _ inb_S32x8192_S32x128_0_2688 shapeCasts_S32x128_S32x128 x
  · exact tok16_piece arg3 harg3 X 0 5 2560 rfl (by decide) inb_S4x512x128_S1x512x128_0_0_0 inb_S512x128_S32x128_5_0_s_16_1 spos_16_1 _ _ (fun _ => rfl) _ inb_S32x8192_S32x128_0_2560 shapeCasts_S32x128_S32x128 x
  · exact tok16_piece arg3 harg3 X 3 4 2432 rfl (by decide) inb_S4x512x128_S1x512x128_3_0_0 inb_S512x128_S32x128_4_0_s_16_1 spos_16_1 _ _ (fun _ => rfl) _ inb_S32x8192_S32x128_0_2432 shapeCasts_S32x128_S32x128 x
  · exact tok16_piece arg3 harg3 X 2 4 2304 rfl (by decide) inb_S4x512x128_S1x512x128_2_0_0 inb_S512x128_S32x128_4_0_s_16_1 spos_16_1 _ _ (fun _ => rfl) _ inb_S32x8192_S32x128_0_2304 shapeCasts_S32x128_S32x128 x
  · exact tok16_piece arg3 harg3 X 1 4 2176 rfl (by decide) inb_S4x512x128_S1x512x128_1_0_0 inb_S512x128_S32x128_4_0_s_16_1 spos_16_1 _ _ (fun _ => rfl) _ inb_S32x8192_S32x128_0_2176 shapeCasts_S32x128_S32x128 x
  · exact tok16_piece arg3 harg3 X 0 4 2048 rfl (by decide) inb_S4x512x128_S1x512x128_0_0_0 inb_S512x128_S32x128_4_0_s_16_1 spos_16_1 _ _ (fun _ => rfl) _ inb_S32x8192_S32x128_0_2048 shapeCasts_S32x128_S32x128 x
  · exact tok16_piece arg3 harg3 X 3 3 1920 rfl (by decide) inb_S4x512x128_S1x512x128_3_0_0 inb_S512x128_S32x128_3_0_s_16_1 spos_16_1 _ _ (fun _ => rfl) _ inb_S32x8192_S32x128_0_1920 shapeCasts_S32x128_S32x128 x
  · exact tok16_piece arg3 harg3 X 2 3 1792 rfl (by decide) inb_S4x512x128_S1x512x128_2_0_0 inb_S512x128_S32x128_3_0_s_16_1 spos_16_1 _ _ (fun _ => rfl) _ inb_S32x8192_S32x128_0_1792 shapeCasts_S32x128_S32x128 x
  · exact tok16_piece arg3 harg3 X 1 3 1664 rfl (by decide) inb_S4x512x128_S1x512x128_1_0_0 inb_S512x128_S32x128_3_0_s_16_1 spos_16_1 _ _ (fun _ => rfl) _ inb_S32x8192_S32x128_0_1664 shapeCasts_S32x128_S32x128 x
  · exact tok16_piece arg3 harg3 X 0 3 1536 rfl (by decide) inb_S4x512x128_S1x512x128_0_0_0 inb_S512x128_S32x128_3_0_s_16_1 spos_16_1 _ _ (fun _ => rfl) _ inb_S32x8192_S32x128_0_1536 shapeCasts_S32x128_S32x128 x
  · exact tok16_piece arg3 harg3 X 3 2 1408 rfl (by decide) inb_S4x512x128_S1x512x128_3_0_0 inb_S512x128_S32x128_2_0_s_16_1 spos_16_1 _ _ (fun _ => rfl) _ inb_S32x8192_S32x128_0_1408 shapeCasts_S32x128_S32x128 x
  · exact tok16_piece arg3 harg3 X 2 2 1280 rfl (by decide) inb_S4x512x128_S1x512x128_2_0_0 inb_S512x128_S32x128_2_0_s_16_1 spos_16_1 _ _ (fun _ => rfl) _ inb_S32x8192_S32x128_0_1280 shapeCasts_S32x128_S32x128 x
  · exact tok16_piece arg3 harg3 X 1 2 1152 rfl (by decide) inb_S4x512x128_S1x512x128_1_0_0 inb_S512x128_S32x128_2_0_s_16_1 spos_16_1 _ _ (fun _ => rfl) _ inb_S32x8192_S32x128_0_1152 shapeCasts_S32x128_S32x128 x
  · exact tok16_piece arg3 harg3 X 0 2 1024 rfl (by decide) inb_S4x512x128_S1x512x128_0_0_0 inb_S512x128_S32x128_2_0_s_16_1 spos_16_1 _ _ (fun _ => rfl) _ inb_S32x8192_S32x128_0_1024 shapeCasts_S32x128_S32x128 x
  · exact tok16_piece arg3 harg3 X 3 1 896 rfl (by decide) inb_S4x512x128_S1x512x128_3_0_0 inb_S512x128_S32x128_1_0_s_16_1 spos_16_1 _ _ (fun _ => rfl) _ inb_S32x8192_S32x128_0_896 shapeCasts_S32x128_S32x128 x
  · exact tok16_piece arg3 harg3 X 2 1 768 rfl (by decide) inb_S4x512x128_S1x512x128_2_0_0 inb_S512x128_S32x128_1_0_s_16_1 spos_16_1 _ _ (fun _ => rfl) _ inb_S32x8192_S32x128_0_768 shapeCasts_S32x128_S32x128 x
  · exact tok16_piece arg3 harg3 X 1 1 640 rfl (by decide) inb_S4x512x128_S1x512x128_1_0_0 inb_S512x128_S32x128_1_0_s_16_1 spos_16_1 _ _ (fun _ => rfl) _ inb_S32x8192_S32x128_0_640 shapeCasts_S32x128_S32x128 x
  · exact tok16_piece arg3 harg3 X 0 1 512 rfl (by decide) inb_S4x512x128_S1x512x128_0_0_0 inb_S512x128_S32x128_1_0_s_16_1 spos_16_1 _ _ (fun _ => rfl) _ inb_S32x8192_S32x128_0_512 shapeCasts_S32x128_S32x128 x
  · exact tok16_piece arg3 harg3 X 3 0 384 rfl (by decide) inb_S4x512x128_S1x512x128_3_0_0 inb_S512x128_S32x128_0_0_s_16_1 spos_16_1 _ _ (fun _ => rfl) _ inb_S32x8192_S32x128_0_384 shapeCasts_S32x128_S32x128 x
  · exact tok16_piece arg3 harg3 X 2 0 256 rfl (by decide) inb_S4x512x128_S1x512x128_2_0_0 inb_S512x128_S32x128_0_0_s_16_1 spos_16_1 _ _ (fun _ => rfl) _ inb_S32x8192_S32x128_0_256 shapeCasts_S32x128_S32x128 x
  · exact tok16_piece arg3 harg3 X 1 0 128 rfl (by decide) inb_S4x512x128_S1x512x128_1_0_0 inb_S512x128_S32x128_0_0_s_16_1 spos_16_1 _ _ (fun _ => rfl) _ inb_S32x8192_S32x128_0_128 shapeCasts_S32x128_S32x128 x
  · exact tok16_piece arg3 harg3 X 0 0 0 rfl (by decide) inb_S4x512x128_S1x512x128_0_0_0 inb_S512x128_S32x128_0_0_s_16_1 spos_16_1 _ _ (fun _ => rfl) _ inb_S32x8192_S32x128_0_0 shapeCasts_S32x128_S32x128 x

theorem outs16_all : View.canon (kernelRun0_A.sl.HS1_64 c arg3 harg3 X) = tok16 X :=
  funext fun y => View.canon_apply_of_pieces _ _ (outs16_pieces c arg3 harg3 X).mem y
    (cover_of_strided 16 32 (by decide) (by decide) _ (by sl_kernel_rfl) y)

end

section

variable (c : Dev nD) (arg5 : Memref sig .tc .vmem S128x2048 .f32) (harg5 : arg5.IsWhole) (X : Vec Ideal S128x2048 .f32)

set_option maxHeartbeats 8000000 in
theorem dens4_pieces : View.PiecesOf (tok4 X) (kernelRun0_A.sl.HS2_16 c arg5 harg5 X) := by
  unfold kernelRun0_A.sl.HS2_16 kernelRun0_A.sl.HS2_10
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tok4_piece arg5 harg5 X 3 3 1920 rfl (by decide) inb_S4x512x128_S1x512x128_3_0_0 inb_S512x128_S128x128_3_0_s_4_1 spos_4_1 _ _ (fun _ => rfl) _ inb_S128x2048_S128x128_0_1920 shapeCasts_S128x128_S128x128 x
  · exact tok4_piece arg5 harg5 X 2 3 1792 rfl (by decide) inb_S4x512x128_S1x512x128_2_0_0 inb_S512x128_S128x128_3_0_s_4_1 spos_4_1 _ _ (fun _ => rfl) _ inb_S128x2048_S128x128_0_1792 shapeCasts_S128x128_S128x128 x
  · exact tok4_piece arg5 harg5 X 1 3 1664 rfl (by decide) inb_S4x512x128_S1x512x128_1_0_0 inb_S512x128_S128x128_3_0_s_4_1 spos_4_1 _ _ (fun _ => rfl) _ inb_S128x2048_S128x128_0_1664 shapeCasts_S128x128_S128x128 x
  · exact tok4_piece arg5 harg5 X 0 3 1536 rfl (by decide) inb_S4x512x128_S1x512x128_0_0_0 inb_S512x128_S128x128_3_0_s_4_1 spos_4_1 _ _ (fun _ => rfl) _ inb_S128x2048_S128x128_0_1536 shapeCasts_S128x128_S128x128 x
  · exact tok4_piece arg5 harg5 X 3 2 1408 rfl (by decide) inb_S4x512x128_S1x512x128_3_0_0 inb_S512x128_S128x128_2_0_s_4_1 spos_4_1 _ _ (fun _ => rfl) _ inb_S128x2048_S128x128_0_1408 shapeCasts_S128x128_S128x128 x
  · exact tok4_piece arg5 harg5 X 2 2 1280 rfl (by decide) inb_S4x512x128_S1x512x128_2_0_0 inb_S512x128_S128x128_2_0_s_4_1 spos_4_1 _ _ (fun _ => rfl) _ inb_S128x2048_S128x128_0_1280 shapeCasts_S128x128_S128x128 x
  · exact tok4_piece arg5 harg5 X 1 2 1152 rfl (by decide) inb_S4x512x128_S1x512x128_1_0_0 inb_S512x128_S128x128_2_0_s_4_1 spos_4_1 _ _ (fun _ => rfl) _ inb_S128x2048_S128x128_0_1152 shapeCasts_S128x128_S128x128 x
  · exact tok4_piece arg5 harg5 X 0 2 1024 rfl (by decide) inb_S4x512x128_S1x512x128_0_0_0 inb_S512x128_S128x128_2_0_s_4_1 spos_4_1 _ _ (fun _ => rfl) _ inb_S128x2048_S128x128_0_1024 shapeCasts_S128x128_S128x128 x
  · exact tok4_piece arg5 harg5 X 3 1 896 rfl (by decide) inb_S4x512x128_S1x512x128_3_0_0 inb_S512x128_S128x128_1_0_s_4_1 spos_4_1 _ _ (fun _ => rfl) _ inb_S128x2048_S128x128_0_896 shapeCasts_S128x128_S128x128 x
  · exact tok4_piece arg5 harg5 X 2 1 768 rfl (by decide) inb_S4x512x128_S1x512x128_2_0_0 inb_S512x128_S128x128_1_0_s_4_1 spos_4_1 _ _ (fun _ => rfl) _ inb_S128x2048_S128x128_0_768 shapeCasts_S128x128_S128x128 x
  · exact tok4_piece arg5 harg5 X 1 1 640 rfl (by decide) inb_S4x512x128_S1x512x128_1_0_0 inb_S512x128_S128x128_1_0_s_4_1 spos_4_1 _ _ (fun _ => rfl) _ inb_S128x2048_S128x128_0_640 shapeCasts_S128x128_S128x128 x
  · exact tok4_piece arg5 harg5 X 0 1 512 rfl (by decide) inb_S4x512x128_S1x512x128_0_0_0 inb_S512x128_S128x128_1_0_s_4_1 spos_4_1 _ _ (fun _ => rfl) _ inb_S128x2048_S128x128_0_512 shapeCasts_S128x128_S128x128 x
  · exact tok4_piece arg5 harg5 X 3 0 384 rfl (by decide) inb_S4x512x128_S1x512x128_3_0_0 inb_S512x128_S128x128_0_0_s_4_1 spos_4_1 _ _ (fun _ => rfl) _ inb_S128x2048_S128x128_0_384 shapeCasts_S128x128_S128x128 x
  · exact tok4_piece arg5 harg5 X 2 0 256 rfl (by decide) inb_S4x512x128_S1x512x128_2_0_0 inb_S512x128_S128x128_0_0_s_4_1 spos_4_1 _ _ (fun _ => rfl) _ inb_S128x2048_S128x128_0_256 shapeCasts_S128x128_S128x128 x
  · exact tok4_piece arg5 harg5 X 1 0 128 rfl (by decide) inb_S4x512x128_S1x512x128_1_0_0 inb_S512x128_S128x128_0_0_s_4_1 spos_4_1 _ _ (fun _ => rfl) _ inb_S128x2048_S128x128_0_128 shapeCasts_S128x128_S128x128 x
  · exact tok4_piece arg5 harg5 X 0 0 0 rfl (by decide) inb_S4x512x128_S1x512x128_0_0_0 inb_S512x128_S128x128_0_0_s_4_1 spos_4_1 _ _ (fun _ => rfl) _ inb_S128x2048_S128x128_0_0 shapeCasts_S128x128_S128x128 x

theorem dens4_all : View.canon (kernelRun0_A.sl.HS2_16 c arg5 harg5 X) = tok4 X :=
  funext fun y => View.canon_apply_of_pieces _ _ (dens4_pieces c arg5 harg5 X).mem y
    (cover_of_strided 4 128 (by decide) (by decide) _ (by sl_kernel_rfl) y)

end

section

variable (c : Dev nD) (arg6 : Memref sig .tc .vmem S32x8192 .f32) (harg6 : arg6.IsWhole) (X : Vec Ideal S32x8192 .f32)

set_option maxHeartbeats 8000000 in
theorem dens16_pieces : View.PiecesOf (tok16 X) (kernelRun0_A.sl.HS3_64 c arg6 harg6 X) := by
  unfold kernelRun0_A.sl.HS3_64
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tok16_piece arg6 harg6 X 3 15 8064 rfl (by decide) inb_S4x512x128_S1x512x128_3_0_0 inb_S512x128_S32x128_15_0_s_16_1 spos_16_1 _ _ (fun _ => rfl) _ inb_S32x8192_S32x128_0_8064 shapeCasts_S32x128_S32x128 x
  · exact tok16_piece arg6 harg6 X 2 15 7936 rfl (by decide) inb_S4x512x128_S1x512x128_2_0_0 inb_S512x128_S32x128_15_0_s_16_1 spos_16_1 _ _ (fun _ => rfl) _ inb_S32x8192_S32x128_0_7936 shapeCasts_S32x128_S32x128 x
  · exact tok16_piece arg6 harg6 X 1 15 7808 rfl (by decide) inb_S4x512x128_S1x512x128_1_0_0 inb_S512x128_S32x128_15_0_s_16_1 spos_16_1 _ _ (fun _ => rfl) _ inb_S32x8192_S32x128_0_7808 shapeCasts_S32x128_S32x128 x
  · exact tok16_piece arg6 harg6 X 0 15 7680 rfl (by decide) inb_S4x512x128_S1x512x128_0_0_0 inb_S512x128_S32x128_15_0_s_16_1 spos_16_1 _ _ (fun _ => rfl) _ inb_S32x8192_S32x128_0_7680 shapeCasts_S32x128_S32x128 x
  · exact tok16_piece arg6 harg6 X 3 14 7552 rfl (by decide) inb_S4x512x128_S1x512x128_3_0_0 inb_S512x128_S32x128_14_0_s_16_1 spos_16_1 _ _ (fun _ => rfl) _ inb_S32x8192_S32x128_0_7552 shapeCasts_S32x128_S32x128 x
  · exact tok16_piece arg6 harg6 X 2 14 7424 rfl (by decide) inb_S4x512x128_S1x512x128_2_0_0 inb_S512x128_S32x128_14_0_s_16_1 spos_16_1 _ _ (fun _ => rfl) _ inb_S32x8192_S32x128_0_7424 shapeCasts_S32x128_S32x128 x
  · exact tok16_piece arg6 harg6 X 1 14 7296 rfl (by decide) inb_S4x512x128_S1x512x128_1_0_0 inb_S512x128_S32x128_14_0_s_16_1 spos_16_1 _ _ (fun _ => rfl) _ inb_S32x8192_S32x128_0_7296 shapeCasts_S32x128_S32x128 x
  · exact tok16_piece arg6 harg6 X 0 14 7168 rfl (by decide) inb_S4x512x128_S1x512x128_0_0_0 inb_S512x128_S32x128_14_0_s_16_1 spos_16_1 _ _ (fun _ => rfl) _ inb_S32x8192_S32x128_0_7168 shapeCasts_S32x128_S32x128 x
  · exact tok16_piece arg6 harg6 X 3 13 7040 rfl (by decide) inb_S4x512x128_S1x512x128_3_0_0 inb_S512x128_S32x128_13_0_s_16_1 spos_16_1 _ _ (fun _ => rfl) _ inb_S32x8192_S32x128_0_7040 shapeCasts_S32x128_S32x128 x
  · exact tok16_piece arg6 harg6 X 2 13 6912 rfl (by decide) inb_S4x512x128_S1x512x128_2_0_0 inb_S512x128_S32x128_13_0_s_16_1 spos_16_1 _ _ (fun _ => rfl) _ inb_S32x8192_S32x128_0_6912 shapeCasts_S32x128_S32x128 x
  · exact tok16_piece arg6 harg6 X 1 13 6784 rfl (by decide) inb_S4x512x128_S1x512x128_1_0_0 inb_S512x128_S32x128_13_0_s_16_1 spos_16_1 _ _ (fun _ => rfl) _ inb_S32x8192_S32x128_0_6784 shapeCasts_S32x128_S32x128 x
  · exact tok16_piece arg6 harg6 X 0 13 6656 rfl (by decide) inb_S4x512x128_S1x512x128_0_0_0 inb_S512x128_S32x128_13_0_s_16_1 spos_16_1 _ _ (fun _ => rfl) _ inb_S32x8192_S32x128_0_6656 shapeCasts_S32x128_S32x128 x
  · exact tok16_piece arg6 harg6 X 3 12 6528 rfl (by decide) inb_S4x512x128_S1x512x128_3_0_0 inb_S512x128_S32x128_12_0_s_16_1 spos_16_1 _ _ (fun _ => rfl) _ inb_S32x8192_S32x128_0_6528 shapeCasts_S32x128_S32x128 x
  · exact tok16_piece arg6 harg6 X 2 12 6400 rfl (by decide) inb_S4x512x128_S1x512x128_2_0_0 inb_S512x128_S32x128_12_0_s_16_1 spos_16_1 _ _ (fun _ => rfl) _ inb_S32x8192_S32x128_0_6400 shapeCasts_S32x128_S32x128 x
  · exact tok16_piece arg6 harg6 X 1 12 6272 rfl (by decide) inb_S4x512x128_S1x512x128_1_0_0 inb_S512x128_S32x128_12_0_s_16_1 spos_16_1 _ _ (fun _ => rfl) _ inb_S32x8192_S32x128_0_6272 shapeCasts_S32x128_S32x128 x
  · exact tok16_piece arg6 harg6 X 0 12 6144 rfl (by decide) inb_S4x512x128_S1x512x128_0_0_0 inb_S512x128_S32x128_12_0_s_16_1 spos_16_1 _ _ (fun _ => rfl) _ inb_S32x8192_S32x128_0_6144 shapeCasts_S32x128_S32x128 x
  · exact tok16_piece arg6 harg6 X 3 11 6016 rfl (by decide) inb_S4x512x128_S1x512x128_3_0_0 inb_S512x128_S32x128_11_0_s_16_1 spos_16_1 _ _ (fun _ => rfl) _ inb_S32x8192_S32x128_0_6016 shapeCasts_S32x128_S32x128 x
  · exact tok16_piece arg6 harg6 X 2 11 5888 rfl (by decide) inb_S4x512x128_S1x512x128_2_0_0 inb_S512x128_S32x128_11_0_s_16_1 spos_16_1 _ _ (fun _ => rfl) _ inb_S32x8192_S32x128_0_5888 shapeCasts_S32x128_S32x128 x
  · exact tok16_piece arg6 harg6 X 1 11 5760 rfl (by decide) inb_S4x512x128_S1x512x128_1_0_0 inb_S512x128_S32x128_11_0_s_16_1 spos_16_1 _ _ (fun _ => rfl) _ inb_S32x8192_S32x128_0_5760 shapeCasts_S32x128_S32x128 x
  · exact tok16_piece arg6 harg6 X 0 11 5632 rfl (by decide) inb_S4x512x128_S1x512x128_0_0_0 inb_S512x128_S32x128_11_0_s_16_1 spos_16_1 _ _ (fun _ => rfl) _ inb_S32x8192_S32x128_0_5632 shapeCasts_S32x128_S32x128 x
  · exact tok16_piece arg6 harg6 X 3 10 5504 rfl (by decide) inb_S4x512x128_S1x512x128_3_0_0 inb_S512x128_S32x128_10_0_s_16_1 spos_16_1 _ _ (fun _ => rfl) _ inb_S32x8192_S32x128_0_5504 shapeCasts_S32x128_S32x128 x
  · exact tok16_piece arg6 harg6 X 2 10 5376 rfl (by decide) inb_S4x512x128_S1x512x128_2_0_0 inb_S512x128_S32x128_10_0_s_16_1 spos_16_1 _ _ (fun _ => rfl) _ inb_S32x8192_S32x128_0_5376 shapeCasts_S32x128_S32x128 x
  · exact tok16_piece arg6 harg6 X 1 10 5248 rfl (by decide) inb_S4x512x128_S1x512x128_1_0_0 inb_S512x128_S32x128_10_0_s_16_1 spos_16_1 _ _ (fun _ => rfl) _ inb_S32x8192_S32x128_0_5248 shapeCasts_S32x128_S32x128 x
  · exact tok16_piece arg6 harg6 X 0 10 5120 rfl (by decide) inb_S4x512x128_S1x512x128_0_0_0 inb_S512x128_S32x128_10_0_s_16_1 spos_16_1 _ _ (fun _ => rfl) _ inb_S32x8192_S32x128_0_5120 shapeCasts_S32x128_S32x128 x
  · exact tok16_piece arg6 harg6 X 3 9 4992 rfl (by decide) inb_S4x512x128_S1x512x128_3_0_0 inb_S512x128_S32x128_9_0_s_16_1 spos_16_1 _ _ (fun _ => rfl) _ inb_S32x8192_S32x128_0_4992 shapeCasts_S32x128_S32x128 x
  · exact tok16_piece arg6 harg6 X 2 9 4864 rfl (by decide) inb_S4x512x128_S1x512x128_2_0_0 inb_S512x128_S32x128_9_0_s_16_1 spos_16_1 _ _ (fun _ => rfl) _ inb_S32x8192_S32x128_0_4864 shapeCasts_S32x128_S32x128 x
  · exact tok16_piece arg6 harg6 X 1 9 4736 rfl (by decide) inb_S4x512x128_S1x512x128_1_0_0 inb_S512x128_S32x128_9_0_s_16_1 spos_16_1 _ _ (fun _ => rfl) _ inb_S32x8192_S32x128_0_4736 shapeCasts_S32x128_S32x128 x
  · exact tok16_piece arg6 harg6 X 0 9 4608 rfl (by decide) inb_S4x512x128_S1x512x128_0_0_0 inb_S512x128_S32x128_9_0_s_16_1 spos_16_1 _ _ (fun _ => rfl) _ inb_S32x8192_S32x128_0_4608 shapeCasts_S32x128_S32x128 x
  · exact tok16_piece arg6 harg6 X 3 8 4480 rfl (by decide) inb_S4x512x128_S1x512x128_3_0_0 inb_S512x128_S32x128_8_0_s_16_1 spos_16_1 _ _ (fun _ => rfl) _ inb_S32x8192_S32x128_0_4480 shapeCasts_S32x128_S32x128 x
  · exact tok16_piece arg6 harg6 X 2 8 4352 rfl (by decide) inb_S4x512x128_S1x512x128_2_0_0 inb_S512x128_S32x128_8_0_s_16_1 spos_16_1 _ _ (fun _ => rfl) _ inb_S32x8192_S32x128_0_4352 shapeCasts_S32x128_S32x128 x
  · exact tok16_piece arg6 harg6 X 1 8 4224 rfl (by decide) inb_S4x512x128_S1x512x128_1_0_0 inb_S512x128_S32x128_8_0_s_16_1 spos_16_1 _ _ (fun _ => rfl) _ inb_S32x8192_S32x128_0_4224 shapeCasts_S32x128_S32x128 x
  · exact tok16_piece arg6 harg6 X 0 8 4096 rfl (by decide) inb_S4x512x128_S1x512x128_0_0_0 inb_S512x128_S32x128_8_0_s_16_1 spos_16_1 _ _ (fun _ => rfl) _ inb_S32x8192_S32x128_0_4096 shapeCasts_S32x128_S32x128 x
  · exact tok16_piece arg6 harg6 X 3 7 3968 rfl (by decide) inb_S4x512x128_S1x512x128_3_0_0 inb_S512x128_S32x128_7_0_s_16_1 spos_16_1 _ _ (fun _ => rfl) _ inb_S32x8192_S32x128_0_3968 shapeCasts_S32x128_S32x128 x
  · exact tok16_piece arg6 harg6 X 2 7 3840 rfl (by decide) inb_S4x512x128_S1x512x128_2_0_0 inb_S512x128_S32x128_7_0_s_16_1 spos_16_1 _ _ (fun _ => rfl) _ inb_S32x8192_S32x128_0_3840 shapeCasts_S32x128_S32x128 x
  · exact tok16_piece arg6 harg6 X 1 7 3712 rfl (by decide) inb_S4x512x128_S1x512x128_1_0_0 inb_S512x128_S32x128_7_0_s_16_1 spos_16_1 _ _ (fun _ => rfl) _ inb_S32x8192_S32x128_0_3712 shapeCasts_S32x128_S32x128 x
  · exact tok16_piece arg6 harg6 X 0 7 3584 rfl (by decide) inb_S4x512x128_S1x512x128_0_0_0 inb_S512x128_S32x128_7_0_s_16_1 spos_16_1 _ _ (fun _ => rfl) _ inb_S32x8192_S32x128_0_3584 shapeCasts_S32x128_S32x128 x
  · exact tok16_piece arg6 harg6 X 3 6 3456 rfl (by decide) inb_S4x512x128_S1x512x128_3_0_0 inb_S512x128_S32x128_6_0_s_16_1 spos_16_1 _ _ (fun _ => rfl) _ inb_S32x8192_S32x128_0_3456 shapeCasts_S32x128_S32x128 x
  · exact tok16_piece arg6 harg6 X 2 6 3328 rfl (by decide) inb_S4x512x128_S1x512x128_2_0_0 inb_S512x128_S32x128_6_0_s_16_1 spos_16_1 _ _ (fun _ => rfl) _ inb_S32x8192_S32x128_0_3328 shapeCasts_S32x128_S32x128 x
  · exact tok16_piece arg6 harg6 X 1 6 3200 rfl (by decide) inb_S4x512x128_S1x512x128_1_0_0 inb_S512x128_S32x128_6_0_s_16_1 spos_16_1 _ _ (fun _ => rfl) _ inb_S32x8192_S32x128_0_3200 shapeCasts_S32x128_S32x128 x
  · exact tok16_piece arg6 harg6 X 0 6 3072 rfl (by decide) inb_S4x512x128_S1x512x128_0_0_0 inb_S512x128_S32x128_6_0_s_16_1 spos_16_1 _ _ (fun _ => rfl) _ inb_S32x8192_S32x128_0_3072 shapeCasts_S32x128_S32x128 x
  · exact tok16_piece arg6 harg6 X 3 5 2944 rfl (by decide) inb_S4x512x128_S1x512x128_3_0_0 inb_S512x128_S32x128_5_0_s_16_1 spos_16_1 _ _ (fun _ => rfl) _ inb_S32x8192_S32x128_0_2944 shapeCasts_S32x128_S32x128 x
  · exact tok16_piece arg6 harg6 X 2 5 2816 rfl (by decide) inb_S4x512x128_S1x512x128_2_0_0 inb_S512x128_S32x128_5_0_s_16_1 spos_16_1 _ _ (fun _ => rfl) _ inb_S32x8192_S32x128_0_2816 shapeCasts_S32x128_S32x128 x
  · exact tok16_piece arg6 harg6 X 1 5 2688 rfl (by decide) inb_S4x512x128_S1x512x128_1_0_0 inb_S512x128_S32x128_5_0_s_16_1 spos_16_1 _ _ (fun _ => rfl) _ inb_S32x8192_S32x128_0_2688 shapeCasts_S32x128_S32x128 x
  · exact tok16_piece arg6 harg6 X 0 5 2560 rfl (by decide) inb_S4x512x128_S1x512x128_0_0_0 inb_S512x128_S32x128_5_0_s_16_1 spos_16_1 _ _ (fun _ => rfl) _ inb_S32x8192_S32x128_0_2560 shapeCasts_S32x128_S32x128 x
  · exact tok16_piece arg6 harg6 X 3 4 2432 rfl (by decide) inb_S4x512x128_S1x512x128_3_0_0 inb_S512x128_S32x128_4_0_s_16_1 spos_16_1 _ _ (fun _ => rfl) _ inb_S32x8192_S32x128_0_2432 shapeCasts_S32x128_S32x128 x
  · exact tok16_piece arg6 harg6 X 2 4 2304 rfl (by decide) inb_S4x512x128_S1x512x128_2_0_0 inb_S512x128_S32x128_4_0_s_16_1 spos_16_1 _ _ (fun _ => rfl) _ inb_S32x8192_S32x128_0_2304 shapeCasts_S32x128_S32x128 x
  · exact tok16_piece arg6 harg6 X 1 4 2176 rfl (by decide) inb_S4x512x128_S1x512x128_1_0_0 inb_S512x128_S32x128_4_0_s_16_1 spos_16_1 _ _ (fun _ => rfl) _ inb_S32x8192_S32x128_0_2176 shapeCasts_S32x128_S32x128 x
  · exact tok16_piece arg6 harg6 X 0 4 2048 rfl (by decide) inb_S4x512x128_S1x512x128_0_0_0 inb_S512x128_S32x128_4_0_s_16_1 spos_16_1 _ _ (fun _ => rfl) _ inb_S32x8192_S32x128_0_2048 shapeCasts_S32x128_S32x128 x
  · exact tok16_piece arg6 harg6 X 3 3 1920 rfl (by decide) inb_S4x512x128_S1x512x128_3_0_0 inb_S512x128_S32x128_3_0_s_16_1 spos_16_1 _ _ (fun _ => rfl) _ inb_S32x8192_S32x128_0_1920 shapeCasts_S32x128_S32x128 x
  · exact tok16_piece arg6 harg6 X 2 3 1792 rfl (by decide) inb_S4x512x128_S1x512x128_2_0_0 inb_S512x128_S32x128_3_0_s_16_1 spos_16_1 _ _ (fun _ => rfl) _ inb_S32x8192_S32x128_0_1792 shapeCasts_S32x128_S32x128 x
  · exact tok16_piece arg6 harg6 X 1 3 1664 rfl (by decide) inb_S4x512x128_S1x512x128_1_0_0 inb_S512x128_S32x128_3_0_s_16_1 spos_16_1 _ _ (fun _ => rfl) _ inb_S32x8192_S32x128_0_1664 shapeCasts_S32x128_S32x128 x
  · exact tok16_piece arg6 harg6 X 0 3 1536 rfl (by decide) inb_S4x512x128_S1x512x128_0_0_0 inb_S512x128_S32x128_3_0_s_16_1 spos_16_1 _ _ (fun _ => rfl) _ inb_S32x8192_S32x128_0_1536 shapeCasts_S32x128_S32x128 x
  · exact tok16_piece arg6 harg6 X 3 2 1408 rfl (by decide) inb_S4x512x128_S1x512x128_3_0_0 inb_S512x128_S32x128_2_0_s_16_1 spos_16_1 _ _ (fun _ => rfl) _ inb_S32x8192_S32x128_0_1408 shapeCasts_S32x128_S32x128 x
  · exact tok16_piece arg6 harg6 X 2 2 1280 rfl (by decide) inb_S4x512x128_S1x512x128_2_0_0 inb_S512x128_S32x128_2_0_s_16_1 spos_16_1 _ _ (fun _ => rfl) _ inb_S32x8192_S32x128_0_1280 shapeCasts_S32x128_S32x128 x
  · exact tok16_piece arg6 harg6 X 1 2 1152 rfl (by decide) inb_S4x512x128_S1x512x128_1_0_0 inb_S512x128_S32x128_2_0_s_16_1 spos_16_1 _ _ (fun _ => rfl) _ inb_S32x8192_S32x128_0_1152 shapeCasts_S32x128_S32x128 x
  · exact tok16_piece arg6 harg6 X 0 2 1024 rfl (by decide) inb_S4x512x128_S1x512x128_0_0_0 inb_S512x128_S32x128_2_0_s_16_1 spos_16_1 _ _ (fun _ => rfl) _ inb_S32x8192_S32x128_0_1024 shapeCasts_S32x128_S32x128 x
  · exact tok16_piece arg6 harg6 X 3 1 896 rfl (by decide) inb_S4x512x128_S1x512x128_3_0_0 inb_S512x128_S32x128_1_0_s_16_1 spos_16_1 _ _ (fun _ => rfl) _ inb_S32x8192_S32x128_0_896 shapeCasts_S32x128_S32x128 x
  · exact tok16_piece arg6 harg6 X 2 1 768 rfl (by decide) inb_S4x512x128_S1x512x128_2_0_0 inb_S512x128_S32x128_1_0_s_16_1 spos_16_1 _ _ (fun _ => rfl) _ inb_S32x8192_S32x128_0_768 shapeCasts_S32x128_S32x128 x
  · exact tok16_piece arg6 harg6 X 1 1 640 rfl (by decide) inb_S4x512x128_S1x512x128_1_0_0 inb_S512x128_S32x128_1_0_s_16_1 spos_16_1 _ _ (fun _ => rfl) _ inb_S32x8192_S32x128_0_640 shapeCasts_S32x128_S32x128 x
  · exact tok16_piece arg6 harg6 X 0 1 512 rfl (by decide) inb_S4x512x128_S1x512x128_0_0_0 inb_S512x128_S32x128_1_0_s_16_1 spos_16_1 _ _ (fun _ => rfl) _ inb_S32x8192_S32x128_0_512 shapeCasts_S32x128_S32x128 x
  · exact tok16_piece arg6 harg6 X 3 0 384 rfl (by decide) inb_S4x512x128_S1x512x128_3_0_0 inb_S512x128_S32x128_0_0_s_16_1 spos_16_1 _ _ (fun _ => rfl) _ inb_S32x8192_S32x128_0_384 shapeCasts_S32x128_S32x128 x
  · exact tok16_piece arg6 harg6 X 2 0 256 rfl (by decide) inb_S4x512x128_S1x512x128_2_0_0 inb_S512x128_S32x128_0_0_s_16_1 spos_16_1 _ _ (fun _ => rfl) _ inb_S32x8192_S32x128_0_256 shapeCasts_S32x128_S32x128 x
  · exact tok16_piece arg6 harg6 X 1 0 128 rfl (by decide) inb_S4x512x128_S1x512x128_1_0_0 inb_S512x128_S32x128_0_0_s_16_1 spos_16_1 _ _ (fun _ => rfl) _ inb_S32x8192_S32x128_0_128 shapeCasts_S32x128_S32x128 x
  · exact tok16_piece arg6 harg6 X 0 0 0 rfl (by decide) inb_S4x512x128_S1x512x128_0_0_0 inb_S512x128_S32x128_0_0_s_16_1 spos_16_1 _ _ (fun _ => rfl) _ inb_S32x8192_S32x128_0_0 shapeCasts_S32x128_S32x128 x

theorem dens16_all : View.canon (kernelRun0_A.sl.HS3_64 c arg6 harg6 X) = tok16 X :=
  funext fun y => View.canon_apply_of_pieces _ _ (dens16_pieces c arg6 harg6 X).mem y
    (cover_of_strided 16 32 (by decide) (by decide) _ (by sl_kernel_rfl) y)

end

end Cert.Kernel13Ideal.DilCombine

end
-- ==== Proof.DilCombineRef.lean ====
/- The combination of the dilated groups as the reference writes it, entry by entry, and what its precondition says. -/
module

public import proofs.«01_k».proof.Defs
public import proofs.«01_k».proof.Pre_lse_finite
public import proofs.«01_k».proof.Proof.Gen.Reference13Ideal.Run
public import proofs.«01_k».proof.Proof.DilMix
public import Idealize.ShloMosaic.Lib.StableHlo.ReadAt
public import Idealize.ShloMosaic.Lib.StableHlo.Predicate
public import Idealize.ShloMosaic.Lib.Pointwise

@[expose] public section

set_option maxRecDepth 16384

noncomputable section

open Idealize.ShloMosaic Idealize.ShloMosaic.TcCoe Idealize.ShloMosaic.Tactic Idealize.SL.Sem
open Cert.DilMix

namespace Cert.Reference13Ideal.DilCombine

open Cert.Reference13Ideal Cert.Reference13Ideal.Gen Cert.Reference13Ideal.Value

/-- The three groups' arrays, one above the other. -/
def stack (a b c : FVec Ideal S32768x512 .f32) : FVec Ideal S3x32768x512 .f32 :=
  ((concatenate S3x32768x512 0 [⟨S1x32768x512, ((broadcastInDim S1x32768x512 ![1, 2] bcast_S32768x512_S1x32768x512_1_2 a) : (⟨S1x32768x512, .f32⟩ : BufTy).Contents (Elt Ideal))⟩, ⟨S1x32768x512, ((broadcastInDim S1x32768x512 ![1, 2] bcast_S32768x512_S1x32768x512_1_2 b) : (⟨S1x32768x512, .f32⟩ : BufTy).Contents (Elt Ideal))⟩, ⟨S1x32768x512, ((broadcastInDim S1x32768x512 ![1, 2] bcast_S32768x512_S1x32768x512_1_2 c) : (⟨S1x32768x512, .f32⟩ : BufTy).Contents (Elt Ideal))⟩] concatenates_S1x32768x512_S1x32768x512_S1x32768x512_S3x32768x512_d0 : (⟨S3x32768x512, .f32⟩ : BufTy).Contents (Elt Ideal)))

/-- The greatest over the groups. -/
def greatest (l : FVec Ideal S3x32768x512 .f32) : FVec Ideal S32768x512 .f32 :=
  maximumf (broadcastInDim S32768x512 ![] bcast_S_S32768x512 (constant S_ .f32 0xFF800000#32)) (Host.reduce FloatOps.maximumf l (constant S_ .f32 0xFF800000#32) reducesTo_S3x32768x512_S32768x512_d0 h_S_)

/-- The powers of the denominators less the greatest of them. -/
def powers (l : FVec Ideal S3x32768x512 .f32) : FVec Ideal S3x32768x512 .f32 :=
  Host.exp (subf l (broadcastInDim S3x32768x512 ![0, 1, 2] bcast_S1x32768x512_S3x32768x512_0_1_2 (broadcastInDim S1x32768x512 ![1, 2] bcast_S32768x512_S1x32768x512_1_2 (greatest l))))

/-- The outputs by the weights, summed over the groups. -/
def combined (e o : FVec Ideal S3x32768x512 .f32) : FVec Ideal S32768x512 .bf16 :=
  truncf .bf16 (Host.reduceAdd (mulf (Host.divf e (broadcastInDim S3x32768x512 ![0, 1, 2] bcast_S1x32768x512_S3x32768x512_0_1_2 (broadcastInDim S1x32768x512 ![1, 2] bcast_S32768x512_S1x32768x512_1_2 (Host.reduceAdd e (constant S_ .f32 0x00000000#32) reducesTo_S3x32768x512_S32768x512_d0 h_S_)))) o) (constant S_ .f32 0x00000000#32) reducesTo_S3x32768x512_S32768x512_d0 h_S_) bitsLt_bf16_f32

/-- A row of four tokens set out a token to a row. -/
def set4 (x : FVec Ideal S8192x2048 .f32) : FVec Ideal S32768x512 .f32 := shapeCast _ x shapeCasts_S8192x2048_S32768x512

/-- A row of sixteen tokens set out a token to a row. -/
def set16 (x : FVec Ideal S2048x8192 .f32) : FVec Ideal S32768x512 .f32 := shapeCast _ x shapeCasts_S2048x8192_S32768x512

theorem res_eq (m : (ℓ : Loc nD τ sig) → Buf (Elt Ideal) ℓ) (c : Dev nD) : res_main_v25 m c
    = combined (powers (stack (m (c.tc.loc main_arg3)) (set4 (m (c.tc.loc main_arg4))) (set16 (m (c.tc.loc main_arg5)))))
      (stack (m (c.tc.loc main_arg0)) (set4 (m (c.tc.loc main_arg1))) (set16 (m (c.tc.loc main_arg2)))) := rfl

theorem set4_apply (x : FVec Ideal S8192x2048 .f32) (p : Fin 32768) (q : Fin 512) :
    set4 x (ix2 p q) = x (ix2 ⟨p.val / 4, by omega⟩ ⟨p.val % 4 * 512 + q.val, by omega⟩) := by
  unfold set4
  pointwise

theorem set16_apply (x : FVec Ideal S2048x8192 .f32) (p : Fin 32768) (q : Fin 512) :
    set16 x (ix2 p q) = x (ix2 ⟨p.val / 16, by omega⟩ ⟨p.val % 16 * 512 + q.val, by omega⟩) := by
  unfold set16
  pointwise

theorem stack_apply (a b c : FVec Ideal S32768x512 .f32) (g : Fin 3) (p : Fin 32768) (q : Fin 512) :
    stack a b c (ix3 g p q) = if g.val < 1 then a (ix2 p q) else if g.val - 1 < 1 then b (ix2 p q) else c (ix2 p q) := by
  unfold stack
  pointwise
  split_ifs <;> rfl

theorem over_low (z : FVec Ideal S32768x512 .f32) (p : Fin 32768) (q : Fin 512) :
    maximumf (broadcastInDim S32768x512 ![] bcast_S_S32768x512 (constant S_ .f32 0xFF800000#32)) z (ix2 p q) = z (ix2 p q) := by
  refine Eq.trans (b := max (Ideal.ofBits .f32 4286578688#32) (z (ix2 p q))) ?_ (by rw [low, max_bot_left])
  pointwise

theorem low_first : (constant (F := Ideal) S_ .f32 0xFF800000#32 : FVec Ideal S_ .f32) (Shape.Idx.first h_S_) = ⊥ := low

theorem greatest_apply (l : FVec Ideal S3x32768x512 .f32) (p : Fin 32768) (q : Fin 512) :
    greatest l (ix2 p q) = max (max (l (ix3 0 p q)) (l (ix3 1 p q))) (l (ix3 2 p q)) := by
  unfold greatest
  refine (over_low _ p q).trans ((reduce_max 32768 512 l (constant S_ .f32 0xFF800000#32) reducesTo_S3x32768x512_S32768x512_d0 h_S_ p q).trans ?_)
  rw [low_first, max_bot_right, max_assoc]

theorem powers_apply (l : FVec Ideal S3x32768x512 .f32) (g : Fin 3) (p : Fin 32768) (q : Fin 512) :
    powers l (ix3 g p q) = Ideal.exp (l (ix3 g p q) - greatest l (ix2 p q)) := by
  unfold powers
  generalize greatest l = z
  pointwise

theorem combined_apply (e o : FVec Ideal S3x32768x512 .f32) (p : Fin 32768) (q : Fin 512) : combined e o (ix2 p q)
    = Ideal.div (e (ix3 0 p q)) (e (ix3 0 p q) + e (ix3 1 p q) + e (ix3 2 p q)) * o (ix3 0 p q)
      + Ideal.div (e (ix3 1 p q)) (e (ix3 0 p q) + e (ix3 1 p q) + e (ix3 2 p q)) * o (ix3 1 p q)
      + Ideal.div (e (ix3 2 p q)) (e (ix3 0 p q) + e (ix3 1 p q) + e (ix3 2 p q)) * o (ix3 2 p q) := by
  unfold combined
  pointwise
  simp only [Fin.sum_univ_three]

/-- The reference's entry, where the greatest denominator is a number. -/
theorem entry_eq (o1 o4 o16 l1 l4 l16 : FVec Ideal S32768x512 .f32) (p : Fin 32768) (q : Fin 512)
    (h1 : max (max (l1 (ix2 p q)) (l4 (ix2 p q))) (l16 (ix2 p q)) ≠ ⊤) (h2 : max (max (l1 (ix2 p q)) (l4 (ix2 p q))) (l16 (ix2 p q)) ≠ ⊥) :
    combined (powers (stack l1 l4 l16)) (stack o1 o4 o16) (ix2 p q)
      = mixed (o1 (ix2 p q)) (o4 (ix2 p q)) (o16 (ix2 p q)) (l1 (ix2 p q)) (l4 (ix2 p q)) (l16 (ix2 p q)) := by
  have s0 : ∀ a b c : FVec Ideal S32768x512 .f32, stack a b c (ix3 0 p q) = a (ix2 p q) := fun a b c => (stack_apply a b c 0 p q).trans (if_pos (by decide))
  have s1 : ∀ a b c : FVec Ideal S32768x512 .f32, stack a b c (ix3 1 p q) = b (ix2 p q) := fun a b c =>
    (stack_apply a b c 1 p q).trans ((if_neg (by decide)).trans (if_pos (by decide)))
  have s2 : ∀ a b c : FVec Ideal S32768x512 .f32, stack a b c (ix3 2 p q) = c (ix2 p q) := fun a b c =>
    (stack_apply a b c 2 p q).trans ((if_neg (by decide)).trans (if_neg (by decide)))
  rw [combined_apply, powers_apply, powers_apply, powers_apply, greatest_apply, s0, s1, s2, s0, s1, s2]
  exact (mixed_eq _ _ _ _ _ _ _ rfl h1 h2).symm

/-- What the precondition says of a place. -/
theorem number [Cert.Pre_lse_finite.Facts] (a0 : FVec Ideal S32768x512 .f32) (a1 : FVec Ideal S8192x2048 .f32) (a2 : FVec Ideal S2048x8192 .f32)
    (a3 : FVec Ideal S32768x512 .f32) (a4 : FVec Ideal S8192x2048 .f32) (a5 : FVec Ideal S2048x8192 .f32)
    (h : Cert.Pre_lse_finite.fn a0 a1 a2 a3 a4 a5 = fun _ => 1#1) (p : Fin 32768) (q : Fin 512) :
    max (max (a3 (ix2 p q)) (set4 a4 (ix2 p q))) (set16 a5 (ix2 p q)) ≠ ⊤ ∧ max (max (a3 (ix2 p q)) (set4 a4 (ix2 p q))) (set16 a5 (ix2 p q)) ≠ ⊥ := by
  have hx : Ideal.cmp .olt (max (max (max (a3 (ix2 p q)) (set4 a4 (ix2 p q))) (set16 a5 (ix2 p q))) (-max (max (a3 (ix2 p q)) (set4 a4 (ix2 p q))) (set16 a5 (ix2 p q))))
      (Ideal.ofBits .f32 0x7F800000#32) = 1#1 := congrFun h (ix2 p q)
  generalize max (max (a3 (ix2 p q)) (set4 a4 (ix2 p q))) (set16 a5 (ix2 p q)) = z at hx ⊢
  rw [high] at hx
  have hb : ∀ b : Bool, BitVec.ofBool b = 1#1 → b = true := by decide
  have hz : max z (-z) < ⊤ := of_decide_eq_true (hb (decide (max z (-z) < ⊤)) hx)
  refine ⟨fun e => ?_, fun e => ?_⟩
  · rw [e, max_eq_left le_top] at hz
    exact lt_irrefl _ hz
  · rw [e, EReal.neg_bot, max_eq_right bot_le] at hz
    exact lt_irrefl _ hz

end Cert.Reference13Ideal.DilCombine

end
-- ==== Proof.DilCombine.lean ====
/- The combination of the dilated groups: the five claims. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Pre_lse_finite
public import proofs.«01_k».proof.Proof.DilMix
public import proofs.«01_k».proof.Proof.DilPlanes
public import proofs.«01_k».proof.Proof.DilCombineRef
public import Idealize.ShloMosaic.Lib.Pipeline.ValueKit
public import Idealize.ShloMosaic.Lib.Pipeline.Covers
public import Idealize.ShloMosaic.Lib.Pipeline.ReadBack
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Cert.DilMix

/-! ## The kernel's entries -/

namespace Cert.Kernel13Ideal.DilCombine

open Cert.Kernel13Ideal Cert.Kernel13Ideal.Gen Cert.Kernel13Ideal.Value

theorem sum1 (o4 o16 w1 w4 w16 n : FVec Ideal S512x512 .f32) (p q : Fin 512) : k0_pay1 o4 o16 w1 w4 w16 n (ix2 p q)
    = Ideal.div (n (ix2 p q) + w4 (ix2 p q) * o4 (ix2 p q) + w16 (ix2 p q) * o16 (ix2 p q)) (w1 (ix2 p q) + w4 (ix2 p q) + w16 (ix2 p q)) := by
  pointwise [k0_pay1]

theorem power1 (l1 l4 : FVec Ideal S512x512 .f32) (A B C D : Vec Ideal S1x512x128 .f32) (p q : Fin 512) : k0_pay169 l1 l4 A B C D (ix2 p q)
    = Ideal.exp (l1 (ix2 p q) - max (max (l1 (ix2 p q)) (l4 (ix2 p q))) (k0_pay167 A B C D (ix2 p q))) := by
  unfold k0_pay169 k0_pay168
  generalize k0_pay167 A B C D = l16
  pointwise

theorem power4 (l1 l4 : FVec Ideal S512x512 .f32) (A B C D : Vec Ideal S1x512x128 .f32) (p q : Fin 512) : k0_pay170 l1 l4 A B C D (ix2 p q)
    = Ideal.exp (l4 (ix2 p q) - max (max (l1 (ix2 p q)) (l4 (ix2 p q))) (k0_pay167 A B C D (ix2 p q))) := by
  unfold k0_pay170 k0_pay168
  generalize k0_pay167 A B C D = l16
  pointwise

theorem power16 (l1 l4 : FVec Ideal S512x512 .f32) (A B C D : Vec Ideal S1x512x128 .f32) (p q : Fin 512) : k0_pay171 l1 l4 A B C D (ix2 p q)
    = Ideal.exp (k0_pay167 A B C D (ix2 p q) - max (max (l1 (ix2 p q)) (l4 (ix2 p q))) (k0_pay167 A B C D (ix2 p q))) := by
  unfold k0_pay171 k0_pay168
  generalize k0_pay167 A B C D = l16
  pointwise

theorem first1 (x0 l1 l4 : FVec Ideal S512x512 .f32) (A B C D : Vec Ideal S1x512x128 .f32) (p q : Fin 512) : k0_pay172 x0 l1 l4 A B C D (ix2 p q)
    = Ideal.exp (l1 (ix2 p q) - max (max (l1 (ix2 p q)) (l4 (ix2 p q))) (k0_pay167 A B C D (ix2 p q))) * x0 (ix2 p q) := by
  unfold k0_pay172 k0_pay169 k0_pay168
  generalize k0_pay167 A B C D = l16
  pointwise

theorem pay_apply (x0 o4 o16 l1 l4 : FVec Ideal S512x512 .f32) (A B C D : Vec Ideal S1x512x128 .f32) (p q : Fin 512) :
    k0_pay1 o4 o16 (k0_pay169 l1 l4 A B C D) (k0_pay170 l1 l4 A B C D) (k0_pay171 l1 l4 A B C D) (k0_pay172 x0 l1 l4 A B C D) (ix2 p q)
      = mixed (x0 (ix2 p q)) (o4 (ix2 p q)) (o16 (ix2 p q)) (l1 (ix2 p q)) (l4 (ix2 p q)) (k0_pay167 A B C D (ix2 p q)) := by
  rw [sum1, power1, power4, power16, first1]
  rfl

/-- A grid point's block: the groups combined, a token to a row. -/
def blend (x0 : Vec Ideal S512x512 .f32) (x1 : Vec Ideal S128x2048 .f32) (x2 : Vec Ideal S32x8192 .f32)
    (x3 : Vec Ideal S512x512 .f32) (x4 : Vec Ideal S128x2048 .f32) (x5 : Vec Ideal S32x8192 .f32) : S512x512.Idx → EReal := fun y =>
  mixed (x0 (ix2 (y 0) (y 1))) (tok4 x1 (ix3 ⟨(y 1).val / 128, by have h : (y 1).val < 512 := (y 1).isLt; omega⟩ (y 0) ⟨(y 1).val % 128, Nat.mod_lt _ (by decide)⟩))
    (tok16 x2 (ix3 ⟨(y 1).val / 128, by have h : (y 1).val < 512 := (y 1).isLt; omega⟩ (y 0) ⟨(y 1).val % 128, Nat.mod_lt _ (by decide)⟩))
    (x3 (ix2 (y 0) (y 1))) (tok4 x4 (ix3 ⟨(y 1).val / 128, by have h : (y 1).val < 512 := (y 1).isLt; omega⟩ (y 0) ⟨(y 1).val % 128, Nat.mod_lt _ (by decide)⟩))
    (tok16 x5 (ix3 ⟨(y 1).val / 128, by have h : (y 1).val < 512 := (y 1).isLt; omega⟩ (y 0) ⟨(y 1).val % 128, Nat.mod_lt _ (by decide)⟩))

section

variable (c : Dev nD) (i : grid0.Coords)
  (arg1 : Memref sig .tc .vmem S512x512 .f32) (harg1 : arg1.IsWhole) (arg2 : Memref sig .tc .vmem S128x2048 .f32) (harg2 : arg2.IsWhole)
  (arg3 : Memref sig .tc .vmem S32x8192 .f32) (harg3 : arg3.IsWhole) (arg4 : Memref sig .tc .vmem S512x512 .f32) (harg4 : arg4.IsWhole)
  (arg5 : Memref sig .tc .vmem S128x2048 .f32) (harg5 : arg5.IsWhole) (arg6 : Memref sig .tc .vmem S32x8192 .f32) (harg6 : arg6.IsWhole)
  (arg7 : Memref sig .tc .vmem S512x512 .bf16) (harg7 : arg7.IsWhole) (arg8 : Memref sig .tc .vmem S4x512x128 .f32) (harg8 : arg8.IsWhole)
  (arg9 : Memref sig .tc .vmem S4x512x128 .f32) (harg9 : arg9.IsWhole) (arg10 : Memref sig .tc .vmem S4x512x128 .f32) (harg10 : arg10.IsWhole)
  (arg11 : Memref sig .tc .vmem S4x512x128 .f32) (harg11 : arg11.IsWhole)
  (x0 : Vec Ideal S512x512 .f32) (x1 : Vec Ideal S128x2048 .f32) (x2 : Vec Ideal S32x8192 .f32)
  (x3 : Vec Ideal S512x512 .f32) (x4 : Vec Ideal S128x2048 .f32) (x5 : Vec Ideal S32x8192 .f32)

theorem whole0 : kernelRun0_A.sl.r c arg1 harg1 x0 = x0 := by
  unfold kernelRun0_A.sl.r
  simp (disch := decide) only [View.ld_unit_lit', View.readAt_eq_ld, Memref.IsWhole.read_unread]

theorem whole3 : kernelRun0_A.sl.r_22 c arg4 harg4 x3 = x3 := by
  unfold kernelRun0_A.sl.r_22
  simp (disch := decide) only [View.ld_unit_lit', View.readAt_eq_ld, Memref.IsWhole.read_unread]

theorem outs4 (p q : Fin 512) : kernelRun0_A.sl.r_5 c arg2 harg2 arg8 x1 (ix2 p q) = tok4 x1 (ix3 ⟨q.val / 128, by omega⟩ p ⟨q.val % 128, by omega⟩) :=
  four_planes _ _ (outs4_all c arg2 harg2 x1) arg8 p q

theorem outs16 (p q : Fin 512) : kernelRun0_A.sl.r_21 c arg3 harg3 arg9 x2 (ix2 p q) = tok16 x2 (ix3 ⟨q.val / 128, by omega⟩ p ⟨q.val % 128, by omega⟩) :=
  four_planes _ _ (outs16_all c arg3 harg3 x2) arg9 p q

theorem dens4 (p q : Fin 512) : kernelRun0_A.sl.r_27 c arg5 harg5 arg10 x4 (ix2 p q) = tok4 x4 (ix3 ⟨q.val / 128, by omega⟩ p ⟨q.val % 128, by omega⟩) :=
  four_planes _ _ (dens4_all c arg5 harg5 x4) arg10 p q

/-- What the run writes is the blend. -/
theorem run_pieces : View.PiecesOf (blend x0 x1 x2 x3 x4 x5)
    (kernelRun0_A c i arg1 harg1 arg2 harg2 arg3 harg3 arg4 harg4 arg5 harg5 arg6 harg6 arg7 harg7 arg8 harg8 arg9 harg9 arg10 harg10 arg11 harg11 x0 x1 x2 x3 x4 x5).1 := by
  unfold kernelRun0_A
  dsimp only
  refine ⟨fun x => ?_, trivial⟩
  have hx : ∃ p q : Fin 512, x = ix2 p q := ⟨x 0, x 1, by funext a; match a with | ⟨0, _⟩ => rfl | ⟨1, _⟩ => rfl⟩
  obtain ⟨p, q, rfl⟩ := hx
  refine (pay_apply (kernelRun0_A.sl.r c arg1 harg1 x0) (kernelRun0_A.sl.r_5 c arg2 harg2 arg8 x1) (kernelRun0_A.sl.r_21 c arg3 harg3 arg9 x2)
    (kernelRun0_A.sl.r_22 c arg4 harg4 x3) (kernelRun0_A.sl.r_27 c arg5 harg5 arg10 x4) _ _ _ _ p q).trans ?_
  rw [whole0, whole3, outs4, outs16, dens4]
  refine (congrArg _ (four_planes _ _ (dens16_all c arg6 harg6 x5) arg11 p q)).trans ?_
  refine congrArg (blend x0 x1 x2 x3 x4 x5) (a₁ := ix2 p q) (funext fun a => ?_)
  match a with
  | ⟨0, _⟩ => exact Fin.ext (show p.val = 0 + 1 * p.val by omega)
  | ⟨1, _⟩ => exact Fin.ext (show q.val = 0 + 1 * q.val by omega)

theorem out_eq : out0_A_6 c i arg1 harg1 arg2 harg2 arg3 harg3 arg4 harg4 arg5 harg5 arg6 harg6 arg7 harg7 arg8 harg8 arg9 harg9 arg10 harg10 arg11 harg11 x0 x1 x2 x3 x4 x5
    = blend x0 x1 x2 x3 x4 x5 := by
  unfold out0_A_6
  rw [View.read_writes_junk_eq_canon]
  exact funext fun y => View.canon_apply_of_pieces _ _
    (run_pieces c i arg1 harg1 arg2 harg2 arg3 harg3 arg4 harg4 arg5 harg5 arg6 harg6 arg7 harg7 arg8 harg8 arg9 harg9 arg10 harg10 arg11 harg11 x0 x1 x2 x3 x4 x5).mem y
    (cover0_A_6 c i arg1 harg1 arg2 harg2 arg3 harg3 arg4 harg4 arg5 harg5 arg6 harg6 arg7 harg7 arg8 harg8 arg9 harg9 arg10 harg10 arg11 harg11 x0 x1 x2 x3 x4 x5 y)

end

/-! ## The result -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- The result at a place. -/
def place (c : Dev nD) (p : Fin 32768) (q : Fin 512) : EReal :=
  mixed (m (c.tc.loc main_arg0) (ix2 p q))
    (m (c.tc.loc main_arg1) (ix2 ⟨p.val / 4, by omega⟩ ⟨p.val % 4 * 512 + q.val, by omega⟩))
    (m (c.tc.loc main_arg2) (ix2 ⟨p.val / 16, by omega⟩ ⟨p.val % 16 * 512 + q.val, by omega⟩))
    (m (c.tc.loc main_arg3) (ix2 p q))
    (m (c.tc.loc main_arg4) (ix2 ⟨p.val / 4, by omega⟩ ⟨p.val % 4 * 512 + q.val, by omega⟩))
    (m (c.tc.loc main_arg5) (ix2 ⟨p.val / 16, by omega⟩ ⟨p.val % 16 * 512 + q.val, by omega⟩))

/-- The result, as an array. -/
def result (c : Dev nD) : S32768x512.Idx → EReal := fun y => place m c (y 0) (y 1)

theorem lt64 (t : Fin cfg0.N) : t.val < 64 := t.isLt.trans_eq N_0

theorem iblk0_apply (c : Dev nD) (t : Fin cfg0.N) (p q : Fin 512) : iblk m c 0 t (ix2 p q)
    = m (c.tc.loc main_arg0) (ix2 ⟨t.val * 512 + p.val, by have := lt64 t; omega⟩ q) := by
  refine Eq.trans ?_ (congrFun (V_main_arg0 m c) _)
  blk_ext [iblk, (idx t).1]

theorem iblk1_apply (c : Dev nD) (t : Fin cfg0.N) (p : Fin 128) (q : Fin 2048) : iblk m c 1 t (ix2 p q)
    = m (c.tc.loc main_arg1) (ix2 ⟨t.val * 128 + p.val, by have := lt64 t; omega⟩ q) := by
  refine Eq.trans ?_ (congrFun (V_main_arg1 m c) _)
  blk_ext [iblk, (idx t).2.1]

theorem iblk2_apply (c : Dev nD) (t : Fin cfg0.N) (p : Fin 32) (q : Fin 8192) : iblk m c 2 t (ix2 p q)
    = m (c.tc.loc main_arg2) (ix2 ⟨t.val * 32 + p.val, by have := lt64 t; omega⟩ q) := by
  refine Eq.trans ?_ (congrFun (V_main_arg2 m c) _)
  blk_ext [iblk, (idx t).2.2.1]

theorem iblk3_apply (c : Dev nD) (t : Fin cfg0.N) (p q : Fin 512) : iblk m c 3 t (ix2 p q)
    = m (c.tc.loc main_arg3) (ix2 ⟨t.val * 512 + p.val, by have := lt64 t; omega⟩ q) := by
  refine Eq.trans ?_ (congrFun (V_main_arg3 m c) _)
  blk_ext [iblk, (idx t).2.2.2.1]

theorem iblk4_apply (c : Dev nD) (t : Fin cfg0.N) (p : Fin 128) (q : Fin 2048) : iblk m c 4 t (ix2 p q)
    = m (c.tc.loc main_arg4) (ix2 ⟨t.val * 128 + p.val, by have := lt64 t; omega⟩ q) := by
  refine Eq.trans ?_ (congrFun (V_main_arg4 m c) _)
  blk_ext [iblk, (idx t).2.2.2.2.1]

theorem iblk5_apply (c : Dev nD) (t : Fin cfg0.N) (p : Fin 32) (q : Fin 8192) : iblk m c 5 t (ix2 p q)
    = m (c.tc.loc main_arg5) (ix2 ⟨t.val * 32 + p.val, by have := lt64 t; omega⟩ q) := by
  refine Eq.trans ?_ (congrFun (V_main_arg5 m c) _)
  blk_ext [iblk, (idx t).2.2.2.2.2.1]

/-- A token of a block of rows of four, in the whole array. -/
theorem tok4_at (X : S128x2048.Idx → EReal) (Y : S8192x2048.Idx → EReal) (t : ℕ) (ht : t < 64)
    (h : ∀ (p : Fin 128) (q : Fin 2048), X (ix2 p q) = Y (ix2 ⟨t * 128 + p.val, by omega⟩ q)) (p q : Fin 512) :
    tok4 X (ix3 ⟨q.val / 128, by omega⟩ p ⟨q.val % 128, by omega⟩)
      = Y (ix2 ⟨(t * 512 + p.val) / 4, by omega⟩ ⟨(t * 512 + p.val) % 4 * 512 + q.val, by omega⟩) := by
  refine (h _ _).trans (congrArg₂ (fun (a : Fin 8192) (b : Fin 2048) => Y (ix2 a b)) (Fin.ext ?_) (Fin.ext ?_))
  · show t * 128 + p.val / 4 = (t * 512 + p.val) / 4
    omega
  · show 512 * (p.val % 4) + 128 * (q.val / 128) + q.val % 128 = (t * 512 + p.val) % 4 * 512 + q.val
    omega

/-- A token of a block of rows of sixteen, in the whole array. -/
theorem tok16_at (X : S32x8192.Idx → EReal) (Y : S2048x8192.Idx → EReal) (t : ℕ) (ht : t < 64)
    (h : ∀ (p : Fin 32) (q : Fin 8192), X (ix2 p q) = Y (ix2 ⟨t * 32 + p.val, by omega⟩ q)) (p q : Fin 512) :
    tok16 X (ix3 ⟨q.val / 128, by omega⟩ p ⟨q.val % 128, by omega⟩)
      = Y (ix2 ⟨(t * 512 + p.val) / 16, by omega⟩ ⟨(t * 512 + p.val) % 16 * 512 + q.val, by omega⟩) := by
  refine (h _ _).trans (congrArg₂ (fun (a : Fin 2048) (b : Fin 8192) => Y (ix2 a b)) (Fin.ext ?_) (Fin.ext ?_))
  · show t * 32 + p.val / 16 = (t * 512 + p.val) / 16
    omega
  · show 512 * (p.val % 16) + 128 * (q.val / 128) + q.val % 128 = (t * 512 + p.val) % 16 * 512 + q.val
    omega

/-- What a grid point writes, at any place of its block. -/
theorem blend_result (c : Dev nD) (t : Fin cfg0.N) (p q : Fin 512) :
    blend (iblk m c 0 t) (iblk m c 1 t) (iblk m c 2 t) (iblk m c 3 t) (iblk m c 4 t) (iblk m c 5 t) (ix2 p q)
      = result m c (ix2 ⟨t.val * 512 + p.val, by have := lt64 t; omega⟩ q) := by
  show mixed (iblk m c 0 t (ix2 p q)) (tok4 (iblk m c 1 t) (ix3 ⟨q.val / 128, _⟩ p ⟨q.val % 128, _⟩)) (tok16 (iblk m c 2 t) (ix3 ⟨q.val / 128, _⟩ p ⟨q.val % 128, _⟩))
    (iblk m c 3 t (ix2 p q)) (tok4 (iblk m c 4 t) (ix3 ⟨q.val / 128, _⟩ p ⟨q.val % 128, _⟩)) (tok16 (iblk m c 5 t) (ix3 ⟨q.val / 128, _⟩ p ⟨q.val % 128, _⟩)) = _
  rw [iblk0_apply, iblk3_apply, tok4_at (iblk m c 1 t) _ t.val (lt64 t) (iblk1_apply m c t), tok16_at (iblk m c 2 t) _ t.val (lt64 t) (iblk2_apply m c t),
    tok4_at (iblk m c 4 t) _ t.val (lt64 t) (iblk4_apply m c t), tok16_at (iblk m c 5 t) _ t.val (lt64 t) (iblk5_apply m c t)]
  rfl

/-- The result array after the run. -/
theorem arr_eq (c : Dev nD) : (dats m 0 c).arrAt 6 (cfgs 0).N = result m c := by
  refine (dats m 0 c).arrAt_eq_of_covers 6 _ (by decide +kernel) fun t hf (y : S512x512.Idx) => ?_
  blk_simp
  rw [after0_6]
  unfold outsAt0
  rw [out_eq]
  have hy : y = ix2 (y 0) (y 1) := by funext a; fin_cases a <;> rfl
  refine (congrArg _ hy).trans ((blend_result m c t (y 0) (y 1)).trans ?_)
  blk_ext [(idx t).2.2.2.2.2.2]

end Cert.Kernel13Ideal.DilCombine

/-! ## The claims -/

namespace Cert.DilCombine

open Cert.Reference13Ideal.DilCombine in
/-- The place of the result, of the arrays set out a token to a row. -/
theorem place_eq (m : (ℓ : Loc Cert.Kernel13Ideal.nD Cert.Kernel13Ideal.τ Cert.Kernel13Ideal.sig) → Buf (Elt Ideal) ℓ) (c : Dev Cert.Kernel13Ideal.nD)
    (p : Fin 32768) (q : Fin 512) :
    mixed (m (c.tc.loc Cert.Kernel13Ideal.main_arg0) (ix2 p q)) (set4 (m (c.tc.loc Cert.Kernel13Ideal.main_arg1)) (ix2 p q)) (set16 (m (c.tc.loc Cert.Kernel13Ideal.main_arg2)) (ix2 p q))
      (m (c.tc.loc Cert.Kernel13Ideal.main_arg3) (ix2 p q)) (set4 (m (c.tc.loc Cert.Kernel13Ideal.main_arg4)) (ix2 p q)) (set16 (m (c.tc.loc Cert.Kernel13Ideal.main_arg5)) (ix2 p q))
      = Cert.Kernel13Ideal.DilCombine.place m c p q := by
  rw [set4_apply, set4_apply, set16_apply, set16_apply]
  rfl

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run _ _ _).mono (fun r h => ⟨fun c => (h c).2, sem_eq_zero_of_no_sems rfl r.2⟩) (Cert.Reference13Ideal.Value.run m ρ)

section

variable [Cert.Pre_lse_finite.Facts]

theorem frame_ideal_pre : Cert.quiescent_Kernel13Ideal_pre_lse_finite := fun m ρ _ => frame_ideal m ρ trivial

theorem frame_reference_pre : Cert.quiescent_Reference13Ideal_pre_lse_finite := fun m ρ _ => frame_reference m ρ trivial

/-- The kernel's result and the reference's are the same array. -/
theorem same : Cert.algebraic_Kernel13Ideal_Reference13Ideal_pre_lse_finite := fun m ρ m' ρ' hpre ha => by
  refine ⟨fun c => Cert.Kernel13Ideal.DilCombine.result m c, ?_, ?_⟩
  · refine (θ_run _ _ _).mono (fun r h c => ?_) (Cert.Kernel13Ideal.Value.run_blocks m ρ)
    exact ⟨(h c).1.trans (Cert.Kernel13Ideal.DilCombine.arr_eq m c), (h c).2⟩
  · refine (θ_run _ _ _).mono (fun r h c => ?_) (Cert.Reference13Ideal.Value.run m' ρ')
    refine ⟨(h c).1.trans ?_, (h c).2⟩
    funext y
    have hy : y = ix2 (y 0) (y 1) := by funext a; match a with | ⟨0, _⟩ => rfl | ⟨1, _⟩ => rfl
    obtain ⟨h0, h1, h2, h3, h4, h5⟩ := ha c
    have hn := Cert.Reference13Ideal.DilCombine.number _ _ _ _ _ _ (hpre c) (y 0) (y 1)
    rw [Cert.Reference13Ideal.DilCombine.res_eq, h0, h1, h2, h3, h4, h5]
    refine (congrArg _ hy).trans ((Cert.Reference13Ideal.DilCombine.entry_eq _ _ _ _ _ _ (y 0) (y 1) hn.1 hn.2).trans ?_)
    exact place_eq m c (y 0) (y 1)

end

end Cert.DilCombine

end
-- ==== Proof.lean ====
module

public import proofs.«01_k».proof.Proof.Ffn
public import proofs.«01_k».proof.Proof.Outp
public import proofs.«01_k».proof.Proof.Combine
public import proofs.«01_k».proof.Proof.SparseProj
public import proofs.«01_k».proof.Proof.DilProj1
public import proofs.«01_k».proof.Proof.DilProj4
public import proofs.«01_k».proof.Proof.DilProj16
public import proofs.«01_k».proof.Proof.ValuesProj
public import proofs.«01_k».proof.Proof.GlaProj
public import proofs.«01_k».proof.Proof.S5Proj
public import proofs.«01_k».proof.Proof.S5Glu
public import proofs.«01_k».proof.Proof.IdxProj
public import proofs.«01_k».proof.Proof.DilCombine
public import proofs.«01_k».proof.Proof.Gen.KernelIdeal
public import proofs.«01_k».proof.Proof.Gen.ReferenceIdeal
public import proofs.«01_k».proof.Proof.Gen.Kernel2Ideal
public import proofs.«01_k».proof.Proof.Gen.Reference2Ideal
public import proofs.«01_k».proof.Proof.Gen.Kernel3Ideal
public import proofs.«01_k».proof.Proof.Gen.Reference3Ideal
public import proofs.«01_k».proof.Proof.Gen.Kernel4Ideal
public import proofs.«01_k».proof.Proof.Gen.Reference4Ideal
public import proofs.«01_k».proof.Proof.Gen.Kernel5Ideal
public import proofs.«01_k».proof.Proof.Gen.Reference5Ideal
public import proofs.«01_k».proof.Proof.Gen.Kernel6Ideal
public import proofs.«01_k».proof.Proof.Gen.Reference6Ideal
public import proofs.«01_k».proof.Proof.Gen.Kernel7Ideal
public import proofs.«01_k».proof.Proof.Gen.Reference7Ideal
public import proofs.«01_k».proof.Proof.Gen.Kernel8Ideal
public import proofs.«01_k».proof.Proof.Gen.Reference8Ideal
public import proofs.«01_k».proof.Proof.Gen.Kernel9Ideal
public import proofs.«01_k».proof.Proof.Gen.Reference9Ideal
public import proofs.«01_k».proof.Proof.Gen.Kernel10Ideal
public import proofs.«01_k».proof.Proof.Gen.Reference10Ideal
public import proofs.«01_k».proof.Proof.Gen.Kernel11Ideal
public import proofs.«01_k».proof.Proof.Gen.Reference11Ideal
public import proofs.«01_k».proof.Proof.Gen.Kernel12Ideal
public import proofs.«01_k».proof.Proof.Gen.Reference12Ideal
public import proofs.«01_k».proof.Proof.Gen.Kernel13Ideal
public import proofs.«01_k».proof.Proof.Gen.Reference13Ideal
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_blocks_named.Gen.facts, Cert.Pre_rows_named.Gen.facts, Cert.Pre_lse_finite.Gen.facts,
  Cert.Ffn.frame_kernel, Cert.Ffn.frame_ideal, Cert.Ffn.frame_reference,
  Cert.Outp.frame_kernel, Cert.Outp.frame_ideal, Cert.Outp.frame_reference,
  Cert.Combine.frame_kernel, Cert.Combine.frame_ideal, Cert.Combine.frame_reference,
  Cert.SparseProj.frame_kernel, Cert.SparseProj.frame_ideal, Cert.SparseProj.frame_reference,
  Cert.DilProj1.frame_kernel, Cert.DilProj1.frame_ideal, Cert.DilProj1.frame_reference,
  Cert.DilProj4.frame_kernel, Cert.DilProj4.frame_ideal, Cert.DilProj4.frame_reference,
  Cert.DilProj16.frame_kernel, Cert.DilProj16.frame_ideal, Cert.DilProj16.frame_reference,
  Cert.ValuesProj.frame_kernel, Cert.ValuesProj.frame_ideal, Cert.ValuesProj.frame_reference,
  Cert.GlaProj.frame_kernel, Cert.GlaProj.frame_ideal, Cert.GlaProj.frame_reference,
  Cert.S5Proj.frame_kernel, Cert.S5Proj.frame_ideal, Cert.S5Proj.frame_reference,
  Cert.S5Glu.frame_kernel, Cert.S5Glu.frame_ideal, Cert.S5Glu.frame_reference,
  Cert.IdxProj.frame_kernel, Cert.IdxProj.frame_ideal, Cert.IdxProj.frame_reference,
  Cert.DilCombine.frame_kernel, Cert.DilCombine.frame_ideal, Cert.DilCombine.frame_ideal_pre, Cert.DilCombine.frame_reference, Cert.DilCombine.frame_reference_pre,
  trivial, Cert.Ffn.same,
  trivial, Cert.Outp.same,
  trivial, Cert.Combine.same,
  trivial, Cert.SparseProj.same,
  trivial, Cert.DilProj1.same,
  trivial, Cert.DilProj4.same,
  trivial, Cert.DilProj16.same,
  trivial, Cert.ValuesProj.same,
  trivial, Cert.GlaProj.same,
  trivial, Cert.S5Proj.same,
  trivial, Cert.S5Glu.same,
  trivial, Cert.IdxProj.same,
  trivial, Cert.DilCombine.same⟩

end Cert.Proof

end
